-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_v27) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_v15) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_v30) = v1 c
          ∧ r.2.mem ((c.tc : Thread Cert.Reference14Ideal.nD Cert.Reference14Ideal.τ).loc Cert.Reference14Ideal.main_v11) = v2 c
          ∧ r.2.mem ((c.tc : Thread Cert.Reference14Ideal.nD Cert.Reference14Ideal.τ).loc Cert.Reference14Ideal.main_v17) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_v30) = v1 c
          ∧ r.2.mem ((c.tc : Thread Cert.Reference15Ideal.nD Cert.Reference15Ideal.τ).loc Cert.Reference15Ideal.main_v11) = v2 c
          ∧ r.2.mem ((c.tc : Thread Cert.Reference15Ideal.nD Cert.Reference15Ideal.τ).loc Cert.Reference15Ideal.main_v17) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_v30) = v1 c
          ∧ r.2.mem ((c.tc : Thread Cert.Reference16Ideal.nD Cert.Reference16Ideal.τ).loc Cert.Reference16Ideal.main_v11) = v2 c
          ∧ r.2.mem ((c.tc : Thread Cert.Reference16Ideal.nD Cert.Reference16Ideal.τ).loc Cert.Reference16Ideal.main_v17) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_v30) = v1 c
          ∧ r.2.mem ((c.tc : Thread Cert.Reference17Ideal.nD Cert.Reference17Ideal.τ).loc Cert.Reference17Ideal.main_v11) = v2 c
          ∧ r.2.mem ((c.tc : Thread Cert.Reference17Ideal.nD Cert.Reference17Ideal.τ).loc Cert.Reference17Ideal.main_v17) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_v30) = v1 c
          ∧ r.2.mem ((c.tc : Thread Cert.Reference18Ideal.nD Cert.Reference18Ideal.τ).loc Cert.Reference18Ideal.main_v11) = v2 c
          ∧ r.2.mem ((c.tc : Thread Cert.Reference18Ideal.nD Cert.Reference18Ideal.τ).loc Cert.Reference18Ideal.main_v17) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v12) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v34) = v0 c
          ∧ r.2.mem ((c.tc : Thread Cert.Reference21Ideal.nD Cert.Reference21Ideal.τ).loc Cert.Reference21Ideal.main_v17) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v19) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v47) = v0 c
          ∧ r.2.mem ((c.tc : Thread Cert.Reference25Ideal.nD Cert.Reference25Ideal.τ).loc Cert.Reference25Ideal.main_v48) = v1 c
          ∧ r.2.mem ((c.tc : Thread Cert.Reference25Ideal.nD Cert.Reference25Ideal.τ).loc Cert.Reference25Ideal.main_v29) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v14) = v0 c
          ∧ r.2.mem ((c.tc : Thread Cert.Reference26Ideal.nD Cert.Reference26Ideal.τ).loc Cert.Reference26Ideal.main_v15) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m ((c.tc : Thread Cert.Kernel27Ideal.nD Cert.Kernel27Ideal.τ).loc Cert.Kernel27Ideal.main_arg0) = Layout.block ⟨2, ![8, 128]⟩ ⟨2, ![64, 128]⟩ 0 8 c (m' (((0 : Dev Cert.Reference27Ideal.nD).tc : Thread Cert.Reference27Ideal.nD Cert.Reference27Ideal.τ).loc Cert.Reference27Ideal.main_arg0))) →
    ∃ (v0 : Buf (Elt Ideal) (((0 : Dev Cert.Reference27Ideal.nD).tc : Thread Cert.Reference27Ideal.nD Cert.Reference27Ideal.τ).loc Cert.Reference27Ideal.main_v3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v3) = v0
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r =>
          r.2.mem (((0 : Dev Cert.Reference27Ideal.nD).tc : Thread Cert.Reference27Ideal.nD Cert.Reference27Ideal.τ).loc Cert.Reference27Ideal.main_v3) = v0
          ∧ r.2.mem (((0 : Dev Cert.Reference27Ideal.nD).tc : Thread Cert.Reference27Ideal.nD Cert.Reference27Ideal.τ).loc Cert.Reference27Ideal.main_arg0) = m' (((0 : Dev Cert.Reference27Ideal.nD).tc : Thread Cert.Reference27Ideal.nD Cert.Reference27Ideal.τ).loc Cert.Reference27Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Pre_finite.lean ====
abbrev S4096x2048 : Shape := ⟨2, ![4096, 2048]⟩
abbrev S8x2048x688 : Shape := ⟨3, ![8, 2048, 688]⟩
abbrev S8x688x2048 : Shape := ⟨3, ![8, 688, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8x2048x688 : S_.BroadcastsInDim S8x2048x688 (![] : Fin 0 → Fin S8x2048x688.rank)
  reducesTo_S8x2048x688_S_d0_1_2 : S8x2048x688.ReducesTo [0, 1, 2] S_
  bcast_S_S8x688x2048 : S_.BroadcastsInDim S8x688x2048 (![] : Fin 0 → Fin S8x688x2048.rank)
  reducesTo_S8x688x2048_S_d0_1_2 : S8x688x2048.ReducesTo [0, 1, 2] S_

variable [Facts]

def fn_part1 {F : FTy → Type} [FloatOps F] (main_v13 : IVec S_ 1) (main_v16 : IVec S8x688x2048 1) : IVec S_ 1 :=
  let main_c_5 : IVec S_ 1 := constantI S_ 1 1#1
  let main_v17 : IVec S_ 1 := (fun x v => Host.reduce IntOp.andi x v reducesTo_S8x688x2048_S_d0_1_2 h_S_) main_v16 main_c_5
  let main_v18 : IVec S_ 1 := andi main_v13 main_v17
  main_v18

def fn {F : FTy → Type} [FloatOps F] (main_arg0 : FVec F S4096x2048 .f32) (main_arg1 : FVec F S4096x2048 .f32) (main_arg2 : FVec F S8x2048x688 .bf16) (main_arg3 : FVec F S8x2048x688 .bf16) (main_arg4 : FVec F S8x688x2048 .bf16) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S8x2048x688 .bf16 := Host.absf main_arg3
  let main_cst_2 : FVec F S_ .bf16 := constant S_ .bf16 0x7F80#16
  let main_v10 : FVec F S8x2048x688 .bf16 := broadcastInDim S8x2048x688 ![] bcast_S_S8x2048x688 main_cst_2
  let main_v11 : IVec S8x2048x688 1 := cmpf .olt main_v9 main_v10
  let main_c_3 : IVec S_ 1 := constantI S_ 1 1#1
  let main_v12 : IVec S_ 1 := (fun x v => Host.reduce IntOp.andi x v reducesTo_S8x2048x688_S_d0_1_2 h_S_) main_v11 main_c_3
  let main_v13 : IVec S_ 1 := andi main_v8 main_v12
  let main_v14 : FVec F S8x688x2048 .bf16 := Host.absf main_arg4
  let main_cst_4 : FVec F S_ .bf16 := constant S_ .bf16 0x7F80#16
  let main_v15 : FVec F S8x688x2048 .bf16 := broadcastInDim S8x688x2048 ![] bcast_S_S8x688x2048 main_cst_4
  let main_v16 : IVec S8x688x2048 1 := cmpf .olt main_v14 main_v15
  fn_part1 (F := F) main_v13 main_v16
-- ==== Kernel.lean ====
abbrev S4096x2048 : Shape := ⟨2, ![4096, 2048]⟩
abbrev S8x2048x688 : Shape := ⟨3, ![8, 2048, 688]⟩
abbrev S8x688x2048 : Shape := ⟨3, ![8, 688, 2048]⟩
abbrev S8x688x4096 : Shape := ⟨3, ![8, 688, 4096]⟩
abbrev S8x4096x688 : Shape := ⟨3, ![8, 4096, 688]⟩
abbrev S512x2048 : Shape := ⟨2, ![512, 2048]⟩
abbrev S1x512x688 : Shape := ⟨3, ![1, 512, 688]⟩
abbrev S1x2048x688 : Shape := ⟨3, ![1, 2048, 688]⟩
abbrev S1x688x2048 : Shape := ⟨3, ![1, 688, 2048]⟩
abbrev S256x2048 : Shape := ⟨2, ![256, 2048]⟩
abbrev S688x2048 : Shape := ⟨2, ![688, 2048]⟩
abbrev S256x688 : Shape := ⟨2, ![256, 688]⟩
abbrev S1x256x688 : Shape := ⟨3, ![1, 256, 688]⟩
abbrev S2048x688 : Shape := ⟨2, ![2048, 688]⟩

abbrev nBuf : Space → Nat
  | .hbm => 18
  | .vmem => 23
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S8x2048x688, .bf16⟩
  | .hbm, ⟨3, _⟩ => ⟨S8x2048x688, .bf16⟩
  | .hbm, ⟨4, _⟩ => ⟨S8x688x2048, .bf16⟩
  | .hbm, ⟨5, _⟩ => ⟨S8x2048x688, .f32⟩
  | .hbm, ⟨6, _⟩ => ⟨S8x688x4096, .f32⟩
  | .hbm, ⟨7, _⟩ => ⟨S8x4096x688, .f32⟩
  | .hbm, ⟨8, _⟩ => ⟨S8x4096x688, .bf16⟩
  | .hbm, ⟨9, _⟩ => ⟨S8x2048x688, .f32⟩
  | .hbm, ⟨10, _⟩ => ⟨S8x688x4096, .f32⟩
  | .hbm, ⟨11, _⟩ => ⟨S8x4096x688, .f32⟩
  | .hbm, ⟨12, _⟩ => ⟨S8x4096x688, .bf16⟩
  | .hbm, ⟨13, _⟩ => ⟨S4096x2048, .f32⟩
  | .hbm, ⟨14, _⟩ => ⟨S4096x2048, .bf16⟩
  | .hbm, ⟨15, _⟩ => ⟨S8x4096x688, .bf16⟩
  | .hbm, ⟨16, _⟩ => ⟨S8x4096x688, .bf16⟩
  | .hbm, ⟨17, _⟩ => ⟨S8x4096x688, .bf16⟩
  | .local _ .vmem, ⟨0, _⟩ => ⟨S512x2048, .f32⟩
  | .local _ .vmem, ⟨1, _⟩ => ⟨S512x2048, .f32⟩
  | .local _ .vmem, ⟨2, _⟩ => ⟨S1x512x688, .bf16⟩
  | .local _ .vmem, ⟨3, _⟩ => ⟨S1x512x688, .bf16⟩
  | .local _ .vmem, ⟨4, _⟩ => ⟨S1x512x688, .bf16⟩
  | .local _ .vmem, ⟨5, _⟩ => ⟨S1x512x688, .bf16⟩
  | .local _ .vmem, ⟨6, _⟩ => ⟨S1x2048x688, .bf16⟩
  | .local _ .vmem, ⟨7, _⟩ => ⟨S1x2048x688, .bf16⟩
  | .local _ .vmem, ⟨8, _⟩ => ⟨S1x2048x688, .bf16⟩
  | .local _ .vmem, ⟨9, _⟩ => ⟨S1x2048x688, .bf16⟩
  | .local _ .vmem, ⟨10, _⟩ => ⟨S1x688x2048, .bf16⟩
  | .local _ .vmem, ⟨11, _⟩ => ⟨S1x688x2048, .bf16⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S1x512x688, .bf16⟩
  | .local _ .vmem, ⟨17, _⟩ => ⟨S1x512x688, .bf16⟩
  | .local _ .vmem, ⟨18, _⟩ => ⟨S1x512x688, .bf16⟩
  | .local _ .vmem, ⟨19, _⟩ => ⟨S1x512x688, .bf16⟩
  | .local _ .vmem, ⟨20, _⟩ => ⟨S1x512x688, .bf16⟩
  | .local _ .vmem, ⟨21, _⟩ => ⟨S1x512x688, .bf16⟩
  | .local _ .vmem, ⟨22, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v101 : BitVec 1 := Scalar.cmpi .eq arg1 c7_i32
  let v102 : BitVec 32 := Scalar.extui v101
  let c0_i32_70 : BitVec 32 := 0#32
  let v103 : BitVec 1 := Scalar.cmpi .ne v102 c0_i32_70
  v103

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x688 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x688 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x688x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x688 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x688 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x688 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4096x2048 : Shape := ⟨2, ![4096, 2048]⟩
abbrev S8x2048x688 : Shape := ⟨3, ![8, 2048, 688]⟩
abbrev S8x688x2048 : Shape := ⟨3, ![8, 688, 2048]⟩
abbrev S8x688x4096 : Shape := ⟨3, ![8, 688, 4096]⟩
abbrev S8x4096x688 : Shape := ⟨3, ![8, 4096, 688]⟩
abbrev S_ : Shape := ⟨0, ![]⟩
abbrev S4096x8x688 : Shape := ⟨3, ![4096, 8, 688]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S8x2048x688, .bf16⟩
  | .hbm, ⟨3, _⟩ => ⟨S8x2048x688, .bf16⟩
  | .hbm, ⟨4, _⟩ => ⟨S8x688x2048, .bf16⟩
  | .hbm, ⟨5, _⟩ => ⟨S8x2048x688, .f32⟩
  | .hbm, ⟨6, _⟩ => ⟨S8x2048x688, .f32⟩
  | .hbm, ⟨7, _⟩ => ⟨S8x688x2048, .f32⟩
  | .hbm, ⟨8, _⟩ => ⟨S8x688x4096, .f32⟩
  | .hbm, ⟨9, _⟩ => ⟨S8x4096x688, .f32⟩
  | .hbm, ⟨10, _⟩ => ⟨S8x688x4096, .f32⟩
  | .hbm, ⟨11, _⟩ => ⟨S8x4096x688, .f32⟩
  | .hbm, ⟨12, _⟩ => ⟨S8x4096x688, .f32⟩
  | .hbm, ⟨13, _⟩ => ⟨S8x4096x688, .f32⟩
  | .hbm, ⟨14, _⟩ => ⟨S_, .f32⟩
  | .hbm, ⟨15, _⟩ => ⟨S8x4096x688, .f32⟩
  | .hbm, ⟨16, _⟩ => ⟨S8x4096x688, .f32⟩
  | .hbm, ⟨17, _⟩ => ⟨S_, .f32⟩
  | .hbm, ⟨18, _⟩ => ⟨S8x4096x688, .f32⟩
  | .hbm, ⟨19, _⟩ => ⟨S8x4096x688, .f32⟩
  | .hbm, ⟨20, _⟩ => ⟨S_, .f32⟩
  | .hbm, ⟨21, _⟩ => ⟨S8x4096x688, .f32⟩
  | .hbm, ⟨22, _⟩ => ⟨S8x4096x688, .f32⟩
  | .hbm, ⟨23, _⟩ => ⟨S8x4096x688, .f32⟩
  | .hbm, ⟨24, _⟩ => ⟨S8x4096x688, .f32⟩
  | .hbm, ⟨25, _⟩ => ⟨S8x4096x688, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x8x688, .f32⟩
  | .hbm, ⟨34, _⟩ => ⟨S8x4096x688, .f32⟩
  | .hbm, ⟨35, _⟩ => ⟨S8x4096x688, .f32⟩
  | .hbm, ⟨36, _⟩ => ⟨S8x4096x688, .f32⟩
  | .hbm, ⟨37, _⟩ => ⟨S8x4096x688, .f32⟩
  | .hbm, ⟨38, _⟩ => ⟨S8x4096x688, .f32⟩
  | .hbm, ⟨39, _⟩ => ⟨S8x4096x688, .f32⟩
  | .hbm, ⟨40, _⟩ => ⟨S8x4096x688, .f32⟩
  | .hbm, ⟨41, _⟩ => ⟨S8x688x4096, .f32⟩
  | .hbm, ⟨42, _⟩ => ⟨S4096x2048, .f32⟩
  | .hbm, ⟨43, _⟩ => ⟨S8x688x4096, .f32⟩
  | .hbm, ⟨44, _⟩ => ⟨S4096x2048, .f32⟩
  | .hbm, ⟨45, _⟩ => ⟨S4096x2048, .f32⟩
  | .hbm, ⟨46, _⟩ => ⟨S4096x2048, .bf16⟩
  | .hbm, ⟨47, _⟩ => ⟨S8x4096x688, .bf16⟩
  | .hbm, ⟨48, _⟩ => ⟨S8x4096x688, .bf16⟩
  | .hbm, ⟨49, _⟩ => ⟨S8x4096x688, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v7_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v7_1 : Ref sig .tc := ⟨.hbm, 23, rfl⟩
abbrev main_v7_0 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Kernel2.lean ====
abbrev S8x4096x688 : Shape := ⟨3, ![8, 4096, 688]⟩
abbrev S4096x2048 : Shape := ⟨2, ![4096, 2048]⟩
abbrev S1x4096x2048 : Shape := ⟨3, ![1, 4096, 2048]⟩
abbrev S8x688x2048 : Shape := ⟨3, ![8, 688, 2048]⟩
abbrev S1x2048x688 : Shape := ⟨3, ![1, 2048, 688]⟩
abbrev S1x2048x2048 : Shape := ⟨3, ![1, 2048, 2048]⟩
abbrev S1x688x2048 : Shape := ⟨3, ![1, 688, 2048]⟩
abbrev S688x2048 : Shape := ⟨2, ![688, 2048]⟩
abbrev S2048x688 : Shape := ⟨2, ![2048, 688]⟩
abbrev S2048x2048 : Shape := ⟨2, ![2048, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8x4096x688, .bf16⟩
  | .hbm, ⟨1, _⟩ => ⟨S4096x2048, .bf16⟩
  | .hbm, ⟨2, _⟩ => ⟨S1x4096x2048, .bf16⟩
  | .hbm, ⟨3, _⟩ => ⟨S8x688x2048, .bf16⟩
  | .local _ .vmem, ⟨0, _⟩ => ⟨S1x2048x688, .bf16⟩
  | .local _ .vmem, ⟨1, _⟩ => ⟨S1x2048x688, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x688x2048, .bf16⟩
  | .local _ .vmem, ⟨5, _⟩ => ⟨S1x688x2048, .bf16⟩
  | .local _ .vmem, ⟨6, _⟩ => ⟨S688x2048, .f32⟩
  | _, _ => ⟨S8x4096x688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x688x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8x4096x688 : Shape := ⟨3, ![8, 4096, 688]⟩
abbrev S4096x2048 : Shape := ⟨2, ![4096, 2048]⟩
abbrev S_ : Shape := ⟨0, ![]⟩
abbrev S8x688x2048 : Shape := ⟨3, ![8, 688, 2048]⟩
abbrev S2048x8x688 : Shape := ⟨3, ![2048, 8, 688]⟩

abbrev nBuf : Space → Nat
  | .hbm => 16
  | .vmem => 0
  | .smem => 0
  | _ => 0

abbrev bufTy : (tb : Table) → Fin (tcTables nBuf tb) → BufTy
  | .hbm, ⟨0, _⟩ => ⟨S8x4096x688, .bf16⟩
  | .hbm, ⟨1, _⟩ => ⟨S4096x2048, .bf16⟩
  | .hbm, ⟨2, _⟩ => ⟨S_, .f32⟩
  | .hbm, ⟨3, _⟩ => ⟨S8x688x2048, .f32⟩
  | .hbm, ⟨4, _⟩ => ⟨S8x4096x688, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S2048x8x688, .f32⟩
  | .hbm, ⟨14, _⟩ => ⟨S8x688x2048, .f32⟩
  | .hbm, ⟨15, _⟩ => ⟨S8x688x2048, .bf16⟩
  | _, _ => ⟨S8x4096x688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel3.lean ====
abbrev S8x4096x688 : Shape := ⟨3, ![8, 4096, 688]⟩
abbrev S4096x2048 : Shape := ⟨2, ![4096, 2048]⟩
abbrev S1x4096x2048 : Shape := ⟨3, ![1, 4096, 2048]⟩
abbrev S8x688x2048 : Shape := ⟨3, ![8, 688, 2048]⟩
abbrev S1x2048x688 : Shape := ⟨3, ![1, 2048, 688]⟩
abbrev S1x2048x2048 : Shape := ⟨3, ![1, 2048, 2048]⟩
abbrev S1x688x2048 : Shape := ⟨3, ![1, 688, 2048]⟩
abbrev S688x2048 : Shape := ⟨2, ![688, 2048]⟩
abbrev S2048x688 : Shape := ⟨2, ![2048, 688]⟩
abbrev S2048x2048 : Shape := ⟨2, ![2048, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8x4096x688, .bf16⟩
  | .hbm, ⟨1, _⟩ => ⟨S4096x2048, .bf16⟩
  | .hbm, ⟨2, _⟩ => ⟨S1x4096x2048, .bf16⟩
  | .hbm, ⟨3, _⟩ => ⟨S8x688x2048, .bf16⟩
  | .local _ .vmem, ⟨0, _⟩ => ⟨S1x2048x688, .bf16⟩
  | .local _ .vmem, ⟨1, _⟩ => ⟨S1x2048x688, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x688x2048, .bf16⟩
  | .local _ .vmem, ⟨5, _⟩ => ⟨S1x688x2048, .bf16⟩
  | .local _ .vmem, ⟨6, _⟩ => ⟨S688x2048, .f32⟩
  | _, _ => ⟨S8x4096x688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x688x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8x4096x688 : Shape := ⟨3, ![8, 4096, 688]⟩
abbrev S4096x2048 : Shape := ⟨2, ![4096, 2048]⟩
abbrev S_ : Shape := ⟨0, ![]⟩
abbrev S8x2048x688 : Shape := ⟨3, ![8, 2048, 688]⟩
abbrev S8x688x4096 : Shape := ⟨3, ![8, 688, 4096]⟩
abbrev S8x688x2048 : Shape := ⟨3, ![8, 688, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8x4096x688, .bf16⟩
  | .hbm, ⟨1, _⟩ => ⟨S4096x2048, .bf16⟩
  | .hbm, ⟨2, _⟩ => ⟨S_, .f32⟩
  | .hbm, ⟨3, _⟩ => ⟨S8x2048x688, .f32⟩
  | .hbm, ⟨4, _⟩ => ⟨S4096x2048, .f32⟩
  | .hbm, ⟨5, _⟩ => ⟨S8x688x4096, .f32⟩
  | .hbm, ⟨6, _⟩ => ⟨S8x4096x688, .f32⟩
  | .hbm, ⟨7, _⟩ => ⟨S8x4096x688, .f32⟩
  | .hbm, ⟨8, _⟩ => ⟨S8x688x4096, .f32⟩
  | .hbm, ⟨9, _⟩ => ⟨S8x688x2048, .f32⟩
  | .hbm, ⟨10, _⟩ => ⟨S8x2048x688, .f32⟩
  | .hbm, ⟨11, _⟩ => ⟨S8x688x2048, .f32⟩
  | .hbm, ⟨12, _⟩ => ⟨S8x688x2048, .bf16⟩
  | _, _ => ⟨S8x4096x688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S4096x2048 : Shape := ⟨2, ![4096, 2048]⟩
abbrev S8x2048x688 : Shape := ⟨3, ![8, 2048, 688]⟩
abbrev S8x688x2048 : Shape := ⟨3, ![8, 688, 2048]⟩
abbrev S8x4096x688 : Shape := ⟨3, ![8, 4096, 688]⟩
abbrev S512x2048 : Shape := ⟨2, ![512, 2048]⟩
abbrev S1x2048x688 : Shape := ⟨3, ![1, 2048, 688]⟩
abbrev S1x688x2048 : Shape := ⟨3, ![1, 688, 2048]⟩
abbrev S1x512x688 : Shape := ⟨3, ![1, 512, 688]⟩
abbrev S2048x688 : Shape := ⟨2, ![2048, 688]⟩
abbrev S512x688 : Shape := ⟨2, ![512, 688]⟩
abbrev S688x2048 : Shape := ⟨2, ![688, 2048]⟩

abbrev nBuf : Space → Nat
  | .hbm => 8
  | .vmem => 17
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S8x2048x688, .bf16⟩
  | .hbm, ⟨3, _⟩ => ⟨S8x2048x688, .bf16⟩
  | .hbm, ⟨4, _⟩ => ⟨S8x688x2048, .bf16⟩
  | .hbm, ⟨5, _⟩ => ⟨S4096x2048, .f32⟩
  | .hbm, ⟨6, _⟩ => ⟨S8x4096x688, .bf16⟩
  | .hbm, ⟨7, _⟩ => ⟨S8x4096x688, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048x688, .bf16⟩
  | .local _ .vmem, ⟨5, _⟩ => ⟨S1x2048x688, .bf16⟩
  | .local _ .vmem, ⟨6, _⟩ => ⟨S1x2048x688, .bf16⟩
  | .local _ .vmem, ⟨7, _⟩ => ⟨S1x2048x688, .bf16⟩
  | .local _ .vmem, ⟨8, _⟩ => ⟨S1x688x2048, .bf16⟩
  | .local _ .vmem, ⟨9, _⟩ => ⟨S1x688x2048, .bf16⟩
  | .local _ .vmem, ⟨10, _⟩ => ⟨S512x2048, .f32⟩
  | .local _ .vmem, ⟨11, _⟩ => ⟨S512x2048, .f32⟩
  | .local _ .vmem, ⟨12, _⟩ => ⟨S1x512x688, .bf16⟩
  | .local _ .vmem, ⟨13, _⟩ => ⟨S1x512x688, .bf16⟩
  | .local _ .vmem, ⟨14, _⟩ => ⟨S1x512x688, .bf16⟩
  | .local _ .vmem, ⟨15, _⟩ => ⟨S1x512x688, .bf16⟩
  | .local _ .vmem, ⟨16, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_23 : BitVec 32 := 0#32
  let v32 : BitVec 1 := Scalar.cmpi .ne v31 c0_i32_23
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x688 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x688x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x688 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x688 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S4096x2048 : Shape := ⟨2, ![4096, 2048]⟩
abbrev S8x2048x688 : Shape := ⟨3, ![8, 2048, 688]⟩
abbrev S8x688x2048 : Shape := ⟨3, ![8, 688, 2048]⟩
abbrev S8x688x4096 : Shape := ⟨3, ![8, 688, 4096]⟩
abbrev S8x4096x688 : Shape := ⟨3, ![8, 4096, 688]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S8x2048x688, .bf16⟩
  | .hbm, ⟨3, _⟩ => ⟨S8x2048x688, .bf16⟩
  | .hbm, ⟨4, _⟩ => ⟨S8x688x2048, .bf16⟩
  | .hbm, ⟨5, _⟩ => ⟨S4096x2048, .f32⟩
  | .hbm, ⟨6, _⟩ => ⟨S8x2048x688, .f32⟩
  | .hbm, ⟨7, _⟩ => ⟨S8x2048x688, .f32⟩
  | .hbm, ⟨8, _⟩ => ⟨S8x688x2048, .f32⟩
  | .hbm, ⟨9, _⟩ => ⟨S8x688x4096, .f32⟩
  | .hbm, ⟨10, _⟩ => ⟨S8x4096x688, .f32⟩
  | .hbm, ⟨11, _⟩ => ⟨S8x688x4096, .f32⟩
  | .hbm, ⟨12, _⟩ => ⟨S8x4096x688, .f32⟩
  | .hbm, ⟨13, _⟩ => ⟨S8x4096x688, .f32⟩
  | .hbm, ⟨14, _⟩ => ⟨S8x4096x688, .f32⟩
  | .hbm, ⟨15, _⟩ => ⟨S_, .f32⟩
  | .hbm, ⟨16, _⟩ => ⟨S8x4096x688, .f32⟩
  | .hbm, ⟨17, _⟩ => ⟨S8x4096x688, .f32⟩
  | .hbm, ⟨18, _⟩ => ⟨S_, .f32⟩
  | .hbm, ⟨19, _⟩ => ⟨S8x4096x688, .f32⟩
  | .hbm, ⟨20, _⟩ => ⟨S8x4096x688, .f32⟩
  | .hbm, ⟨21, _⟩ => ⟨S8x4096x688, .f32⟩
  | .hbm, ⟨22, _⟩ => ⟨S8x4096x688, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S8x4096x688, .bf16⟩
  | .hbm, ⟨29, _⟩ => ⟨S8x4096x688, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]
-- ==== Kernel5.lean ====
abbrev S4096x2048 : Shape := ⟨2, ![4096, 2048]⟩
abbrev S2048x3072 : Shape := ⟨2, ![2048, 3072]⟩
abbrev S4096x3072 : Shape := ⟨2, ![4096, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .bf16⟩
  | .hbm, ⟨2, _⟩ => ⟨S4096x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S2048x3072 : Shape := ⟨2, ![2048, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .bf16⟩
  | .hbm, ⟨2, _⟩ => ⟨S4096x2048, .f32⟩
  | .hbm, ⟨3, _⟩ => ⟨S2048x3072, .f32⟩
  | .hbm, ⟨4, _⟩ => ⟨S4096x3072, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S4096x3072 : Shape := ⟨2, ![4096, 3072]⟩
abbrev S4096x2048 : Shape := ⟨2, ![4096, 2048]⟩
abbrev S3072x2048 : Shape := ⟨2, ![3072, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x3072, .bf16⟩
  | .hbm, ⟨1, _⟩ => ⟨S4096x2048, .bf16⟩
  | .hbm, ⟨2, _⟩ => ⟨S3072x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x3072 : Shape := ⟨2, ![4096, 3072]⟩
abbrev S4096x2048 : Shape := ⟨2, ![4096, 2048]⟩
abbrev S_ : Shape := ⟨0, ![]⟩
abbrev S2048x3072 : Shape := ⟨2, ![2048, 3072]⟩
abbrev S3072x2048 : Shape := ⟨2, ![3072, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x2048, .bf16⟩
  | .hbm, ⟨2, _⟩ => ⟨S_, .f32⟩
  | .hbm, ⟨3, _⟩ => ⟨S2048x3072, .f32⟩
  | .hbm, ⟨4, _⟩ => ⟨S4096x2048, .f32⟩
  | .hbm, ⟨5, _⟩ => ⟨S4096x3072, .f32⟩
  | .hbm, ⟨6, _⟩ => ⟨S4096x3072, .f32⟩
  | .hbm, ⟨7, _⟩ => ⟨S3072x2048, .f32⟩
  | .hbm, ⟨8, _⟩ => ⟨S2048x3072, .f32⟩
  | .hbm, ⟨9, _⟩ => ⟨S2048x3072, .bf16⟩
  | .hbm, ⟨10, _⟩ => ⟨S3072x2048, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S4096x3072 : Shape := ⟨2, ![4096, 3072]⟩
abbrev S2048x3072 : Shape := ⟨2, ![2048, 3072]⟩
abbrev S4096x2048 : Shape := ⟨2, ![4096, 2048]⟩
abbrev S1024x3072 : Shape := ⟨2, ![1024, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S4096x2048, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .f32⟩
  | .local _ .vmem, ⟨5, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x3072 : Shape := ⟨2, ![4096, 3072]⟩
abbrev S2048x3072 : Shape := ⟨2, ![2048, 3072]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S_, .f32⟩
  | .hbm, ⟨3, _⟩ => ⟨S4096x2048, .f32⟩
  | .hbm, ⟨4, _⟩ => ⟨S2048x3072, .f32⟩
  | .hbm, ⟨5, _⟩ => ⟨S4096x3072, .f32⟩
  | .hbm, ⟨6, _⟩ => ⟨S4096x3072, .f32⟩
  | .hbm, ⟨7, _⟩ => ⟨S4096x2048, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8x688x2048 : Shape := ⟨3, ![8, 688, 2048]⟩
abbrev S2x688x2048 : Shape := ⟨3, ![2, 688, 2048]⟩
abbrev S8x688x256 : Shape := ⟨3, ![8, 688, 256]⟩
abbrev S1x688x256 : Shape := ⟨3, ![1, 688, 256]⟩
abbrev S688x256 : Shape := ⟨2, ![688, 256]⟩

abbrev nBuf : Space → Nat
  | .hbm => 9
  | .vmem => 18
  | .smem => 0
  | _ => 0

abbrev bufTy : (tb : Table) → Fin (tcTables nBuf tb) → BufTy
  | .hbm, ⟨0, _⟩ => ⟨S8x688x2048, .bf16⟩
  | .hbm, ⟨1, _⟩ => ⟨S8x688x2048, .bf16⟩
  | .hbm, ⟨2, _⟩ => ⟨S2x688x2048, .f32⟩
  | .hbm, ⟨3, _⟩ => ⟨S2x688x2048, .f32⟩
  | .hbm, ⟨4, _⟩ => ⟨S2x688x2048, .f32⟩
  | .hbm, ⟨5, _⟩ => ⟨S2x688x2048, .f32⟩
  | .hbm, ⟨6, _⟩ => ⟨S2x688x2048, .f32⟩
  | .hbm, ⟨7, _⟩ => ⟨S2x688x2048, .f32⟩
  | .hbm, ⟨8, _⟩ => ⟨S2x688x2048, .f32⟩
  | .local _ .vmem, ⟨0, _⟩ => ⟨S8x688x256, .bf16⟩
  | .local _ .vmem, ⟨1, _⟩ => ⟨S8x688x256, .bf16⟩
  | .local _ .vmem, ⟨2, _⟩ => ⟨S8x688x256, .bf16⟩
  | .local _ .vmem, ⟨3, _⟩ => ⟨S8x688x256, .bf16⟩
  | .local _ .vmem, ⟨4, _⟩ => ⟨S1x688x256, .f32⟩
  | .local _ .vmem, ⟨5, _⟩ => ⟨S1x688x256, .f32⟩
  | .local _ .vmem, ⟨6, _⟩ => ⟨S1x688x256, .f32⟩
  | .local _ .vmem, ⟨7, _⟩ => ⟨S1x688x256, .f32⟩
  | .local _ .vmem, ⟨8, _⟩ => ⟨S1x688x256, .f32⟩
  | .local _ .vmem, ⟨9, _⟩ => ⟨S1x688x256, .f32⟩
  | .local _ .vmem, ⟨10, _⟩ => ⟨S1x688x256, .f32⟩
  | .local _ .vmem, ⟨11, _⟩ => ⟨S1x688x256, .f32⟩
  | .local _ .vmem, ⟨12, _⟩ => ⟨S1x688x256, .f32⟩
  | .local _ .vmem, ⟨13, _⟩ => ⟨S1x688x256, .f32⟩
  | .local _ .vmem, ⟨14, _⟩ => ⟨S1x688x256, .f32⟩
  | .local _ .vmem, ⟨15, _⟩ => ⟨S1x688x256, .f32⟩
  | .local _ .vmem, ⟨16, _⟩ => ⟨S1x688x256, .f32⟩
  | .local _ .vmem, ⟨17, _⟩ => ⟨S1x688x256, .f32⟩
  | _, _ => ⟨S8x688x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c0_i32_1 : BitVec 32 := 0#32
  let c0_i32_2 : BitVec 32 := 0#32
  let v2 : BitVec 32 := Scalar.select v0 c0_i32_1 c0_i32_2
  let v3 : BitVec 32 := Scalar.select v1 arg1 v2
  let c0_i32_3 : BitVec 32 := 0#32
  let c7_i32 : BitVec 32 := 7#32
  let v4 : BitVec 32 := Scalar.select v0 c0_i32_3 c7_i32
  let v5 : BitVec 32 := Scalar.select v1 arg2 v4
  let c0_i32_4 : BitVec 32 := 0#32
  let c0_i32_5 : BitVec 32 := 0#32
  ![c0_i32_4.toNat, v3.toNat, v5.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c0_i32 : BitVec 32 := 0#32
  let c0_i32_1 : BitVec 32 := 0#32
  let v2 : BitVec 32 := Scalar.select v0 c0_i32 c0_i32_1
  let v3 : BitVec 32 := Scalar.select v1 arg1 v2
  let c0_i32_2 : BitVec 32 := 0#32
  let c7_i32 : BitVec 32 := 7#32
  let v4 : BitVec 32 := Scalar.select v0 c0_i32_2 c7_i32
  let v5 : BitVec 32 := Scalar.select v1 arg2 v4
  let c0_i32_3 : BitVec 32 := 0#32
  let c0_i32_4 : BitVec 32 := 0#32
  ![c0_i32_3.toNat, v3.toNat, v5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x688x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x688x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x688x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x688x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x688x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x688x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x688x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x688x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x688x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel14Ideal.lean ====
abbrev S8x688x2048 : Shape := ⟨3, ![8, 688, 2048]⟩
abbrev S2x688x2048 : Shape := ⟨3, ![2, 688, 2048]⟩
abbrev S8x688x256 : Shape := ⟨3, ![8, 688, 256]⟩
abbrev S1x688x256 : Shape := ⟨3, ![1, 688, 256]⟩
abbrev S688x256 : Shape := ⟨2, ![688, 256]⟩

abbrev nBuf : Space → Nat
  | .hbm => 9
  | .vmem => 18
  | .smem => 0
  | _ => 0

abbrev bufTy : (tb : Table) → Fin (tcTables nBuf tb) → BufTy
  | .hbm, ⟨0, _⟩ => ⟨S8x688x2048, .bf16⟩
  | .hbm, ⟨1, _⟩ => ⟨S8x688x2048, .bf16⟩
  | .hbm, ⟨2, _⟩ => ⟨S2x688x2048, .f32⟩
  | .hbm, ⟨3, _⟩ => ⟨S2x688x2048, .f32⟩
  | .hbm, ⟨4, _⟩ => ⟨S2x688x2048, .f32⟩
  | .hbm, ⟨5, _⟩ => ⟨S2x688x2048, .f32⟩
  | .hbm, ⟨6, _⟩ => ⟨S2x688x2048, .f32⟩
  | .hbm, ⟨7, _⟩ => ⟨S2x688x2048, .f32⟩
  | .hbm, ⟨8, _⟩ => ⟨S2x688x2048, .f32⟩
  | .local _ .vmem, ⟨0, _⟩ => ⟨S8x688x256, .bf16⟩
  | .local _ .vmem, ⟨1, _⟩ => ⟨S8x688x256, .bf16⟩
  | .local _ .vmem, ⟨2, _⟩ => ⟨S8x688x256, .bf16⟩
  | .local _ .vmem, ⟨3, _⟩ => ⟨S8x688x256, .bf16⟩
  | .local _ .vmem, ⟨4, _⟩ => ⟨S1x688x256, .f32⟩
  | .local _ .vmem, ⟨5, _⟩ => ⟨S1x688x256, .f32⟩
  | .local _ .vmem, ⟨6, _⟩ => ⟨S1x688x256, .f32⟩
  | .local _ .vmem, ⟨7, _⟩ => ⟨S1x688x256, .f32⟩
  | .local _ .vmem, ⟨8, _⟩ => ⟨S1x688x256, .f32⟩
  | .local _ .vmem, ⟨9, _⟩ => ⟨S1x688x256, .f32⟩
  | .local _ .vmem, ⟨10, _⟩ => ⟨S1x688x256, .f32⟩
  | .local _ .vmem, ⟨11, _⟩ => ⟨S1x688x256, .f32⟩
  | .local _ .vmem, ⟨12, _⟩ => ⟨S1x688x256, .f32⟩
  | .local _ .vmem, ⟨13, _⟩ => ⟨S1x688x256, .f32⟩
  | .local _ .vmem, ⟨14, _⟩ => ⟨S1x688x256, .f32⟩
  | .local _ .vmem, ⟨15, _⟩ => ⟨S1x688x256, .f32⟩
  | .local _ .vmem, ⟨16, _⟩ => ⟨S1x688x256, .f32⟩
  | .local _ .vmem, ⟨17, _⟩ => ⟨S1x688x256, .f32⟩
  | _, _ => ⟨S8x688x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c0_i32_1 : BitVec 32 := 0#32
  let c0_i32_2 : BitVec 32 := 0#32
  let v2 : BitVec 32 := Scalar.select v0 c0_i32_1 c0_i32_2
  let v3 : BitVec 32 := Scalar.select v1 arg1 v2
  let c0_i32_3 : BitVec 32 := 0#32
  let c7_i32 : BitVec 32 := 7#32
  let v4 : BitVec 32 := Scalar.select v0 c0_i32_3 c7_i32
  let v5 : BitVec 32 := Scalar.select v1 arg2 v4
  let c0_i32_4 : BitVec 32 := 0#32
  let c0_i32_5 : BitVec 32 := 0#32
  ![c0_i32_4.toNat, v3.toNat, v5.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c0_i32 : BitVec 32 := 0#32
  let c0_i32_1 : BitVec 32 := 0#32
  let v2 : BitVec 32 := Scalar.select v0 c0_i32 c0_i32_1
  let v3 : BitVec 32 := Scalar.select v1 arg1 v2
  let c0_i32_2 : BitVec 32 := 0#32
  let c7_i32 : BitVec 32 := 7#32
  let v4 : BitVec 32 := Scalar.select v0 c0_i32_2 c7_i32
  let v5 : BitVec 32 := Scalar.select v1 arg2 v4
  let c0_i32_3 : BitVec 32 := 0#32
  let c0_i32_4 : BitVec 32 := 0#32
  ![c0_i32_3.toNat, v3.toNat, v5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x688x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x688x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x688x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x688x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x688x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x688x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x688x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x688x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x688x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference14Ideal.lean ====
abbrev S8x688x2048 : Shape := ⟨3, ![8, 688, 2048]⟩
abbrev S2x688x2048 : Shape := ⟨3, ![2, 688, 2048]⟩
abbrev S_ : Shape := ⟨0, ![]⟩
abbrev S688x2048 : Shape := ⟨2, ![688, 2048]⟩
abbrev S1x688x2048 : Shape := ⟨3, ![1, 688, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8x688x2048, .bf16⟩
  | .hbm, ⟨1, _⟩ => ⟨S8x688x2048, .bf16⟩
  | .hbm, ⟨2, _⟩ => ⟨S2x688x2048, .f32⟩
  | .hbm, ⟨3, _⟩ => ⟨S2x688x2048, .f32⟩
  | .hbm, ⟨4, _⟩ => ⟨S2x688x2048, .f32⟩
  | .hbm, ⟨5, _⟩ => ⟨S8x688x2048, .f32⟩
  | .hbm, ⟨6, _⟩ => ⟨S_, .f32⟩
  | .hbm, ⟨7, _⟩ => ⟨S688x2048, .f32⟩
  | .hbm, ⟨8, _⟩ => ⟨S8x688x2048, .f32⟩
  | .hbm, ⟨9, _⟩ => ⟨S_, .f32⟩
  | .hbm, ⟨10, _⟩ => ⟨S688x2048, .f32⟩
  | .hbm, ⟨11, _⟩ => ⟨S1x688x2048, .f32⟩
  | .hbm, ⟨12, _⟩ => ⟨S1x688x2048, .f32⟩
  | .hbm, ⟨13, _⟩ => ⟨S2x688x2048, .f32⟩
  | .hbm, ⟨14, _⟩ => ⟨S_, .f32⟩
  | .hbm, ⟨15, _⟩ => ⟨S2x688x2048, .f32⟩
  | .hbm, ⟨16, _⟩ => ⟨S2x688x2048, .f32⟩
  | .hbm, ⟨17, _⟩ => ⟨S_, .f32⟩
  | .hbm, ⟨18, _⟩ => ⟨S2x688x2048, .f32⟩
  | .hbm, ⟨19, _⟩ => ⟨S2x688x2048, .f32⟩
  | .hbm, ⟨20, _⟩ => ⟨S2x688x2048, .f32⟩
  | .hbm, ⟨21, _⟩ => ⟨S_, .f32⟩
  | .hbm, ⟨22, _⟩ => ⟨S2x688x2048, .f32⟩
  | .hbm, ⟨23, _⟩ => ⟨S2x688x2048, .f32⟩
  | .hbm, ⟨24, _⟩ => ⟨S2x688x2048, .f32⟩
  | .hbm, ⟨25, _⟩ => ⟨S_, .f32⟩
  | .hbm, ⟨26, _⟩ => ⟨S2x688x2048, .f32⟩
  | .hbm, ⟨27, _⟩ => ⟨S2x688x2048, .f32⟩
  | .hbm, ⟨28, _⟩ => ⟨S2x688x2048, .f32⟩
  | .hbm, ⟨29, _⟩ => ⟨S_, .f32⟩
  | .hbm, ⟨30, _⟩ => ⟨S2x688x2048, .f32⟩
  | .hbm, ⟨31, _⟩ => ⟨S2x688x2048, .f32⟩
  | .hbm, ⟨32, _⟩ => ⟨S_, .f32⟩
  | .hbm, ⟨33, _⟩ => ⟨S2x688x2048, .f32⟩
  | .hbm, ⟨34, _⟩ => ⟨S2x688x2048, .f32⟩
  | .hbm, ⟨35, _⟩ => ⟨S2x688x2048, .f32⟩
  | .hbm, ⟨36, _⟩ => ⟨S_, .f32⟩
  | .hbm, ⟨37, _⟩ => ⟨S2x688x2048, .f32⟩
  | .hbm, ⟨38, _⟩ => ⟨S2x688x2048, .f32⟩
  | .hbm, ⟨39, _⟩ => ⟨S2x688x2048, .f32⟩
  | .hbm, ⟨40, _⟩ => ⟨S_, .f32⟩
  | .hbm, ⟨41, _⟩ => ⟨S2x688x2048, .f32⟩
  | .hbm, ⟨42, _⟩ => ⟨S2x688x2048, .f32⟩
  | .hbm, ⟨43, _⟩ => ⟨S2x688x2048, .f32⟩
  | .hbm, ⟨44, _⟩ => ⟨S_, .f32⟩
  | .hbm, ⟨45, _⟩ => ⟨S2x688x2048, .f32⟩
  | .hbm, ⟨46, _⟩ => ⟨S2x688x2048, .f32⟩
  | _, _ => ⟨S8x688x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel15.lean ====
abbrev S8x256x2048 : Shape := ⟨3, ![8, 256, 2048]⟩
abbrev S2x256x2048 : Shape := ⟨3, ![2, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S8x128x2048, .bf16⟩
  | .local _ .vmem, ⟨3, _⟩ => ⟨S8x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c0_i32_1 : BitVec 32 := 0#32
  let c1_i32 : BitVec 32 := 1#32
  let v2 : BitVec 32 := Scalar.select v0 c0_i32_1 c1_i32
  let v3 : BitVec 32 := Scalar.select v1 arg1 v2
  let c0_i32_2 : BitVec 32 := 0#32
  let c0_i32_3 : BitVec 32 := 0#32
  let v4 : BitVec 32 := Scalar.select v0 c0_i32_2 c0_i32_3
  let v5 : BitVec 32 := Scalar.select v1 arg2 v4
  let c0_i32_4 : BitVec 32 := 0#32
  let c0_i32_5 : BitVec 32 := 0#32
  ![c0_i32_4.toNat, v3.toNat, v5.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c0_i32 : BitVec 32 := 0#32
  let c1_i32_1 : BitVec 32 := 1#32
  let v2 : BitVec 32 := Scalar.select v0 c0_i32 c1_i32_1
  let v3 : BitVec 32 := Scalar.select v1 arg1 v2
  let c0_i32_2 : BitVec 32 := 0#32
  let c0_i32_3 : BitVec 32 := 0#32
  let v4 : BitVec 32 := Scalar.select v0 c0_i32_2 c0_i32_3
  let v5 : BitVec 32 := Scalar.select v1 arg2 v4
  let c0_i32_4 : BitVec 32 := 0#32
  let c0_i32_5 : BitVec 32 := 0#32
  ![c0_i32_4.toNat, v3.toNat, v5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel15Ideal.lean ====
abbrev S8x256x2048 : Shape := ⟨3, ![8, 256, 2048]⟩
abbrev S2x256x2048 : Shape := ⟨3, ![2, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S8x128x2048, .bf16⟩
  | .local _ .vmem, ⟨3, _⟩ => ⟨S8x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c0_i32_1 : BitVec 32 := 0#32
  let c1_i32 : BitVec 32 := 1#32
  let v2 : BitVec 32 := Scalar.select v0 c0_i32_1 c1_i32
  let v3 : BitVec 32 := Scalar.select v1 arg1 v2
  let c0_i32_2 : BitVec 32 := 0#32
  let c0_i32_3 : BitVec 32 := 0#32
  let v4 : BitVec 32 := Scalar.select v0 c0_i32_2 c0_i32_3
  let v5 : BitVec 32 := Scalar.select v1 arg2 v4
  let c0_i32_4 : BitVec 32 := 0#32
  let c0_i32_5 : BitVec 32 := 0#32
  ![c0_i32_4.toNat, v3.toNat, v5.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c0_i32 : BitVec 32 := 0#32
  let c1_i32_1 : BitVec 32 := 1#32
  let v2 : BitVec 32 := Scalar.select v0 c0_i32 c1_i32_1
  let v3 : BitVec 32 := Scalar.select v1 arg1 v2
  let c0_i32_2 : BitVec 32 := 0#32
  let c0_i32_3 : BitVec 32 := 0#32
  let v4 : BitVec 32 := Scalar.select v0 c0_i32_2 c0_i32_3
  let v5 : BitVec 32 := Scalar.select v1 arg2 v4
  let c0_i32_4 : BitVec 32 := 0#32
  let c0_i32_5 : BitVec 32 := 0#32
  ![c0_i32_4.toNat, v3.toNat, v5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference15Ideal.lean ====
abbrev S8x256x2048 : Shape := ⟨3, ![8, 256, 2048]⟩
abbrev S2x256x2048 : Shape := ⟨3, ![2, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S8x256x2048, .f32⟩
  | .hbm, ⟨6, _⟩ => ⟨S_, .f32⟩
  | .hbm, ⟨7, _⟩ => ⟨S256x2048, .f32⟩
  | .hbm, ⟨8, _⟩ => ⟨S8x256x2048, .f32⟩
  | .hbm, ⟨9, _⟩ => ⟨S_, .f32⟩
  | .hbm, ⟨10, _⟩ => ⟨S256x2048, .f32⟩
  | .hbm, ⟨11, _⟩ => ⟨S1x256x2048, .f32⟩
  | .hbm, ⟨12, _⟩ => ⟨S1x256x2048, .f32⟩
  | .hbm, ⟨13, _⟩ => ⟨S2x256x2048, .f32⟩
  | .hbm, ⟨14, _⟩ => ⟨S_, .f32⟩
  | .hbm, ⟨15, _⟩ => ⟨S2x256x2048, .f32⟩
  | .hbm, ⟨16, _⟩ => ⟨S2x256x2048, .f32⟩
  | .hbm, ⟨17, _⟩ => ⟨S_, .f32⟩
  | .hbm, ⟨18, _⟩ => ⟨S2x256x2048, .f32⟩
  | .hbm, ⟨19, _⟩ => ⟨S2x256x2048, .f32⟩
  | .hbm, ⟨20, _⟩ => ⟨S2x256x2048, .f32⟩
  | .hbm, ⟨21, _⟩ => ⟨S_, .f32⟩
  | .hbm, ⟨22, _⟩ => ⟨S2x256x2048, .f32⟩
  | .hbm, ⟨23, _⟩ => ⟨S2x256x2048, .f32⟩
  | .hbm, ⟨24, _⟩ => ⟨S2x256x2048, .f32⟩
  | .hbm, ⟨25, _⟩ => ⟨S_, .f32⟩
  | .hbm, ⟨26, _⟩ => ⟨S2x256x2048, .f32⟩
  | .hbm, ⟨27, _⟩ => ⟨S2x256x2048, .f32⟩
  | .hbm, ⟨28, _⟩ => ⟨S2x256x2048, .f32⟩
  | .hbm, ⟨29, _⟩ => ⟨S_, .f32⟩
  | .hbm, ⟨30, _⟩ => ⟨S2x256x2048, .f32⟩
  | .hbm, ⟨31, _⟩ => ⟨S2x256x2048, .f32⟩
  | .hbm, ⟨32, _⟩ => ⟨S_, .f32⟩
  | .hbm, ⟨33, _⟩ => ⟨S2x256x2048, .f32⟩
  | .hbm, ⟨34, _⟩ => ⟨S2x256x2048, .f32⟩
  | .hbm, ⟨35, _⟩ => ⟨S2x256x2048, .f32⟩
  | .hbm, ⟨36, _⟩ => ⟨S_, .f32⟩
  | .hbm, ⟨37, _⟩ => ⟨S2x256x2048, .f32⟩
  | .hbm, ⟨38, _⟩ => ⟨S2x256x2048, .f32⟩
  | .hbm, ⟨39, _⟩ => ⟨S2x256x2048, .f32⟩
  | .hbm, ⟨40, _⟩ => ⟨S_, .f32⟩
  | .hbm, ⟨41, _⟩ => ⟨S2x256x2048, .f32⟩
  | .hbm, ⟨42, _⟩ => ⟨S2x256x2048, .f32⟩
  | .hbm, ⟨43, _⟩ => ⟨S2x256x2048, .f32⟩
  | .hbm, ⟨44, _⟩ => ⟨S_, .f32⟩
  | .hbm, ⟨45, _⟩ => ⟨S2x256x2048, .f32⟩
  | .hbm, ⟨46, _⟩ => ⟨S2x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel16.lean ====
abbrev S8x360x2048 : Shape := ⟨3, ![8, 360, 2048]⟩
abbrev S2x360x2048 : Shape := ⟨3, ![2, 360, 2048]⟩
abbrev S8x360x512 : Shape := ⟨3, ![8, 360, 512]⟩
abbrev S1x360x512 : Shape := ⟨3, ![1, 360, 512]⟩
abbrev S360x512 : Shape := ⟨2, ![360, 512]⟩

abbrev nBuf : Space → Nat
  | .hbm => 9
  | .vmem => 18
  | .smem => 0
  | _ => 0

abbrev bufTy : (tb : Table) → Fin (tcTables nBuf tb) → BufTy
  | .hbm, ⟨0, _⟩ => ⟨S8x360x2048, .bf16⟩
  | .hbm, ⟨1, _⟩ => ⟨S8x360x2048, .bf16⟩
  | .hbm, ⟨2, _⟩ => ⟨S2x360x2048, .f32⟩
  | .hbm, ⟨3, _⟩ => ⟨S2x360x2048, .f32⟩
  | .hbm, ⟨4, _⟩ => ⟨S2x360x2048, .f32⟩
  | .hbm, ⟨5, _⟩ => ⟨S2x360x2048, .f32⟩
  | .hbm, ⟨6, _⟩ => ⟨S2x360x2048, .f32⟩
  | .hbm, ⟨7, _⟩ => ⟨S2x360x2048, .f32⟩
  | .hbm, ⟨8, _⟩ => ⟨S2x360x2048, .f32⟩
  | .local _ .vmem, ⟨0, _⟩ => ⟨S8x360x512, .bf16⟩
  | .local _ .vmem, ⟨1, _⟩ => ⟨S8x360x512, .bf16⟩
  | .local _ .vmem, ⟨2, _⟩ => ⟨S8x360x512, .bf16⟩
  | .local _ .vmem, ⟨3, _⟩ => ⟨S8x360x512, .bf16⟩
  | .local _ .vmem, ⟨4, _⟩ => ⟨S1x360x512, .f32⟩
  | .local _ .vmem, ⟨5, _⟩ => ⟨S1x360x512, .f32⟩
  | .local _ .vmem, ⟨6, _⟩ => ⟨S1x360x512, .f32⟩
  | .local _ .vmem, ⟨7, _⟩ => ⟨S1x360x512, .f32⟩
  | .local _ .vmem, ⟨8, _⟩ => ⟨S1x360x512, .f32⟩
  | .local _ .vmem, ⟨9, _⟩ => ⟨S1x360x512, .f32⟩
  | .local _ .vmem, ⟨10, _⟩ => ⟨S1x360x512, .f32⟩
  | .local _ .vmem, ⟨11, _⟩ => ⟨S1x360x512, .f32⟩
  | .local _ .vmem, ⟨12, _⟩ => ⟨S1x360x512, .f32⟩
  | .local _ .vmem, ⟨13, _⟩ => ⟨S1x360x512, .f32⟩
  | .local _ .vmem, ⟨14, _⟩ => ⟨S1x360x512, .f32⟩
  | .local _ .vmem, ⟨15, _⟩ => ⟨S1x360x512, .f32⟩
  | .local _ .vmem, ⟨16, _⟩ => ⟨S1x360x512, .f32⟩
  | .local _ .vmem, ⟨17, _⟩ => ⟨S1x360x512, .f32⟩
  | _, _ => ⟨S8x360x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c0_i32_1 : BitVec 32 := 0#32
  let c0_i32_2 : BitVec 32 := 0#32
  let v2 : BitVec 32 := Scalar.select v0 c0_i32_1 c0_i32_2
  let v3 : BitVec 32 := Scalar.select v1 arg1 v2
  let c0_i32_3 : BitVec 32 := 0#32
  let c3_i32 : BitVec 32 := 3#32
  let v4 : BitVec 32 := Scalar.select v0 c0_i32_3 c3_i32
  let v5 : BitVec 32 := Scalar.select v1 arg2 v4
  let c0_i32_4 : BitVec 32 := 0#32
  let c0_i32_5 : BitVec 32 := 0#32
  ![c0_i32_4.toNat, v3.toNat, v5.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c0_i32 : BitVec 32 := 0#32
  let c0_i32_1 : BitVec 32 := 0#32
  let v2 : BitVec 32 := Scalar.select v0 c0_i32 c0_i32_1
  let v3 : BitVec 32 := Scalar.select v1 arg1 v2
  let c0_i32_2 : BitVec 32 := 0#32
  let c3_i32 : BitVec 32 := 3#32
  let v4 : BitVec 32 := Scalar.select v0 c0_i32_2 c3_i32
  let v5 : BitVec 32 := Scalar.select v1 arg2 v4
  let c0_i32_3 : BitVec 32 := 0#32
  let c0_i32_4 : BitVec 32 := 0#32
  ![c0_i32_3.toNat, v3.toNat, v5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x360x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x360x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x360x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x360x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x360x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x360x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x360x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x360x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x360x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel16Ideal.lean ====
abbrev S8x360x2048 : Shape := ⟨3, ![8, 360, 2048]⟩
abbrev S2x360x2048 : Shape := ⟨3, ![2, 360, 2048]⟩
abbrev S8x360x512 : Shape := ⟨3, ![8, 360, 512]⟩
abbrev S1x360x512 : Shape := ⟨3, ![1, 360, 512]⟩
abbrev S360x512 : Shape := ⟨2, ![360, 512]⟩

abbrev nBuf : Space → Nat
  | .hbm => 9
  | .vmem => 18
  | .smem => 0
  | _ => 0

abbrev bufTy : (tb : Table) → Fin (tcTables nBuf tb) → BufTy
  | .hbm, ⟨0, _⟩ => ⟨S8x360x2048, .bf16⟩
  | .hbm, ⟨1, _⟩ => ⟨S8x360x2048, .bf16⟩
  | .hbm, ⟨2, _⟩ => ⟨S2x360x2048, .f32⟩
  | .hbm, ⟨3, _⟩ => ⟨S2x360x2048, .f32⟩
  | .hbm, ⟨4, _⟩ => ⟨S2x360x2048, .f32⟩
  | .hbm, ⟨5, _⟩ => ⟨S2x360x2048, .f32⟩
  | .hbm, ⟨6, _⟩ => ⟨S2x360x2048, .f32⟩
  | .hbm, ⟨7, _⟩ => ⟨S2x360x2048, .f32⟩
  | .hbm, ⟨8, _⟩ => ⟨S2x360x2048, .f32⟩
  | .local _ .vmem, ⟨0, _⟩ => ⟨S8x360x512, .bf16⟩
  | .local _ .vmem, ⟨1, _⟩ => ⟨S8x360x512, .bf16⟩
  | .local _ .vmem, ⟨2, _⟩ => ⟨S8x360x512, .bf16⟩
  | .local _ .vmem, ⟨3, _⟩ => ⟨S8x360x512, .bf16⟩
  | .local _ .vmem, ⟨4, _⟩ => ⟨S1x360x512, .f32⟩
  | .local _ .vmem, ⟨5, _⟩ => ⟨S1x360x512, .f32⟩
  | .local _ .vmem, ⟨6, _⟩ => ⟨S1x360x512, .f32⟩
  | .local _ .vmem, ⟨7, _⟩ => ⟨S1x360x512, .f32⟩
  | .local _ .vmem, ⟨8, _⟩ => ⟨S1x360x512, .f32⟩
  | .local _ .vmem, ⟨9, _⟩ => ⟨S1x360x512, .f32⟩
  | .local _ .vmem, ⟨10, _⟩ => ⟨S1x360x512, .f32⟩
  | .local _ .vmem, ⟨11, _⟩ => ⟨S1x360x512, .f32⟩
  | .local _ .vmem, ⟨12, _⟩ => ⟨S1x360x512, .f32⟩
  | .local _ .vmem, ⟨13, _⟩ => ⟨S1x360x512, .f32⟩
  | .local _ .vmem, ⟨14, _⟩ => ⟨S1x360x512, .f32⟩
  | .local _ .vmem, ⟨15, _⟩ => ⟨S1x360x512, .f32⟩
  | .local _ .vmem, ⟨16, _⟩ => ⟨S1x360x512, .f32⟩
  | .local _ .vmem, ⟨17, _⟩ => ⟨S1x360x512, .f32⟩
  | _, _ => ⟨S8x360x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c0_i32_1 : BitVec 32 := 0#32
  let c0_i32_2 : BitVec 32 := 0#32
  let v2 : BitVec 32 := Scalar.select v0 c0_i32_1 c0_i32_2
  let v3 : BitVec 32 := Scalar.select v1 arg1 v2
  let c0_i32_3 : BitVec 32 := 0#32
  let c3_i32 : BitVec 32 := 3#32
  let v4 : BitVec 32 := Scalar.select v0 c0_i32_3 c3_i32
  let v5 : BitVec 32 := Scalar.select v1 arg2 v4
  let c0_i32_4 : BitVec 32 := 0#32
  let c0_i32_5 : BitVec 32 := 0#32
  ![c0_i32_4.toNat, v3.toNat, v5.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c0_i32 : BitVec 32 := 0#32
  let c0_i32_1 : BitVec 32 := 0#32
  let v2 : BitVec 32 := Scalar.select v0 c0_i32 c0_i32_1
  let v3 : BitVec 32 := Scalar.select v1 arg1 v2
  let c0_i32_2 : BitVec 32 := 0#32
  let c3_i32 : BitVec 32 := 3#32
  let v4 : BitVec 32 := Scalar.select v0 c0_i32_2 c3_i32
  let v5 : BitVec 32 := Scalar.select v1 arg2 v4
  let c0_i32_3 : BitVec 32 := 0#32
  let c0_i32_4 : BitVec 32 := 0#32
  ![c0_i32_3.toNat, v3.toNat, v5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x360x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x360x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x360x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x360x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x360x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x360x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x360x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x360x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x360x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference16Ideal.lean ====
abbrev S8x360x2048 : Shape := ⟨3, ![8, 360, 2048]⟩
abbrev S2x360x2048 : Shape := ⟨3, ![2, 360, 2048]⟩
abbrev S_ : Shape := ⟨0, ![]⟩
abbrev S360x2048 : Shape := ⟨2, ![360, 2048]⟩
abbrev S1x360x2048 : Shape := ⟨3, ![1, 360, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8x360x2048, .bf16⟩
  | .hbm, ⟨1, _⟩ => ⟨S8x360x2048, .bf16⟩
  | .hbm, ⟨2, _⟩ => ⟨S2x360x2048, .f32⟩
  | .hbm, ⟨3, _⟩ => ⟨S2x360x2048, .f32⟩
  | .hbm, ⟨4, _⟩ => ⟨S2x360x2048, .f32⟩
  | .hbm, ⟨5, _⟩ => ⟨S8x360x2048, .f32⟩
  | .hbm, ⟨6, _⟩ => ⟨S_, .f32⟩
  | .hbm, ⟨7, _⟩ => ⟨S360x2048, .f32⟩
  | .hbm, ⟨8, _⟩ => ⟨S8x360x2048, .f32⟩
  | .hbm, ⟨9, _⟩ => ⟨S_, .f32⟩
  | .hbm, ⟨10, _⟩ => ⟨S360x2048, .f32⟩
  | .hbm, ⟨11, _⟩ => ⟨S1x360x2048, .f32⟩
  | .hbm, ⟨12, _⟩ => ⟨S1x360x2048, .f32⟩
  | .hbm, ⟨13, _⟩ => ⟨S2x360x2048, .f32⟩
  | .hbm, ⟨14, _⟩ => ⟨S_, .f32⟩
  | .hbm, ⟨15, _⟩ => ⟨S2x360x2048, .f32⟩
  | .hbm, ⟨16, _⟩ => ⟨S2x360x2048, .f32⟩
  | .hbm, ⟨17, _⟩ => ⟨S_, .f32⟩
  | .hbm, ⟨18, _⟩ => ⟨S2x360x2048, .f32⟩
  | .hbm, ⟨19, _⟩ => ⟨S2x360x2048, .f32⟩
  | .hbm, ⟨20, _⟩ => ⟨S2x360x2048, .f32⟩
  | .hbm, ⟨21, _⟩ => ⟨S_, .f32⟩
  | .hbm, ⟨22, _⟩ => ⟨S2x360x2048, .f32⟩
  | .hbm, ⟨23, _⟩ => ⟨S2x360x2048, .f32⟩
  | .hbm, ⟨24, _⟩ => ⟨S2x360x2048, .f32⟩
  | .hbm, ⟨25, _⟩ => ⟨S_, .f32⟩
  | .hbm, ⟨26, _⟩ => ⟨S2x360x2048, .f32⟩
  | .hbm, ⟨27, _⟩ => ⟨S2x360x2048, .f32⟩
  | .hbm, ⟨28, _⟩ => ⟨S2x360x2048, .f32⟩
  | .hbm, ⟨29, _⟩ => ⟨S_, .f32⟩
  | .hbm, ⟨30, _⟩ => ⟨S2x360x2048, .f32⟩
  | .hbm, ⟨31, _⟩ => ⟨S2x360x2048, .f32⟩
  | .hbm, ⟨32, _⟩ => ⟨S_, .f32⟩
  | .hbm, ⟨33, _⟩ => ⟨S2x360x2048, .f32⟩
  | .hbm, ⟨34, _⟩ => ⟨S2x360x2048, .f32⟩
  | .hbm, ⟨35, _⟩ => ⟨S2x360x2048, .f32⟩
  | .hbm, ⟨36, _⟩ => ⟨S_, .f32⟩
  | .hbm, ⟨37, _⟩ => ⟨S2x360x2048, .f32⟩
  | .hbm, ⟨38, _⟩ => ⟨S2x360x2048, .f32⟩
  | .hbm, ⟨39, _⟩ => ⟨S2x360x2048, .f32⟩
  | .hbm, ⟨40, _⟩ => ⟨S_, .f32⟩
  | .hbm, ⟨41, _⟩ => ⟨S2x360x2048, .f32⟩
  | .hbm, ⟨42, _⟩ => ⟨S2x360x2048, .f32⟩
  | .hbm, ⟨43, _⟩ => ⟨S2x360x2048, .f32⟩
  | .hbm, ⟨44, _⟩ => ⟨S_, .f32⟩
  | .hbm, ⟨45, _⟩ => ⟨S2x360x2048, .f32⟩
  | .hbm, ⟨46, _⟩ => ⟨S2x360x2048, .f32⟩
  | _, _ => ⟨S8x360x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel17.lean ====
abbrev S8x192x512 : Shape := ⟨3, ![8, 192, 512]⟩
abbrev S2x192x512 : Shape := ⟨3, ![2, 192, 512]⟩
abbrev S1x192x512 : Shape := ⟨3, ![1, 192, 512]⟩
abbrev S192x512 : Shape := ⟨2, ![192, 512]⟩

abbrev nBuf : Space → Nat
  | .hbm => 9
  | .vmem => 18
  | .smem => 0
  | _ => 0

abbrev bufTy : (tb : Table) → Fin (tcTables nBuf tb) → BufTy
  | .hbm, ⟨0, _⟩ => ⟨S8x192x512, .bf16⟩
  | .hbm, ⟨1, _⟩ => ⟨S8x192x512, .bf16⟩
  | .hbm, ⟨2, _⟩ => ⟨S2x192x512, .f32⟩
  | .hbm, ⟨3, _⟩ => ⟨S2x192x512, .f32⟩
  | .hbm, ⟨4, _⟩ => ⟨S2x192x512, .f32⟩
  | .hbm, ⟨5, _⟩ => ⟨S2x192x512, .f32⟩
  | .hbm, ⟨6, _⟩ => ⟨S2x192x512, .f32⟩
  | .hbm, ⟨7, _⟩ => ⟨S2x192x512, .f32⟩
  | .hbm, ⟨8, _⟩ => ⟨S2x192x512, .f32⟩
  | .local _ .vmem, ⟨0, _⟩ => ⟨S8x192x512, .bf16⟩
  | .local _ .vmem, ⟨1, _⟩ => ⟨S8x192x512, .bf16⟩
  | .local _ .vmem, ⟨2, _⟩ => ⟨S8x192x512, .bf16⟩
  | .local _ .vmem, ⟨3, _⟩ => ⟨S8x192x512, .bf16⟩
  | .local _ .vmem, ⟨4, _⟩ => ⟨S1x192x512, .f32⟩
  | .local _ .vmem, ⟨5, _⟩ => ⟨S1x192x512, .f32⟩
  | .local _ .vmem, ⟨6, _⟩ => ⟨S1x192x512, .f32⟩
  | .local _ .vmem, ⟨7, _⟩ => ⟨S1x192x512, .f32⟩
  | .local _ .vmem, ⟨8, _⟩ => ⟨S1x192x512, .f32⟩
  | .local _ .vmem, ⟨9, _⟩ => ⟨S1x192x512, .f32⟩
  | .local _ .vmem, ⟨10, _⟩ => ⟨S1x192x512, .f32⟩
  | .local _ .vmem, ⟨11, _⟩ => ⟨S1x192x512, .f32⟩
  | .local _ .vmem, ⟨12, _⟩ => ⟨S1x192x512, .f32⟩
  | .local _ .vmem, ⟨13, _⟩ => ⟨S1x192x512, .f32⟩
  | .local _ .vmem, ⟨14, _⟩ => ⟨S1x192x512, .f32⟩
  | .local _ .vmem, ⟨15, _⟩ => ⟨S1x192x512, .f32⟩
  | .local _ .vmem, ⟨16, _⟩ => ⟨S1x192x512, .f32⟩
  | .local _ .vmem, ⟨17, _⟩ => ⟨S1x192x512, .f32⟩
  | _, _ => ⟨S8x192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c0_i32_1 : BitVec 32 := 0#32
  let c0_i32_2 : BitVec 32 := 0#32
  let v2 : BitVec 32 := Scalar.select v0 c0_i32_1 c0_i32_2
  let v3 : BitVec 32 := Scalar.select v1 arg1 v2
  let c0_i32_3 : BitVec 32 := 0#32
  let c0_i32_4 : BitVec 32 := 0#32
  let v4 : BitVec 32 := Scalar.select v0 c0_i32_3 c0_i32_4
  let v5 : BitVec 32 := Scalar.select v1 arg2 v4
  let c0_i32_5 : BitVec 32 := 0#32
  let c0_i32_6 : BitVec 32 := 0#32
  ![c0_i32_5.toNat, v3.toNat, v5.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c0_i32 : BitVec 32 := 0#32
  let c0_i32_1 : BitVec 32 := 0#32
  let v2 : BitVec 32 := Scalar.select v0 c0_i32 c0_i32_1
  let v3 : BitVec 32 := Scalar.select v1 arg1 v2
  let c0_i32_2 : BitVec 32 := 0#32
  let c0_i32_3 : BitVec 32 := 0#32
  let v4 : BitVec 32 := Scalar.select v0 c0_i32_2 c0_i32_3
  let v5 : BitVec 32 := Scalar.select v1 arg2 v4
  let c0_i32_4 : BitVec 32 := 0#32
  let c0_i32_5 : BitVec 32 := 0#32
  ![c0_i32_4.toNat, v3.toNat, v5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x192x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x192x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x192x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x192x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x192x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x192x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel17Ideal.lean ====
abbrev S8x192x512 : Shape := ⟨3, ![8, 192, 512]⟩
abbrev S2x192x512 : Shape := ⟨3, ![2, 192, 512]⟩
abbrev S1x192x512 : Shape := ⟨3, ![1, 192, 512]⟩
abbrev S192x512 : Shape := ⟨2, ![192, 512]⟩

abbrev nBuf : Space → Nat
  | .hbm => 9
  | .vmem => 18
  | .smem => 0
  | _ => 0

abbrev bufTy : (tb : Table) → Fin (tcTables nBuf tb) → BufTy
  | .hbm, ⟨0, _⟩ => ⟨S8x192x512, .bf16⟩
  | .hbm, ⟨1, _⟩ => ⟨S8x192x512, .bf16⟩
  | .hbm, ⟨2, _⟩ => ⟨S2x192x512, .f32⟩
  | .hbm, ⟨3, _⟩ => ⟨S2x192x512, .f32⟩
  | .hbm, ⟨4, _⟩ => ⟨S2x192x512, .f32⟩
  | .hbm, ⟨5, _⟩ => ⟨S2x192x512, .f32⟩
  | .hbm, ⟨6, _⟩ => ⟨S2x192x512, .f32⟩
  | .hbm, ⟨7, _⟩ => ⟨S2x192x512, .f32⟩
  | .hbm, ⟨8, _⟩ => ⟨S2x192x512, .f32⟩
  | .local _ .vmem, ⟨0, _⟩ => ⟨S8x192x512, .bf16⟩
  | .local _ .vmem, ⟨1, _⟩ => ⟨S8x192x512, .bf16⟩
  | .local _ .vmem, ⟨2, _⟩ => ⟨S8x192x512, .bf16⟩
  | .local _ .vmem, ⟨3, _⟩ => ⟨S8x192x512, .bf16⟩
  | .local _ .vmem, ⟨4, _⟩ => ⟨S1x192x512, .f32⟩
  | .local _ .vmem, ⟨5, _⟩ => ⟨S1x192x512, .f32⟩
  | .local _ .vmem, ⟨6, _⟩ => ⟨S1x192x512, .f32⟩
  | .local _ .vmem, ⟨7, _⟩ => ⟨S1x192x512, .f32⟩
  | .local _ .vmem, ⟨8, _⟩ => ⟨S1x192x512, .f32⟩
  | .local _ .vmem, ⟨9, _⟩ => ⟨S1x192x512, .f32⟩
  | .local _ .vmem, ⟨10, _⟩ => ⟨S1x192x512, .f32⟩
  | .local _ .vmem, ⟨11, _⟩ => ⟨S1x192x512, .f32⟩
  | .local _ .vmem, ⟨12, _⟩ => ⟨S1x192x512, .f32⟩
  | .local _ .vmem, ⟨13, _⟩ => ⟨S1x192x512, .f32⟩
  | .local _ .vmem, ⟨14, _⟩ => ⟨S1x192x512, .f32⟩
  | .local _ .vmem, ⟨15, _⟩ => ⟨S1x192x512, .f32⟩
  | .local _ .vmem, ⟨16, _⟩ => ⟨S1x192x512, .f32⟩
  | .local _ .vmem, ⟨17, _⟩ => ⟨S1x192x512, .f32⟩
  | _, _ => ⟨S8x192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c0_i32_1 : BitVec 32 := 0#32
  let c0_i32_2 : BitVec 32 := 0#32
  let v2 : BitVec 32 := Scalar.select v0 c0_i32_1 c0_i32_2
  let v3 : BitVec 32 := Scalar.select v1 arg1 v2
  let c0_i32_3 : BitVec 32 := 0#32
  let c0_i32_4 : BitVec 32 := 0#32
  let v4 : BitVec 32 := Scalar.select v0 c0_i32_3 c0_i32_4
  let v5 : BitVec 32 := Scalar.select v1 arg2 v4
  let c0_i32_5 : BitVec 32 := 0#32
  let c0_i32_6 : BitVec 32 := 0#32
  ![c0_i32_5.toNat, v3.toNat, v5.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c0_i32 : BitVec 32 := 0#32
  let c0_i32_1 : BitVec 32 := 0#32
  let v2 : BitVec 32 := Scalar.select v0 c0_i32 c0_i32_1
  let v3 : BitVec 32 := Scalar.select v1 arg1 v2
  let c0_i32_2 : BitVec 32 := 0#32
  let c0_i32_3 : BitVec 32 := 0#32
  let v4 : BitVec 32 := Scalar.select v0 c0_i32_2 c0_i32_3
  let v5 : BitVec 32 := Scalar.select v1 arg2 v4
  let c0_i32_4 : BitVec 32 := 0#32
  let c0_i32_5 : BitVec 32 := 0#32
  ![c0_i32_4.toNat, v3.toNat, v5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x192x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x192x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x192x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x192x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x192x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x192x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x192x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference17Ideal.lean ====
abbrev S8x192x512 : Shape := ⟨3, ![8, 192, 512]⟩
abbrev S2x192x512 : Shape := ⟨3, ![2, 192, 512]⟩
abbrev S_ : Shape := ⟨0, ![]⟩
abbrev S192x512 : Shape := ⟨2, ![192, 512]⟩
abbrev S1x192x512 : Shape := ⟨3, ![1, 192, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x192x512, .bf16⟩
  | .hbm, ⟨1, _⟩ => ⟨S8x192x512, .bf16⟩
  | .hbm, ⟨2, _⟩ => ⟨S2x192x512, .f32⟩
  | .hbm, ⟨3, _⟩ => ⟨S2x192x512, .f32⟩
  | .hbm, ⟨4, _⟩ => ⟨S2x192x512, .f32⟩
  | .hbm, ⟨5, _⟩ => ⟨S8x192x512, .f32⟩
  | .hbm, ⟨6, _⟩ => ⟨S_, .f32⟩
  | .hbm, ⟨7, _⟩ => ⟨S192x512, .f32⟩
  | .hbm, ⟨8, _⟩ => ⟨S8x192x512, .f32⟩
  | .hbm, ⟨9, _⟩ => ⟨S_, .f32⟩
  | .hbm, ⟨10, _⟩ => ⟨S192x512, .f32⟩
  | .hbm, ⟨11, _⟩ => ⟨S1x192x512, .f32⟩
  | .hbm, ⟨12, _⟩ => ⟨S1x192x512, .f32⟩
  | .hbm, ⟨13, _⟩ => ⟨S2x192x512, .f32⟩
  | .hbm, ⟨14, _⟩ => ⟨S_, .f32⟩
  | .hbm, ⟨15, _⟩ => ⟨S2x192x512, .f32⟩
  | .hbm, ⟨16, _⟩ => ⟨S2x192x512, .f32⟩
  | .hbm, ⟨17, _⟩ => ⟨S_, .f32⟩
  | .hbm, ⟨18, _⟩ => ⟨S2x192x512, .f32⟩
  | .hbm, ⟨19, _⟩ => ⟨S2x192x512, .f32⟩
  | .hbm, ⟨20, _⟩ => ⟨S2x192x512, .f32⟩
  | .hbm, ⟨21, _⟩ => ⟨S_, .f32⟩
  | .hbm, ⟨22, _⟩ => ⟨S2x192x512, .f32⟩
  | .hbm, ⟨23, _⟩ => ⟨S2x192x512, .f32⟩
  | .hbm, ⟨24, _⟩ => ⟨S2x192x512, .f32⟩
  | .hbm, ⟨25, _⟩ => ⟨S_, .f32⟩
  | .hbm, ⟨26, _⟩ => ⟨S2x192x512, .f32⟩
  | .hbm, ⟨27, _⟩ => ⟨S2x192x512, .f32⟩
  | .hbm, ⟨28, _⟩ => ⟨S2x192x512, .f32⟩
  | .hbm, ⟨29, _⟩ => ⟨S_, .f32⟩
  | .hbm, ⟨30, _⟩ => ⟨S2x192x512, .f32⟩
  | .hbm, ⟨31, _⟩ => ⟨S2x192x512, .f32⟩
  | .hbm, ⟨32, _⟩ => ⟨S_, .f32⟩
  | .hbm, ⟨33, _⟩ => ⟨S2x192x512, .f32⟩
  | .hbm, ⟨34, _⟩ => ⟨S2x192x512, .f32⟩
  | .hbm, ⟨35, _⟩ => ⟨S2x192x512, .f32⟩
  | .hbm, ⟨36, _⟩ => ⟨S_, .f32⟩
  | .hbm, ⟨37, _⟩ => ⟨S2x192x512, .f32⟩
  | .hbm, ⟨38, _⟩ => ⟨S2x192x512, .f32⟩
  | .hbm, ⟨39, _⟩ => ⟨S2x192x512, .f32⟩
  | .hbm, ⟨40, _⟩ => ⟨S_, .f32⟩
  | .hbm, ⟨41, _⟩ => ⟨S2x192x512, .f32⟩
  | .hbm, ⟨42, _⟩ => ⟨S2x192x512, .f32⟩
  | .hbm, ⟨43, _⟩ => ⟨S2x192x512, .f32⟩
  | .hbm, ⟨44, _⟩ => ⟨S_, .f32⟩
  | .hbm, ⟨45, _⟩ => ⟨S2x192x512, .f32⟩
  | .hbm, ⟨46, _⟩ => ⟨S2x192x512, .f32⟩
  | _, _ => ⟨S8x192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel18.lean ====
abbrev S8x256x256 : Shape := ⟨3, ![8, 256, 256]⟩
abbrev S2x256x256 : Shape := ⟨3, ![2, 256, 256]⟩
abbrev S1x256x256 : Shape := ⟨3, ![1, 256, 256]⟩
abbrev S256x256 : Shape := ⟨2, ![256, 256]⟩

abbrev nBuf : Space → Nat
  | .hbm => 9
  | .vmem => 18
  | .smem => 0
  | _ => 0

abbrev bufTy : (tb : Table) → Fin (tcTables nBuf tb) → BufTy
  | .hbm, ⟨0, _⟩ => ⟨S8x256x256, .bf16⟩
  | .hbm, ⟨1, _⟩ => ⟨S8x256x256, .bf16⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S2x256x256, .f32⟩
  | .hbm, ⟨6, _⟩ => ⟨S2x256x256, .f32⟩
  | .hbm, ⟨7, _⟩ => ⟨S2x256x256, .f32⟩
  | .hbm, ⟨8, _⟩ => ⟨S2x256x256, .f32⟩
  | .local _ .vmem, ⟨0, _⟩ => ⟨S8x256x256, .bf16⟩
  | .local _ .vmem, ⟨1, _⟩ => ⟨S8x256x256, .bf16⟩
  | .local _ .vmem, ⟨2, _⟩ => ⟨S8x256x256, .bf16⟩
  | .local _ .vmem, ⟨3, _⟩ => ⟨S8x256x256, .bf16⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c0_i32_1 : BitVec 32 := 0#32
  let c0_i32_2 : BitVec 32 := 0#32
  let v2 : BitVec 32 := Scalar.select v0 c0_i32_1 c0_i32_2
  let v3 : BitVec 32 := Scalar.select v1 arg1 v2
  let c0_i32_3 : BitVec 32 := 0#32
  let c0_i32_4 : BitVec 32 := 0#32
  let v4 : BitVec 32 := Scalar.select v0 c0_i32_3 c0_i32_4
  let v5 : BitVec 32 := Scalar.select v1 arg2 v4
  let c0_i32_5 : BitVec 32 := 0#32
  let c0_i32_6 : BitVec 32 := 0#32
  ![c0_i32_5.toNat, v3.toNat, v5.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg0 c1_i32
  let c1_i32_0 : BitVec 32 := 1#32
  let v1 : BitVec 1 := Scalar.cmpi .eq arg0 c1_i32_0
  let c0_i32 : BitVec 32 := 0#32
  let c0_i32_1 : BitVec 32 := 0#32
  let v2 : BitVec 32 := Scalar.select v0 c0_i32 c0_i32_1
  let v3 : BitVec 32 := Scalar.select v1 arg1 v2
  let c0_i32_2 : BitVec 32 := 0#32
  let c0_i32_3 : BitVec 32 := 0#32
  let v4 : BitVec 32 := Scalar.select v0 c0_i32_2 c0_i32_3
  let v5 : BitVec 32 := Scalar.select v1 arg2 v4
  let c0_i32_4 : BitVec 32 := 0#32
  let c0_i32_5 : BitVec 32 := 0#32
  ![c0_i32_4.toNat, v3.toNat, v5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference18Ideal.lean ====
abbrev S8x256x256 : Shape := ⟨3, ![8, 256, 256]⟩
abbrev S2x256x256 : Shape := ⟨3, ![2, 256, 256]⟩
abbrev S_ : Shape := ⟨0, ![]⟩
abbrev S256x256 : Shape := ⟨2, ![256, 256]⟩
abbrev S1x256x256 : Shape := ⟨3, ![1, 256, 256]⟩

abbrev nBuf : Space → Nat
  | .hbm => 47
  | .vmem => 0
  | .smem => 0
  | _ => 0

abbrev bufTy : (tb : Table) → Fin (tcTables nBuf tb) → BufTy
  | .hbm, ⟨0, _⟩ => ⟨S8x256x256, .bf16⟩
  | .hbm, ⟨1, _⟩ => ⟨S8x256x256, .bf16⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S8x256x256, .f32⟩
  | .hbm, ⟨6, _⟩ => ⟨S_, .f32⟩
  | .hbm, ⟨7, _⟩ => ⟨S256x256, .f32⟩
  | .hbm, ⟨8, _⟩ => ⟨S8x256x256, .f32⟩
  | .hbm, ⟨9, _⟩ => ⟨S_, .f32⟩
  | .hbm, ⟨10, _⟩ => ⟨S256x256, .f32⟩
  | .hbm, ⟨11, _⟩ => ⟨S1x256x256, .f32⟩
  | .hbm, ⟨12, _⟩ => ⟨S1x256x256, .f32⟩
  | .hbm, ⟨13, _⟩ => ⟨S2x256x256, .f32⟩
  | .hbm, ⟨14, _⟩ => ⟨S_, .f32⟩
  | .hbm, ⟨15, _⟩ => ⟨S2x256x256, .f32⟩
  | .hbm, ⟨16, _⟩ => ⟨S2x256x256, .f32⟩
  | .hbm, ⟨17, _⟩ => ⟨S_, .f32⟩
  | .hbm, ⟨18, _⟩ => ⟨S2x256x256, .f32⟩
  | .hbm, ⟨19, _⟩ => ⟨S2x256x256, .f32⟩
  | .hbm, ⟨20, _⟩ => ⟨S2x256x256, .f32⟩
  | .hbm, ⟨21, _⟩ => ⟨S_, .f32⟩
  | .hbm, ⟨22, _⟩ => ⟨S2x256x256, .f32⟩
  | .hbm, ⟨23, _⟩ => ⟨S2x256x256, .f32⟩
  | .hbm, ⟨24, _⟩ => ⟨S2x256x256, .f32⟩
  | .hbm, ⟨25, _⟩ => ⟨S_, .f32⟩
  | .hbm, ⟨26, _⟩ => ⟨S2x256x256, .f32⟩
  | .hbm, ⟨27, _⟩ => ⟨S2x256x256, .f32⟩
  | .hbm, ⟨28, _⟩ => ⟨S2x256x256, .f32⟩
  | .hbm, ⟨29, _⟩ => ⟨S_, .f32⟩
  | .hbm, ⟨30, _⟩ => ⟨S2x256x256, .f32⟩
  | .hbm, ⟨31, _⟩ => ⟨S2x256x256, .f32⟩
  | .hbm, ⟨32, _⟩ => ⟨S_, .f32⟩
  | .hbm, ⟨33, _⟩ => ⟨S2x256x256, .f32⟩
  | .hbm, ⟨34, _⟩ => ⟨S2x256x256, .f32⟩
  | .hbm, ⟨35, _⟩ => ⟨S2x256x256, .f32⟩
  | .hbm, ⟨36, _⟩ => ⟨S_, .f32⟩
  | .hbm, ⟨37, _⟩ => ⟨S2x256x256, .f32⟩
  | .hbm, ⟨38, _⟩ => ⟨S2x256x256, .f32⟩
  | .hbm, ⟨39, _⟩ => ⟨S2x256x256, .f32⟩
  | .hbm, ⟨40, _⟩ => ⟨S_, .f32⟩
  | .hbm, ⟨41, _⟩ => ⟨S2x256x256, .f32⟩
  | .hbm, ⟨42, _⟩ => ⟨S2x256x256, .f32⟩
  | .hbm, ⟨43, _⟩ => ⟨S2x256x256, .f32⟩
  | .hbm, ⟨44, _⟩ => ⟨S_, .f32⟩
  | .hbm, ⟨45, _⟩ => ⟨S2x256x256, .f32⟩
  | .hbm, ⟨46, _⟩ => ⟨S2x256x256, .f32⟩
  | _, _ => ⟨S8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel19.lean ====
abbrev S8x2560x128 : Shape := ⟨3, ![8, 2560, 128]⟩
abbrev S1x2560x128 : Shape := ⟨3, ![1, 2560, 128]⟩
abbrev S8x512x128 : Shape := ⟨3, ![8, 512, 128]⟩
abbrev S1x512x128 : Shape := ⟨3, ![1, 512, 128]⟩
abbrev S512x128 : Shape := ⟨2, ![512, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x2560x128, .f32⟩
  | .hbm, ⟨1, _⟩ => ⟨S1x2560x128, .f32⟩
  | .hbm, ⟨2, _⟩ => ⟨S1x2560x128, .f32⟩
  | .hbm, ⟨3, _⟩ => ⟨S1x2560x128, .f32⟩
  | .hbm, ⟨4, _⟩ => ⟨S1x2560x128, .f32⟩
  | .hbm, ⟨5, _⟩ => ⟨S1x2560x128, .f32⟩
  | .hbm, ⟨6, _⟩ => ⟨S1x2560x128, .f32⟩
  | .hbm, ⟨7, _⟩ => ⟨S1x2560x128, .f32⟩
  | .local _ .vmem, ⟨0, _⟩ => ⟨S8x512x128, .f32⟩
  | .local _ .vmem, ⟨1, _⟩ => ⟨S8x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | _, _ => ⟨S8x2560x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![1, 5, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .slt arg0 c0_i32
  let c0_i32_0 : BitVec 32 := 0#32
  let v1 : BitVec 1 := Scalar.cmpi .eq arg0 c0_i32_0
  let c0_i32_1 : BitVec 32 := 0#32
  let c4_i32 : BitVec 32 := 4#32
  let v2 : BitVec 32 := Scalar.select v0 c0_i32_1 c4_i32
  let v3 : BitVec 32 := Scalar.select v1 arg1 v2
  let c0_i32_2 : BitVec 32 := 0#32
  let c0_i32_3 : BitVec 32 := 0#32
  let v4 : BitVec 32 := Scalar.select v0 c0_i32_2 c0_i32_3
  let v5 : BitVec 32 := Scalar.select v1 arg2 v4
  let c0_i32_4 : BitVec 32 := 0#32
  let c0_i32_5 : BitVec 32 := 0#32
  ![c0_i32_4.toNat, v3.toNat, v5.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference19Ideal.lean ====
abbrev S8x2560x128 : Shape := ⟨3, ![8, 2560, 128]⟩
abbrev S1x2560x128 : Shape := ⟨3, ![1, 2560, 128]⟩
abbrev S_ : Shape := ⟨0, ![]⟩
abbrev S2560x128 : Shape := ⟨2, ![2560, 128]⟩

abbrev nBuf : Space → Nat
  | .hbm => 40
  | .vmem => 0
  | .smem => 0
  | _ => 0

abbrev bufTy : (tb : Table) → Fin (tcTables nBuf tb) → BufTy
  | .hbm, ⟨0, _⟩ => ⟨S8x2560x128, .f32⟩
  | .hbm, ⟨1, _⟩ => ⟨S1x2560x128, .f32⟩
  | .hbm, ⟨2, _⟩ => ⟨S1x2560x128, .f32⟩
  | .hbm, ⟨3, _⟩ => ⟨S1x2560x128, .f32⟩
  | .hbm, ⟨4, _⟩ => ⟨S_, .f32⟩
  | .hbm, ⟨5, _⟩ => ⟨S2560x128, .f32⟩
  | .hbm, ⟨6, _⟩ => ⟨S1x2560x128, .f32⟩
  | .hbm, ⟨7, _⟩ => ⟨S_, .f32⟩
  | .hbm, ⟨8, _⟩ => ⟨S1x2560x128, .f32⟩
  | .hbm, ⟨9, _⟩ => ⟨S1x2560x128, .f32⟩
  | .hbm, ⟨10, _⟩ => ⟨S_, .f32⟩
  | .hbm, ⟨11, _⟩ => ⟨S1x2560x128, .f32⟩
  | .hbm, ⟨12, _⟩ => ⟨S1x2560x128, .f32⟩
  | .hbm, ⟨13, _⟩ => ⟨S1x2560x128, .f32⟩
  | .hbm, ⟨14, _⟩ => ⟨S_, .f32⟩
  | .hbm, ⟨15, _⟩ => ⟨S1x2560x128, .f32⟩
  | .hbm, ⟨16, _⟩ => ⟨S1x2560x128, .f32⟩
  | .hbm, ⟨17, _⟩ => ⟨S1x2560x128, .f32⟩
  | .hbm, ⟨18, _⟩ => ⟨S_, .f32⟩
  | .hbm, ⟨19, _⟩ => ⟨S1x2560x128, .f32⟩
  | .hbm, ⟨20, _⟩ => ⟨S1x2560x128, .f32⟩
  | .hbm, ⟨21, _⟩ => ⟨S1x2560x128, .f32⟩
  | .hbm, ⟨22, _⟩ => ⟨S_, .f32⟩
  | .hbm, ⟨23, _⟩ => ⟨S1x2560x128, .f32⟩
  | .hbm, ⟨24, _⟩ => ⟨S1x2560x128, .f32⟩
  | .hbm, ⟨25, _⟩ => ⟨S_, .f32⟩
  | .hbm, ⟨26, _⟩ => ⟨S1x2560x128, .f32⟩
  | .hbm, ⟨27, _⟩ => ⟨S1x2560x128, .f32⟩
  | .hbm, ⟨28, _⟩ => ⟨S1x2560x128, .f32⟩
  | .hbm, ⟨29, _⟩ => ⟨S_, .f32⟩
  | .hbm, ⟨30, _⟩ => ⟨S1x2560x128, .f32⟩
  | .hbm, ⟨31, _⟩ => ⟨S1x2560x128, .f32⟩
  | .hbm, ⟨32, _⟩ => ⟨S1x2560x128, .f32⟩
  | .hbm, ⟨33, _⟩ => ⟨S_, .f32⟩
  | .hbm, ⟨34, _⟩ => ⟨S1x2560x128, .f32⟩
  | .hbm, ⟨35, _⟩ => ⟨S1x2560x128, .f32⟩
  | .hbm, ⟨36, _⟩ => ⟨S1x2560x128, .f32⟩
  | .hbm, ⟨37, _⟩ => ⟨S_, .f32⟩
  | .hbm, ⟨38, _⟩ => ⟨S1x2560x128, .f32⟩
  | .hbm, ⟨39, _⟩ => ⟨S1x2560x128, .f32⟩
  | _, _ => ⟨S8x2560x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel21.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference21Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel22.lean ====
abbrev S4096x256 : Shape := ⟨2, ![4096, 256]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S4096x2048, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S256x2048, .f32⟩
  | .hbm, ⟨3, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel23.lean ====
abbrev S4096x256 : Shape := ⟨2, ![4096, 256]⟩
abbrev S4096x2048 : Shape := ⟨2, ![4096, 2048]⟩
abbrev S256x2048 : Shape := ⟨2, ![256, 2048]⟩
abbrev S4096x1024 : Shape := ⟨2, ![4096, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x2048, .bf16⟩
  | .hbm, ⟨2, _⟩ => ⟨S256x2048, .bf16⟩
  | .local _ .vmem, ⟨0, _⟩ => ⟨S4096x256, .f32⟩
  | .local _ .vmem, ⟨1, _⟩ => ⟨S4096x1024, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .bf16⟩
  | .hbm, ⟨2, _⟩ => ⟨S_, .f32⟩
  | .hbm, ⟨3, _⟩ => ⟨S256x2048, .f32⟩
  | .hbm, ⟨4, _⟩ => ⟨S4096x2048, .f32⟩
  | .hbm, ⟨5, _⟩ => ⟨S4096x2048, .f32⟩
  | .hbm, ⟨6, _⟩ => ⟨S2048x256, .f32⟩
  | .hbm, ⟨7, _⟩ => ⟨S256x2048, .f32⟩
  | .hbm, ⟨8, _⟩ => ⟨S256x2048, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel24.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference24Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel25.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .bf16⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference25Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 64
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x2048, .f32⟩
  | .hbm, ⟨49, _⟩ => ⟨S4096x2048, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .bf16⟩
  | .hbm, ⟨63, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Kernel26.lean ====
abbrev S4096x2048 : Shape := ⟨2, ![4096, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference26Ideal.lean ====
abbrev S4096x2048 : Shape := ⟨2, ![4096, 2048]⟩
abbrev S_ : Shape := ⟨0, ![]⟩
abbrev S4096 : Shape := ⟨1, ![4096]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel27.lean ====
abbrev S8x128 : Shape := ⟨2, ![8, 128]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S1x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S8x128, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v3_s0 : Ref sig .tc := ⟨.hbm, 4, rfl⟩
abbrev main_v3_s1 : Ref sig .tc := ⟨.hbm, 5, rfl⟩
abbrev main_v3_s2 : Ref sig .tc := ⟨.hbm, 6, rfl⟩
abbrev main_v3_s3 : Ref sig .tc := ⟨.hbm, 7, rfl⟩
abbrev main_v3_s4 : Ref sig .tc := ⟨.hbm, 8, rfl⟩
abbrev main_v3_s5 : Ref sig .tc := ⟨.hbm, 9, rfl⟩
abbrev main_v3_s6 : Ref sig .tc := ⟨.hbm, 10, rfl⟩
abbrev main_v3_s7 : Ref sig .tc := ⟨.hbm, 11, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v3_s0 | 1 => main_v3_s1 | 2 => main_v3_s2 | 3 => main_v3_s3 | 4 => main_v3_s4 | 5 => main_v3_s5 | 6 => main_v3_s6 | 7 => main_v3_s7 | ⟨_ + 8, h⟩ => absurd h (Nat.not_lt.2 (Nat.le_add_left _ _))
-- ==== Reference27Ideal.lean ====
abbrev S64x128 : Shape := ⟨2, ![64, 128]⟩
abbrev S8x8x128 : Shape := ⟨3, ![8, 8, 128]⟩
abbrev S8x1x1 : Shape := ⟨3, ![8, 1, 1]⟩
abbrev S8 : Shape := ⟨1, ![8]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S8x8x128, .f32⟩
  | .hbm, ⟨2, _⟩ => ⟨S8x1x1, .f32⟩
  | .hbm, ⟨3, _⟩ => ⟨S8, .f32⟩
  | .hbm, ⟨4, _⟩ => ⟨S_, .f32⟩
  | .hbm, ⟨5, _⟩ => ⟨S_, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.BwdBits.lean ====
/- The kernel as given and the kernel idealized are the same program when both are taken at the machine's floats, since
   no rewrite was made. -/
module

public import proofs.«01_k».proof.Defs
public import proofs.«01_k».proof.Proof.Gen.Kernel.Frame
public import proofs.«01_k».proof.Proof.Gen.KernelIdeal.Frame

@[expose] public section

noncomputable section

namespace Cert.Proof

open Idealize.ShloMosaic Idealize.SL.Sem

/-- The two kernel bodies agree. -/
theorem body_eq : @Cert.Kernel.cc0_ffn_bwd Bits _ _ = @Cert.KernelIdeal.cc0_ffn_bwd Bits _ _ := rfl

set_option maxHeartbeats 0 in
/-- The two tables of bodies agree. -/
theorem bodies_eq : @Cert.Kernel.defs₀ Bits _ _ = @Cert.KernelIdeal.defs₀ Bits _ _ := by
  unfold Cert.Kernel.defs₀ Cert.KernelIdeal.defs₀
  refine congrArg Defs.onTc ?_
  funext l x
  match l, x with
  | 0, (t, s) => dsimp only; rw [body_eq]; rfl

/-- The two tables of calls agree. -/
theorem defs_eq : @Cert.Kernel.defs Bits _ _ = @Cert.KernelIdeal.defs Bits _ _ :=
  congrArg (Pipeline.defs (Cert.KernelIdeal.pcfgs (F := Bits))) bodies_eq

/-- The two host programs agree. -/
theorem main_eq : @Cert.Kernel.main Bits _ _ = @Cert.KernelIdeal.main Bits _ _ := rfl

end Cert.Proof

end
-- ==== Proof.BwdRun.lean ====
module

public import proofs.«01_k».proof.Proof.Gen.KernelIdeal.Frame
public import proofs.«01_k».proof.Proof.Gen.KernelIdeal.Skeleton

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- The body at a grid point of the first column block of a row block (the accumulator is zeroed and the rounded rows are stored): on whole buffers, the inputs at known
    contents, it runs to its end leaving the inputs as they were and each written buffer at the pieces stored into it. -/
def runA (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : k0_cond1 i = 1#1) (hc2 : ¬k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) :
    Σ' (L9 : List (View.Piece (Elt F) S512x2048 .bf16)), Σ' (L10 : List (View.Piece (Elt F) S1x512x688 .bf16)), Σ' (L11 : List (View.Piece (Elt F) S1x512x688 .bf16)), Σ' (L12 : List (View.Piece (Elt F) S1x512x688 .bf16)), { L13 : List (View.Piece (Elt F) S512x2048 .f32) //
      ∀ (d8 : Vec F S512x2048 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare d8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare d8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun d8 E K => ?run⟩
  case run =>
    simp only [cc0_ffn_bwd_eq_skeleton]; unfold cc0_ffn_bwd_skel
    simp only [k0_part1_eq_skeleton, k0_part2_eq_skeleton, k0_part3_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    sl_exec (disch := first | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; iexact H10
    isplitl [H11]
    · iexists _; iexact H11
    isplitl [H12]
    · iexists _; iexact H12
    iexists _; iexact H13

set_option maxHeartbeats 2000000 in
/-- The body at a grid point of the middle column block: on whole buffers, the inputs at known
    contents, it runs to its end leaving the inputs as they were and each written buffer at the pieces stored into it. -/
def runB (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : ¬k0_cond1 i = 1#1) (hc2 : ¬k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) (x9 : Vec F S512x2048 .bf16) (x13 : Vec F S512x2048 .f32) :
    Σ' (L10 : List (View.Piece (Elt F) S1x512x688 .bf16)), Σ' (L11 : List (View.Piece (Elt F) S1x512x688 .bf16)), Σ' (L12 : List (View.Piece (Elt F) S1x512x688 .bf16)), { L13 : List (View.Piece (Elt F) S512x2048 .f32) //
      ∀ (d8 : Vec F S512x2048 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare d8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare d8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun d8 E K => ?run⟩
  case run =>
    simp only [cc0_ffn_bwd_eq_skeleton]; unfold cc0_ffn_bwd_skel
    simp only [k0_part1_eq_skeleton, k0_part2_eq_skeleton, k0_part3_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg13.eq_unread hf13
    sl_exec (disch := first | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; iexact H11
    isplitl [H12]
    · iexists _; iexact H12
    iexists _; iexact H13

set_option maxHeartbeats 2000000 in
/-- The body at a grid point of the last column block (the accumulator is stored to the output): on whole buffers, the inputs at known
    contents, it runs to its end leaving the inputs as they were and each written buffer at the pieces stored into it. -/
def runC (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : ¬k0_cond1 i = 1#1) (hc2 : k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) (x9 : Vec F S512x2048 .bf16) (x13 : Vec F S512x2048 .f32) :
    Σ' (L8 : List (View.Piece (Elt F) S512x2048 .f32)), Σ' (L10 : List (View.Piece (Elt F) S1x512x688 .bf16)), Σ' (L11 : List (View.Piece (Elt F) S1x512x688 .bf16)), Σ' (L12 : List (View.Piece (Elt F) S1x512x688 .bf16)), { L13 : List (View.Piece (Elt F) S512x2048 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%d11, %f11, -, H11⟩, ⟨%d12, %f12, -, H12⟩, ⟨%f13, %hf13, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg9.eq_unread hf9
    obtain rfl := harg13.eq_unread hf13
    sl_exec (disch := first | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; isplitr; · ipureintro; exact harg9.read_unread _
      iexact H9
    isplitl [H10]
    · iexists _; iexact H10
    isplitl [H11]
    · iexists _; iexact H11
    isplitl [H12]
    · iexists _; iexact H12
    iexists _; iexact H13

end Cert.KernelIdeal.Bwd

end
-- ==== Proof.BwdBody.lean ====
module

public import proofs.«01_k».proof.Proof.BwdRun
public import Idealize.ShloMosaic.Lib.WholeRead
public import Idealize.ShloMosaic.Lib.Pipeline.Value

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What the body leaves in each buffer, as functions of what it loads -/

/-- The upper and lower halves of a row block, and of a block of hidden columns. -/
abbrev rD0 : Rect S512x2048 := Rect.unit ![0, 0] S256x2048.size inb_S512x2048_S256x2048_0_0
abbrev rD1 : Rect S512x2048 := Rect.unit ![256, 0] S256x2048.size inb_S512x2048_S256x2048_256_0
abbrev rH0 : Rect S1x512x688 := Rect.unit ![0, 0, 0] S1x256x688.size inb_S1x512x688_S1x256x688_0_0_0
abbrev rH1 : Rect S1x512x688 := Rect.unit ![0, 256, 0] S1x256x688.size inb_S1x512x688_S1x256x688_0_256_0

/-- The two pieces stored as the gradient of the gate's input, from the rounded rows `y`, the saved `a`, `b` and the weight `w2`. -/
def daPieces (y : Vec F S512x2048 .bf16) (a b : Vec F S1x512x688 .bf16) (w2 : Vec F S1x688x2048 .bf16) :
    List (View.Piece (Elt F) S1x512x688 .bf16) :=
  [⟨rH1, k0_pay23 (k0_pay5 (View.ld y rD1) w2) (k0_pay17 (View.ld a rH1)) (View.ld b rH1)⟩,
   ⟨rH0, k0_pay13 (k0_pay10 (View.ld y rD0) w2 (View.ld a rH0) (View.ld b rH0))⟩]
/-- The two pieces stored as the gradient of the gated factor. -/
def dbPieces (y : Vec F S512x2048 .bf16) (a : Vec F S1x512x688 .bf16) (w2 : Vec F S1x688x2048 .bf16) :
    List (View.Piece (Elt F) S1x512x688 .bf16) :=
  [⟨rH1, k0_pay24 (k0_pay5 (View.ld y rD1) w2) (k0_pay17 (View.ld a rH1))⟩,
   ⟨rH0, k0_pay14 (k0_pay4 (View.ld y rD0) w2) (k0_pay9 (View.ld a rH0))⟩]
/-- The two pieces stored as the hidden layer, computed again from what was saved. -/
def hidPieces (a b : Vec F S1x512x688 .bf16) : List (View.Piece (Elt F) S1x512x688 .bf16) :=
  [⟨rH1, k0_pay25 (k0_pay17 (View.ld a rH1)) (View.ld b rH1)⟩,
   ⟨rH0, k0_pay15 (k0_pay7 (View.ld b rH0)) (k0_pay9 (View.ld a rH0))⟩]
/-- The two pieces the accumulator is rewritten with, from what it held (`s`). -/
def accPieces (y : Vec F S512x2048 .bf16) (a b : Vec F S1x512x688 .bf16) (w1 w3 : Vec F S1x2048x688 .bf16)
    (w2 : Vec F S1x688x2048 .bf16) (s : Vec F S512x2048 .f32) : List (View.Piece (Elt F) S512x2048 .f32) :=
  [⟨rD1, k0_pay1 (k0_pay26 (k0_pay5 (View.ld y rD1) w2) (k0_pay17 (View.ld a rH1)) (View.ld b rH1) (View.ld s rD1) w1 w3)⟩,
   ⟨rD0, k0_pay16 (k0_pay4 (View.ld y rD0) w2) (k0_pay9 (View.ld a rH0))
     (k0_pay10 (View.ld y rD0) w2 (View.ld a rH0) (View.ld b rH0)) (View.ld s rD0) w1 w3⟩]

/-- What those pieces leave. -/
def daOut (y : Vec F S512x2048 .bf16) (a b : Vec F S1x512x688 .bf16) (w2 : Vec F S1x688x2048 .bf16) : Vec F S1x512x688 .bf16 :=
  View.canon (daPieces y a b w2)
def dbOut (y : Vec F S512x2048 .bf16) (a : Vec F S1x512x688 .bf16) (w2 : Vec F S1x688x2048 .bf16) : Vec F S1x512x688 .bf16 :=
  View.canon (dbPieces y a w2)
def hidOut (a b : Vec F S1x512x688 .bf16) : Vec F S1x512x688 .bf16 := View.canon (hidPieces a b)
def accOut (y : Vec F S512x2048 .bf16) (a b : Vec F S1x512x688 .bf16) (w1 w3 : Vec F S1x2048x688 .bf16)
    (w2 : Vec F S1x688x2048 .bf16) (s : Vec F S512x2048 .f32) : Vec F S512x2048 .f32 :=
  View.canon (accPieces y a b w1 w3 w2 s)

/-! ## The halves cover -/

theorem mem_rD (y : S512x2048.Idx) : y ∈ (rD1).set ∨ y ∈ (rD0).set := by
  have h1 : (y 1).val < 2048 := (y 1).isLt
  have h0 : (y 0).val < 512 := (y 0).isLt
  rw [Rect.mem_set_unit, Rect.mem_set_unit]
  by_cases h : (y 0).val < 256
  · exact .inr fun a => by
      fin_cases a
      · exact ⟨Nat.zero_le _, (by show (y 0).val < 0 + 256; omega)⟩
      · exact ⟨Nat.zero_le _, (by show (y 1).val < 0 + 2048; omega)⟩
  · exact .inl fun a => by
      fin_cases a
      · exact ⟨(by show 256 ≤ (y 0).val; omega), (by show (y 0).val < 256 + 256; omega)⟩
      · exact ⟨Nat.zero_le _, (by show (y 1).val < 0 + 2048; omega)⟩

theorem mem_rH (y : S1x512x688.Idx) : y ∈ (rH1).set ∨ y ∈ (rH0).set := by
  have h2 : (y 2).val < 688 := (y 2).isLt
  have h1 : (y 1).val < 512 := (y 1).isLt
  have h0 : (y 0).val < 1 := (y 0).isLt
  rw [Rect.mem_set_unit, Rect.mem_set_unit]
  by_cases h : (y 1).val < 256
  · exact .inr fun a => by
      fin_cases a
      · exact ⟨Nat.zero_le _, (by show (y 0).val < 0 + 1; omega)⟩
      · exact ⟨Nat.zero_le _, (by show (y 1).val < 0 + 256; omega)⟩
      · exact ⟨Nat.zero_le _, (by show (y 2).val < 0 + 688; omega)⟩
  · exact .inl fun a => by
      fin_cases a
      · exact ⟨Nat.zero_le _, (by show (y 0).val < 0 + 1; omega)⟩
      · exact ⟨(by show 256 ≤ (y 1).val; omega), (by show (y 1).val < 256 + 256; omega)⟩
      · exact ⟨Nat.zero_le _, (by show (y 2).val < 0 + 688; omega)⟩

/-- Two pieces that cover a buffer leave in it what they leave over anything. -/
theorem canon_two {S : Shape} {e : EltTy} (p q : View.Piece (Elt F) S e) (L : List (View.Piece (Elt F) S e))
    (h : ∀ y, y ∈ p.1.set ∨ y ∈ q.1.set) : View.canon (p :: q :: L) = View.canon [p, q] := by
  funext y
  by_cases hp : y ∈ p.1.set
  · obtain ⟨r, w⟩ := p
    obtain ⟨x, rfl⟩ : ∃ x, r.emb x = y := r.exists_idx_of_mem hp
    rw [View.canon_cons_emb, View.canon_cons_emb]
  · rw [View.canon_cons_of_not_mem _ _ hp, View.canon_cons_of_not_mem _ _ hp]
    obtain ⟨r, w⟩ := q
    obtain ⟨x, rfl⟩ : ∃ x, r.emb x = y := r.exists_idx_of_mem ((h y).resolve_left hp)
    rw [View.canon_cons_emb, View.canon_cons_emb]

theorem cover_two {S : Shape} {e : EltTy} (p q : View.Piece (Elt F) S e) (L : List (View.Piece (Elt F) S e))
    (h : ∀ y, y ∈ p.1.set ∨ y ∈ q.1.set) (y : S.Idx) : ∃ pc ∈ p :: q :: L, y ∈ pc.1.set :=
  (h y).elim (fun h => ⟨p, by simp, h⟩) (fun h => ⟨q, by simp, h⟩)

theorem read_two {S : Shape} {e : EltTy} (v : View sig .tc .vmem S e) (f : v.ty.Contents (Elt F)) (p q : View.Piece (Elt F) S e)
    (L : List (View.Piece (Elt F) S e)) (h : ∀ y, y ∈ p.1.set ∨ y ∈ q.1.set) :
    v.read (Elt F) (v.writes (Elt F) f (p :: q :: L)) = View.canon [p, q] := by
  rw [View.read_writes_eq_canon v f (p :: q :: L) (cover_two p q L h), canon_two p q L h]

/-- What a load of a whole buffer at known contents reads. -/
theorem readAt_ld {s : Shape} {e : EltTy} (mm : Memref sig .tc .vmem s e) (h : mm.IsWhole) (X : s.Idx → Elt F e) (r : Rect s) :
    View.readAt (Elt F) mm.view r.toLoadRect (h.unread X) = View.ld X r := by
  rw [View.readAt_eq_ld, h.read_unread]

theorem ld_w1 (X : Vec F S1x2048x688 .bf16) : View.ld X (Rect.unit ![0, 0, 0] S1x2048x688.size inb_S1x2048x688_S1x2048x688_0_0_0) = X :=
  View.ld_unit_zero (by decide) _ X
theorem ld_w2 (X : Vec F S1x688x2048 .bf16) : View.ld X (Rect.unit ![0, 0, 0] S1x688x2048.size inb_S1x688x2048_S1x688x2048_0_0_0) = X :=
  View.ld_unit_zero (by decide) _ X
theorem ld_d {e : EltTy} (X : Vec F S512x2048 e) : View.ld X (Rect.unit ![0, 0] S512x2048.size inb_S512x2048_S512x2048_0_0) = X :=
  View.ld_unit_zero (by decide) _ X
theorem canon_d {e : EltTy} (X : Vec F S512x2048 e) (L : List (View.Piece (Elt F) S512x2048 e)) :
    View.canon (⟨Rect.unit ![0, 0] S512x2048.size inb_S512x2048_S512x2048_0_0, X⟩ :: L) = X :=
  View.canon_cons_unit_zero (by decide) _ X L
theorem ld_w1' (X : Vec F S1x2048x688 .bf16) (inb) : View.ld (S := S1x2048x688) X (Rect.unit ![0, 0, 0] ![1, 2048, 688] inb) = X :=
  View.ld_unit_zero (by decide) _ X
theorem ld_w2' (X : Vec F S1x688x2048 .bf16) (inb) : View.ld (S := S1x688x2048) X (Rect.unit ![0, 0, 0] ![1, 688, 2048] inb) = X :=
  View.ld_unit_zero (by decide) _ X
theorem ld_d' {e : EltTy} (X : Vec F S512x2048 e) (inb) : View.ld (S := S512x2048) X (Rect.unit ![0, 0] ![512, 2048] inb) = X :=
  View.ld_unit_zero (by decide) _ X
theorem mem_d (y : S512x2048.Idx) : y ∈ (Rect.unit ![0, 0] S512x2048.size inb_S512x2048_S512x2048_0_0).set := by
  have h1 : (y 1).val < 2048 := (y 1).isLt
  have h0 : (y 0).val < 512 := (y 0).isLt
  rw [Rect.mem_set_unit]
  intro a; fin_cases a
  · exact ⟨Nat.zero_le _, (by show (y 0).val < 0 + 512; omega)⟩
  · exact ⟨Nat.zero_le _, (by show (y 1).val < 0 + 2048; omega)⟩
theorem read_one {e : EltTy} (v : View sig .tc .vmem S512x2048 e) (f : v.ty.Contents (Elt F)) (X : Vec F S512x2048 e) :
    v.read (Elt F) (v.writes (Elt F) f [⟨Rect.unit ![0, 0] S512x2048.size inb_S512x2048_S512x2048_0_0, X⟩]) = X := by
  rw [View.read_writes_eq_canon v f [⟨Rect.unit ![0, 0] S512x2048.size inb_S512x2048_S512x2048_0_0, X⟩]
    (fun y => ⟨⟨Rect.unit ![0, 0] S512x2048.size inb_S512x2048_S512x2048_0_0, X⟩, List.mem_cons_self, mem_d y⟩), canon_d]
/-- A piece on the upper half is not seen by a load of the lower half. -/
theorem ld_hi_skip {e : EltTy} (w : (rD0).shape.Idx → Elt F e) (L : List (View.Piece (Elt F) S512x2048 e)) :
    View.ld (View.canon (⟨rD0, w⟩ :: L)) rD1 = View.ld (View.canon L) rD1 := by
  funext x
  show View.canon _ _ = View.canon _ _
  refine View.canon_cons_of_not_mem _ _ ?_
  show (rD1).idx x ∉ (rD0).set
  rw [Rect.mem_set_unit]
  intro h
  have := (h 0).2
  have e : (((rD1).idx x) 0).val = 256 + 1 * (x 0).val := rfl
  rw [e] at this
  have : 256 + 1 * (x 0).val < 0 + 256 := this
  omega

theorem readCov_ld {S : Shape} {e : EltTy} (v : View sig .tc .vmem S e) (L : List (View.Piece (Elt F) S e)) (r : Rect S) :
    v.readCov L r.toLoadRect = View.ld (View.canon L) r := View.readCov_eq_canon' v L _
theorem readCov_one {e : EltTy} (v : View sig .tc .vmem S512x2048 e) (X : Vec F S512x2048 e) (r : Rect S512x2048) :
    v.readCov [⟨Rect.unit ![0, 0] S512x2048.size inb_S512x2048_S512x2048_0_0, X⟩] r.toLoadRect = View.ld X r := by
  rw [readCov_ld, canon_d]
theorem readCov_one' {e : EltTy} (v : View sig .tc .vmem S512x2048 e) (X : Vec F S512x2048 e) (r : Rect S512x2048) (inb) :
    v.readCov [⟨Rect.unit (s := S512x2048) ![0, 0] ![512, 2048] inb, X⟩] r.toLoadRect = View.ld X r := readCov_one v X r
theorem readCov_two {e : EltTy} (v : View sig .tc .vmem S512x2048 e) (w : (rD0).shape.Idx → Elt F e) (X : Vec F S512x2048 e) :
    v.readCov [⟨rD0, w⟩, ⟨Rect.unit ![0, 0] S512x2048.size inb_S512x2048_S512x2048_0_0, X⟩] (rD1).toLoadRect = View.ld X rD1 := by
  rw [readCov_ld, ld_hi_skip, canon_d]
theorem readCov_two' {e : EltTy} (v : View sig .tc .vmem S512x2048 e) (w : (rD0).shape.Idx → Elt F e) (X : Vec F S512x2048 e) (inb inb' inb'') :
    v.readCov [⟨Rect.unit (s := S512x2048) ![0, 0] ![256, 2048] inb, w⟩, ⟨Rect.unit (s := S512x2048) ![0, 0] ![512, 2048] inb', X⟩]
      (Rect.unit (s := S512x2048) ![256, 0] ![256, 2048] inb'').toLoadRect = View.ld X rD1 := readCov_two v w X

/-! ## Case B -/

theorem runB_10 (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : ¬k0_cond1 i = 1#1) (hc2 : ¬k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) (x9 : Vec F S512x2048 .bf16) (x13 : Vec F S512x2048 .f32) :
    (runB c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13).1 = daPieces x9 x3 x4 x7 := by
  unfold runB daPieces
  dsimp only
  simp only [runB.sl.r, runB.sl.r_1, runB.sl.r_2, runB.sl.r_3, runB.sl.r_4, runB.sl.r_5, runB.sl.r_6, runB.sl.v89, readAt_ld]
  try simp only [ld_w1', ld_w2', ld_w1, ld_w2]

theorem runB_11 (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : ¬k0_cond1 i = 1#1) (hc2 : ¬k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) (x9 : Vec F S512x2048 .bf16) (x13 : Vec F S512x2048 .f32) :
    (runB c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13).2.1 = dbPieces x9 x3 x7 := by
  unfold runB dbPieces
  dsimp only
  simp only [runB.sl.r, runB.sl.r_1, runB.sl.r_2, runB.sl.r_3, runB.sl.r_4, runB.sl.r_5, runB.sl.r_6, runB.sl.v89, readAt_ld]
  try simp only [ld_w1', ld_w2', ld_w1, ld_w2]

theorem runB_12 (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : ¬k0_cond1 i = 1#1) (hc2 : ¬k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) (x9 : Vec F S512x2048 .bf16) (x13 : Vec F S512x2048 .f32) :
    (runB c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13).2.2.1 = hidPieces x3 x4 := by
  unfold runB hidPieces
  dsimp only
  simp only [runB.sl.r, runB.sl.r_1, runB.sl.r_2, runB.sl.r_3, runB.sl.r_4, runB.sl.r_5, runB.sl.r_6, runB.sl.v89, readAt_ld]
  try simp only [ld_w1', ld_w2', ld_w1, ld_w2]

theorem runB_13 (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : ¬k0_cond1 i = 1#1) (hc2 : ¬k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) (x9 : Vec F S512x2048 .bf16) (x13 : Vec F S512x2048 .f32) :
    (runB c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13).2.2.2.1 = accPieces x9 x3 x4 x5 x6 x7 x13 := by
  unfold runB accPieces
  dsimp only
  simp only [runB.sl.r, runB.sl.r_1, runB.sl.r_2, runB.sl.r_3, runB.sl.r_4, runB.sl.r_5, runB.sl.r_6, runB.sl.v89, readAt_ld]
  try simp only [ld_w1', ld_w2', ld_w1, ld_w2]

theorem runB_10_left (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : ¬k0_cond1 i = 1#1) (hc2 : ¬k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) (x9 : Vec F S512x2048 .bf16) (x13 : Vec F S512x2048 .f32) :
    ∀ f, arg10.view.read (Elt F) (arg10.view.writes (Elt F) f (runB c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13).1) = daOut x9 x3 x4 x7 := by
  intro f
  rw [runB_10 c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13]; unfold daOut daPieces
  exact View.read_writes_eq_canon _ _ _ (cover_two _ _ _ mem_rH)

theorem runB_11_left (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : ¬k0_cond1 i = 1#1) (hc2 : ¬k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) (x9 : Vec F S512x2048 .bf16) (x13 : Vec F S512x2048 .f32) :
    ∀ f, arg11.view.read (Elt F) (arg11.view.writes (Elt F) f (runB c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13).2.1) = dbOut x9 x3 x7 := by
  intro f
  rw [runB_11 c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13]; unfold dbOut dbPieces
  exact View.read_writes_eq_canon _ _ _ (cover_two _ _ _ mem_rH)

theorem runB_12_left (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : ¬k0_cond1 i = 1#1) (hc2 : ¬k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) (x9 : Vec F S512x2048 .bf16) (x13 : Vec F S512x2048 .f32) :
    ∀ f, arg12.view.read (Elt F) (arg12.view.writes (Elt F) f (runB c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13).2.2.1) = hidOut x3 x4 := by
  intro f
  rw [runB_12 c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13]; unfold hidOut hidPieces
  exact View.read_writes_eq_canon _ _ _ (cover_two _ _ _ mem_rH)

theorem runB_13_left (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : ¬k0_cond1 i = 1#1) (hc2 : ¬k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) (x9 : Vec F S512x2048 .bf16) (x13 : Vec F S512x2048 .f32) :
    ∀ f, arg13.view.read (Elt F) (arg13.view.writes (Elt F) f (runB c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13).2.2.2.1) = accOut x9 x3 x4 x5 x6 x7 x13 := by
  intro f
  rw [runB_13 c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13]; unfold accOut accPieces
  exact View.read_writes_eq_canon _ _ _ (cover_two _ _ _ mem_rD)

/-! ## Case C -/

theorem runC_10 (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : ¬k0_cond1 i = 1#1) (hc2 : k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) (x9 : Vec F S512x2048 .bf16) (x13 : Vec F S512x2048 .f32) :
    (runC c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13).2.1 = daPieces x9 x3 x4 x7 := by
  unfold runC daPieces
  dsimp only
  simp only [runC.sl.r, runC.sl.r_1, runC.sl.r_2, runC.sl.r_3, runC.sl.r_4, runC.sl.r_5, runC.sl.r_6, runC.sl.H13_2, runC.sl.v89, readAt_ld]
  try simp only [ld_w1', ld_w2', ld_w1, ld_w2]

theorem runC_11 (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : ¬k0_cond1 i = 1#1) (hc2 : k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) (x9 : Vec F S512x2048 .bf16) (x13 : Vec F S512x2048 .f32) :
    (runC c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13).2.2.1 = dbPieces x9 x3 x7 := by
  unfold runC dbPieces
  dsimp only
  simp only [runC.sl.r, runC.sl.r_1, runC.sl.r_2, runC.sl.r_3, runC.sl.r_4, runC.sl.r_5, runC.sl.r_6, runC.sl.H13_2, runC.sl.v89, readAt_ld]
  try simp only [ld_w1', ld_w2', ld_w1, ld_w2]

theorem runC_12 (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : ¬k0_cond1 i = 1#1) (hc2 : k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) (x9 : Vec F S512x2048 .bf16) (x13 : Vec F S512x2048 .f32) :
    (runC c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13).2.2.2.1 = hidPieces x3 x4 := by
  unfold runC hidPieces
  dsimp only
  simp only [runC.sl.r, runC.sl.r_1, runC.sl.r_2, runC.sl.r_3, runC.sl.r_4, runC.sl.r_5, runC.sl.r_6, runC.sl.H13_2, runC.sl.v89, readAt_ld]
  try simp only [ld_w1', ld_w2', ld_w1, ld_w2]

theorem runC_13 (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : ¬k0_cond1 i = 1#1) (hc2 : k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) (x9 : Vec F S512x2048 .bf16) (x13 : Vec F S512x2048 .f32) :
    (runC c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13).2.2.2.2.1 = accPieces x9 x3 x4 x5 x6 x7 x13 := by
  unfold runC accPieces
  dsimp only
  simp only [runC.sl.r, runC.sl.r_1, runC.sl.r_2, runC.sl.r_3, runC.sl.r_4, runC.sl.r_5, runC.sl.r_6, runC.sl.H13_2, runC.sl.v89, readAt_ld]
  try simp only [ld_w1', ld_w2', ld_w1, ld_w2]

theorem runC_8 (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : ¬k0_cond1 i = 1#1) (hc2 : k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) (x9 : Vec F S512x2048 .bf16) (x13 : Vec F S512x2048 .f32) :
    (runC c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13).1 = [⟨Rect.unit ![0, 0] S512x2048.size inb_S512x2048_S512x2048_0_0, accOut x9 x3 x4 x5 x6 x7 x13⟩] := by
  unfold runC
  dsimp only
  have h13 : runC.sl.H13_2 c arg3 harg3 arg4 harg4 arg5 harg5 arg6 harg6 arg7 harg7 arg9 harg9 arg13 harg13 x3 x4 x5 x6 x7 x9 x13 = accPieces x9 x3 x4 x5 x6 x7 x13 :=
    runC_13 c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13
  unfold runC.sl.v104
  rw [h13, readCov_ld, ld_d']
  rfl

theorem runC_10_left (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : ¬k0_cond1 i = 1#1) (hc2 : k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) (x9 : Vec F S512x2048 .bf16) (x13 : Vec F S512x2048 .f32) :
    ∀ f, arg10.view.read (Elt F) (arg10.view.writes (Elt F) f (runC c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13).2.1) = daOut x9 x3 x4 x7 := by
  intro f
  rw [runC_10 c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13]; unfold daOut daPieces
  exact View.read_writes_eq_canon _ _ _ (cover_two _ _ _ mem_rH)

theorem runC_11_left (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : ¬k0_cond1 i = 1#1) (hc2 : k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) (x9 : Vec F S512x2048 .bf16) (x13 : Vec F S512x2048 .f32) :
    ∀ f, arg11.view.read (Elt F) (arg11.view.writes (Elt F) f (runC c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13).2.2.1) = dbOut x9 x3 x7 := by
  intro f
  rw [runC_11 c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13]; unfold dbOut dbPieces
  exact View.read_writes_eq_canon _ _ _ (cover_two _ _ _ mem_rH)

theorem runC_12_left (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : ¬k0_cond1 i = 1#1) (hc2 : k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) (x9 : Vec F S512x2048 .bf16) (x13 : Vec F S512x2048 .f32) :
    ∀ f, arg12.view.read (Elt F) (arg12.view.writes (Elt F) f (runC c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13).2.2.2.1) = hidOut x3 x4 := by
  intro f
  rw [runC_12 c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13]; unfold hidOut hidPieces
  exact View.read_writes_eq_canon _ _ _ (cover_two _ _ _ mem_rH)

theorem runC_13_left (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : ¬k0_cond1 i = 1#1) (hc2 : k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) (x9 : Vec F S512x2048 .bf16) (x13 : Vec F S512x2048 .f32) :
    ∀ f, arg13.view.read (Elt F) (arg13.view.writes (Elt F) f (runC c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13).2.2.2.2.1) = accOut x9 x3 x4 x5 x6 x7 x13 := by
  intro f
  rw [runC_13 c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13]; unfold accOut accPieces
  exact View.read_writes_eq_canon _ _ _ (cover_two _ _ _ mem_rD)

theorem runC_8_left (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : ¬k0_cond1 i = 1#1) (hc2 : k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) (x9 : Vec F S512x2048 .bf16) (x13 : Vec F S512x2048 .f32) :
    ∀ f, arg8.view.read (Elt F) (arg8.view.writes (Elt F) f (runC c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13).1) = accOut x9 x3 x4 x5 x6 x7 x13 := by
  intro f
  rw [runC_8 c i arg2 harg2 arg3 harg3 arg4 harg4 arg5 harg5 arg6 harg6 arg7 harg7 arg8 harg8 arg9 harg9 arg10 harg10 arg11 harg11 arg12 harg12 arg13 harg13 hc1 hc2 x2 x3 x4 x5 x6 x7 x9 x13]
  exact read_one _ _ _

/-! ## Case A -/

theorem runA_10 (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : k0_cond1 i = 1#1) (hc2 : ¬k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) :
    (runA c i arg2 harg2 arg3 harg3 arg4 harg4 arg5 harg5 arg6 harg6 arg7 harg7 arg8 harg8 arg9 harg9 arg10 harg10 arg11 harg11 arg12 harg12 arg13 harg13 hc1 hc2 x2 x3 x4 x5 x6 x7).2.1 = daPieces (k0_pay3 x2) x3 x4 x7 := by
  unfold runA daPieces
  dsimp only
  try simp only [runA.sl.r_6]
  try simp only [runA.sl.v89]
  simp only [runA.sl.H13_2, runA.sl.H13_1, runA.sl.r, runA.sl.r_1, runA.sl.r_2, runA.sl.r_3, runA.sl.r_4, runA.sl.r_5, runA.sl.v3, runA.sl.v10, runA.sl.v47, runA.sl.H9_1]
  simp only [readCov_one', readCov_two', readAt_ld, ld_w1', ld_w2', ld_d', List.cons_append, List.nil_append]

theorem runA_11 (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : k0_cond1 i = 1#1) (hc2 : ¬k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) :
    (runA c i arg2 harg2 arg3 harg3 arg4 harg4 arg5 harg5 arg6 harg6 arg7 harg7 arg8 harg8 arg9 harg9 arg10 harg10 arg11 harg11 arg12 harg12 arg13 harg13 hc1 hc2 x2 x3 x4 x5 x6 x7).2.2.1 = dbPieces (k0_pay3 x2) x3 x7 := by
  unfold runA dbPieces
  dsimp only
  try simp only [runA.sl.r_6]
  try simp only [runA.sl.v89]
  simp only [runA.sl.H13_2, runA.sl.H13_1, runA.sl.r, runA.sl.r_1, runA.sl.r_2, runA.sl.r_3, runA.sl.r_4, runA.sl.r_5, runA.sl.v3, runA.sl.v10, runA.sl.v47, runA.sl.H9_1]
  simp only [readCov_one', readCov_two', readAt_ld, ld_w1', ld_w2', ld_d', List.cons_append, List.nil_append]

theorem runA_12 (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : k0_cond1 i = 1#1) (hc2 : ¬k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) :
    (runA c i arg2 harg2 arg3 harg3 arg4 harg4 arg5 harg5 arg6 harg6 arg7 harg7 arg8 harg8 arg9 harg9 arg10 harg10 arg11 harg11 arg12 harg12 arg13 harg13 hc1 hc2 x2 x3 x4 x5 x6 x7).2.2.2.1 = hidPieces x3 x4 := by
  unfold runA hidPieces
  dsimp only
  try simp only [runA.sl.r_6]
  try simp only [runA.sl.v89]
  simp only [runA.sl.H13_2, runA.sl.H13_1, runA.sl.r, runA.sl.r_1, runA.sl.r_2, runA.sl.r_3, runA.sl.r_4, runA.sl.r_5, runA.sl.v3, runA.sl.v10, runA.sl.v47, runA.sl.H9_1]
  simp only [readCov_one', readCov_two', readAt_ld, ld_w1', ld_w2', ld_d', List.cons_append, List.nil_append]

theorem runA_13 (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : k0_cond1 i = 1#1) (hc2 : ¬k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) :
    ∃ L, (runA c i arg2 harg2 arg3 harg3 arg4 harg4 arg5 harg5 arg6 harg6 arg7 harg7 arg8 harg8 arg9 harg9 arg10 harg10 arg11 harg11 arg12 harg12 arg13 harg13 hc1 hc2 x2 x3 x4 x5 x6 x7).2.2.2.2.1 = accPieces (k0_pay3 x2) x3 x4 x5 x6 x7 k0_pay2 ++ L := by
  refine ⟨[⟨Rect.unit ![0, 0] S512x2048.size inb_S512x2048_S512x2048_0_0, k0_pay2⟩], ?_⟩
  unfold runA accPieces
  dsimp only
  try simp only [runA.sl.r_6]
  try simp only [runA.sl.v89]
  simp only [runA.sl.H13_2, runA.sl.H13_1, runA.sl.r, runA.sl.r_1, runA.sl.r_2, runA.sl.r_3, runA.sl.r_4, runA.sl.r_5, runA.sl.v3, runA.sl.v10, runA.sl.v47, runA.sl.H9_1]
  simp only [readCov_one', readCov_two', readAt_ld, ld_w1', ld_w2', ld_d', List.cons_append, List.nil_append]

theorem runA_9 (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : k0_cond1 i = 1#1) (hc2 : ¬k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) :
    (runA c i arg2 harg2 arg3 harg3 arg4 harg4 arg5 harg5 arg6 harg6 arg7 harg7 arg8 harg8 arg9 harg9 arg10 harg10 arg11 harg11 arg12 harg12 arg13 harg13 hc1 hc2 x2 x3 x4 x5 x6 x7).1 = [⟨Rect.unit ![0, 0] S512x2048.size inb_S512x2048_S512x2048_0_0, k0_pay3 x2⟩] := by
  unfold runA
  dsimp only
  try simp only [runA.sl.r_6]
  try simp only [runA.sl.v89]
  simp only [runA.sl.H13_2, runA.sl.H13_1, runA.sl.r, runA.sl.r_1, runA.sl.r_2, runA.sl.r_3, runA.sl.r_4, runA.sl.r_5, runA.sl.v3, runA.sl.v10, runA.sl.v47, runA.sl.H9_1]
  simp only [readCov_one', readCov_two', readAt_ld, ld_w1', ld_w2', ld_d', List.cons_append, List.nil_append]

theorem runA_10_left (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : k0_cond1 i = 1#1) (hc2 : ¬k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) :
    ∀ f, arg10.view.read (Elt F) (arg10.view.writes (Elt F) f (runA c i arg2 harg2 arg3 harg3 arg4 harg4 arg5 harg5 arg6 harg6 arg7 harg7 arg8 harg8 arg9 harg9 arg10 harg10 arg11 harg11 arg12 harg12 arg13 harg13 hc1 hc2 x2 x3 x4 x5 x6 x7).2.1) = daOut (k0_pay3 x2) x3 x4 x7 := by
  intro f
  rw [runA_10 c i arg2 harg2 arg3 harg3 arg4 harg4 arg5 harg5 arg6 harg6 arg7 harg7 arg8 harg8 arg9 harg9 arg10 harg10 arg11 harg11 arg12 harg12 arg13 harg13 hc1 hc2 x2 x3 x4 x5 x6 x7]; unfold daOut daPieces
  exact View.read_writes_eq_canon _ _ _ (cover_two _ _ _ mem_rH)

theorem runA_11_left (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : k0_cond1 i = 1#1) (hc2 : ¬k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) :
    ∀ f, arg11.view.read (Elt F) (arg11.view.writes (Elt F) f (runA c i arg2 harg2 arg3 harg3 arg4 harg4 arg5 harg5 arg6 harg6 arg7 harg7 arg8 harg8 arg9 harg9 arg10 harg10 arg11 harg11 arg12 harg12 arg13 harg13 hc1 hc2 x2 x3 x4 x5 x6 x7).2.2.1) = dbOut (k0_pay3 x2) x3 x7 := by
  intro f
  rw [runA_11 c i arg2 harg2 arg3 harg3 arg4 harg4 arg5 harg5 arg6 harg6 arg7 harg7 arg8 harg8 arg9 harg9 arg10 harg10 arg11 harg11 arg12 harg12 arg13 harg13 hc1 hc2 x2 x3 x4 x5 x6 x7]; unfold dbOut dbPieces
  exact View.read_writes_eq_canon _ _ _ (cover_two _ _ _ mem_rH)

theorem runA_12_left (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : k0_cond1 i = 1#1) (hc2 : ¬k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) :
    ∀ f, arg12.view.read (Elt F) (arg12.view.writes (Elt F) f (runA c i arg2 harg2 arg3 harg3 arg4 harg4 arg5 harg5 arg6 harg6 arg7 harg7 arg8 harg8 arg9 harg9 arg10 harg10 arg11 harg11 arg12 harg12 arg13 harg13 hc1 hc2 x2 x3 x4 x5 x6 x7).2.2.2.1) = hidOut x3 x4 := by
  intro f
  rw [runA_12 c i arg2 harg2 arg3 harg3 arg4 harg4 arg5 harg5 arg6 harg6 arg7 harg7 arg8 harg8 arg9 harg9 arg10 harg10 arg11 harg11 arg12 harg12 arg13 harg13 hc1 hc2 x2 x3 x4 x5 x6 x7]; unfold hidOut hidPieces
  exact View.read_writes_eq_canon _ _ _ (cover_two _ _ _ mem_rH)

theorem runA_13_left (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : k0_cond1 i = 1#1) (hc2 : ¬k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) :
    ∀ f, arg13.view.read (Elt F) (arg13.view.writes (Elt F) f (runA c i arg2 harg2 arg3 harg3 arg4 harg4 arg5 harg5 arg6 harg6 arg7 harg7 arg8 harg8 arg9 harg9 arg10 harg10 arg11 harg11 arg12 harg12 arg13 harg13 hc1 hc2 x2 x3 x4 x5 x6 x7).2.2.2.2.1) = accOut (k0_pay3 x2) x3 x4 x5 x6 x7 k0_pay2 := by
  intro f
  obtain ⟨L, hL⟩ := runA_13 c i arg2 harg2 arg3 harg3 arg4 harg4 arg5 harg5 arg6 harg6 arg7 harg7 arg8 harg8 arg9 harg9 arg10 harg10 arg11 harg11 arg12 harg12 arg13 harg13 hc1 hc2 x2 x3 x4 x5 x6 x7
  rw [hL]; unfold accOut accPieces
  exact read_two _ _ _ _ _ mem_rD

theorem runA_9_left (c : Dev nD) (i : grid0.Coords) (arg2 : Memref sig .tc .vmem S512x2048 .f32) (harg2 : arg2.IsWhole) (arg3 : Memref sig .tc .vmem S1x512x688 .bf16) (harg3 : arg3.IsWhole) (arg4 : Memref sig .tc .vmem S1x512x688 .bf16) (harg4 : arg4.IsWhole) (arg5 : Memref sig .tc .vmem S1x2048x688 .bf16) (harg5 : arg5.IsWhole) (arg6 : Memref sig .tc .vmem S1x2048x688 .bf16) (harg6 : arg6.IsWhole) (arg7 : Memref sig .tc .vmem S1x688x2048 .bf16) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S1x512x688 .bf16) (harg10 : arg10.IsWhole) (arg11 : Memref sig .tc .vmem S1x512x688 .bf16) (harg11 : arg11.IsWhole) (arg12 : Memref sig .tc .vmem S1x512x688 .bf16) (harg12 : arg12.IsWhole) (arg13 : Memref sig .tc .vmem S512x2048 .f32) (harg13 : arg13.IsWhole)
    (hc1 : k0_cond1 i = 1#1) (hc2 : ¬k0_cond2 i = 1#1)
    (x2 : Vec F S512x2048 .f32) (x3 : Vec F S1x512x688 .bf16) (x4 : Vec F S1x512x688 .bf16) (x5 : Vec F S1x2048x688 .bf16) (x6 : Vec F S1x2048x688 .bf16) (x7 : Vec F S1x688x2048 .bf16) :
    ∀ f, arg9.view.read (Elt F) (arg9.view.writes (Elt F) f (runA c i arg2 harg2 arg3 harg3 arg4 harg4 arg5 harg5 arg6 harg6 arg7 harg7 arg8 harg8 arg9 harg9 arg10 harg10 arg11 harg11 arg12 harg12 arg13 harg13 hc1 hc2 x2 x3 x4 x5 x6 x7).1) = k0_pay3 x2 := by
  intro f
  rw [runA_9 c i arg2 harg2 arg3 harg3 arg4 harg4 arg5 harg5 arg6 harg6 arg7 harg7 arg8 harg8 arg9 harg9 arg10 harg10 arg11 harg11 arg12 harg12 arg13 harg13 hc1 hc2 x2 x3 x4 x5 x6 x7]
  exact read_one _ _ _

end Cert.KernelIdeal.Bwd

end
-- ==== Proof.BwdFrame.lean ====
module

public import proofs.«01_k».proof.Proof.BwdBody
public import Idealize.ShloMosaic.Lib.Pipeline.TableIdle
public import Idealize.ShloMosaic.Lib.Claim

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid: 8 row blocks, and for each the 8 blocks of hidden columns -/

theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
theorem hcond2 : ∀ t : Fin cfg0.N, k0_cond2 (grid0.coords t) = 1#1 ↔ t.val % 8 = 7 :=
  (by decide +kernel : ∀ t : Fin grid0.N, k0_cond2 (grid0.coords t) = 1#1 ↔ t.val % 8 = 7)

theorem idle6 : ∀ t : Fin cfg0.N, t.val % 8 ≠ 7 → cfg0.idle 6 (grid0.coords t) = true := by decide +kernel
theorem live6 : ∀ t : Fin cfg0.N, t.val % 8 = 7 → cfg0.idle 6 (grid0.coords t) = false := by decide +kernel
theorem noFlush6 : ∀ t : Fin cfg0.N, t.val % 8 ≠ 7 → (cfg0.win 6).flush t = false := by decide +kernel
theorem idle7 : ∀ t : Fin cfg0.N, t.val % 8 ≠ 0 → cfg0.idle 7 (grid0.coords t) = true := by decide +kernel
theorem live7 : ∀ t : Fin cfg0.N, t.val % 8 = 0 → cfg0.idle 7 (grid0.coords t) = false := by decide +kernel
theorem noFlush7 : ∀ t : Fin cfg0.N, t.val % 8 ≠ 7 → (cfg0.win 7).flush t = false := by decide +kernel
theorem flush7 : ∀ t : Fin cfg0.N, t.val % 8 = 7 → (cfg0.win 7).flush t = true := by decide +kernel
/-- The rounded rows' buffer is fresh exactly where a new row block begins. -/
theorem fresh7 (n : ℕ) (hn : n ≤ cfg0.N) : cfg0.fresh 7 n = decide (n % 8 = 0) :=
  Pipeline.Cfg.fresh_tab cfg0 7 (fun n => decide (n % 8 = 0)) rfl (by decide +kernel) n hn
/-- Within a row block the block of incoming rows does not move. -/
theorem index0_prev : ∀ t : Fin cfg0.N, t.val % 8 ≠ 0 →
    (cfg0.win 0).index t = (cfg0.win 0).index ⟨t.val - 1, Nat.lt_of_le_of_lt (Nat.sub_le _ _) t.isLt⟩ := by decide +kernel

abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x688 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x688 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x688 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048x688 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x688x2048 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x2048 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x2048 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x512x688 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x512x688 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x512x688 .bf16 := win0_10.stage (cfg0.slots t 10)
abbrev hs10 (t : Fin cfg0.N) : (ms10 t).IsWhole := hstage0_10 ((cfg0.slots t 10).cast nbuf0_10)

/-- The accumulator. -/
abbrev accM : Memref sig .tc .vmem S512x2048 .f32 := Memref.whole cc0_scratch0

theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## What each buffer holds after each point -/

/-- The rounded rows of the row block of point `t`. -/
def yb (c : Dev nD) (t : Fin cfg0.N) : Vec F S512x2048 .bf16 := k0_pay3 (iblk m c 0 t)

theorem yb_prev (c : Dev nD) (t : Fin cfg0.N) (h : t.val % 8 ≠ 0) :
    yb m c t = yb m c ⟨t.val - 1, Nat.lt_of_le_of_lt (Nat.sub_le _ _) t.isLt⟩ := by
  unfold yb
  refine congrArg k0_pay3 ?_
  have e := index0_prev t h
  unfold iblk
  funext y
  show V m c main_arg1 (((cfg0.win 0).blk t).view.emb y)
    = V m c main_arg1 (((cfg0.win 0).blk ⟨t.val - 1, Nat.lt_of_le_of_lt (Nat.sub_le _ _) t.isLt⟩).view.emb y)
  congr 1
  funext a; apply Fin.ext
  show (cfg0.win 0).index t a * (cfg0.win 0).size a + 1 * (y a).val
    = (cfg0.win 0).index ⟨t.val - 1, Nat.lt_of_le_of_lt (Nat.sub_le _ _) t.isLt⟩ a * (cfg0.win 0).size a + 1 * (y a).val
  rw [e]

/-- One point's step of the accumulator. -/
def step (c : Dev nD) (t : Fin cfg0.N) (s : Vec F S512x2048 .f32) : Vec F S512x2048 .f32 :=
  accOut (yb m c t) (iblk m c 1 t) (iblk m c 2 t) (iblk m c 3 t) (iblk m c 4 t) (iblk m c 5 t) s

/-- What the accumulator holds after point `n`: zeroed where a row block begins, else stepped from the point before. -/
def accAt (c : Dev nD) : (n : ℕ) → n < cfg0.N → Vec F S512x2048 .f32
  | 0, hn => step m c ⟨0, hn⟩ k0_pay2
  | n + 1, hn => step m c ⟨n + 1, hn⟩ (if (n + 1) % 8 = 0 then k0_pay2 else accAt c n (Nat.lt_of_succ_lt hn))

theorem accAt_succ (c : Dev nD) (n : ℕ) (hn : n + 1 < cfg0.N) : accAt m c (n + 1) hn
    = step m c ⟨n + 1, hn⟩ (if (n + 1) % 8 = 0 then k0_pay2 else accAt m c n (Nat.lt_of_succ_lt hn)) := by rw [accAt]
theorem accAt_zero (c : Dev nD) (hn : 0 < cfg0.N) : accAt m c 0 hn = step m c ⟨0, hn⟩ k0_pay2 := by rw [accAt]

theorem accAt_first (c : Dev nD) (t : Fin cfg0.N) (h : t.val % 8 = 0) : accAt m c t.val t.isLt = step m c t k0_pay2 := by
  obtain ⟨n, hn⟩ := t
  cases n with
  | zero => exact accAt_zero m c hn
  | succ n => rw [accAt_succ m c n hn, if_pos h]

theorem accAt_next (c : Dev nD) (t : Fin cfg0.N) (h : ¬t.val % 8 = 0) :
    accAt m c t.val t.isLt = step m c t (accAt m c (t.val - 1) (Nat.lt_of_le_of_lt (Nat.sub_le _ _) t.isLt)) := by
  obtain ⟨n, hn⟩ := t
  cases n with
  | zero => exact absurd (Nat.zero_mod _) h
  | succ n => exact (accAt_succ m c n hn).trans (by rw [if_neg h]; rfl)

/-- The invariant before point `n`: the accumulator at what the point before left. -/
def Phi (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem Phi_zero (c : Dev nD) (n : ℕ) (h : n ≤ cfg0.N) (hz : n = 0) : Phi m c n h = Pipeline.ΦA spec0 c := by
  subst hz; rfl
theorem Phi_succ (c : Dev nD) (n : ℕ) (hn : n < cfg0.N) :
    Phi m c (n + 1) hn = iprop(iprop(owns (c : Thread nD τ) accM fullShare (accAt m c n hn)) ∗ (∃ r, prngReg c r)) := rfl
theorem Phi_pos (c : Dev nD) (n : ℕ) (h : n ≤ cfg0.N) (hz : n ≠ 0) :
    Phi m c n h = iprop(iprop(owns (c : Thread nD τ) accM fullShare (accAt m c (n - 1) (by omega))) ∗ (∃ r, prngReg c r)) := by
  cases n with
  | zero => exact absurd rfl hz
  | succ n => rfl

/-- The proof data: after point `t` each input's buffer at its block, the outputs' at what the pieces leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => accAt m c t.val t.isLt
    | ⟨7, _⟩ => yb m c t
    | ⟨8, _⟩ => daOut (yb m c t) (iblk m c 1 t) (iblk m c 2 t) (iblk m c 5 t)
    | ⟨9, _⟩ => dbOut (yb m c t) (iblk m c 1 t) (iblk m c 5 t)
    | ⟨10, _⟩ => hidOut (iblk m c 1 t) (iblk m c 2 t)
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = accAt m c t.val t.isLt := by dsimp only [dats]
theorem after_7 (c : Dev nD) (t : Fin cfg0.N) : (dats m 0 c).after 7 t = yb m c t := by dsimp only [dats]
theorem after_8 (c : Dev nD) (t : Fin cfg0.N) : (dats m 0 c).after 8 t = daOut (yb m c t) (iblk m c 1 t) (iblk m c 2 t) (iblk m c 5 t) := by dsimp only [dats]
theorem after_9 (c : Dev nD) (t : Fin cfg0.N) : (dats m 0 c).after 9 t = dbOut (yb m c t) (iblk m c 1 t) (iblk m c 5 t) := by dsimp only [dats]
theorem after_10 (c : Dev nD) (t : Fin cfg0.N) : (dats m 0 c).after 10 t = hidOut (iblk m c 1 t) (iblk m c 2 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- Within a row block the rounded rows stay in their buffer. -/
theorem before_7 (c : Dev nD) (t : Fin cfg0.N) (h : ¬t.val % 8 = 0) (d) : (dats m 0 c).before 7 t d = yb m c t := by
  have e := Pipeline.Dat.before_out_traj (dats m 0 c) 7 rfl (fun _ _ => rfl) (fun t ht hi hf => by
    rw [fresh7 t.val (Nat.le_of_lt t.isLt)] at hf
    have h8 : t.val % 8 ≠ 0 := of_decide_eq_false hf
    rw [after_7, after_7]; exact yb_prev m c t h8) t.val t rfl d
  rw [e, fresh7 t.val (Nat.le_of_lt t.isLt), decide_eq_false h, if_neg Bool.false_ne_true, after_7]
  exact (yb_prev m c t h).symm

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves_0 (c : Dev nD) (t : Fin cfg0.N) :
    (dats m 0 c).leavesExact 0 t = owns (c : Thread nD τ) (ms0 t) fullShare (iblk m c 0 t) := by
  rw [← after_0 m c t]
theorem leaves_1 (c : Dev nD) (t : Fin cfg0.N) :
    (dats m 0 c).leavesExact 1 t = owns (c : Thread nD τ) (ms1 t) fullShare (iblk m c 1 t) := by
  rw [← after_1 m c t]
theorem leaves_2 (c : Dev nD) (t : Fin cfg0.N) :
    (dats m 0 c).leavesExact 2 t = owns (c : Thread nD τ) (ms2 t) fullShare (iblk m c 2 t) := by
  rw [← after_2 m c t]
theorem leaves_3 (c : Dev nD) (t : Fin cfg0.N) :
    (dats m 0 c).leavesExact 3 t = owns (c : Thread nD τ) (ms3 t) fullShare (iblk m c 3 t) := by
  rw [← after_3 m c t]
theorem leaves_4 (c : Dev nD) (t : Fin cfg0.N) :
    (dats m 0 c).leavesExact 4 t = owns (c : Thread nD τ) (ms4 t) fullShare (iblk m c 4 t) := by
  rw [← after_4 m c t]
theorem leaves_5 (c : Dev nD) (t : Fin cfg0.N) :
    (dats m 0 c).leavesExact 5 t = owns (c : Thread nD τ) (ms5 t) fullShare (iblk m c 5 t) := by
  rw [← after_5 m c t]
theorem leaves_8 (c : Dev nD) (t : Fin cfg0.N) :
    (dats m 0 c).leavesExact 8 t = owns (c : Thread nD τ) (ms8 t) fullShare (daOut (yb m c t) (iblk m c 1 t) (iblk m c 2 t) (iblk m c 5 t)) := by
  rw [← after_8 m c t]
theorem leaves_9 (c : Dev nD) (t : Fin cfg0.N) :
    (dats m 0 c).leavesExact 9 t = owns (c : Thread nD τ) (ms9 t) fullShare (dbOut (yb m c t) (iblk m c 1 t) (iblk m c 5 t)) := by
  rw [← after_9 m c t]
theorem leaves_10 (c : Dev nD) (t : Fin cfg0.N) :
    (dats m 0 c).leavesExact 10 t = owns (c : Thread nD τ) (ms10 t) fullShare (hidOut (iblk m c 1 t) (iblk m c 2 t)) := by
  rw [← after_10 m c t]
set_option maxHeartbeats 1000000 in
theorem sound_A (c : Dev nD) (t : Fin cfg0.N) (h0 : t.val % 8 = 0) (h7 : ¬t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Phi m c (t.val + 1) t.isLt from rfl, Phi_succ]
  rw [leaves_0, leaves_1, leaves_2, leaves_3, leaves_4, leaves_5, leaves_8, leaves_9, leaves_10]
  rw [Dat.leavesExact_idle (dats m 0 c) 6 t (idle6 t h7) (noFlush6 t h7)]
  rw [show (dats m 0 c).leavesExact 7 t = owns (c : Thread nD τ) (ms7 t) fullShare ((dats m 0 c).after 7 t) from by
    unfold Dat.leavesExact; rw [live7 t h0], after_7]
  rw [accAt_first m c t h0]; unfold step
  by_cases hz : t.val = 0
  · rw [Phi_castSucc m c t, Phi_zero m c _ _ hz, PhiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) ((hcond1 t).mpr h0) (fun h => h7 ((hcond2 t).mp h)) (iblk m c 0 t) (iblk m c 1 t) (iblk m c 2 t) (iblk m c 3 t) (iblk m c 4 t) (iblk m c 5 t)).2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS]; · iexact HS
    iintro ⟨H0, H1, H2, H3, H4, H5, H6, ⟨%e7, H7⟩, ⟨%e8, H8⟩, ⟨%e9, H9⟩, ⟨%e10, H10⟩, ⟨%es, HS⟩⟩
    isplitl [HS Hg]
    · isplitl [HS]
      · unfold owns; iexists _; isplitr
        swap; · iexact HS
        ipureintro
        exact runA_13_left c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) ((hcond1 t).mpr h0) (fun h => h7 ((hcond2 t).mp h)) (iblk m c 0 t) (iblk m c 1 t) (iblk m c 2 t) (iblk m c 3 t) (iblk m c 4 t) (iblk m c 5 t) _
      iexact Hg
    isplitl [Ho]; · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexists _; iexact H6
    isplitl [H7]
    · unfold owns; iexists _; isplitr
      swap; · iexact H7
      ipureintro
      exact runA_9_left c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) ((hcond1 t).mpr h0) (fun h => h7 ((hcond2 t).mp h)) (iblk m c 0 t) (iblk m c 1 t) (iblk m c 2 t) (iblk m c 3 t) (iblk m c 4 t) (iblk m c 5 t) _
    isplitl [H8]
    · unfold owns; iexists _; isplitr
      swap; · iexact H8
      ipureintro
      exact runA_10_left c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) ((hcond1 t).mpr h0) (fun h => h7 ((hcond2 t).mp h)) (iblk m c 0 t) (iblk m c 1 t) (iblk m c 2 t) (iblk m c 3 t) (iblk m c 4 t) (iblk m c 5 t) _
    isplitl [H9]
    · unfold owns; iexists _; isplitr
      swap; · iexact H9
      ipureintro
      exact runA_11_left c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) ((hcond1 t).mpr h0) (fun h => h7 ((hcond2 t).mp h)) (iblk m c 0 t) (iblk m c 1 t) (iblk m c 2 t) (iblk m c 3 t) (iblk m c 4 t) (iblk m c 5 t) _
    unfold owns; iexists _; isplitr
    swap; · iexact H10
    ipureintro
    exact runA_12_left c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) ((hcond1 t).mpr h0) (fun h => h7 ((hcond2 t).mp h)) (iblk m c 0 t) (iblk m c 1 t) (iblk m c 2 t) (iblk m c 3 t) (iblk m c 4 t) (iblk m c 5 t) _
  · rw [Phi_castSucc m c t, Phi_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) ((hcond1 t).mpr h0) (fun h => h7 ((hcond2 t).mp h)) (iblk m c 0 t) (iblk m c 1 t) (iblk m c 2 t) (iblk m c 3 t) (iblk m c 4 t) (iblk m c 5 t)).2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS]; · iexists _; iexact HS
    iintro ⟨H0, H1, H2, H3, H4, H5, H6, ⟨%e7, H7⟩, ⟨%e8, H8⟩, ⟨%e9, H9⟩, ⟨%e10, H10⟩, ⟨%es, HS⟩⟩
    isplitl [HS Hg]
    · isplitl [HS]
      · unfold owns; iexists _; isplitr
        swap; · iexact HS
        ipureintro
        exact runA_13_left c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) ((hcond1 t).mpr h0) (fun h => h7 ((hcond2 t).mp h)) (iblk m c 0 t) (iblk m c 1 t) (iblk m c 2 t) (iblk m c 3 t) (iblk m c 4 t) (iblk m c 5 t) _
      iexact Hg
    isplitl [Ho]; · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexists _; iexact H6
    isplitl [H7]
    · unfold owns; iexists _; isplitr
      swap; · iexact H7
      ipureintro
      exact runA_9_left c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) ((hcond1 t).mpr h0) (fun h => h7 ((hcond2 t).mp h)) (iblk m c 0 t) (iblk m c 1 t) (iblk m c 2 t) (iblk m c 3 t) (iblk m c 4 t) (iblk m c 5 t) _
    isplitl [H8]
    · unfold owns; iexists _; isplitr
      swap; · iexact H8
      ipureintro
      exact runA_10_left c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) ((hcond1 t).mpr h0) (fun h => h7 ((hcond2 t).mp h)) (iblk m c 0 t) (iblk m c 1 t) (iblk m c 2 t) (iblk m c 3 t) (iblk m c 4 t) (iblk m c 5 t) _
    isplitl [H9]
    · unfold owns; iexists _; isplitr
      swap; · iexact H9
      ipureintro
      exact runA_11_left c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) ((hcond1 t).mpr h0) (fun h => h7 ((hcond2 t).mp h)) (iblk m c 0 t) (iblk m c 1 t) (iblk m c 2 t) (iblk m c 3 t) (iblk m c 4 t) (iblk m c 5 t) _
    unfold owns; iexists _; isplitr
    swap; · iexact H10
    ipureintro
    exact runA_12_left c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) ((hcond1 t).mpr h0) (fun h => h7 ((hcond2 t).mp h)) (iblk m c 0 t) (iblk m c 1 t) (iblk m c 2 t) (iblk m c 3 t) (iblk m c 4 t) (iblk m c 5 t) _
set_option maxHeartbeats 1000000 in
theorem sound_B (c : Dev nD) (t : Fin cfg0.N) (h0 : ¬t.val % 8 = 0) (h7 : ¬t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_7 m c t h0]
  rw [show (dats m 0 c).owesAt () t.succ = (dats m 0 c).owesAt () t.castSucc from rfl]
  rw [show (dats m 0 c).Φ t.succ = Phi m c (t.val + 1) t.isLt from rfl, Phi_succ]
  rw [leaves_0, leaves_1, leaves_2, leaves_3, leaves_4, leaves_5, leaves_8, leaves_9, leaves_10]
  rw [Dat.leavesExact_idle (dats m 0 c) 6 t (idle6 t h7) (noFlush6 t h7)]
  rw [Dat.leavesExact_idle (dats m 0 c) 7 t (idle7 t h0) (noFlush7 t h7)]
  rw [accAt_next m c t h0]; unfold step
  have hz : t.val ≠ 0 := fun h => h0 (by rw [h])
  rw [Phi_castSucc m c t, Phi_pos m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) (fun h => h0 ((hcond1 t).mp h)) (fun h => h7 ((hcond2 t).mp h)) (iblk m c 0 t) (iblk m c 1 t) (iblk m c 2 t) (iblk m c 3 t) (iblk m c 4 t) (iblk m c 5 t) (yb m c t) (accAt m c (t.val - 1) (Nat.lt_of_le_of_lt (Nat.sub_le _ _) t.isLt))).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS]; · iexact HS
  iintro ⟨H0, H1, H2, H3, H4, H5, H6, H7, ⟨%e8, H8⟩, ⟨%e9, H9⟩, ⟨%e10, H10⟩, ⟨%es, HS⟩⟩
  isplitl [HS Hg]
  · isplitl [HS]
    · unfold owns; iexists _; isplitr
      swap; · iexact HS
      ipureintro
      exact runB_13_left c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) (fun h => h0 ((hcond1 t).mp h)) (fun h => h7 ((hcond2 t).mp h)) (iblk m c 0 t) (iblk m c 1 t) (iblk m c 2 t) (iblk m c 3 t) (iblk m c 4 t) (iblk m c 5 t) (yb m c t) (accAt m c (t.val - 1) (Nat.lt_of_le_of_lt (Nat.sub_le _ _) t.isLt)) _
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexists _; iexact H6
  isplitl [H7]
  · iexists d7; rw [before_7 m c t h0]; iexact H7
  isplitl [H8]
  · unfold owns; iexists _; isplitr
    swap; · iexact H8
    ipureintro
    exact runB_10_left c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) (fun h => h0 ((hcond1 t).mp h)) (fun h => h7 ((hcond2 t).mp h)) (iblk m c 0 t) (iblk m c 1 t) (iblk m c 2 t) (iblk m c 3 t) (iblk m c 4 t) (iblk m c 5 t) (yb m c t) (accAt m c (t.val - 1) (Nat.lt_of_le_of_lt (Nat.sub_le _ _) t.isLt)) _
  isplitl [H9]
  · unfold owns; iexists _; isplitr
    swap; · iexact H9
    ipureintro
    exact runB_11_left c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) (fun h => h0 ((hcond1 t).mp h)) (fun h => h7 ((hcond2 t).mp h)) (iblk m c 0 t) (iblk m c 1 t) (iblk m c 2 t) (iblk m c 3 t) (iblk m c 4 t) (iblk m c 5 t) (yb m c t) (accAt m c (t.val - 1) (Nat.lt_of_le_of_lt (Nat.sub_le _ _) t.isLt)) _
  unfold owns; iexists _; isplitr
  swap; · iexact H10
  ipureintro
  exact runB_12_left c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) (fun h => h0 ((hcond1 t).mp h)) (fun h => h7 ((hcond2 t).mp h)) (iblk m c 0 t) (iblk m c 1 t) (iblk m c 2 t) (iblk m c 3 t) (iblk m c 4 t) (iblk m c 5 t) (yb m c t) (accAt m c (t.val - 1) (Nat.lt_of_le_of_lt (Nat.sub_le _ _) t.isLt)) _
set_option maxHeartbeats 1000000 in
theorem sound_C (c : Dev nD) (t : Fin cfg0.N) (h0 : ¬t.val % 8 = 0) (h7 : t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_7 m c t h0]
  rw [show (dats m 0 c).owesAt () t.succ = (dats m 0 c).owesAt () t.castSucc from rfl]
  rw [show (dats m 0 c).Φ t.succ = Phi m c (t.val + 1) t.isLt from rfl, Phi_succ]
  rw [leaves_0, leaves_1, leaves_2, leaves_3, leaves_4, leaves_5, leaves_8, leaves_9, leaves_10]
  rw [show (dats m 0 c).leavesExact 6 t = owns (c : Thread nD τ) (ms6 t) fullShare ((dats m 0 c).after 6 t) from by
    unfold Dat.leavesExact; rw [live6 t h7], after_6]
  rw [show (dats m 0 c).leavesExact 7 t = owns (c : Thread nD τ) (ms7 t) fullShare ((dats m 0 c).after 7 t) from by
    unfold Dat.leavesExact; rw [idle7 t h0]; dsimp only; rw [flush7 t h7], after_7]
  rw [accAt_next m c t h0]; unfold step
  have hz : t.val ≠ 0 := fun h => h0 (by rw [h])
  rw [Phi_castSucc m c t, Phi_pos m c _ _ hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) (fun h => h0 ((hcond1 t).mp h)) ((hcond2 t).mpr h7) (iblk m c 0 t) (iblk m c 1 t) (iblk m c 2 t) (iblk m c 3 t) (iblk m c 4 t) (iblk m c 5 t) (yb m c t) (accAt m c (t.val - 1) (Nat.lt_of_le_of_lt (Nat.sub_le _ _) t.isLt))).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  isplitl [H9]; · iexists _; iexact H9
  isplitl [H10]; · iexists _; iexact H10
  isplitl [HS]; · iexact HS
  iintro ⟨H0, H1, H2, H3, H4, H5, ⟨%e6, H6⟩, H7, ⟨%e8, H8⟩, ⟨%e9, H9⟩, ⟨%e10, H10⟩, ⟨%es, HS⟩⟩
  isplitl [HS Hg]
  · isplitl [HS]
    · unfold owns; iexists _; isplitr
      swap; · iexact HS
      ipureintro
      exact runC_13_left c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) (fun h => h0 ((hcond1 t).mp h)) ((hcond2 t).mpr h7) (iblk m c 0 t) (iblk m c 1 t) (iblk m c 2 t) (iblk m c 3 t) (iblk m c 4 t) (iblk m c 5 t) (yb m c t) (accAt m c (t.val - 1) (Nat.lt_of_le_of_lt (Nat.sub_le _ _) t.isLt)) _
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · unfold owns; iexists _; isplitr
    swap; · iexact H6
    ipureintro
    exact runC_8_left c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) (fun h => h0 ((hcond1 t).mp h)) ((hcond2 t).mpr h7) (iblk m c 0 t) (iblk m c 1 t) (iblk m c 2 t) (iblk m c 3 t) (iblk m c 4 t) (iblk m c 5 t) (yb m c t) (accAt m c (t.val - 1) (Nat.lt_of_le_of_lt (Nat.sub_le _ _) t.isLt)) _
  isplitl [H7]
  · iexact H7
  isplitl [H8]
  · unfold owns; iexists _; isplitr
    swap; · iexact H8
    ipureintro
    exact runC_10_left c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) (fun h => h0 ((hcond1 t).mp h)) ((hcond2 t).mpr h7) (iblk m c 0 t) (iblk m c 1 t) (iblk m c 2 t) (iblk m c 3 t) (iblk m c 4 t) (iblk m c 5 t) (yb m c t) (accAt m c (t.val - 1) (Nat.lt_of_le_of_lt (Nat.sub_le _ _) t.isLt)) _
  isplitl [H9]
  · unfold owns; iexists _; isplitr
    swap; · iexact H9
    ipureintro
    exact runC_11_left c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) (fun h => h0 ((hcond1 t).mp h)) ((hcond2 t).mpr h7) (iblk m c 0 t) (iblk m c 1 t) (iblk m c 2 t) (iblk m c 3 t) (iblk m c 4 t) (iblk m c 5 t) (yb m c t) (accAt m c (t.val - 1) (Nat.lt_of_le_of_lt (Nat.sub_le _ _) t.isLt)) _
  unfold owns; iexists _; isplitr
  swap; · iexact H10
  ipureintro
  exact runC_12_left c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) accM (Memref.isWhole_whole _) (fun h => h0 ((hcond1 t).mp h)) ((hcond2 t).mpr h7) (iblk m c 0 t) (iblk m c 1 t) (iblk m c 2 t) (iblk m c 3 t) (iblk m c 4 t) (iblk m c 5 t) (yb m c t) (accAt m c (t.val - 1) (Nat.lt_of_le_of_lt (Nat.sub_le _ _) t.isLt)) _

theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_A m c t h0 (by omega)
  · by_cases h7 : t.val % 8 = 7
    · exact sound_C m c t h0 h7
    · exact sound_B m c t h0 h7

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem hout (c : Dev nD) : (dats m 0 c).Φ (Fin.last cfg0.N) ⊢ Pipeline.ΦA spec0 c := by
  have hN : (Fin.last cfg0.N).val ≠ 0 := by rw [Fin.val_last]; have : cfg0.N = 64 := N_0; omega
  rw [show (dats m 0 c).Φ (Fin.last cfg0.N) = Phi m c (Fin.last cfg0.N).val (Nat.le_of_lt_succ (Fin.last cfg0.N).isLt) from rfl,
    Phi_pos m c _ _ hN, PhiA_eq]
  iintro ⟨HS, Hg⟩
  isplitl [HS]
  · iexists _; iexact HS
  iexact Hg

/-! ## The run and the frame -/

set_option backward.isDefEq.respectTransparency.types false in
/-- The launch: from any memory with zero counters the program runs to its end; every array of the pipeline ends at what
    the data say, every other buffer as it was, every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Bwd

end
-- ==== Proof.BwdPay.lean ====
module

public import proofs.«01_k».proof.Proof.BwdFrame
public import Idealize.ShloMosaic.Lib.Pointwise

@[expose] public section

set_option maxRecDepth 16384

noncomputable section

namespace Cert.KernelIdeal.Bwd
open Idealize.ShloMosaic Idealize.ShloMosaic.TcCoe Idealize.ShloMosaic.Tactic
open Cert.KernelIdeal.Gen

/-! # What one grid point leaves, element by element, over the extended reals -/

/-- One half. -/
abbrev half : EReal := Ideal.ofBits .f32 0x3F000000#32
/-- The gradient of `a` where the gradient of `silu a * b` is `c`, as the kernel writes it. -/
def daEl (c a b : EReal) : EReal := c * b * (Ideal.logistic a * (1 + a * (1 - Ideal.logistic a)))
/-- The gradient of `b` there. -/
def dbEl (c a : EReal) : EReal := c * (a * Ideal.logistic a)
/-- `silu a * b`. -/
def hidEl (a b : EReal) : EReal := a * Ideal.logistic a * b
/-- The gradient of the hidden layer at a row of the block. -/
def dactB (y : Vec Ideal S512x2048 .bf16) (w2 : Vec Ideal S1x688x2048 .bf16) (r : Fin 512) (f : Fin 688) : EReal :=
  half * ∑ x : Fin 2048, y (ix2 r x) * w2 (ix3 0 f x)

theorem emb_rH0 (r : Fin 256) (f : Fin 688) : (rH0.emb (ix3 (0 : Fin 1) r f) : S1x512x688.Idx) = ix3 (0 : Fin 1) (⟨r.val, by omega⟩ : Fin 512) f := by
  funext a
  fin_cases a
  · rfl
  · exact Fin.ext (by show 0 + 1 * r.val = r.val; omega)
  · exact Fin.ext (by show 0 + 1 * f.val = f.val; omega)
theorem emb_rH1 (r : Fin 256) (f : Fin 688) : (rH1.emb (ix3 (0 : Fin 1) r f) : S1x512x688.Idx) = ix3 (0 : Fin 1) (⟨256 + r.val, by omega⟩ : Fin 512) f := by
  funext a
  fin_cases a
  · rfl
  · exact Fin.ext (by show 256 + 1 * r.val = 256 + r.val; omega)
  · exact Fin.ext (by show 0 + 1 * f.val = f.val; omega)
theorem emb_rD0 (r : Fin 256) (f : Fin 2048) : (rD0.emb (ix2 r f) : S512x2048.Idx) = ix2 (⟨r.val, by omega⟩ : Fin 512) f := by
  funext a
  fin_cases a
  · exact Fin.ext (by show 0 + 1 * r.val = r.val; omega)
  · exact Fin.ext (by show 0 + 1 * f.val = f.val; omega)
theorem emb_rD1 (r : Fin 256) (f : Fin 2048) : (rD1.emb (ix2 r f) : S512x2048.Idx) = ix2 (⟨256 + r.val, by omega⟩ : Fin 512) f := by
  funext a
  fin_cases a
  · exact Fin.ext (by show 256 + 1 * r.val = 256 + r.val; omega)
  · exact Fin.ext (by show 0 + 1 * f.val = f.val; omega)

/-- Two pieces on the halves of a hidden block, each the half of one function, leave that function. -/
theorem canon_halves_H (G : Fin 512 → Fin 688 → EReal) (p q : Vec Ideal S1x256x688 .bf16)
    (hq : ∀ (r : Fin 256) f, q (ix3 0 r f) = G ⟨r.val, by omega⟩ f) (hp : ∀ (r : Fin 256) f, p (ix3 0 r f) = G ⟨256 + r.val, by omega⟩ f)
    (r : Fin 512) (f : Fin 688) :
    View.canon ([⟨rH1, p⟩, ⟨rH0, q⟩] : List (View.Piece (Elt Ideal) S1x512x688 .bf16)) (ix3 0 r f) = G r f := by
  refine View.canon_apply_of_pieces (Val := Elt Ideal) (S := S1x512x688) (e := .bf16) (fun i => G (i 1) (i 2)) _ ?_ (ix3 0 r f) ?_
  · intro P hP
    rcases List.mem_cons.mp hP with rfl | hP
    · intro x
      obtain ⟨z, r', f', rfl⟩ : ∃ (z : Fin 1) (a : Fin 256) (b : Fin 688), x = ix3 z a b := ⟨x 0, x 1, x 2, eq_ix3 x⟩
      obtain rfl : z = 0 := Subsingleton.elim _ _
      show p (ix3 0 r' f') = G (rH1.emb (ix3 (0 : Fin 1) r' f') 1) (rH1.emb (ix3 (0 : Fin 1) r' f') 2)
      rw [hp, emb_rH1]; rfl
    · rcases List.mem_cons.mp hP with rfl | hP
      · intro x
        obtain ⟨z, r', f', rfl⟩ : ∃ (z : Fin 1) (a : Fin 256) (b : Fin 688), x = ix3 z a b := ⟨x 0, x 1, x 2, eq_ix3 x⟩
        obtain rfl : z = 0 := Subsingleton.elim _ _
        show q (ix3 0 r' f') = G (rH0.emb (ix3 (0 : Fin 1) r' f') 1) (rH0.emb (ix3 (0 : Fin 1) r' f') 2)
        rw [hq, emb_rH0]; rfl
      · simp at hP
  · rcases mem_rH (ix3 (0 : Fin 1) r f) with h | h
    · exact ⟨_, List.mem_cons_self, h⟩
    · exact ⟨_, List.mem_cons_of_mem _ List.mem_cons_self, h⟩

/-- The same for the halves of a block of rows. -/
theorem canon_halves_D (G : Fin 512 → Fin 2048 → EReal) (p q : Vec Ideal S256x2048 .f32)
    (hq : ∀ (r : Fin 256) f, q (ix2 r f) = G ⟨r.val, by omega⟩ f) (hp : ∀ (r : Fin 256) f, p (ix2 r f) = G ⟨256 + r.val, by omega⟩ f)
    (r : Fin 512) (f : Fin 2048) :
    View.canon ([⟨rD1, p⟩, ⟨rD0, q⟩] : List (View.Piece (Elt Ideal) S512x2048 .f32)) (ix2 r f) = G r f := by
  refine View.canon_apply_of_pieces (Val := Elt Ideal) (S := S512x2048) (e := .f32) (fun i => G (i 0) (i 1)) _ ?_ (ix2 r f) ?_
  · intro P hP
    rcases List.mem_cons.mp hP with rfl | hP
    · intro x
      obtain ⟨r', f', rfl⟩ : ∃ (a : Fin 256) (b : Fin 2048), x = ix2 a b := ⟨x 0, x 1, eq_ix2 x⟩
      show p (ix2 r' f') = G (rD1.emb (ix2 r' f') 0) (rD1.emb (ix2 r' f') 1)
      rw [hp, emb_rD1]; rfl
    · rcases List.mem_cons.mp hP with rfl | hP
      · intro x
        obtain ⟨r', f', rfl⟩ : ∃ (a : Fin 256) (b : Fin 2048), x = ix2 a b := ⟨x 0, x 1, eq_ix2 x⟩
        show q (ix2 r' f') = G (rD0.emb (ix2 r' f') 0) (rD0.emb (ix2 r' f') 1)
        rw [hq, emb_rD0]; rfl
      · simp at hP
  · rcases mem_rD (ix2 r f) with h | h
    · exact ⟨_, List.mem_cons_self, h⟩
    · exact ⟨_, List.mem_cons_of_mem _ List.mem_cons_self, h⟩

/-! ## What a half loads -/

theorem ld_D0 {e : EltTy} (y : Vec Ideal S512x2048 e) (r : Fin 256) (k : Fin 2048) :
    (View.ld y rD0 : Vec Ideal S256x2048 e) (ix2 r k) = y (ix2 ⟨r.val, by omega⟩ k) :=
  congrArg y (emb_rD0 r k)
theorem ld_D1 {e : EltTy} (y : Vec Ideal S512x2048 e) (r : Fin 256) (k : Fin 2048) :
    (View.ld y rD1 : Vec Ideal S256x2048 e) (ix2 r k) = y (ix2 ⟨256 + r.val, by omega⟩ k) :=
  congrArg y (emb_rD1 r k)
theorem ld_H0 {e : EltTy} (y : Vec Ideal S1x512x688 e) (r : Fin 256) (k : Fin 688) :
    (View.ld y rH0 : Vec Ideal S1x256x688 e) (ix3 0 r k) = y (ix3 0 ⟨r.val, by omega⟩ k) :=
  congrArg y (emb_rH0 r k)
theorem ld_H1 {e : EltTy} (y : Vec Ideal S1x512x688 e) (r : Fin 256) (k : Fin 688) :
    (View.ld y rH1 : Vec Ideal S1x256x688 e) (ix3 0 r k) = y (ix3 0 ⟨256 + r.val, by omega⟩ k) :=
  congrArg y (emb_rH1 r k)

/-! ## The values computed on a half -/

variable (y : Vec Ideal S256x2048 .bf16) (w2 : Vec Ideal S1x688x2048 .bf16) (a b : Vec Ideal S1x256x688 .bf16)
  (v u : FVec Ideal S256x688 .f32) (w1 w3 : Vec Ideal S1x2048x688 .bf16) (s : Vec Ideal S256x2048 .f32) (r : Fin 256)

theorem pay4_apply (f : Fin 688) : k0_pay4 y w2 (ix2 r f) = half * ∑ x, y (ix2 r x) * w2 (ix3 0 f x) := by
  unfold k0_pay4; pointwise
theorem pay5_apply (f : Fin 688) : k0_pay5 y w2 (ix2 r f) = half * ∑ x, y (ix2 r x) * w2 (ix3 0 f x) := by
  unfold k0_pay5; pointwise
theorem pay7_apply (f : Fin 688) : k0_pay7 b (ix2 r f) = b (ix3 0 r f) := by
  unfold k0_pay7; pointwise
theorem pay17_apply (f : Fin 688) : k0_pay17 a (ix2 r f) = a (ix3 0 r f) := by
  unfold k0_pay17; pointwise
theorem pay9_apply (f : Fin 688) : k0_pay9 a (ix2 r f) = a (ix3 0 r f) * Ideal.logistic (a (ix3 0 r f)) := by
  unfold k0_pay9 k0_pay8 k0_pay6; pointwise
theorem pay10_apply (f : Fin 688) : k0_pay10 y w2 a b (ix2 r f)
    = daEl (half * ∑ x, y (ix2 r x) * w2 (ix3 0 f x)) (a (ix3 0 r f)) (b (ix3 0 r f)) := by
  unfold k0_pay10 k0_pay8 k0_pay6 daEl; pointwise [pay4_apply, pay7_apply]
theorem pay11_apply (f : Fin 688) : k0_pay11 v (ix2 r f) = v (ix2 r f) := by
  unfold k0_pay11; pointwise
theorem pay12_apply (f : Fin 688) : k0_pay12 v u (ix2 r f) = v (ix2 r f) * u (ix2 r f) := by
  unfold k0_pay12; pointwise
theorem pay13_apply (f : Fin 688) : k0_pay13 v (ix3 0 r f) = v (ix2 r f) := by
  unfold k0_pay13; pointwise [pay11_apply]
theorem pay14_apply (f : Fin 688) : k0_pay14 v u (ix3 0 r f) = v (ix2 r f) * u (ix2 r f) := by
  unfold k0_pay14; pointwise [pay12_apply]
theorem pay15_apply (f : Fin 688) : k0_pay15 v u (ix3 0 r f) = u (ix2 r f) * v (ix2 r f) := by
  unfold k0_pay15; pointwise
theorem pay21_apply (f : Fin 688) : k0_pay21 v u b (ix2 r f) = daEl (v (ix2 r f)) (u (ix2 r f)) (b (ix3 0 r f)) := by
  unfold k0_pay21 k0_pay18 k0_pay19 daEl; pointwise
theorem pay22_apply (f : Fin 688) : k0_pay22 v u (ix2 r f) = dbEl (v (ix2 r f)) (u (ix2 r f)) := by
  unfold k0_pay22 k0_pay20 k0_pay19 dbEl; pointwise
theorem pay23_apply (f : Fin 688) : k0_pay23 v u b (ix3 0 r f) = daEl (v (ix2 r f)) (u (ix2 r f)) (b (ix3 0 r f)) := by
  unfold k0_pay23; pointwise [pay21_apply]
theorem pay24_apply (f : Fin 688) : k0_pay24 v u (ix3 0 r f) = dbEl (v (ix2 r f)) (u (ix2 r f)) := by
  unfold k0_pay24; pointwise [pay22_apply]
theorem pay25_apply (f : Fin 688) : k0_pay25 u b (ix3 0 r f) = hidEl (u (ix2 r f)) (b (ix3 0 r f)) := by
  unfold k0_pay25 k0_pay18 k0_pay20 k0_pay19 hidEl; pointwise
theorem pay16_apply (c : FVec Ideal S256x688 .f32) (o : Fin 2048) : k0_pay16 v u c s w1 w3 (ix2 r o)
    = s (ix2 r o) + (∑ f, c (ix2 r f) * w1 (ix3 0 o f) + ∑ f, v (ix2 r f) * u (ix2 r f) * w3 (ix3 0 o f)) := by
  unfold k0_pay16; pointwise [pay11_apply, pay12_apply]
theorem pay26_apply (o : Fin 2048) : k0_pay1 (k0_pay26 v u b s w1 w3) (ix2 r o)
    = s (ix2 r o) + (∑ f, daEl (v (ix2 r f)) (u (ix2 r f)) (b (ix3 0 r f)) * w1 (ix3 0 o f)
        + ∑ f, dbEl (v (ix2 r f)) (u (ix2 r f)) * w3 (ix3 0 o f)) := by
  unfold k0_pay1 k0_pay26; pointwise [pay21_apply, pay22_apply]
theorem pay2_apply (i : S512x2048.Idx) : (k0_pay2 (F := Ideal)) i = 0 := by
  unfold k0_pay2; pointwise
theorem pay3_apply (v : Vec Ideal S512x2048 .f32) (i : S512x2048.Idx) : (k0_pay3 (F := Ideal)) v i = v i := by
  unfold k0_pay3; pointwise

/-! ## What a grid point leaves -/

/-- The stored gradient of the gate's input, at an element. -/
theorem daOut_apply (y : Vec Ideal S512x2048 .bf16) (a b : Vec Ideal S1x512x688 .bf16) (w2 : Vec Ideal S1x688x2048 .bf16)
    (r : Fin 512) (f : Fin 688) : daOut y a b w2 (ix3 0 r f) = daEl (dactB y w2 r f) (a (ix3 0 r f)) (b (ix3 0 r f)) := by
  refine canon_halves_H (fun r f => daEl (dactB y w2 r f) (a (ix3 0 r f)) (b (ix3 0 r f))) _ _ (fun r f => ?_) (fun r f => ?_) r f
  · rw [pay13_apply, pay10_apply]; simp only [dactB]; pointwise
  · rw [pay23_apply, pay5_apply, pay17_apply]; simp only [dactB]; pointwise

/-- The stored gradient of the gated factor, at an element. -/
theorem dbOut_apply (y : Vec Ideal S512x2048 .bf16) (a : Vec Ideal S1x512x688 .bf16) (w2 : Vec Ideal S1x688x2048 .bf16)
    (r : Fin 512) (f : Fin 688) : dbOut y a w2 (ix3 0 r f) = dbEl (dactB y w2 r f) (a (ix3 0 r f)) := by
  refine canon_halves_H (fun r f => dbEl (dactB y w2 r f) (a (ix3 0 r f))) _ _ (fun r f => ?_) (fun r f => ?_) r f
  · rw [pay14_apply, pay4_apply, pay9_apply]; simp only [dactB, dbEl]; pointwise
  · rw [pay24_apply, pay5_apply, pay17_apply]; simp only [dactB]; pointwise

/-- The stored hidden layer, at an element. -/
theorem hidOut_apply (a b : Vec Ideal S1x512x688 .bf16)
    (r : Fin 512) (f : Fin 688) : hidOut a b (ix3 0 r f) = hidEl (a (ix3 0 r f)) (b (ix3 0 r f)) := by
  refine canon_halves_H (fun r f => hidEl (a (ix3 0 r f)) (b (ix3 0 r f))) _ _ (fun r f => ?_) (fun r f => ?_) r f
  · rw [pay15_apply, pay7_apply, pay9_apply]; simp only [hidEl]; pointwise
  · rw [pay25_apply, pay17_apply]; pointwise

/-- The accumulator after a grid point: what it held, and the point's share of the gradient of the input. -/
theorem accOut_apply (y : Vec Ideal S512x2048 .bf16) (a b : Vec Ideal S1x512x688 .bf16) (w1 w3 : Vec Ideal S1x2048x688 .bf16)
    (w2 : Vec Ideal S1x688x2048 .bf16) (s : Vec Ideal S512x2048 .f32) (r : Fin 512) (o : Fin 2048) :
    accOut y a b w1 w3 w2 s (ix2 r o) = s (ix2 r o)
      + (∑ f : Fin 688, daEl (dactB y w2 r f) (a (ix3 0 r f)) (b (ix3 0 r f)) * w1 (ix3 0 o f)
        + ∑ f : Fin 688, dbEl (dactB y w2 r f) (a (ix3 0 r f)) * w3 (ix3 0 o f)) := by
  refine canon_halves_D (fun r o => s (ix2 r o)
      + (∑ f : Fin 688, daEl (dactB y w2 r f) (a (ix3 0 r f)) (b (ix3 0 r f)) * w1 (ix3 0 o f)
        + ∑ f : Fin 688, dbEl (dactB y w2 r f) (a (ix3 0 r f)) * w3 (ix3 0 o f))) _ _ (fun r f => ?_) (fun r f => ?_) r o
  · rw [pay16_apply]; simp only [pay10_apply, pay4_apply, pay9_apply, dactB, dbEl]; pointwise
  · rw [pay26_apply]; simp only [pay5_apply, pay17_apply, dactB]; pointwise

end Cert.KernelIdeal.Bwd
end
end
-- ==== Proof.BwdVal.lean ====
module

public import proofs.«01_k».proof.Proof.BwdPay

@[expose] public section

set_option maxRecDepth 16384

noncomputable section

namespace Cert.KernelIdeal.Bwd
open Idealize.ShloMosaic Idealize.ShloMosaic.TcCoe Idealize.ShloMosaic.Tactic
open Idealize.ShloMosaic.Pipeline (Dat Cfg Window)
open Cert.KernelIdeal.Gen

variable (m : (ℓ : Loc nD τ sig) → Buf (Elt Ideal) ℓ) (ρ : Dev nD → PrngReg)

/-! # The arrays the kernel leaves, element by element -/

/-- The arrays the kernel reads: the cotangent, the two saved projections and the three weights. -/
def aDy (c : Dev nD) (t : Fin 4096) (k : Fin 2048) : EReal := (V m c main_arg1 : S4096x2048.Idx → EReal) (ix2 t k)
def aA (c : Dev nD) (d : Fin 8) (t : Fin 4096) (f : Fin 688) : EReal := (V m c main_v3 : S8x4096x688.Idx → EReal) (ix3 d t f)
def aB (c : Dev nD) (d : Fin 8) (t : Fin 4096) (f : Fin 688) : EReal := (V m c main_v7 : S8x4096x688.Idx → EReal) (ix3 d t f)
def aW1 (c : Dev nD) (d : Fin 8) (o : Fin 2048) (f : Fin 688) : EReal := (V m c main_arg2 : S8x2048x688.Idx → EReal) (ix3 d o f)
def aW3 (c : Dev nD) (d : Fin 8) (o : Fin 2048) (f : Fin 688) : EReal := (V m c main_arg3 : S8x2048x688.Idx → EReal) (ix3 d o f)
def aW2 (c : Dev nD) (d : Fin 8) (f : Fin 688) (k : Fin 2048) : EReal := (V m c main_arg4 : S8x688x2048.Idx → EReal) (ix3 d f k)

theorem Nlt (t : Fin cfg0.N) : t.val < 64 := lt_of_lt_of_eq t.isLt N_0
/-- The row of the array that row `r` of point `t`'s block is, and the slice of the hidden columns the point works on. -/
def rowOf (t : Fin cfg0.N) (r : Fin 512) : Fin 4096 := ⟨512 * (t.val / 8) + r.val, by have := Nlt t; omega⟩
def devOf (t : Fin cfg0.N) : Fin 8 := ⟨t.val % 8, by omega⟩

theorem index_row0 : ∀ t : Fin cfg0.N, win0_0.index t (0 : Fin 2) = t.val / 8 ∧ win0_0.index t (1 : Fin 2) = 0 :=
  (by decide +kernel : ∀ t : Fin grid0.N, _)
theorem index_row6 : ∀ t : Fin cfg0.N, win0_6.index t (0 : Fin 2) = t.val / 8 ∧ win0_6.index t (1 : Fin 2) = 0 :=
  (by decide +kernel : ∀ t : Fin grid0.N, _)
theorem index_row7 : ∀ t : Fin cfg0.N, win0_7.index t (0 : Fin 2) = t.val / 8 ∧ win0_7.index t (1 : Fin 2) = 0 :=
  (by decide +kernel : ∀ t : Fin grid0.N, _)
theorem index_hid1 : ∀ t : Fin cfg0.N, win0_1.index t (0 : Fin 3) = t.val % 8 ∧ win0_1.index t (1 : Fin 3) = t.val / 8 ∧ win0_1.index t (2 : Fin 3) = 0 :=
  (by decide +kernel : ∀ t : Fin grid0.N, _)
theorem index_hid2 : ∀ t : Fin cfg0.N, win0_2.index t (0 : Fin 3) = t.val % 8 ∧ win0_2.index t (1 : Fin 3) = t.val / 8 ∧ win0_2.index t (2 : Fin 3) = 0 :=
  (by decide +kernel : ∀ t : Fin grid0.N, _)
theorem index_hid8 : ∀ t : Fin cfg0.N, win0_8.index t (0 : Fin 3) = t.val % 8 ∧ win0_8.index t (1 : Fin 3) = t.val / 8 ∧ win0_8.index t (2 : Fin 3) = 0 :=
  (by decide +kernel : ∀ t : Fin grid0.N, _)
theorem index_hid9 : ∀ t : Fin cfg0.N, win0_9.index t (0 : Fin 3) = t.val % 8 ∧ win0_9.index t (1 : Fin 3) = t.val / 8 ∧ win0_9.index t (2 : Fin 3) = 0 :=
  (by decide +kernel : ∀ t : Fin grid0.N, _)
theorem index_hid10 : ∀ t : Fin cfg0.N, win0_10.index t (0 : Fin 3) = t.val % 8 ∧ win0_10.index t (1 : Fin 3) = t.val / 8 ∧ win0_10.index t (2 : Fin 3) = 0 :=
  (by decide +kernel : ∀ t : Fin grid0.N, _)
theorem index_w3 : ∀ t : Fin cfg0.N, win0_3.index t (0 : Fin 3) = t.val % 8 ∧ win0_3.index t (1 : Fin 3) = 0 ∧ win0_3.index t (2 : Fin 3) = 0 :=
  (by decide +kernel : ∀ t : Fin grid0.N, _)
theorem index_w4 : ∀ t : Fin cfg0.N, win0_4.index t (0 : Fin 3) = t.val % 8 ∧ win0_4.index t (1 : Fin 3) = 0 ∧ win0_4.index t (2 : Fin 3) = 0 :=
  (by decide +kernel : ∀ t : Fin grid0.N, _)
theorem index_w5 : ∀ t : Fin cfg0.N, win0_5.index t (0 : Fin 3) = t.val % 8 ∧ win0_5.index t (1 : Fin 3) = 0 ∧ win0_5.index t (2 : Fin 3) = 0 :=
  (by decide +kernel : ∀ t : Fin grid0.N, _)

/-! ## Where a block's elements lie -/

theorem emb_row0 (t : Fin cfg0.N) (r : Fin 512) (k : Fin 2048) :
    (((cfg0.win 0).blk t).view.emb (ix2 r k) : S4096x2048.Idx) = ix2 (rowOf t r) k := by
  obtain ⟨e0, e1⟩ := index_row0 t
  funext a; apply Fin.ext
  fin_cases a
  · show win0_0.index t (0 : Fin 2) * 512 + 1 * r.val = 512 * (t.val / 8) + r.val; omega
  · show win0_0.index t (1 : Fin 2) * 2048 + 1 * k.val = k.val; omega
theorem emb_row6 (t : Fin cfg0.N) (r : Fin 512) (k : Fin 2048) :
    (((cfg0.win 6).blk t).view.emb (ix2 r k) : S4096x2048.Idx) = ix2 (rowOf t r) k := by
  obtain ⟨e0, e1⟩ := index_row6 t
  funext a; apply Fin.ext
  fin_cases a
  · show win0_6.index t (0 : Fin 2) * 512 + 1 * r.val = 512 * (t.val / 8) + r.val; omega
  · show win0_6.index t (1 : Fin 2) * 2048 + 1 * k.val = k.val; omega
theorem emb_row7 (t : Fin cfg0.N) (r : Fin 512) (k : Fin 2048) :
    (((cfg0.win 7).blk t).view.emb (ix2 r k) : S4096x2048.Idx) = ix2 (rowOf t r) k := by
  obtain ⟨e0, e1⟩ := index_row7 t
  funext a; apply Fin.ext
  fin_cases a
  · show win0_7.index t (0 : Fin 2) * 512 + 1 * r.val = 512 * (t.val / 8) + r.val; omega
  · show win0_7.index t (1 : Fin 2) * 2048 + 1 * k.val = k.val; omega
theorem emb_hid1 (t : Fin cfg0.N) (r : Fin 512) (f : Fin 688) :
    (((cfg0.win 1).blk t).view.emb (ix3 (0 : Fin 1) r f) : S8x4096x688.Idx) = ix3 (devOf t) (rowOf t r) f := by
  obtain ⟨e0, e1, e2⟩ := index_hid1 t
  funext a; apply Fin.ext
  fin_cases a
  · show win0_1.index t (0 : Fin 3) * 1 + 1 * 0 = t.val % 8; omega
  · show win0_1.index t (1 : Fin 3) * 512 + 1 * r.val = 512 * (t.val / 8) + r.val; omega
  · show win0_1.index t (2 : Fin 3) * 688 + 1 * f.val = f.val; omega
theorem emb_hid2 (t : Fin cfg0.N) (r : Fin 512) (f : Fin 688) :
    (((cfg0.win 2).blk t).view.emb (ix3 (0 : Fin 1) r f) : S8x4096x688.Idx) = ix3 (devOf t) (rowOf t r) f := by
  obtain ⟨e0, e1, e2⟩ := index_hid2 t
  funext a; apply Fin.ext
  fin_cases a
  · show win0_2.index t (0 : Fin 3) * 1 + 1 * 0 = t.val % 8; omega
  · show win0_2.index t (1 : Fin 3) * 512 + 1 * r.val = 512 * (t.val / 8) + r.val; omega
  · show win0_2.index t (2 : Fin 3) * 688 + 1 * f.val = f.val; omega
theorem emb_hid8 (t : Fin cfg0.N) (r : Fin 512) (f : Fin 688) :
    (((cfg0.win 8).blk t).view.emb (ix3 (0 : Fin 1) r f) : S8x4096x688.Idx) = ix3 (devOf t) (rowOf t r) f := by
  obtain ⟨e0, e1, e2⟩ := index_hid8 t
  funext a; apply Fin.ext
  fin_cases a
  · show win0_8.index t (0 : Fin 3) * 1 + 1 * 0 = t.val % 8; omega
  · show win0_8.index t (1 : Fin 3) * 512 + 1 * r.val = 512 * (t.val / 8) + r.val; omega
  · show win0_8.index t (2 : Fin 3) * 688 + 1 * f.val = f.val; omega
theorem emb_hid9 (t : Fin cfg0.N) (r : Fin 512) (f : Fin 688) :
    (((cfg0.win 9).blk t).view.emb (ix3 (0 : Fin 1) r f) : S8x4096x688.Idx) = ix3 (devOf t) (rowOf t r) f := by
  obtain ⟨e0, e1, e2⟩ := index_hid9 t
  funext a; apply Fin.ext
  fin_cases a
  · show win0_9.index t (0 : Fin 3) * 1 + 1 * 0 = t.val % 8; omega
  · show win0_9.index t (1 : Fin 3) * 512 + 1 * r.val = 512 * (t.val / 8) + r.val; omega
  · show win0_9.index t (2 : Fin 3) * 688 + 1 * f.val = f.val; omega
theorem emb_hid10 (t : Fin cfg0.N) (r : Fin 512) (f : Fin 688) :
    (((cfg0.win 10).blk t).view.emb (ix3 (0 : Fin 1) r f) : S8x4096x688.Idx) = ix3 (devOf t) (rowOf t r) f := by
  obtain ⟨e0, e1, e2⟩ := index_hid10 t
  funext a; apply Fin.ext
  fin_cases a
  · show win0_10.index t (0 : Fin 3) * 1 + 1 * 0 = t.val % 8; omega
  · show win0_10.index t (1 : Fin 3) * 512 + 1 * r.val = 512 * (t.val / 8) + r.val; omega
  · show win0_10.index t (2 : Fin 3) * 688 + 1 * f.val = f.val; omega
theorem emb_w3 (t : Fin cfg0.N) (o : Fin 2048) (f : Fin 688) :
    (((cfg0.win 3).blk t).view.emb (ix3 (0 : Fin 1) o f) : S8x2048x688.Idx) = ix3 (devOf t) o f := by
  obtain ⟨e0, e1, e2⟩ := index_w3 t
  funext a; apply Fin.ext
  fin_cases a
  · show win0_3.index t (0 : Fin 3) * 1 + 1 * 0 = t.val % 8; omega
  · show win0_3.index t (1 : Fin 3) * 2048 + 1 * o.val = o.val; omega
  · show win0_3.index t (2 : Fin 3) * 688 + 1 * f.val = f.val; omega
theorem emb_w4 (t : Fin cfg0.N) (o : Fin 2048) (f : Fin 688) :
    (((cfg0.win 4).blk t).view.emb (ix3 (0 : Fin 1) o f) : S8x2048x688.Idx) = ix3 (devOf t) o f := by
  obtain ⟨e0, e1, e2⟩ := index_w4 t
  funext a; apply Fin.ext
  fin_cases a
  · show win0_4.index t (0 : Fin 3) * 1 + 1 * 0 = t.val % 8; omega
  · show win0_4.index t (1 : Fin 3) * 2048 + 1 * o.val = o.val; omega
  · show win0_4.index t (2 : Fin 3) * 688 + 1 * f.val = f.val; omega
theorem emb_w5 (t : Fin cfg0.N) (f : Fin 688) (k : Fin 2048) :
    (((cfg0.win 5).blk t).view.emb (ix3 (0 : Fin 1) f k) : S8x688x2048.Idx) = ix3 (devOf t) f k := by
  obtain ⟨e0, e1, e2⟩ := index_w5 t
  funext a; apply Fin.ext
  fin_cases a
  · show win0_5.index t (0 : Fin 3) * 1 + 1 * 0 = t.val % 8; omega
  · show win0_5.index t (1 : Fin 3) * 688 + 1 * f.val = f.val; omega
  · show win0_5.index t (2 : Fin 3) * 2048 + 1 * k.val = k.val; omega

/-! ## The input blocks at an element -/

theorem iblk0 (c : Dev nD) (t : Fin cfg0.N) (r : Fin 512) (k : Fin 2048) : iblk m c 0 t (ix2 r k) = aDy m c (rowOf t r) k :=
  congrArg (V m c main_arg1 : S4096x2048.Idx → EReal) (emb_row0 t r k)
theorem iblk1 (c : Dev nD) (t : Fin cfg0.N) (r : Fin 512) (k : Fin 688) : iblk m c 1 t (ix3 0 r k) = aA m c (devOf t) (rowOf t r) k :=
  congrArg (V m c main_v3 : S8x4096x688.Idx → EReal) (emb_hid1 t r k)
theorem iblk2 (c : Dev nD) (t : Fin cfg0.N) (r : Fin 512) (k : Fin 688) : iblk m c 2 t (ix3 0 r k) = aB m c (devOf t) (rowOf t r) k :=
  congrArg (V m c main_v7 : S8x4096x688.Idx → EReal) (emb_hid2 t r k)
theorem iblk3 (c : Dev nD) (t : Fin cfg0.N) (o : Fin 2048) (f : Fin 688) : iblk m c 3 t (ix3 0 o f) = aW1 m c (devOf t) o f :=
  congrArg (V m c main_arg2 : S8x2048x688.Idx → EReal) (emb_w3 t o f)
theorem iblk4 (c : Dev nD) (t : Fin cfg0.N) (o : Fin 2048) (f : Fin 688) : iblk m c 4 t (ix3 0 o f) = aW3 m c (devOf t) o f :=
  congrArg (V m c main_arg3 : S8x2048x688.Idx → EReal) (emb_w4 t o f)
theorem iblk5 (c : Dev nD) (t : Fin cfg0.N) (f : Fin 688) (k : Fin 2048) : iblk m c 5 t (ix3 0 f k) = aW2 m c (devOf t) f k :=
  congrArg (V m c main_arg4 : S8x688x2048.Idx → EReal) (emb_w5 t f k)
theorem yb_apply (c : Dev nD) (t : Fin cfg0.N) (r : Fin 512) (k : Fin 2048) : yb m c t (ix2 r k) = aDy m c (rowOf t r) k :=
  (pay3_apply (iblk m c 0 t) (ix2 r k)).trans (iblk0 m c t r k)

/-! ## The functions the arrays end as -/

/-- The gradient of the hidden layer. -/
def gAct (c : Dev nD) (d : Fin 8) (t : Fin 4096) (f : Fin 688) : EReal := half * ∑ x : Fin 2048, aDy m c t x * aW2 m c d f x
/-- The gradient of the first projection, of the second, and the hidden layer. -/
def gDa (c : Dev nD) (d : Fin 8) (t : Fin 4096) (f : Fin 688) : EReal := daEl (gAct m c d t f) (aA m c d t f) (aB m c d t f)
def gDb (c : Dev nD) (d : Fin 8) (t : Fin 4096) (f : Fin 688) : EReal := dbEl (gAct m c d t f) (aA m c d t f)
def gHid (c : Dev nD) (d : Fin 8) (t : Fin 4096) (f : Fin 688) : EReal := hidEl (aA m c d t f) (aB m c d t f)
/-- One slice's share of the gradient of the input. -/
def gPart (c : Dev nD) (d : Fin 8) (t : Fin 4096) (o : Fin 2048) : EReal :=
  ∑ f : Fin 688, gDa m c d t f * aW1 m c d o f + ∑ f : Fin 688, gDb m c d t f * aW3 m c d o f
/-- The gradient of the input. -/
def gDx (c : Dev nD) (t : Fin 4096) (o : Fin 2048) : EReal := ∑ d : Fin 8, gPart m c d t o

theorem dactB_blk (c : Dev nD) (t : Fin cfg0.N) (r : Fin 512) (f : Fin 688) :
    dactB (yb m c t) (iblk m c 5 t) r f = gAct m c (devOf t) (rowOf t r) f := by
  unfold dactB gAct
  exact congrArg (half * ·) (Finset.sum_congr rfl fun x _ => congrArg₂ (· * ·) (yb_apply m c t r x) (iblk5 m c t f x))

/-- The accumulator after a point: what it held, and the slice's share. -/
theorem step_apply (c : Dev nD) (t : Fin cfg0.N) (s : Vec Ideal S512x2048 .f32) (r : Fin 512) (o : Fin 2048) :
    step m c t s (ix2 r o) = s (ix2 r o) + gPart m c (devOf t) (rowOf t r) o := by
  unfold step
  refine (accOut_apply (yb m c t) (iblk m c 1 t) (iblk m c 2 t) (iblk m c 3 t) (iblk m c 4 t) (iblk m c 5 t) s r o).trans ?_
  refine congrArg (s (ix2 r o) + ·) (congrArg₂ (· + ·) (Finset.sum_congr rfl fun f _ => ?_) (Finset.sum_congr rfl fun f _ => ?_))
  · refine congrArg₂ (· * ·) ?_ (iblk3 m c t o f)
    rw [dactB_blk, iblk1, iblk2]; rfl
  · refine congrArg₂ (· * ·) ?_ (iblk4 m c t o f)
    rw [dactB_blk, iblk1]; rfl

/-- A slice's share, by the slice's number. -/
def gPartN (c : Dev nD) (n : ℕ) (t : Fin 4096) (o : Fin 2048) : EReal := if h : n < 8 then gPart m c ⟨n, h⟩ t o else 0

/-- The accumulator along a row block: the shares of the slices gone through. -/
theorem accAt_apply (c : Dev nD) (r : Fin 512) (o : Fin 2048) : ∀ (d : ℕ) (t : Fin cfg0.N), t.val % 8 = d →
    accAt m c t.val t.isLt (ix2 r o) = ∑ n ∈ Finset.range (d + 1), gPartN m c n (rowOf t r) o
  | 0, t, ht => by
      rw [accAt_first m c t ht, step_apply, pay2_apply, zero_add, Finset.sum_range_one, gPartN, dif_pos (by omega)]
      exact congrArg (fun d => gPart m c d (rowOf t r) o) (Fin.ext ht)
  | d + 1, t, ht => by
      have hd : d + 1 < 8 := by omega
      have h0 : ¬ t.val % 8 = 0 := by omega
      have hlt : t.val - 1 < cfg0.N := lt_of_le_of_lt (Nat.sub_le _ _) t.isLt
      have ih := accAt_apply c r o d ⟨t.val - 1, hlt⟩ (by show (t.val - 1) % 8 = d; omega)
      have hr : rowOf ⟨t.val - 1, hlt⟩ r = rowOf t r := Fin.ext (by show 512 * ((t.val - 1) / 8) + r.val = 512 * (t.val / 8) + r.val; omega)
      rw [hr] at ih
      rw [accAt_next m c t h0, step_apply, Finset.sum_range_succ, ← ih]
      refine congrArg (accAt m c (t.val - 1) hlt (ix2 r o) + ·) ?_
      rw [gPartN, dif_pos hd]
      exact congrArg (fun d => gPart m c d (rowOf t r) o) (Fin.ext ht)

/-- At the last slice the accumulator holds the gradient of the input. -/
theorem accAt_last (c : Dev nD) (t : Fin cfg0.N) (ht : t.val % 8 = 7) (r : Fin 512) (o : Fin 2048) :
    accAt m c t.val t.isLt (ix2 r o) = gDx m c (rowOf t r) o := by
  rw [accAt_apply m c r o 7 t ht, Finset.sum_range, gDx]
  exact Finset.sum_congr rfl fun d _ => by rw [gPartN, dif_pos d.isLt]

/-! ## The arrays at the end -/

theorem flush6 : ∀ t : Fin cfg0.N, (cfg0.win 6).flush t = true → t.val % 8 = 7 := by decide +kernel
theorem flush7' : ∀ t : Fin cfg0.N, (cfg0.win 7).flush t = true → t.val % 8 = 7 := by decide +kernel
theorem flush6_last : ∀ t : Fin cfg0.N, t.val % 8 = 7 → (cfg0.win 6).flush t = true := by decide +kernel

/-- The point that works on a row block with a slice. -/
def ptOf (t : Fin 4096) (d : ℕ) (hd : d < 8) : Fin cfg0.N := ⟨8 * (t.val / 512) + d, by rw [show cfg0.N = 64 from N_0]; omega⟩
theorem rowOf_ptOf (t : Fin 4096) (d : ℕ) (hd : d < 8) : rowOf (ptOf t d hd) ⟨t.val % 512, by omega⟩ = t :=
  Fin.ext (by show 512 * ((8 * (t.val / 512) + d) / 8) + t.val % 512 = t.val; omega)
theorem devOf_ptOf (t : Fin 4096) (d : Fin 8) : devOf (ptOf t d.val d.isLt) = d :=
  Fin.ext (by show (8 * (t.val / 512) + d.val) % 8 = d.val; omega)
theorem flush7_last : ∀ t : Fin cfg0.N, t.val % 8 = 7 → (cfg0.win 7).flush t = true := flush7

set_option backward.isDefEq.respectTransparency.types false in
/-- Result 0 at the end. -/
theorem final6 (c : Dev nD) : (dats m 0 c).arrAt 6 cfg0.N = (fun i : S4096x2048.Idx => gDx m c (i 0) (i 1)) := by
  refine (dats m 0 c).arrAt_eq_of_cover 6 _ (fun t hf => ?_) (fun i => ?_)
  · show (cfg0.win 6).cut (grid0.coords t) ((dats m 0 c).after 6 t) = _
    rw [after_6]
    funext y
    obtain ⟨r, k, hy⟩ : ∃ (r : Fin 512) (k : Fin 2048), (cfg0.win 6).xinj (grid0.coords t) y = (ix2 r k : S512x2048.Idx) :=
      ⟨_, _, eq_ix2 (n0 := 512) (n1 := 2048) _⟩
    have hy' : y = (ix2 r k : S512x2048.Idx) := by rw [← hy]
    subst hy'
    show accAt m c t.val t.isLt (ix2 r k) = gDx m c ((((cfg0.win 6).blk t).view.emb (ix2 r k) : S4096x2048.Idx) 0) ((((cfg0.win 6).blk t).view.emb (ix2 r k) : S4096x2048.Idx) 1)
    rw [emb_row6]
    exact accAt_last m c t (flush6 t hf) r k
  · obtain ⟨t, k, rfl⟩ : ∃ (t : Fin 4096) (k : Fin 2048), i = (ix2 t k : S4096x2048.Idx) := ⟨_, _, eq_ix2 (n0 := 4096) (n1 := 2048) i⟩
    refine ⟨ptOf t 7 (by omega), flush6_last _ (by show (8 * (t.val / 512) + 7) % 8 = 7; omega), ?_⟩
    have h := ((cfg0.win 6).blk (ptOf t 7 (by omega))).view.emb_mem_set (ix2 (⟨t.val % 512, by omega⟩ : Fin 512) k)
    rwa [emb_row6, rowOf_ptOf] at h

set_option backward.isDefEq.respectTransparency.types false in
/-- Result 1 at the end. -/
theorem final7 (c : Dev nD) : (dats m 0 c).arrAt 7 cfg0.N = (fun i : S4096x2048.Idx => aDy m c (i 0) (i 1)) := by
  refine (dats m 0 c).arrAt_eq_of_cover 7 _ (fun t hf => ?_) (fun i => ?_)
  · show (cfg0.win 7).cut (grid0.coords t) ((dats m 0 c).after 7 t) = _
    rw [after_7]
    funext y
    obtain ⟨r, k, hy⟩ : ∃ (r : Fin 512) (k : Fin 2048), (cfg0.win 7).xinj (grid0.coords t) y = (ix2 r k : S512x2048.Idx) :=
      ⟨_, _, eq_ix2 (n0 := 512) (n1 := 2048) _⟩
    have hy' : y = (ix2 r k : S512x2048.Idx) := by rw [← hy]
    subst hy'
    show yb m c t (ix2 r k) = aDy m c ((((cfg0.win 7).blk t).view.emb (ix2 r k) : S4096x2048.Idx) 0) ((((cfg0.win 7).blk t).view.emb (ix2 r k) : S4096x2048.Idx) 1)
    rw [emb_row7]
    exact yb_apply m c t r k
  · obtain ⟨t, k, rfl⟩ : ∃ (t : Fin 4096) (k : Fin 2048), i = (ix2 t k : S4096x2048.Idx) := ⟨_, _, eq_ix2 (n0 := 4096) (n1 := 2048) i⟩
    refine ⟨ptOf t 7 (by omega), flush7_last _ (by show (8 * (t.val / 512) + 7) % 8 = 7; omega), ?_⟩
    have h := ((cfg0.win 7).blk (ptOf t 7 (by omega))).view.emb_mem_set (ix2 (⟨t.val % 512, by omega⟩ : Fin 512) k)
    rwa [emb_row7, rowOf_ptOf] at h

set_option backward.isDefEq.respectTransparency.types false in
/-- Result 2 at the end. -/
theorem final8 (c : Dev nD) : (dats m 0 c).arrAt 8 cfg0.N = (fun i : S8x4096x688.Idx => gDa m c (i 0) (i 1) (i 2)) := by
  refine (dats m 0 c).arrAt_eq_of_cover 8 _ (fun t hf => ?_) (fun i => ?_)
  · show (cfg0.win 8).cut (grid0.coords t) ((dats m 0 c).after 8 t) = _
    rw [after_8]
    funext y
    obtain ⟨z, r, f, hy⟩ : ∃ (z : Fin 1) (r : Fin 512) (f : Fin 688), (cfg0.win 8).xinj (grid0.coords t) y = (ix3 z r f : S1x512x688.Idx) :=
      ⟨_, _, _, eq_ix3 (n0 := 1) (n1 := 512) (n2 := 688) _⟩
    obtain rfl : z = 0 := Subsingleton.elim _ _
    have hy' : y = (ix3 (0 : Fin 1) r f : S1x512x688.Idx) := by rw [← hy]
    subst hy'
    show daOut (yb m c t) (iblk m c 1 t) (iblk m c 2 t) (iblk m c 5 t) (ix3 0 r f) = gDa m c ((((cfg0.win 8).blk t).view.emb (ix3 (0 : Fin 1) r f) : S8x4096x688.Idx) 0) ((((cfg0.win 8).blk t).view.emb (ix3 (0 : Fin 1) r f) : S8x4096x688.Idx) 1) ((((cfg0.win 8).blk t).view.emb (ix3 (0 : Fin 1) r f) : S8x4096x688.Idx) 2)
    rw [emb_hid8]
    exact (daOut_apply _ _ _ _ r f).trans (by rw [dactB_blk, iblk1, iblk2]; rfl)
  · obtain ⟨d, t, f, rfl⟩ : ∃ (d : Fin 8) (t : Fin 4096) (f : Fin 688), i = (ix3 d t f : S8x4096x688.Idx) :=
      ⟨_, _, _, eq_ix3 (n0 := 8) (n1 := 4096) (n2 := 688) i⟩
    refine ⟨ptOf t d.val d.isLt, flush0_8 _, ?_⟩
    have h := ((cfg0.win 8).blk (ptOf t d.val d.isLt)).view.emb_mem_set (ix3 (0 : Fin 1) (⟨t.val % 512, by omega⟩ : Fin 512) f)
    rwa [emb_hid8, rowOf_ptOf, devOf_ptOf] at h

set_option backward.isDefEq.respectTransparency.types false in
/-- Result 3 at the end. -/
theorem final9 (c : Dev nD) : (dats m 0 c).arrAt 9 cfg0.N = (fun i : S8x4096x688.Idx => gDb m c (i 0) (i 1) (i 2)) := by
  refine (dats m 0 c).arrAt_eq_of_cover 9 _ (fun t hf => ?_) (fun i => ?_)
  · show (cfg0.win 9).cut (grid0.coords t) ((dats m 0 c).after 9 t) = _
    rw [after_9]
    funext y
    obtain ⟨z, r, f, hy⟩ : ∃ (z : Fin 1) (r : Fin 512) (f : Fin 688), (cfg0.win 9).xinj (grid0.coords t) y = (ix3 z r f : S1x512x688.Idx) :=
      ⟨_, _, _, eq_ix3 (n0 := 1) (n1 := 512) (n2 := 688) _⟩
    obtain rfl : z = 0 := Subsingleton.elim _ _
    have hy' : y = (ix3 (0 : Fin 1) r f : S1x512x688.Idx) := by rw [← hy]
    subst hy'
    show dbOut (yb m c t) (iblk m c 1 t) (iblk m c 5 t) (ix3 0 r f) = gDb m c ((((cfg0.win 9).blk t).view.emb (ix3 (0 : Fin 1) r f) : S8x4096x688.Idx) 0) ((((cfg0.win 9).blk t).view.emb (ix3 (0 : Fin 1) r f) : S8x4096x688.Idx) 1) ((((cfg0.win 9).blk t).view.emb (ix3 (0 : Fin 1) r f) : S8x4096x688.Idx) 2)
    rw [emb_hid9]
    exact (dbOut_apply _ _ _ r f).trans (by rw [dactB_blk, iblk1]; rfl)
  · obtain ⟨d, t, f, rfl⟩ : ∃ (d : Fin 8) (t : Fin 4096) (f : Fin 688), i = (ix3 d t f : S8x4096x688.Idx) :=
      ⟨_, _, _, eq_ix3 (n0 := 8) (n1 := 4096) (n2 := 688) i⟩
    refine ⟨ptOf t d.val d.isLt, flush0_9 _, ?_⟩
    have h := ((cfg0.win 9).blk (ptOf t d.val d.isLt)).view.emb_mem_set (ix3 (0 : Fin 1) (⟨t.val % 512, by omega⟩ : Fin 512) f)
    rwa [emb_hid9, rowOf_ptOf, devOf_ptOf] at h

set_option backward.isDefEq.respectTransparency.types false in
/-- Result 4 at the end. -/
theorem final10 (c : Dev nD) : (dats m 0 c).arrAt 10 cfg0.N = (fun i : S8x4096x688.Idx => gHid m c (i 0) (i 1) (i 2)) := by
  refine (dats m 0 c).arrAt_eq_of_cover 10 _ (fun t hf => ?_) (fun i => ?_)
  · show (cfg0.win 10).cut (grid0.coords t) ((dats m 0 c).after 10 t) = _
    rw [after_10]
    funext y
    obtain ⟨z, r, f, hy⟩ : ∃ (z : Fin 1) (r : Fin 512) (f : Fin 688), (cfg0.win 10).xinj (grid0.coords t) y = (ix3 z r f : S1x512x688.Idx) :=
      ⟨_, _, _, eq_ix3 (n0 := 1) (n1 := 512) (n2 := 688) _⟩
    obtain rfl : z = 0 := Subsingleton.elim _ _
    have hy' : y = (ix3 (0 : Fin 1) r f : S1x512x688.Idx) := by rw [← hy]
    subst hy'
    show hidOut (iblk m c 1 t) (iblk m c 2 t) (ix3 0 r f) = gHid m c ((((cfg0.win 10).blk t).view.emb (ix3 (0 : Fin 1) r f) : S8x4096x688.Idx) 0) ((((cfg0.win 10).blk t).view.emb (ix3 (0 : Fin 1) r f) : S8x4096x688.Idx) 1) ((((cfg0.win 10).blk t).view.emb (ix3 (0 : Fin 1) r f) : S8x4096x688.Idx) 2)
    rw [emb_hid10]
    exact (hidOut_apply _ _ r f).trans (by rw [iblk1, iblk2]; rfl)
  · obtain ⟨d, t, f, rfl⟩ : ∃ (d : Fin 8) (t : Fin 4096) (f : Fin 688), i = (ix3 d t f : S8x4096x688.Idx) :=
      ⟨_, _, _, eq_ix3 (n0 := 8) (n1 := 4096) (n2 := 688) i⟩
    refine ⟨ptOf t d.val d.isLt, flush0_10 _, ?_⟩
    have h := ((cfg0.win 10).blk (ptOf t d.val d.isLt)).view.emb_mem_set (ix3 (0 : Fin 1) (⟨t.val % 512, by omega⟩ : Fin 512) f)
    rwa [emb_hid10, rowOf_ptOf, devOf_ptOf] at h

end Cert.KernelIdeal.Bwd
end
end
-- ==== Proof.FfnMath.lean ====
module

public import Idealize.ShloMosaic.Lib.Pointwise
public import Idealize.ShloMosaic.Lib.IdealHost

@[expose] public section

noncomputable section

namespace Cert.Ffn
open Idealize.ShloMosaic

/-! # The arithmetic of the feed-forward gradient over the extended reals -/

/-- An extended real that is a real number. -/
def IsReal (x : EReal) : Prop := ∃ r : ℝ, x = (r : EReal)

theorem IsReal.coe (r : ℝ) : IsReal (r : EReal) := ⟨r, rfl⟩
theorem IsReal.mul {x y : EReal} : IsReal x → IsReal y → IsReal (x * y)
  | ⟨a, ha⟩, ⟨b, hb⟩ => ⟨a * b, by rw [ha, hb, EReal.coe_mul]⟩
theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))
/-- An extended real whose magnitude is below infinity is a real number. -/
theorem isReal_of_abs_lt (x : EReal) (h : x ≠ ⊤) (h' : x ≠ ⊥) : IsReal x := ⟨x.toReal, (EReal.coe_toReal h h').symm⟩

theorem half_eq : Ideal.ofBits .f32 0x3F000000#32 = (((1 : ℝ) / 2 : ℝ) : EReal) := by
  simp [Ideal.ofBits, Ideal.ieee, -EReal.coe_mul]
  norm_num

/-- A real factor that is not negative goes into a sum. -/
theorem coe_mul_sum {ι : Type} (r : ℝ) (hr : 0 ≤ r) (s : Finset ι) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih,
      EReal.left_distrib_of_nonneg_of_ne_top (EReal.coe_nonneg.mpr hr) (EReal.coe_ne_top r)]

/-- The logistic of a real number is a real number. -/
theorem logistic_coe (a : ℝ) : ∃ s : ℝ, Ideal.logistic (a : EReal) = s := by
  refine ⟨(1 + Real.exp (-a))⁻¹, ?_⟩
  have h : (1 : ℝ) + Real.exp (-a) ≠ 0 := by positivity
  unfold Ideal.logistic Ideal.div
  rw [← EReal.coe_neg, show Ideal.exp ((-a : ℝ) : EReal) = ((Real.exp (-a) : ℝ) : EReal) from rfl]
  rw [← EReal.coe_one, ← EReal.coe_add, if_neg (by rw [← EReal.coe_zero]; exact fun e => h (EReal.coe_eq_coe_iff.mp e)),
    ← EReal.coe_inv, ← EReal.coe_mul, one_mul]
theorem logistic_top : Ideal.logistic ⊤ = 1 := by
  unfold Ideal.logistic Ideal.div
  show (if (1 : EReal) + 0 = 0 then _ else (1 : EReal) * (1 + 0)⁻¹) = 1
  simp
theorem logistic_bot : Ideal.logistic ⊥ = 0 := by
  unfold Ideal.logistic Ideal.div
  show (if (1 : EReal) + ⊤ = 0 then _ else (1 : EReal) * (1 + ⊤)⁻¹) = 0
  rw [show (1 : EReal) + ⊤ = ⊤ from EReal.coe_add_top 1]
  simp

/-- The derivative of `a * logistic a` times a real `t`: the factored form and the form the product rule gives agree at every
    extended real `a`. -/
theorem silu_grad (a t : EReal) (ht : IsReal t) :
    t * (Ideal.logistic a * (1 + a * (1 - Ideal.logistic a)))
      = t * Ideal.logistic a + a * t * (Ideal.logistic a * (1 - Ideal.logistic a)) := by
  obtain ⟨t, rfl⟩ := ht
  induction a with
  | bot => rw [logistic_bot]; simp
  | top =>
    rw [logistic_top]
    have : (1 : EReal) - 1 = 0 := by rw [← EReal.coe_one, ← EReal.coe_sub, sub_self, EReal.coe_zero]
    rw [this]; simp
  | coe a =>
    obtain ⟨s, hs⟩ := logistic_coe a
    rw [hs, ← EReal.coe_one]
    norm_cast
    ring

end Cert.Ffn
end
end
-- ==== Proof.BwdTie.lean ====
module

public import proofs.«01_k».proof.Proof.BwdVal
public import proofs.«01_k».proof.Proof.FfnMath
public import proofs.«01_k».proof.Proof.Gen.ReferenceIdeal.Run
public import proofs.«01_k».proof.Pre_finite
public import Idealize.ShloMosaic.Lib.ReduceAll

@[expose] public section

set_option maxRecDepth 16384

noncomputable section

namespace Cert.Ffn
open Idealize.ShloMosaic

/-! # The reference's five results as functions of the argument arrays -/

/-- A projection of the rows `x` by a weight split in eight slices. -/
def proj (x : Fin 4096 → Fin 2048 → EReal) (w : Fin 8 → Fin 2048 → Fin 688 → EReal) (d : Fin 8) (t : Fin 4096) (f : Fin 688) : EReal :=
  ∑ o : Fin 2048, w d o f * x t o
/-- The gradient of the hidden layer. -/
def rAct (dy : Fin 4096 → Fin 2048 → EReal) (w2 : Fin 8 → Fin 688 → Fin 2048 → EReal) (d : Fin 8) (t : Fin 4096) (f : Fin 688) : EReal :=
  ∑ k : Fin 2048, Ideal.ofBits .f32 0x3F000000#32 * dy t k * w2 d f k
/-- The gradient of the first projection by the product rule. -/
def rDa (c a b : EReal) : EReal :=
  c * b * Ideal.logistic a + a * (c * b) * (Ideal.logistic a * (1 - Ideal.logistic a))
/-- The gradient of the second projection. -/
def rDb (c a : EReal) : EReal := a * Ideal.logistic a * c
/-- The gradient of the input rows. -/
def rDx (x dy : Fin 4096 → Fin 2048 → EReal) (w1 w3 : Fin 8 → Fin 2048 → Fin 688 → EReal) (w2 : Fin 8 → Fin 688 → Fin 2048 → EReal)
    (t : Fin 4096) (o : Fin 2048) : EReal :=
  ∑ d : Fin 8, ∑ f : Fin 688, rDb (rAct dy w2 d t f) (proj x w1 d t f) * w3 d o f
    + ∑ d : Fin 8, ∑ f : Fin 688, rDa (rAct dy w2 d t f) (proj x w1 d t f) (proj x w3 d t f) * w1 d o f

end Cert.Ffn

namespace Cert.ReferenceIdeal.Val
open Idealize.ShloMosaic Idealize.ShloMosaic.TcCoe Idealize.ShloMosaic.Tactic
open Cert.ReferenceIdeal.Gen Cert.ReferenceIdeal.Value Cert.Ffn

variable (m : (ℓ : Loc nD τ sig) → Buf (Elt Ideal) ℓ) (ρ : Dev nD → PrngReg)

/-- The argument arrays by their coordinates. -/
def X (c : Dev nD) (t : Fin 4096) (k : Fin 2048) : EReal := (m ((c.tc : Thread nD τ).loc main_arg0) : S4096x2048.Idx → EReal) (ix2 t k)
def Dy (c : Dev nD) (t : Fin 4096) (k : Fin 2048) : EReal := (m ((c.tc : Thread nD τ).loc main_arg1) : S4096x2048.Idx → EReal) (ix2 t k)
def W1 (c : Dev nD) (d : Fin 8) (o : Fin 2048) (f : Fin 688) : EReal := (m ((c.tc : Thread nD τ).loc main_arg2) : S8x2048x688.Idx → EReal) (ix3 d o f)
def W3 (c : Dev nD) (d : Fin 8) (o : Fin 2048) (f : Fin 688) : EReal := (m ((c.tc : Thread nD τ).loc main_arg3) : S8x2048x688.Idx → EReal) (ix3 d o f)
def W2 (c : Dev nD) (d : Fin 8) (f : Fin 688) (k : Fin 2048) : EReal := (m ((c.tc : Thread nD τ).loc main_arg4) : S8x688x2048.Idx → EReal) (ix3 d f k)

theorem dx_eq (c : Dev nD) : res_out0 m c = fun i : S4096x2048.Idx => rDx (X m c) (Dy m c) (W1 m c) (W3 m c) (W2 m c) (i 0) (i 1) := by
  funext i
  obtain ⟨t, o, rfl⟩ : ∃ (t : Fin 4096) (o : Fin 2048), i = (ix2 t o : S4096x2048.Idx) := ⟨_, _, eq_ix2 (n0 := 4096) (n1 := 2048) i⟩
  unfold res_out0 res_main_v23
  pointwise
  rfl

set_option maxHeartbeats 2000000 in
/-- The reference's run: its five results by their elements, the arguments as they were. -/
theorem run_spec : θ_run defs (onTc (τ := τ) (main (F := Ideal))) ⟨m, fun _ => 0, ρ⟩ fun r => ∀ c : Dev nD,
      r.2.mem ((c.tc : Thread nD τ).loc main_v23) = (fun i : S4096x2048.Idx => rDx (X m c) (Dy m c) (W1 m c) (W3 m c) (W2 m c) (i 0) (i 1))
      ∧ r.2.mem ((c.tc : Thread nD τ).loc main_v24) = (fun i : S4096x2048.Idx => Dy m c (i 0) (i 1))
      ∧ r.2.mem ((c.tc : Thread nD τ).loc main_v25) = (fun i : S8x4096x688.Idx => rDa (rAct (Dy m c) (W2 m c) (i 0) (i 1) (i 2)) (proj (X m c) (W1 m c) (i 0) (i 1) (i 2)) (proj (X m c) (W3 m c) (i 0) (i 1) (i 2)))
      ∧ r.2.mem ((c.tc : Thread nD τ).loc main_v26) = (fun i : S8x4096x688.Idx => rDb (rAct (Dy m c) (W2 m c) (i 0) (i 1) (i 2)) (proj (X m c) (W1 m c) (i 0) (i 1) (i 2)))
      ∧ r.2.mem ((c.tc : Thread nD τ).loc main_v27) = (fun i : S8x4096x688.Idx => proj (X m c) (W1 m c) (i 0) (i 1) (i 2) * Ideal.logistic (proj (X m c) (W1 m c) (i 0) (i 1) (i 2)) * proj (X m c) (W3 m c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    obtain ⟨h0, h1, h2, h3, h4, hr⟩ := h c
    refine ⟨h0.trans (dx_eq m c), h1.trans ?_, h2.trans ?_, h3.trans ?_, h4.trans ?_, hr⟩
    · funext i
      obtain ⟨t, o, rfl⟩ : ∃ (t : Fin 4096) (o : Fin 2048), i = (ix2 t o : S4096x2048.Idx) := ⟨_, _, eq_ix2 (n0 := 4096) (n1 := 2048) i⟩
      rfl
    all_goals
      funext i
      obtain ⟨d, t, f, rfl⟩ : ∃ (d : Fin 8) (t : Fin 4096) (f : Fin 688), i = (ix3 d t f : S8x4096x688.Idx) := ⟨_, _, _, eq_ix3 (n0 := 8) (n1 := 4096) (n2 := 688) i⟩
      pointwise
      rfl) (run (F := Ideal) m ρ)

end Cert.ReferenceIdeal.Val

namespace Cert.KernelIdeal.Bwd
open Idealize.ShloMosaic Idealize.ShloMosaic.TcCoe Idealize.ShloMosaic.Tactic
open Idealize.ShloMosaic.Pipeline (Dat Cfg Window)
open Cert.KernelIdeal.Gen Cert.Ffn

variable (m : (ℓ : Loc nD τ sig) → Buf (Elt Ideal) ℓ) (ρ : Dev nD → PrngReg)

/-! # The arrays the kernel reads, from the arguments -/

theorem V_arg1 (c : Dev nD) : V m c main_arg1 = m ((c.tc : Thread nD τ).loc main_arg1) := by unfold_abbrev_sides; after_results
theorem V_arg2 (c : Dev nD) : V m c main_arg2 = m ((c.tc : Thread nD τ).loc main_arg2) := by unfold_abbrev_sides; after_results
theorem V_arg3 (c : Dev nD) : V m c main_arg3 = m ((c.tc : Thread nD τ).loc main_arg3) := by unfold_abbrev_sides; after_results
theorem V_arg4 (c : Dev nD) : V m c main_arg4 = m ((c.tc : Thread nD τ).loc main_arg4) := by unfold_abbrev_sides; after_results

/-- The rows the saved projections are of. -/
def aX (c : Dev nD) (t : Fin 4096) (k : Fin 2048) : EReal := (m ((c.tc : Thread nD τ).loc main_arg0) : S4096x2048.Idx → EReal) (ix2 t k)

theorem aA_eq (c : Dev nD) : aA m c = proj (aX m c) (aW1 m c) := by
  funext d t f
  unfold aA proj aX aW1
  rw [V_arg2]
  unfold_abbrev_sides
  after_results
  pointwise
theorem aB_eq (c : Dev nD) : aB m c = proj (aX m c) (aW3 m c) := by
  funext d t f
  unfold aB proj aX aW3
  rw [V_arg3]
  unfold_abbrev_sides
  after_results
  pointwise

/-! # The precondition, by elements -/

theorem isReal_of_lt (x : EReal) (b : EReal) (hb : b = ⊤) (h : Ideal.cmp .olt (max x (-x)) b = 1#1) : IsReal x := by
  subst hb
  have h' : max x (-x) < ⊤ := by
    by_contra hn
    simp [Ideal.cmp, hn] at h
  obtain ⟨h1, h2⟩ := max_lt_iff.mp h'
  refine isReal_of_abs_lt x h1.ne fun e => ?_
  rw [e] at h2
  simp at h2

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]

instance : Subsingleton Cert.Pre_finite.S_.Idx := ⟨fun a b => funext fun i => i.elim0⟩

/-- Under the precondition every element of `x`, `dy`, `w3` and `w2` is a real number. -/
theorem real_of_pre [Cert.Pre_finite.Facts] (x dy : S4096x2048.Idx → EReal) (w1 w3 : S8x2048x688.Idx → EReal) (w2 : S8x688x2048.Idx → EReal)
    (h : Cert.Pre_finite.fn (F := Ideal) x dy w1 w3 w2 = fun _ => 1#1) :
    (∀ i, IsReal (x i)) ∧ (∀ i, IsReal (dy i)) ∧ (∀ i, IsReal (w3 i)) ∧ ∀ i, IsReal (w2 i) := by
  have h0 := congrFun h ix0
  dsimp only [Cert.Pre_finite.fn, Cert.Pre_finite.fn_part1] at h0
  obtain ⟨h1, hw2⟩ := IntOp.andi_eq_one.1 h0
  obtain ⟨h2, hw3⟩ := IntOp.andi_eq_one.1 h1
  obtain ⟨hx, hdy⟩ := IntOp.andi_eq_one.1 h2
  exact ⟨fun i => isReal_of_lt _ _ inf_f32 (Host.reduce_andi_all _ _ _ _ _ hx i),
    fun i => isReal_of_lt _ _ inf_f32 (Host.reduce_andi_all _ _ _ _ _ hdy i),
    fun i => isReal_of_lt _ _ inf_bf16 (Host.reduce_andi_all _ _ _ _ _ hw3 i),
    fun i => isReal_of_lt _ _ inf_bf16 (Host.reduce_andi_all _ _ _ _ _ hw2 i)⟩

/-! # The kernel's results are the reference's functions -/

theorem gAct_eq (c : Dev nD) : gAct m c = rAct (aDy m c) (aW2 m c) := by
  funext d t f
  unfold gAct rAct half
  rw [half_eq, coe_mul_sum _ (by norm_num)]
  exact Finset.sum_congr rfl fun k _ => (mul_assoc _ _ _).symm

theorem gDb_eq (c : Dev nD) (d : Fin 8) (t : Fin 4096) (f : Fin 688) :
    gDb m c d t f = rDb (rAct (aDy m c) (aW2 m c) d t f) (proj (aX m c) (aW1 m c) d t f) := by
  unfold gDb dbEl rDb
  rw [gAct_eq, aA_eq, mul_comm]

theorem gDa_eq (c : Dev nD) (hx : ∀ t k, IsReal (aX m c t k)) (hdy : ∀ t k, IsReal (aDy m c t k)) (hw3 : ∀ d o f, IsReal (aW3 m c d o f))
    (hw2 : ∀ d f k, IsReal (aW2 m c d f k)) (d : Fin 8) (t : Fin 4096) (f : Fin 688) :
    gDa m c d t f = rDa (rAct (aDy m c) (aW2 m c) d t f) (proj (aX m c) (aW1 m c) d t f) (proj (aX m c) (aW3 m c) d t f) := by
  unfold gDa daEl rDa
  rw [gAct_eq, aA_eq, aB_eq]
  refine silu_grad _ _ (IsReal.mul (IsReal.sum _ _ fun k _ => ?_) (IsReal.sum _ _ fun k _ => ?_))
  · exact (IsReal.mul ⟨_, half_eq⟩ (hdy t k)).mul (hw2 d f k)
  · exact (hw3 d k f).mul (hx t k)

theorem gDx_eq (c : Dev nD) (hx : ∀ t k, IsReal (aX m c t k)) (hdy : ∀ t k, IsReal (aDy m c t k)) (hw3 : ∀ d o f, IsReal (aW3 m c d o f))
    (hw2 : ∀ d f k, IsReal (aW2 m c d f k)) (t : Fin 4096) (o : Fin 2048) :
    gDx m c t o = rDx (aX m c) (aDy m c) (aW1 m c) (aW3 m c) (aW2 m c) t o := by
  unfold gDx gPart rDx
  simp only [gDa_eq m c hx hdy hw3 hw2, gDb_eq]
  rw [Finset.sum_add_distrib, add_comm]

/-- The kernel's run: its five results by their elements, the arguments as they were. -/
theorem run_spec : θ_run defs (onTc (τ := τ) (main (F := Ideal))) ⟨m, fun _ => 0, ρ⟩ fun r => ∀ c : Dev nD,
      r.2.mem ((c.tc : Thread nD τ).loc main_v8_0) = (fun i : S4096x2048.Idx => gDx m c (i 0) (i 1))
      ∧ r.2.mem ((c.tc : Thread nD τ).loc main_v8_1) = (fun i : S4096x2048.Idx => aDy m c (i 0) (i 1))
      ∧ r.2.mem ((c.tc : Thread nD τ).loc main_v8_2) = (fun i : S8x4096x688.Idx => gDa m c (i 0) (i 1) (i 2))
      ∧ r.2.mem ((c.tc : Thread nD τ).loc main_v8_3) = (fun i : S8x4096x688.Idx => gDb m c (i 0) (i 1) (i 2))
      ∧ r.2.mem ((c.tc : Thread nD τ).loc main_v8_4) = (fun i : S8x4096x688.Idx => gHid m c (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 6).trans (final6 m c), ((h.1 c).1 7).trans (final7 m c), ((h.1 c).1 8).trans (final8 m c),
      ((h.1 c).1 9).trans (final9 m c), ((h.1 c).1 10).trans (final10 m c), h.2.1 c⟩)
    (θ_run_and (run_main m ρ) (frame m ρ))

end Cert.KernelIdeal.Bwd
end
end
-- ==== Proof.DwMath.lean ====
module

public import proofs.«01_k».proof.Proof.FfnMath

@[expose] public section

noncomputable section

namespace Cert.Ffn
open Idealize.ShloMosaic

/-! # Sums over the rows of the feed-forward's arrays -/

/-- Per device, the transpose of `a` times `b`, over the rows. -/
def tn (a : Fin 8 → Fin 4096 → Fin 688 → EReal) (b : Fin 4096 → Fin 2048 → EReal) (d : Fin 8) (f : Fin 688) (k : Fin 2048) : EReal :=
  ∑ t : Fin 4096, a d t f * b t k

/-- Row `r` of half `p` of the rows. -/
def half (p : Nat) (hp : p < 2) (r : Fin 2048) : Fin 4096 := ⟨2048 * p + r.val, by omega⟩

/-- The sum over the rows is the sum over the two halves. -/
theorem tn_halves (a : Fin 8 → Fin 4096 → Fin 688 → EReal) (b : Fin 4096 → Fin 2048 → EReal) (d : Fin 8) (f : Fin 688) (k : Fin 2048) :
    ∑ r : Fin 2048, a d (half 0 (by omega) r) f * b (half 0 (by omega) r) k
      + ∑ r : Fin 2048, a d (half 1 (by omega) r) f * b (half 1 (by omega) r) k = tn a b d f k := by
  refine Eq.trans ?_ (Fin.sum_univ_add (a := 2048) (b := 2048) (fun t : Fin 4096 => a d t f * b t k)).symm
  refine congrArg₂ (· + ·) (Finset.sum_congr rfl fun r _ => ?_) (Finset.sum_congr rfl fun r _ => ?_)
  · have : half 0 (by omega) r = Fin.castAdd 2048 r := Fin.ext (by show 2048 * 0 + r.val = r.val; omega)
    rw [this]
  · have : half 1 (by omega) r = Fin.natAdd 2048 r := Fin.ext (by show 2048 * 1 + r.val = 2048 + r.val; omega)
    rw [this]

/-- The half goes into the sum, to the factor `b`. -/
theorem tn_half (a : Fin 8 → Fin 4096 → Fin 688 → EReal) (b : Fin 4096 → Fin 2048 → EReal) (d : Fin 8) (f : Fin 688) (k : Fin 2048) :
    tn a b d f k * Ideal.ofBits .f32 0x3F000000#32 = ∑ t : Fin 4096, Ideal.ofBits .f32 0x3F000000#32 * b t k * a d t f := by
  unfold tn
  rw [mul_comm, half_eq, coe_mul_sum _ (by norm_num)]
  exact Finset.sum_congr rfl fun t _ => by rw [mul_assoc, mul_comm (b t k)]

end Cert.Ffn
end
end
-- ==== Proof.Dw2.lean ====
module

public import proofs.«01_k».proof.Proof.DwMath
public import proofs.«01_k».proof.Proof.Gen.Kernel2Ideal.Value
public import proofs.«01_k».proof.Proof.Gen.Kernel2Ideal.Skeleton
public import proofs.«01_k».proof.Proof.Gen.Reference2Ideal.Run
public import Idealize.ShloMosaic.Lib.Pointwise

@[expose] public section

set_option maxRecDepth 16384

noncomputable section

namespace Cert.Kernel2Ideal.Dw
open Idealize.ShloMosaic Idealize.ShloMosaic.TcCoe Idealize.ShloMosaic.Tactic
open Cert.Kernel2Ideal.Gen

/-! # The gradient of the second weight: what the kernel leaves, element by element -/

theorem z2 : (![0, 0] : Fin 2 → Nat) = fun _ => 0 := funext fun a => by fin_cases a <;> rfl
theorem z3 : (![0, 0, 0] : Fin 3 → Nat) = fun _ => 0 := funext fun a => by fin_cases a <;> rfl

section
variable {F : FTy → Type} [FloatOps F]
variable (c : Dev nD) (i : grid0.Coords) (a3 : Memref sig .tc .vmem S1x2048x688 .bf16) (h3 : a3.IsWhole)
  (a4 : Memref sig .tc .vmem S1x2048x2048 .bf16) (h4 : a4.IsWhole) (a5 : Memref sig .tc .vmem S1x688x2048 .bf16) (h5 : a5.IsWhole)
  (a6 : Memref sig .tc .vmem S688x2048 .f32) (h6 : a6.IsWhole)

/-- The first point of a slice leaves the product of its blocks in the accumulator. -/
theorem acc_first (hc0 : cond0_0 i) (hc1 : ¬cond0_1 i) (hc2 : ¬cond0_2 i) (x : Vec F S1x2048x688 .bf16) (y : Vec F S1x2048x2048 .bf16) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero z2]
  unfold k0_pay2
  simp only [View.readAt_eq_ld, h3.read_unread, h4.read_unread, View.ld_unit_zero (S := S1x2048x688) z3,
    View.ld_unit_zero (S := S1x2048x2048) z3, shapeCast_self]

/-- The second adds the product of its blocks and leaves the scaled sum in the result's block. -/
theorem out_last (hc0 : ¬cond0_0 i) (hc1 : cond0_1 i) (hc2 : cond0_2 i) (x : Vec F S1x2048x688 .bf16) (y : Vec F S1x2048x2048 .bf16)
    (s : Vec F S688x2048 .f32) :
    out0_B_2 c i a3 h3 a4 h4 a5 h5 a6 h6 hc0 hc1 hc2 x y s = k0_pay4 (addf s (k0_pay1 x y)) := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero z3, View.readCov_unit_zero (S := S688x2048) _ z2]
  unfold k0_pay3
  simp only [View.readAt_eq_ld, h3.read_unread, h4.read_unread, h6.read_unread, View.ld_unit_zero (S := S1x2048x688) z3,
    View.ld_unit_zero (S := S1x2048x2048) z3, View.ld_unit_zero (S := S688x2048) z2, shapeCast_self]
end

variable (m : (ℓ : Loc nD τ sig) → Buf (Elt Ideal) ℓ) (ρ : Dev nD → PrngReg)

/-- The arrays the kernel multiplies. -/
def aA (c : Dev nD) (d : Fin 8) (t : Fin 4096) (f : Fin 688) : EReal := (V m c main_arg0 : S8x4096x688.Idx → EReal) (ix3 d t f)
def aB (c : Dev nD) (t : Fin 4096) (k : Fin 2048) : EReal := (V m c main_v0 : S1x4096x2048.Idx → EReal) (ix3 0 t k)

theorem Nlt (t : Fin cfg0.N) : t.val < 16 := lt_of_lt_of_eq t.isLt N_0
/-- The row that row `r` of point `t`'s blocks is, and the slice the point works on. -/
def rowOf (t : Fin cfg0.N) (r : Fin 2048) : Fin 4096 := Ffn.half (t.val % 2) (by omega) r
def devOf (t : Fin cfg0.N) : Fin 8 := ⟨t.val / 2, by have := Nlt t; omega⟩
/-- The two points of a slice. -/
def pt (d : Fin 8) (b : Fin 2) : Fin cfg0.N := ⟨2 * d.val + b.val, lt_of_lt_of_eq (by omega) N_0.symm⟩

theorem index_0 : ∀ t : Fin cfg0.N, win0_0.index t (0 : Fin 3) = t.val / 2 ∧ win0_0.index t (1 : Fin 3) = t.val % 2 ∧ win0_0.index t (2 : Fin 3) = 0 :=
  (by decide +kernel : ∀ t : Fin grid0.N, _)
theorem index_1 : ∀ t : Fin cfg0.N, win0_1.index t (0 : Fin 3) = 0 ∧ win0_1.index t (1 : Fin 3) = t.val % 2 ∧ win0_1.index t (2 : Fin 3) = 0 :=
  (by decide +kernel : ∀ t : Fin grid0.N, _)

theorem emb_0 (t : Fin cfg0.N) (r : Fin 2048) (f : Fin 688) :
    (((cfg0.win 0).blk t).view.emb (ix3 (0 : Fin 1) r f) : S8x4096x688.Idx) = ix3 (devOf t) (rowOf t r) f := by
  obtain ⟨e0, e1, e2⟩ := index_0 t
  funext a; apply Fin.ext
  fin_cases a
  · show win0_0.index t (0 : Fin 3) * 1 + 1 * 0 = t.val / 2; omega
  · show win0_0.index t (1 : Fin 3) * 2048 + 1 * r.val = 2048 * (t.val % 2) + r.val; omega
  · show win0_0.index t (2 : Fin 3) * 688 + 1 * f.val = f.val; omega
theorem emb_1 (t : Fin cfg0.N) (r : Fin 2048) (k : Fin 2048) :
    (((cfg0.win 1).blk t).view.emb (ix3 (0 : Fin 1) r k) : S1x4096x2048.Idx) = ix3 0 (rowOf t r) k := by
  obtain ⟨e0, e1, e2⟩ := index_1 t
  funext a; apply Fin.ext
  fin_cases a
  · show win0_1.index t (0 : Fin 3) * 1 + 1 * 0 = 0; omega
  · show win0_1.index t (1 : Fin 3) * 2048 + 1 * r.val = 2048 * (t.val % 2) + r.val; omega
  · show win0_1.index t (2 : Fin 3) * 2048 + 1 * k.val = k.val; omega
theorem iblk0 (c : Dev nD) (t : Fin cfg0.N) (r : Fin 2048) (f : Fin 688) : iblk m c 0 t (ix3 0 r f) = aA m c (devOf t) (rowOf t r) f :=
  congrArg (V m c main_arg0 : S8x4096x688.Idx → EReal) (emb_0 t r f)
theorem iblk1 (c : Dev nD) (t : Fin cfg0.N) (r : Fin 2048) (k : Fin 2048) : iblk m c 1 t (ix3 0 r k) = aB m c (rowOf t r) k :=
  congrArg (V m c main_v0 : S1x4096x2048.Idx → EReal) (emb_1 t r k)

theorem pay1_apply (x : Vec Ideal S1x2048x688 .bf16) (y : Vec Ideal S1x2048x2048 .bf16) (f : Fin 688) (k : Fin 2048) :
    k0_pay1 x y (ix2 f k) = ∑ r : Fin 2048, x (ix3 0 r f) * y (ix3 0 r k) := by
  unfold k0_pay1
  pointwise
theorem pay4_apply (s : Vec Ideal S688x2048 .f32) (f : Fin 688) (k : Fin 2048) :
    k0_pay4 s (ix3 0 f k) = s (ix2 f k) * Ideal.ofBits .f32 0x3F000000#32 := by
  unfold k0_pay4
  pointwise

/-- What the kernel leaves for the gradient. -/
def g (c : Dev nD) (d : Fin 8) (f : Fin 688) (k : Fin 2048) : EReal :=
  Ffn.tn (aA m c) (aB m c) d f k * Ideal.ofBits .f32 0x3F000000#32

/-- What the second point of a slice leaves in the result's block. -/
theorem out_apply (c : Dev nD) (d : Fin 8) (f : Fin 688) (k : Fin 2048) :
    (outsAt0 m c (pt d 1).val (pt d 1).isLt).1 (ix3 0 f k) = g m c d f k := by
  have hp : (pt d 1).val - 1 = (pt d 0).val := rfl
  rw [outsAt0_B m c (pt d 1) (by show ¬(2 * d.val + 1) % 2 = 0; omega) (by show (2 * d.val + 1) % 2 = 1; omega)
    (by show (2 * d.val + 1) % 2 = 1; omega)]
  dsimp only
  rw [out_last, pay4_apply]
  have hA : (outsAt0 m c ((pt d 1).val - 1) (Nat.lt_of_le_of_lt (Nat.sub_le _ _) (pt d 1).isLt)).2
      = k0_pay1 (iblk m c 0 (pt d 0)) (iblk m c 1 (pt d 0)) :=
    (congrArg Prod.snd (outsAt0_A m c (pt d 0) (by show (2 * d.val + 0) % 2 = 0; omega) (by show ¬(2 * d.val + 0) % 2 = 1; omega)
      (by show ¬(2 * d.val + 0) % 2 = 1; omega))).trans (by dsimp only; rw [acc_first])
  rw [hA]
  unfold g
  refine congrArg (· * Ideal.ofBits .f32 0x3F000000#32) ?_
  show k0_pay1 (iblk m c 0 (pt d 0)) (iblk m c 1 (pt d 0)) (ix2 f k) + k0_pay1 (iblk m c 0 (pt d 1)) (iblk m c 1 (pt d 1)) (ix2 f k) = _
  have hd : ∀ b : Fin 2, devOf (pt d b) = d := fun b => Fin.ext (by show (2 * d.val + b.val) / 2 = d.val; omega)
  have h0 : ∀ r : Fin 2048, rowOf (pt d 0) r = Ffn.half 0 (by omega) r := fun r =>
    Fin.ext (by show 2048 * ((2 * d.val + 0) % 2) + r.val = 2048 * 0 + r.val; omega)
  have h1 : ∀ r : Fin 2048, rowOf (pt d 1) r = Ffn.half 1 (by omega) r := fun r =>
    Fin.ext (by show 2048 * ((2 * d.val + 1) % 2) + r.val = 2048 * 1 + r.val; omega)
  rw [pay1_apply, pay1_apply]
  simp only [iblk0, iblk1, hd, h0, h1]
  exact Ffn.tn_halves (aA m c) (aB m c) d f k

/-- The result array after the run. -/
theorem final (c : Dev nD) : Value.G2 m c = fun i : S8x688x2048.Idx => g m c (i 0) (i 1) (i 2) := by
  funext i
  obtain ⟨d, f, k, rfl⟩ : ∃ (d : Fin 8) (f : Fin 688) (k : Fin 2048), i = (ix3 d f k : S8x688x2048.Idx) :=
    ⟨_, _, _, eq_ix3 (n0 := 8) (n1 := 688) (n2 := 2048) i⟩
  have hp : Value.pt2Of (ix3 d f k : S8x688x2048.Idx) = (pt d 1).val := by
    show 2 * (1 * (d.val / 1 - 0) + 1 * (f.val / 688 - 0) + 1 * (k.val / 2048 - 0)) + 1 = 2 * d.val + 1
    omega
  have hl : Value.loc2Of (ix3 d f k : S8x688x2048.Idx) = ix3 (0 : Fin 1) f k := by
    funext a; apply Fin.ext
    fin_cases a
    · show d.val % 1 = 0; omega
    · show f.val % 688 = f.val; omega
    · show k.val % 2048 = k.val; omega
  unfold Value.G2
  rw [dif_pos (by rw [hp]; exact (pt d 1).isLt), Value.fold0_congr m c _ _ (pt d 1).val (by rw [Nat.zero_add]; exact (pt d 1).isLt) hp,
    ← Value.outsAt0_sweep, hl]
  exact out_apply m c d f k

theorem V_v0 (c : Dev nD) (t : Fin 4096) (k : Fin 2048) : aB m c t k = (m ((c.tc : Thread nD τ).loc main_arg1) : S4096x2048.Idx → EReal) (ix2 t k) := by
  unfold aB
  unfold_abbrev_sides
  after_results
  pointwise

/-- The kernel's run: the gradient by its elements, from the arguments. -/
theorem run_spec : θ_run defs (onTc (τ := τ) (main (F := Ideal))) ⟨m, fun _ => 0, ρ⟩ fun r => ∀ c : Dev nD,
      r.2.mem ((c.tc : Thread nD τ).loc main_v1) = (fun i : S8x688x2048.Idx =>
        Ffn.tn (fun d t f => (m ((c.tc : Thread nD τ).loc main_arg0) : S8x4096x688.Idx → EReal) (ix3 d t f))
          (fun t k => (m ((c.tc : Thread nD τ).loc main_arg1) : S4096x2048.Idx → EReal) (ix2 t k)) (i 0) (i 1) (i 2)
          * Ideal.ofBits .f32 0x3F000000#32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((final m c).trans (by
      have hA : aA m c = fun d t f => (m ((c.tc : Thread nD τ).loc main_arg0) : S8x4096x688.Idx → EReal) (ix3 d t f) := by
        funext d t f; unfold aA; rw [V_main_arg0]
      have hB : aB m c = fun t k => (m ((c.tc : Thread nD τ).loc main_arg1) : S4096x2048.Idx → EReal) (ix2 t k) := by
        funext t k; exact V_v0 m c t k
      funext i
      unfold g
      rw [hA, hB])), (h c).2⟩) (Value.run (F := Ideal) m ρ)

end Cert.Kernel2Ideal.Dw

namespace Cert.Reference2Ideal.Dw
open Idealize.ShloMosaic Idealize.ShloMosaic.TcCoe Idealize.ShloMosaic.Tactic

/-- The reference's run: the same gradient, by its elements. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = (fun i : S8x688x2048.Idx =>
        Ffn.tn (fun d t f => (m ((c.tc : Thread nD τ).loc main_arg0) : S8x4096x688.Idx → EReal) (ix3 d t f))
          (fun t k => (m ((c.tc : Thread nD τ).loc main_arg1) : S4096x2048.Idx → EReal) (ix2 t k)) (i 0) (i 1) (i 2)
          * Ideal.ofBits .f32 0x3F000000#32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      funext i
      obtain ⟨d, f, k, rfl⟩ : ∃ (d : Fin 8) (f : Fin 688) (k : Fin 2048), i = (ix3 d f k : S8x688x2048.Idx) :=
        ⟨_, _, _, eq_ix3 (n0 := 8) (n1 := 688) (n2 := 2048) i⟩
      refine Eq.trans ?_ (Ffn.tn_half _ _ d f k).symm
      pointwise), (h c).2⟩) (Value.run (F := Ideal) m ρ)

end Cert.Reference2Ideal.Dw
end
end
-- ==== Proof.Dw3.lean ====
module

public import proofs.«01_k».proof.Proof.Dw2
public import proofs.«01_k».proof.Proof.Gen.Kernel3Ideal.Value
public import proofs.«01_k».proof.Proof.Gen.Kernel3Ideal.Skeleton
public import proofs.«01_k».proof.Proof.Gen.Reference3Ideal.Run
public import Idealize.ShloMosaic.Lib.Pointwise

@[expose] public section

set_option maxRecDepth 16384

noncomputable section

namespace Cert.Kernel3Ideal.Dw
open Idealize.ShloMosaic Idealize.ShloMosaic.TcCoe Idealize.ShloMosaic.Tactic
open Cert.Kernel3Ideal.Gen
open Cert.Kernel2Ideal.Dw (z2 z3)

/-! # The gradient of a first weight: what the kernel leaves, element by element -/

section
variable {F : FTy → Type} [FloatOps F]
variable (c : Dev nD) (i : grid0.Coords) (a3 : Memref sig .tc .vmem S1x2048x688 .bf16) (h3 : a3.IsWhole)
  (a4 : Memref sig .tc .vmem S1x2048x2048 .bf16) (h4 : a4.IsWhole) (a5 : Memref sig .tc .vmem S1x688x2048 .bf16) (h5 : a5.IsWhole)
  (a6 : Memref sig .tc .vmem S688x2048 .f32) (h6 : a6.IsWhole)

/-- The first point of a slice leaves the product of its blocks in the accumulator. -/
theorem acc_first (hc0 : cond0_0 i) (hc1 : ¬cond0_1 i) (hc2 : ¬cond0_2 i) (x : Vec F S1x2048x688 .bf16) (y : Vec F S1x2048x2048 .bf16) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero z2]
  unfold k0_pay2
  simp only [View.readAt_eq_ld, h3.read_unread, h4.read_unread, View.ld_unit_zero (S := S1x2048x688) z3,
    View.ld_unit_zero (S := S1x2048x2048) z3, shapeCast_self]

/-- The second adds the product of its blocks and leaves the sum in the result's block. -/
theorem out_last (hc0 : ¬cond0_0 i) (hc1 : cond0_1 i) (hc2 : cond0_2 i) (x : Vec F S1x2048x688 .bf16) (y : Vec F S1x2048x2048 .bf16)
    (s : Vec F S688x2048 .f32) :
    out0_B_2 c i a3 h3 a4 h4 a5 h5 a6 h6 hc0 hc1 hc2 x y s = k0_pay4 (addf s (k0_pay1 x y)) := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero z3, View.readCov_unit_zero (S := S688x2048) _ z2]
  unfold k0_pay3
  simp only [View.readAt_eq_ld, h3.read_unread, h4.read_unread, h6.read_unread, View.ld_unit_zero (S := S1x2048x688) z3,
    View.ld_unit_zero (S := S1x2048x2048) z3, View.ld_unit_zero (S := S688x2048) z2, shapeCast_self]
end

variable (m : (ℓ : Loc nD τ sig) → Buf (Elt Ideal) ℓ) (ρ : Dev nD → PrngReg)

/-- The arrays the kernel multiplies. -/
def aA (c : Dev nD) (d : Fin 8) (t : Fin 4096) (f : Fin 688) : EReal := (V m c main_arg0 : S8x4096x688.Idx → EReal) (ix3 d t f)
def aB (c : Dev nD) (t : Fin 4096) (k : Fin 2048) : EReal := (V m c main_v0 : S1x4096x2048.Idx → EReal) (ix3 0 t k)

/-- The row that row `r` of point `t`'s blocks is, and the slice the point works on. -/
abbrev rowOf (t : Fin cfg0.N) (r : Fin 2048) : Fin 4096 := Cert.Kernel2Ideal.Dw.rowOf t r
abbrev devOf (t : Fin cfg0.N) : Fin 8 := Cert.Kernel2Ideal.Dw.devOf t
/-- The two points of a slice. -/
def pt (d : Fin 8) (b : Fin 2) : Fin cfg0.N := ⟨2 * d.val + b.val, lt_of_lt_of_eq (by omega) N_0.symm⟩

theorem emb_0 (t : Fin cfg0.N) (r : Fin 2048) (f : Fin 688) :
    (((cfg0.win 0).blk t).view.emb (ix3 (0 : Fin 1) r f) : S8x4096x688.Idx) = ix3 (devOf t) (rowOf t r) f := Cert.Kernel2Ideal.Dw.emb_0 t r f
theorem emb_1 (t : Fin cfg0.N) (r : Fin 2048) (k : Fin 2048) :
    (((cfg0.win 1).blk t).view.emb (ix3 (0 : Fin 1) r k) : S1x4096x2048.Idx) = ix3 0 (rowOf t r) k := Cert.Kernel2Ideal.Dw.emb_1 t r k
theorem iblk0 (c : Dev nD) (t : Fin cfg0.N) (r : Fin 2048) (f : Fin 688) : iblk m c 0 t (ix3 0 r f) = aA m c (devOf t) (rowOf t r) f :=
  congrArg (V m c main_arg0 : S8x4096x688.Idx → EReal) (emb_0 t r f)
theorem iblk1 (c : Dev nD) (t : Fin cfg0.N) (r : Fin 2048) (k : Fin 2048) : iblk m c 1 t (ix3 0 r k) = aB m c (rowOf t r) k :=
  congrArg (V m c main_v0 : S1x4096x2048.Idx → EReal) (emb_1 t r k)

theorem pay1_apply (x : Vec Ideal S1x2048x688 .bf16) (y : Vec Ideal S1x2048x2048 .bf16) (f : Fin 688) (k : Fin 2048) :
    k0_pay1 x y (ix2 f k) = ∑ r : Fin 2048, x (ix3 0 r f) * y (ix3 0 r k) := Cert.Kernel2Ideal.Dw.pay1_apply x y f k
theorem pay4_apply (s : Vec Ideal S688x2048 .f32) (f : Fin 688) (k : Fin 2048) :
    k0_pay4 s (ix3 0 f k) = s (ix2 f k) := by
  unfold k0_pay4
  pointwise

/-- What the kernel leaves for the gradient. -/
def g (c : Dev nD) (d : Fin 8) (f : Fin 688) (k : Fin 2048) : EReal :=
  Ffn.tn (aA m c) (aB m c) d f k

/-- What the second point of a slice leaves in the result's block. -/
theorem out_apply (c : Dev nD) (d : Fin 8) (f : Fin 688) (k : Fin 2048) :
    (outsAt0 m c (pt d 1).val (pt d 1).isLt).1 (ix3 0 f k) = g m c d f k := by
  have hp : (pt d 1).val - 1 = (pt d 0).val := rfl
  rw [outsAt0_B m c (pt d 1) (by show ¬(2 * d.val + 1) % 2 = 0; omega) (by show (2 * d.val + 1) % 2 = 1; omega)
    (by show (2 * d.val + 1) % 2 = 1; omega)]
  dsimp only
  rw [out_last, pay4_apply]
  have hA : (outsAt0 m c ((pt d 1).val - 1) (Nat.lt_of_le_of_lt (Nat.sub_le _ _) (pt d 1).isLt)).2
      = k0_pay1 (iblk m c 0 (pt d 0)) (iblk m c 1 (pt d 0)) :=
    (congrArg Prod.snd (outsAt0_A m c (pt d 0) (by show (2 * d.val + 0) % 2 = 0; omega) (by show ¬(2 * d.val + 0) % 2 = 1; omega)
      (by show ¬(2 * d.val + 0) % 2 = 1; omega))).trans (by dsimp only; rw [acc_first])
  rw [hA]
  unfold g
  show k0_pay1 (iblk m c 0 (pt d 0)) (iblk m c 1 (pt d 0)) (ix2 f k) + k0_pay1 (iblk m c 0 (pt d 1)) (iblk m c 1 (pt d 1)) (ix2 f k) = _
  have hd : ∀ b : Fin 2, devOf (pt d b) = d := fun b => Fin.ext (by show (2 * d.val + b.val) / 2 = d.val; omega)
  have h0 : ∀ r : Fin 2048, rowOf (pt d 0) r = Ffn.half 0 (by omega) r := fun r =>
    Fin.ext (by show 2048 * ((2 * d.val + 0) % 2) + r.val = 2048 * 0 + r.val; omega)
  have h1 : ∀ r : Fin 2048, rowOf (pt d 1) r = Ffn.half 1 (by omega) r := fun r =>
    Fin.ext (by show 2048 * ((2 * d.val + 1) % 2) + r.val = 2048 * 1 + r.val; omega)
  rw [pay1_apply, pay1_apply]
  simp only [iblk0, iblk1, hd, h0, h1]
  exact Ffn.tn_halves (aA m c) (aB m c) d f k

/-- The result array after the run. -/
theorem final (c : Dev nD) : Value.G2 m c = fun i : S8x688x2048.Idx => g m c (i 0) (i 1) (i 2) := by
  funext i
  obtain ⟨d, f, k, rfl⟩ : ∃ (d : Fin 8) (f : Fin 688) (k : Fin 2048), i = (ix3 d f k : S8x688x2048.Idx) :=
    ⟨_, _, _, eq_ix3 (n0 := 8) (n1 := 688) (n2 := 2048) i⟩
  have hp : Value.pt2Of (ix3 d f k : S8x688x2048.Idx) = (pt d 1).val := by
    show 2 * (1 * (d.val / 1 - 0) + 1 * (f.val / 688 - 0) + 1 * (k.val / 2048 - 0)) + 1 = 2 * d.val + 1
    omega
  have hl : Value.loc2Of (ix3 d f k : S8x688x2048.Idx) = ix3 (0 : Fin 1) f k := by
    funext a; apply Fin.ext
    fin_cases a
    · show d.val % 1 = 0; omega
    · show f.val % 688 = f.val; omega
    · show k.val % 2048 = k.val; omega
  unfold Value.G2
  rw [dif_pos (by rw [hp]; exact (pt d 1).isLt), Value.fold0_congr m c _ _ (pt d 1).val (by rw [Nat.zero_add]; exact (pt d 1).isLt) hp,
    ← Value.outsAt0_sweep, hl]
  exact out_apply m c d f k

theorem V_v0 (c : Dev nD) (t : Fin 4096) (k : Fin 2048) : aB m c t k = (m ((c.tc : Thread nD τ).loc main_arg1) : S4096x2048.Idx → EReal) (ix2 t k) := by
  unfold aB
  unfold_abbrev_sides
  after_results
  pointwise

/-- The kernel's run: the gradient by its elements, from the arguments. -/
theorem run_spec : θ_run defs (onTc (τ := τ) (main (F := Ideal))) ⟨m, fun _ => 0, ρ⟩ fun r => ∀ c : Dev nD,
      r.2.mem ((c.tc : Thread nD τ).loc main_v1) = (fun i : S8x688x2048.Idx =>
        Ffn.tn (fun d t f => (m ((c.tc : Thread nD τ).loc main_arg0) : S8x4096x688.Idx → EReal) (ix3 d t f))
          (fun t k => (m ((c.tc : Thread nD τ).loc main_arg1) : S4096x2048.Idx → EReal) (ix2 t k)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((final m c).trans (by
      have hA : aA m c = fun d t f => (m ((c.tc : Thread nD τ).loc main_arg0) : S8x4096x688.Idx → EReal) (ix3 d t f) := by
        funext d t f; unfold aA; rw [V_main_arg0]
      have hB : aB m c = fun t k => (m ((c.tc : Thread nD τ).loc main_arg1) : S4096x2048.Idx → EReal) (ix2 t k) := by
        funext t k; exact V_v0 m c t k
      funext i
      unfold g
      rw [hA, hB])), (h c).2⟩) (Value.run (F := Ideal) m ρ)

end Cert.Kernel3Ideal.Dw

namespace Cert.Reference3Ideal.Dw
open Idealize.ShloMosaic Idealize.ShloMosaic.TcCoe Idealize.ShloMosaic.Tactic

/-- The reference's run: the same gradient, by its elements. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = (fun i : S8x688x2048.Idx =>
        Ffn.tn (fun d t f => (m ((c.tc : Thread nD τ).loc main_arg0) : S8x4096x688.Idx → EReal) (ix3 d t f))
          (fun t k => (m ((c.tc : Thread nD τ).loc main_arg1) : S4096x2048.Idx → EReal) (ix2 t k)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      funext i
      obtain ⟨d, f, k, rfl⟩ : ∃ (d : Fin 8) (f : Fin 688) (k : Fin 2048), i = (ix3 d f k : S8x688x2048.Idx) :=
        ⟨_, _, _, eq_ix3 (n0 := 8) (n1 := 688) (n2 := 2048) i⟩
      unfold Ffn.tn
      pointwise), (h c).2⟩) (Value.run (F := Ideal) m ρ)

end Cert.Reference3Ideal.Dw
end
end
-- ==== Proof.Fwd.lean ====
module

public import proofs.«01_k».proof.Proof.DwMath
public import proofs.«01_k».proof.Proof.Gen.Kernel4Ideal.Value
public import proofs.«01_k».proof.Proof.Gen.Kernel4Ideal.Skeleton
public import proofs.«01_k».proof.Proof.Gen.Reference4Ideal.Run
public import Idealize.ShloMosaic.Lib.Pointwise

@[expose] public section

set_option maxRecDepth 16384

noncomputable section

namespace Cert.Ffn
open Idealize.ShloMosaic

/-! # The feed-forward by its elements -/

/-- A projection of the input, per device. -/
def upProj (x : Fin 4096 → Fin 2048 → EReal) (w : Fin 8 → Fin 2048 → Fin 688 → EReal) (d : Fin 8) (t : Fin 4096) (f : Fin 688) : EReal :=
  ∑ o : Fin 2048, x t o * w d o f
theorem upProj_comm (x : Fin 4096 → Fin 2048 → EReal) (w : Fin 8 → Fin 2048 → Fin 688 → EReal) (d : Fin 8) (t : Fin 4096) (f : Fin 688) :
    upProj x w d t f = ∑ o : Fin 2048, w d o f * x t o := Finset.sum_congr rfl fun o _ => mul_comm _ _
/-- The gated activation of two projections. -/
def gated (a b : EReal) : EReal := a * Ideal.logistic a * b
/-- The residual stream after the feed-forward. -/
def ffn (x h : Fin 4096 → Fin 2048 → EReal) (w1 w3 : Fin 8 → Fin 2048 → Fin 688 → EReal) (w2 : Fin 8 → Fin 688 → Fin 2048 → EReal)
    (t : Fin 4096) (k : Fin 2048) : EReal :=
  h t k + Ideal.ofBits .f32 0x3F000000#32 * ∑ d : Fin 8, ∑ f : Fin 688, gated (upProj x w1 d t f) (upProj x w3 d t f) * w2 d f k

end Cert.Ffn

namespace Cert.Kernel4Ideal.Fwd
open Idealize.ShloMosaic Idealize.ShloMosaic.TcCoe Idealize.ShloMosaic.Tactic
open Cert.Kernel4Ideal.Gen

/-! # The feed-forward kernel: what it leaves, element by element -/

theorem z2 : (![0, 0] : Fin 2 → Nat) = fun _ => 0 := funext fun a => by fin_cases a <;> rfl
theorem z3 : (![0, 0, 0] : Fin 3 → Nat) = fun _ => 0 := funext fun a => by fin_cases a <;> rfl

section
variable {F : FTy → Type} [FloatOps F]
variable (c : Dev nD) (i : grid0.Coords) (a2 : Memref sig .tc .vmem S512x2048 .bf16) (h2 : a2.IsWhole)
  (a3 : Memref sig .tc .vmem S512x2048 .f32) (h3 : a3.IsWhole) (a4 : Memref sig .tc .vmem S1x2048x688 .bf16) (h4 : a4.IsWhole)
  (a5 : Memref sig .tc .vmem S1x2048x688 .bf16) (h5 : a5.IsWhole) (a6 : Memref sig .tc .vmem S1x688x2048 .bf16) (h6 : a6.IsWhole)
  (a7 : Memref sig .tc .vmem S512x2048 .f32) (h7 : a7.IsWhole) (a8 : Memref sig .tc .vmem S1x512x688 .bf16) (h8 : a8.IsWhole)
  (a9 : Memref sig .tc .vmem S1x512x688 .bf16) (h9 : a9.IsWhole) (a10 : Memref sig .tc .vmem S512x2048 .f32) (h10 : a10.IsWhole)
  (x : Vec F S512x2048 .bf16) (h : Vec F S512x2048 .f32) (w1 w3 : Vec F S1x2048x688 .bf16) (w2 : Vec F S1x688x2048 .bf16)
  (s : Vec F S512x2048 .f32)

/-- The first point of a row block: the accumulator starts from zero. -/
theorem acc_A (hc0 : cond0_0 i) (hc1 : ¬cond0_1 i) :
    sout0_A_0 c i a2 h2 a3 h3 a4 h4 a5 h5 a6 h6 a7 h7 a8 h8 a9 h9 a10 h10 hc0 hc1 x h w1 w3 w2 = k0_pay8 x w1 w3 k0_pay3 w2 := by
  unfold sout0_A_0
  rw [View.read_writes_eq_canon _ _ _ (scover0_A_0 c i a2 h2 a3 h3 a4 h4 a5 h5 a6 h6 a7 h7 a8 h8 a9 h9 a10 h10 hc0 hc1 x h w1 w3 w2)]
  unfold kernelRun0_A
  dsimp only
  sl_unfold_words
  rw [View.canon_cons_unit_zero (S := S512x2048) z2, View.readCov_unit_zero (S := S512x2048) _ z2]
  unfold k0_pay1
  simp only [View.readAt_eq_ld, h2.read_unread, h4.read_unread, h5.read_unread, h6.read_unread, View.ld_unit_zero (S := S1x2048x688) z3,
    View.ld_unit_zero (S := S1x688x2048) z3, View.ld_unit_zero (S := S512x2048) z2, shapeCast_self]
/-- A point between: it adds to the accumulator. -/
theorem acc_B (hc0 : ¬cond0_0 i) (hc1 : ¬cond0_1 i) :
    sout0_B_0 c i a2 h2 a3 h3 a4 h4 a5 h5 a6 h6 a7 h7 a8 h8 a9 h9 a10 h10 hc0 hc1 x h w1 w3 w2 s = k0_pay8 x w1 w3 s w2 := by
  unfold sout0_B_0
  rw [View.read_writes_eq_canon _ _ _ (scover0_B_0 c i a2 h2 a3 h3 a4 h4 a5 h5 a6 h6 a7 h7 a8 h8 a9 h9 a10 h10 hc0 hc1 x h w1 w3 w2 s)]
  unfold kernelRun0_B
  dsimp only
  sl_unfold_words
  rw [View.canon_unit_zero z2]
  unfold k0_pay1
  simp only [View.readAt_eq_ld, h2.read_unread, h4.read_unread, h5.read_unread, h6.read_unread, h10.read_unread,
    View.ld_unit_zero (S := S1x2048x688) z3, View.ld_unit_zero (S := S1x688x2048) z3, View.ld_unit_zero (S := S512x2048) z2, shapeCast_self]
/-- The last point of a row block does too, -/
theorem acc_C (hc0 : ¬cond0_0 i) (hc1 : cond0_1 i) :
    sout0_C_0 c i a2 h2 a3 h3 a4 h4 a5 h5 a6 h6 a7 h7 a8 h8 a9 h9 a10 h10 hc0 hc1 x h w1 w3 w2 s = k0_pay8 x w1 w3 s w2 := by
  unfold sout0_C_0
  rw [View.read_writes_eq_canon _ _ _ (scover0_C_0 c i a2 h2 a3 h3 a4 h4 a5 h5 a6 h6 a7 h7 a8 h8 a9 h9 a10 h10 hc0 hc1 x h w1 w3 w2 s)]
  unfold kernelRun0_C
  dsimp only
  sl_unfold_words
  rw [View.canon_unit_zero z2]
  unfold k0_pay1
  simp only [View.readAt_eq_ld, h2.read_unread, h4.read_unread, h5.read_unread, h6.read_unread, h10.read_unread,
    View.ld_unit_zero (S := S1x2048x688) z3, View.ld_unit_zero (S := S1x688x2048) z3, View.ld_unit_zero (S := S512x2048) z2, shapeCast_self]
/-- and leaves the residual stream. -/
theorem out_C (hc0 : ¬cond0_0 i) (hc1 : cond0_1 i) :
    out0_C_5 c i a2 h2 a3 h3 a4 h4 a5 h5 a6 h6 a7 h7 a8 h8 a9 h9 a10 h10 hc0 hc1 x h w1 w3 w2 s = k0_pay2 h (k0_pay8 x w1 w3 s w2) := by
  unfold out0_C_5
  rw [View.read_writes_eq_canon _ _ _ (cover0_C_5 c i a2 h2 a3 h3 a4 h4 a5 h5 a6 h6 a7 h7 a8 h8 a9 h9 a10 h10 hc0 hc1 x h w1 w3 w2 s)]
  unfold kernelRun0_C
  dsimp only
  sl_unfold_words
  rw [View.canon_unit_zero z2, View.readCov_unit_zero (S := S512x2048) _ z2]
  unfold k0_pay1
  simp only [View.readAt_eq_ld, h2.read_unread, h3.read_unread, h4.read_unread, h5.read_unread, h6.read_unread, h10.read_unread,
    View.ld_unit_zero (S := S1x2048x688) z3, View.ld_unit_zero (S := S1x688x2048) z3, View.ld_unit_zero (S := S512x2048) z2, shapeCast_self]
/-- Every point leaves its two projections. -/
theorem proj_A (hc0 : cond0_0 i) (hc1 : ¬cond0_1 i) :
    out0_A_6 c i a2 h2 a3 h3 a4 h4 a5 h5 a6 h6 a7 h7 a8 h8 a9 h9 a10 h10 hc0 hc1 x h w1 w3 w2 = k0_pay6 x w1
    ∧ out0_A_7 c i a2 h2 a3 h3 a4 h4 a5 h5 a6 h6 a7 h7 a8 h8 a9 h9 a10 h10 hc0 hc1 x h w1 w3 w2 = k0_pay7 x w3 := by
  unfold out0_A_6 out0_A_7
  rw [View.read_writes_eq_canon _ _ _ (cover0_A_6 c i a2 h2 a3 h3 a4 h4 a5 h5 a6 h6 a7 h7 a8 h8 a9 h9 a10 h10 hc0 hc1 x h w1 w3 w2),
    View.read_writes_eq_canon _ _ _ (cover0_A_7 c i a2 h2 a3 h3 a4 h4 a5 h5 a6 h6 a7 h7 a8 h8 a9 h9 a10 h10 hc0 hc1 x h w1 w3 w2)]
  unfold kernelRun0_A
  dsimp only
  sl_unfold_words
  rw [View.canon_unit_zero z3, View.canon_unit_zero z3]
  simp only [View.readAt_eq_ld, h2.read_unread, h4.read_unread, h5.read_unread, View.ld_unit_zero (S := S1x2048x688) z3,
    View.ld_unit_zero (S := S512x2048) z2, and_self]
theorem proj_B (hc0 : ¬cond0_0 i) (hc1 : ¬cond0_1 i) :
    out0_B_6 c i a2 h2 a3 h3 a4 h4 a5 h5 a6 h6 a7 h7 a8 h8 a9 h9 a10 h10 hc0 hc1 x h w1 w3 w2 s = k0_pay6 x w1
    ∧ out0_B_7 c i a2 h2 a3 h3 a4 h4 a5 h5 a6 h6 a7 h7 a8 h8 a9 h9 a10 h10 hc0 hc1 x h w1 w3 w2 s = k0_pay7 x w3 := by
  unfold out0_B_6 out0_B_7
  rw [View.read_writes_eq_canon _ _ _ (cover0_B_6 c i a2 h2 a3 h3 a4 h4 a5 h5 a6 h6 a7 h7 a8 h8 a9 h9 a10 h10 hc0 hc1 x h w1 w3 w2 s),
    View.read_writes_eq_canon _ _ _ (cover0_B_7 c i a2 h2 a3 h3 a4 h4 a5 h5 a6 h6 a7 h7 a8 h8 a9 h9 a10 h10 hc0 hc1 x h w1 w3 w2 s)]
  unfold kernelRun0_B
  dsimp only
  sl_unfold_words
  rw [View.canon_unit_zero z3, View.canon_unit_zero z3]
  simp only [View.readAt_eq_ld, h2.read_unread, h4.read_unread, h5.read_unread, View.ld_unit_zero (S := S1x2048x688) z3,
    View.ld_unit_zero (S := S512x2048) z2, and_self]
theorem proj_C (hc0 : ¬cond0_0 i) (hc1 : cond0_1 i) :
    out0_C_6 c i a2 h2 a3 h3 a4 h4 a5 h5 a6 h6 a7 h7 a8 h8 a9 h9 a10 h10 hc0 hc1 x h w1 w3 w2 s = k0_pay6 x w1
    ∧ out0_C_7 c i a2 h2 a3 h3 a4 h4 a5 h5 a6 h6 a7 h7 a8 h8 a9 h9 a10 h10 hc0 hc1 x h w1 w3 w2 s = k0_pay7 x w3 := by
  unfold out0_C_6 out0_C_7
  rw [View.read_writes_eq_canon _ _ _ (cover0_C_6 c i a2 h2 a3 h3 a4 h4 a5 h5 a6 h6 a7 h7 a8 h8 a9 h9 a10 h10 hc0 hc1 x h w1 w3 w2 s),
    View.read_writes_eq_canon _ _ _ (cover0_C_7 c i a2 h2 a3 h3 a4 h4 a5 h5 a6 h6 a7 h7 a8 h8 a9 h9 a10 h10 hc0 hc1 x h w1 w3 w2 s)]
  unfold kernelRun0_C
  dsimp only
  sl_unfold_words
  rw [View.canon_unit_zero z3, View.canon_unit_zero z3]
  simp only [View.readAt_eq_ld, h2.read_unread, h4.read_unread, h5.read_unread, View.ld_unit_zero (S := S1x2048x688) z3,
    View.ld_unit_zero (S := S512x2048) z2, and_self]
end

variable (m : (ℓ : Loc nD τ sig) → Buf (Elt Ideal) ℓ) (ρ : Dev nD → PrngReg)

/-- What a point leaves in the accumulator, over what the point before left. -/
theorem acc_first (c : Dev nD) (t : Fin cfg0.N) (h0 : t.val % 8 = 0) : (outsAt0 m c t.val t.isLt).2.2.2
    = k0_pay8 (iblk m c 0 t) (iblk m c 2 t) (iblk m c 3 t) (k0_pay3 (F := Ideal)) (iblk m c 4 t) := by
  rw [outsAt0_A m c t h0 (by omega)]
  dsimp only
  rw [acc_A]
theorem acc_next (c : Dev nD) (t : Fin cfg0.N) (h0 : ¬t.val % 8 = 0) : (outsAt0 m c t.val t.isLt).2.2.2
    = k0_pay8 (iblk m c 0 t) (iblk m c 2 t) (iblk m c 3 t) (outsAt0 m c (t.val - 1) (Nat.lt_of_le_of_lt (Nat.sub_le _ _) t.isLt)).2.2.2 (iblk m c 4 t) := by
  by_cases h1 : t.val % 8 = 7
  · rw [outsAt0_C m c t h0 h1]
    dsimp only
    rw [acc_C]
  · rw [outsAt0_B m c t h0 h1]
    dsimp only
    rw [acc_B]
/-- What the last point of a row block leaves for the residual stream. -/
theorem out_last (c : Dev nD) (t : Fin cfg0.N) (h1 : t.val % 8 = 7) : (outsAt0 m c t.val t.isLt).1
    = k0_pay2 (iblk m c 1 t) (outsAt0 m c t.val t.isLt).2.2.2 := by
  rw [acc_next m c t (by omega), outsAt0_C m c t (by omega) h1]
  dsimp only
  rw [out_C]
/-- What each point leaves for the projections. -/
theorem proj_at (c : Dev nD) (t : Fin cfg0.N) : (outsAt0 m c t.val t.isLt).2.1 = k0_pay6 (iblk m c 0 t) (iblk m c 2 t)
    ∧ (outsAt0 m c t.val t.isLt).2.2.1 = k0_pay7 (iblk m c 0 t) (iblk m c 3 t) := by
  by_cases h0 : t.val % 8 = 0
  · rw [outsAt0_A m c t h0 (by omega)]
    dsimp only
    rw [(proj_A ..).1, (proj_A ..).2]
    exact ⟨rfl, rfl⟩
  · by_cases h1 : t.val % 8 = 7
    · rw [outsAt0_C m c t h0 h1]
      dsimp only
      rw [(proj_C ..).1, (proj_C ..).2]
      exact ⟨rfl, rfl⟩
    · rw [outsAt0_B m c t h0 h1]
      dsimp only
      rw [(proj_B ..).1, (proj_B ..).2]
      exact ⟨rfl, rfl⟩

/-- The arrays the kernel reads. -/
def aX (c : Dev nD) (t : Fin 4096) (o : Fin 2048) : EReal := (V m c main_arg0 : S4096x2048.Idx → EReal) (ix2 t o)
def aH (c : Dev nD) (t : Fin 4096) (k : Fin 2048) : EReal := (V m c main_arg1 : S4096x2048.Idx → EReal) (ix2 t k)
def aW1 (c : Dev nD) (d : Fin 8) (o : Fin 2048) (f : Fin 688) : EReal := (V m c main_arg2 : S8x2048x688.Idx → EReal) (ix3 d o f)
def aW3 (c : Dev nD) (d : Fin 8) (o : Fin 2048) (f : Fin 688) : EReal := (V m c main_arg3 : S8x2048x688.Idx → EReal) (ix3 d o f)
def aW2 (c : Dev nD) (d : Fin 8) (f : Fin 688) (k : Fin 2048) : EReal := (V m c main_arg4 : S8x688x2048.Idx → EReal) (ix3 d f k)

theorem Nlt (t : Fin cfg0.N) : t.val < 64 := lt_of_lt_of_eq t.isLt N_0
/-- The row that row `r` of point `t`'s blocks is, and the device the point works for. -/
def rowOf (t : Fin cfg0.N) (r : Fin 512) : Fin 4096 := ⟨512 * (t.val / 8) + r.val, by have := Nlt t; omega⟩
def devOf (t : Fin cfg0.N) : Fin 8 := ⟨t.val % 8, by omega⟩

theorem index_rows : ∀ t : Fin cfg0.N, (win0_0.index t (0 : Fin 2) = t.val / 8 ∧ win0_0.index t (1 : Fin 2) = 0)
    ∧ win0_1.index t (0 : Fin 2) = t.val / 8 ∧ win0_1.index t (1 : Fin 2) = 0 :=
  (by decide +kernel : ∀ t : Fin grid0.N, _)
theorem index_dev : ∀ t : Fin cfg0.N, (win0_2.index t (0 : Fin 3) = t.val % 8 ∧ win0_2.index t (1 : Fin 3) = 0 ∧ win0_2.index t (2 : Fin 3) = 0)
    ∧ (win0_3.index t (0 : Fin 3) = t.val % 8 ∧ win0_3.index t (1 : Fin 3) = 0 ∧ win0_3.index t (2 : Fin 3) = 0)
    ∧ win0_4.index t (0 : Fin 3) = t.val % 8 ∧ win0_4.index t (1 : Fin 3) = 0 ∧ win0_4.index t (2 : Fin 3) = 0 :=
  (by decide +kernel : ∀ t : Fin grid0.N, _)

theorem emb_0 (t : Fin cfg0.N) (r : Fin 512) (o : Fin 2048) :
    (((cfg0.win 0).blk t).view.emb (ix2 r o) : S4096x2048.Idx) = ix2 (rowOf t r) o := by
  obtain ⟨⟨e0, e1⟩, -⟩ := index_rows t
  funext a; apply Fin.ext
  fin_cases a
  · show win0_0.index t (0 : Fin 2) * 512 + 1 * r.val = 512 * (t.val / 8) + r.val; omega
  · show win0_0.index t (1 : Fin 2) * 2048 + 1 * o.val = o.val; omega
theorem emb_1 (t : Fin cfg0.N) (r : Fin 512) (k : Fin 2048) :
    (((cfg0.win 1).blk t).view.emb (ix2 r k) : S4096x2048.Idx) = ix2 (rowOf t r) k := by
  obtain ⟨-, e0, e1⟩ := index_rows t
  funext a; apply Fin.ext
  fin_cases a
  · show win0_1.index t (0 : Fin 2) * 512 + 1 * r.val = 512 * (t.val / 8) + r.val; omega
  · show win0_1.index t (1 : Fin 2) * 2048 + 1 * k.val = k.val; omega
theorem emb_2 (t : Fin cfg0.N) (o : Fin 2048) (f : Fin 688) :
    (((cfg0.win 2).blk t).view.emb (ix3 (0 : Fin 1) o f) : S8x2048x688.Idx) = ix3 (devOf t) o f := by
  obtain ⟨⟨e0, e1, e2⟩, -, -⟩ := index_dev t
  funext a; apply Fin.ext
  fin_cases a
  · show win0_2.index t (0 : Fin 3) * 1 + 1 * 0 = t.val % 8; omega
  · show win0_2.index t (1 : Fin 3) * 2048 + 1 * o.val = o.val; omega
  · show win0_2.index t (2 : Fin 3) * 688 + 1 * f.val = f.val; omega
theorem emb_3 (t : Fin cfg0.N) (o : Fin 2048) (f : Fin 688) :
    (((cfg0.win 3).blk t).view.emb (ix3 (0 : Fin 1) o f) : S8x2048x688.Idx) = ix3 (devOf t) o f := by
  obtain ⟨-, ⟨e0, e1, e2⟩, -⟩ := index_dev t
  funext a; apply Fin.ext
  fin_cases a
  · show win0_3.index t (0 : Fin 3) * 1 + 1 * 0 = t.val % 8; omega
  · show win0_3.index t (1 : Fin 3) * 2048 + 1 * o.val = o.val; omega
  · show win0_3.index t (2 : Fin 3) * 688 + 1 * f.val = f.val; omega
theorem emb_4 (t : Fin cfg0.N) (f : Fin 688) (k : Fin 2048) :
    (((cfg0.win 4).blk t).view.emb (ix3 (0 : Fin 1) f k) : S8x688x2048.Idx) = ix3 (devOf t) f k := by
  obtain ⟨-, -, e0, e1, e2⟩ := index_dev t
  funext a; apply Fin.ext
  fin_cases a
  · show win0_4.index t (0 : Fin 3) * 1 + 1 * 0 = t.val % 8; omega
  · show win0_4.index t (1 : Fin 3) * 688 + 1 * f.val = f.val; omega
  · show win0_4.index t (2 : Fin 3) * 2048 + 1 * k.val = k.val; omega
theorem iblk0 (c : Dev nD) (t : Fin cfg0.N) (r : Fin 512) (o : Fin 2048) : iblk m c 0 t (ix2 r o) = aX m c (rowOf t r) o :=
  congrArg (V m c main_arg0 : S4096x2048.Idx → EReal) (emb_0 t r o)
theorem iblk1 (c : Dev nD) (t : Fin cfg0.N) (r : Fin 512) (k : Fin 2048) : iblk m c 1 t (ix2 r k) = aH m c (rowOf t r) k :=
  congrArg (V m c main_arg1 : S4096x2048.Idx → EReal) (emb_1 t r k)
theorem iblk2 (c : Dev nD) (t : Fin cfg0.N) (o : Fin 2048) (f : Fin 688) : iblk m c 2 t (ix3 0 o f) = aW1 m c (devOf t) o f :=
  congrArg (V m c main_arg2 : S8x2048x688.Idx → EReal) (emb_2 t o f)
theorem iblk3 (c : Dev nD) (t : Fin cfg0.N) (o : Fin 2048) (f : Fin 688) : iblk m c 3 t (ix3 0 o f) = aW3 m c (devOf t) o f :=
  congrArg (V m c main_arg3 : S8x2048x688.Idx → EReal) (emb_3 t o f)
theorem iblk4 (c : Dev nD) (t : Fin cfg0.N) (f : Fin 688) (k : Fin 2048) : iblk m c 4 t (ix3 0 f k) = aW2 m c (devOf t) f k :=
  congrArg (V m c main_arg4 : S8x688x2048.Idx → EReal) (emb_4 t f k)

theorem pay6_apply (x : Vec Ideal S512x2048 .bf16) (w : Vec Ideal S1x2048x688 .bf16) (r : Fin 512) (f : Fin 688) :
    k0_pay6 x w (ix3 0 r f) = ∑ o : Fin 2048, x (ix2 r o) * w (ix3 0 o f) := by
  unfold k0_pay6 k0_pay4
  pointwise
theorem pay7_apply (x : Vec Ideal S512x2048 .bf16) (w : Vec Ideal S1x2048x688 .bf16) (r : Fin 512) (f : Fin 688) :
    k0_pay7 x w (ix3 0 r f) = ∑ o : Fin 2048, x (ix2 r o) * w (ix3 0 o f) := by
  unfold k0_pay7 k0_pay5
  pointwise
theorem pay8_apply (x : Vec Ideal S512x2048 .bf16) (w1 w3 : Vec Ideal S1x2048x688 .bf16) (s : Vec Ideal S512x2048 .f32)
    (w2 : Vec Ideal S1x688x2048 .bf16) (r : Fin 512) (k : Fin 2048) :
    k0_pay8 x w1 w3 s w2 (ix2 r k) = s (ix2 r k) + ∑ f : Fin 688, Ffn.gated (∑ o : Fin 2048, x (ix2 r o) * w1 (ix3 0 o f))
      (∑ o : Fin 2048, x (ix2 r o) * w3 (ix3 0 o f)) * w2 (ix3 0 f k) := by
  unfold k0_pay8 k0_pay4 k0_pay5 Ffn.gated
  pointwise
theorem pay3_apply (r : Fin 512) (k : Fin 2048) : (k0_pay3 (F := Ideal)) (ix2 r k) = 0 := by
  unfold k0_pay3
  pointwise
theorem pay2_apply (h s : Vec Ideal S512x2048 .f32) (r : Fin 512) (k : Fin 2048) :
    k0_pay2 h s (ix2 r k) = h (ix2 r k) + Ideal.ofBits .f32 0x3F000000#32 * s (ix2 r k) := by
  unfold k0_pay2
  pointwise

/-- What device `d` adds to an element of the sum. -/
def part (c : Dev nD) (t : Fin 4096) (k : Fin 2048) (d : ℕ) : EReal :=
  if hd : d < 8 then ∑ f : Fin 688, Ffn.gated (Ffn.upProj (aX m c) (aW1 m c) ⟨d, hd⟩ t f) (Ffn.upProj (aX m c) (aW3 m c) ⟨d, hd⟩ t f) * aW2 m c ⟨d, hd⟩ f k
  else 0

/-- The payload that adds a device's part, at the blocks of point `t`. -/
theorem add_part (c : Dev nD) (t : Fin cfg0.N) (s : Vec Ideal S512x2048 .f32) (r : Fin 512) (k : Fin 2048) :
    k0_pay8 (iblk m c 0 t) (iblk m c 2 t) (iblk m c 3 t) s (iblk m c 4 t) (ix2 r k) = s (ix2 r k) + part m c (rowOf t r) k (t.val % 8) := by
  rw [pay8_apply]
  simp only [iblk0, iblk2, iblk3, iblk4]
  unfold part
  rw [dif_pos (by omega)]
  rfl

/-- After point `j` of row block `q` the accumulator holds the sum over the devices up to `j`. -/
theorem acc_at (c : Dev nD) (q : Fin 8) (r : Fin 512) (k : Fin 2048) : ∀ (j : ℕ) (hj : j < 8) (hb : 8 * q.val + j < cfg0.N),
    (outsAt0 m c (8 * q.val + j) hb).2.2.2 (ix2 r k)
      = ∑ d ∈ Finset.range (j + 1), part m c (⟨512 * q.val + r.val, by omega⟩ : Fin 4096) k d := by
  intro j
  induction j with
  | zero =>
    intro hj hb
    have hr : rowOf ⟨8 * q.val + 0, hb⟩ r = (⟨512 * q.val + r.val, by omega⟩ : Fin 4096) := Fin.ext (by
      show 512 * ((8 * q.val + 0) / 8) + r.val = 512 * q.val + r.val; omega)
    have hm : (8 * q.val + 0) % 8 = 0 := by omega
    rw [acc_first m c ⟨8 * q.val + 0, hb⟩ hm, add_part, pay3_apply, hr, Finset.sum_range_one, zero_add]
    exact congrArg _ hm
  | succ j ih =>
    intro hj hb
    have hr : rowOf ⟨8 * q.val + (j + 1), hb⟩ r = (⟨512 * q.val + r.val, by omega⟩ : Fin 4096) := Fin.ext (by
      show 512 * ((8 * q.val + (j + 1)) / 8) + r.val = 512 * q.val + r.val; omega)
    have hm : (8 * q.val + (j + 1)) % 8 = j + 1 := by omega
    rw [acc_next m c ⟨8 * q.val + (j + 1), hb⟩ (by show ¬(8 * q.val + (j + 1)) % 8 = 0; omega), add_part, hr, Finset.sum_range_succ]
    exact congrArg₂ (· + ·) (ih (by omega) (Nat.lt_of_le_of_lt (Nat.le_succ _) hb)) (congrArg _ hm)

/-- The last point of row block `q` leaves the residual stream. -/
theorem out_apply (c : Dev nD) (q : Fin 8) (hb : 8 * q.val + 7 < cfg0.N) (r : Fin 512) (k : Fin 2048) :
    (outsAt0 m c (8 * q.val + 7) hb).1 (ix2 r k)
      = Ffn.ffn (aX m c) (aH m c) (aW1 m c) (aW3 m c) (aW2 m c) ⟨512 * q.val + r.val, by omega⟩ k := by
  have hr : rowOf ⟨8 * q.val + 7, hb⟩ r = (⟨512 * q.val + r.val, by omega⟩ : Fin 4096) := Fin.ext (by
    show 512 * ((8 * q.val + 7) / 8) + r.val = 512 * q.val + r.val; omega)
  rw [out_last m c ⟨8 * q.val + 7, hb⟩ (by show (8 * q.val + 7) % 8 = 7; omega), pay2_apply, iblk1, hr, acc_at m c q r k 7 (by omega) hb,
    Finset.sum_range]
  unfold Ffn.ffn
  refine congrArg (aH m c _ k + Ideal.ofBits .f32 0x3F000000#32 * ·) (Finset.sum_congr rfl fun d _ => ?_)
  unfold part
  rw [dif_pos d.isLt]

/-- The residual stream after the run. -/
theorem final5 (c : Dev nD) : Value.G5 m c = fun i : S4096x2048.Idx => Ffn.ffn (aX m c) (aH m c) (aW1 m c) (aW3 m c) (aW2 m c) (i 0) (i 1) := by
  funext i
  obtain ⟨t, k, rfl⟩ : ∃ (t : Fin 4096) (k : Fin 2048), i = (ix2 t k : S4096x2048.Idx) := ⟨_, _, eq_ix2 (n0 := 4096) (n1 := 2048) i⟩
  have hb : 8 * (t.val / 512) + 7 < cfg0.N := lt_of_lt_of_eq (by omega) N_0.symm
  have hp : Value.pt5Of (ix2 t k : S4096x2048.Idx) = 8 * (t.val / 512) + 7 := by
    show 8 * (1 * (t.val / 512 - 0) + 1 * (k.val / 2048 - 0)) + 7 = 8 * (t.val / 512) + 7
    omega
  have hl : Value.loc5Of (ix2 t k : S4096x2048.Idx) = ix2 (⟨t.val % 512, by omega⟩ : Fin 512) k := by
    funext a; apply Fin.ext
    fin_cases a
    · rfl
    · show k.val % 2048 = k.val; omega
  unfold Value.G5
  rw [dif_pos (by rw [hp]; exact hb), Value.fold0_congr m c _ _ (8 * (t.val / 512) + 7) (by rw [Nat.zero_add]; exact hb) hp,
    ← Value.outsAt0_sweep, hl]
  refine (out_apply m c ⟨t.val / 512, by omega⟩ hb _ k).trans (congrArg (Ffn.ffn _ _ _ _ _ · k) (Fin.ext ?_))
  show 512 * (t.val / 512) + t.val % 512 = t.val
  omega

/-- The projections after the run. -/
theorem final6 (c : Dev nD) : Value.G6 m c = fun i : S8x4096x688.Idx => Ffn.upProj (aX m c) (aW1 m c) (i 0) (i 1) (i 2) := by
  funext i
  obtain ⟨d, t, f, rfl⟩ : ∃ (d : Fin 8) (t : Fin 4096) (f : Fin 688), i = (ix3 d t f : S8x4096x688.Idx) :=
    ⟨_, _, _, eq_ix3 (n0 := 8) (n1 := 4096) (n2 := 688) i⟩
  have hb : d.val + 8 * (t.val / 512) < cfg0.N := lt_of_lt_of_eq (by omega) N_0.symm
  have hp : Value.pt6Of (ix3 d t f : S8x4096x688.Idx) = d.val + 8 * (t.val / 512) := by
    show 1 * (d.val / 1 - 0) + 8 * (t.val / 512 - 0) + 64 * (f.val / 688 - 0) = d.val + 8 * (t.val / 512)
    omega
  have hl : Value.loc6Of (ix3 d t f : S8x4096x688.Idx) = ix3 (0 : Fin 1) (⟨t.val % 512, by omega⟩ : Fin 512) f := by
    funext a; apply Fin.ext
    fin_cases a
    · show d.val % 1 = 0; omega
    · rfl
    · show f.val % 688 = f.val; omega
  unfold Value.G6
  rw [dif_pos (by rw [hp]; exact hb), Value.fold0_congr m c _ _ (d.val + 8 * (t.val / 512)) (by rw [Nat.zero_add]; exact hb) hp,
    ← Value.outsAt0_sweep (hn := hb), hl, (proj_at m c ⟨d.val + 8 * (t.val / 512), hb⟩).1, pay6_apply]
  simp only [iblk0, iblk2]
  exact congrArg₂ (Ffn.upProj (aX m c) (aW1 m c) · · f) (Fin.ext (by show (d.val + 8 * (t.val / 512)) % 8 = d.val; omega))
    (Fin.ext (by show 512 * ((d.val + 8 * (t.val / 512)) / 8) + t.val % 512 = t.val; omega))
theorem final7 (c : Dev nD) : Value.G7 m c = fun i : S8x4096x688.Idx => Ffn.upProj (aX m c) (aW3 m c) (i 0) (i 1) (i 2) := by
  funext i
  obtain ⟨d, t, f, rfl⟩ : ∃ (d : Fin 8) (t : Fin 4096) (f : Fin 688), i = (ix3 d t f : S8x4096x688.Idx) :=
    ⟨_, _, _, eq_ix3 (n0 := 8) (n1 := 4096) (n2 := 688) i⟩
  have hb : d.val + 8 * (t.val / 512) < cfg0.N := lt_of_lt_of_eq (by omega) N_0.symm
  have hp : Value.pt7Of (ix3 d t f : S8x4096x688.Idx) = d.val + 8 * (t.val / 512) := by
    show 1 * (d.val / 1 - 0) + 8 * (t.val / 512 - 0) + 64 * (f.val / 688 - 0) = d.val + 8 * (t.val / 512)
    omega
  have hl : Value.loc7Of (ix3 d t f : S8x4096x688.Idx) = ix3 (0 : Fin 1) (⟨t.val % 512, by omega⟩ : Fin 512) f := by
    funext a; apply Fin.ext
    fin_cases a
    · show d.val % 1 = 0; omega
    · rfl
    · show f.val % 688 = f.val; omega
  unfold Value.G7
  rw [dif_pos (by rw [hp]; exact hb), Value.fold0_congr m c _ _ (d.val + 8 * (t.val / 512)) (by rw [Nat.zero_add]; exact hb) hp,
    ← Value.outsAt0_sweep (hn := hb), hl, (proj_at m c ⟨d.val + 8 * (t.val / 512), hb⟩).2, pay7_apply]
  simp only [iblk0, iblk3]
  exact congrArg₂ (Ffn.upProj (aX m c) (aW3 m c) · · f) (Fin.ext (by show (d.val + 8 * (t.val / 512)) % 8 = d.val; omega))
    (Fin.ext (by show 512 * ((d.val + 8 * (t.val / 512)) / 8) + t.val % 512 = t.val; omega))

theorem aX_eq (c : Dev nD) : aX m c = fun t o => (m ((c.tc : Thread nD τ).loc main_arg0) : S4096x2048.Idx → EReal) (ix2 t o) := by
  funext t o; unfold aX; rw [V_main_arg0]
theorem aH_eq (c : Dev nD) : aH m c = fun t o => (m ((c.tc : Thread nD τ).loc main_arg1) : S4096x2048.Idx → EReal) (ix2 t o) := by
  funext t o; unfold aH; rw [V_main_arg1]
theorem aW1_eq (c : Dev nD) : aW1 m c = fun d o f => (m ((c.tc : Thread nD τ).loc main_arg2) : S8x2048x688.Idx → EReal) (ix3 d o f) := by
  funext d o f; unfold aW1; rw [V_main_arg2]
theorem aW3_eq (c : Dev nD) : aW3 m c = fun d o f => (m ((c.tc : Thread nD τ).loc main_arg3) : S8x2048x688.Idx → EReal) (ix3 d o f) := by
  funext d o f; unfold aW3; rw [V_main_arg3]
theorem aW2_eq (c : Dev nD) : aW2 m c = fun d f k => (m ((c.tc : Thread nD τ).loc main_arg4) : S8x688x2048.Idx → EReal) (ix3 d f k) := by
  funext d f k; unfold aW2; rw [V_main_arg4]

/-- The kernel's run: the residual stream and the two projections by their elements, from the arguments. -/
theorem run_spec : θ_run defs (onTc (τ := τ) (main (F := Ideal))) ⟨m, fun _ => 0, ρ⟩ fun r => ∀ c : Dev nD,
      r.2.mem ((c.tc : Thread nD τ).loc main_v0_0) = (fun i : S4096x2048.Idx => Ffn.ffn
        (fun t o => (m ((c.tc : Thread nD τ).loc main_arg0) : S4096x2048.Idx → EReal) (ix2 t o))
        (fun t o => (m ((c.tc : Thread nD τ).loc main_arg1) : S4096x2048.Idx → EReal) (ix2 t o))
        (fun d o f => (m ((c.tc : Thread nD τ).loc main_arg2) : S8x2048x688.Idx → EReal) (ix3 d o f))
        (fun d o f => (m ((c.tc : Thread nD τ).loc main_arg3) : S8x2048x688.Idx → EReal) (ix3 d o f))
        (fun d f k => (m ((c.tc : Thread nD τ).loc main_arg4) : S8x688x2048.Idx → EReal) (ix3 d f k)) (i 0) (i 1))
      ∧ r.2.mem ((c.tc : Thread nD τ).loc main_v0_1) = (fun i : S8x4096x688.Idx => Ffn.upProj
        (fun t o => (m ((c.tc : Thread nD τ).loc main_arg0) : S4096x2048.Idx → EReal) (ix2 t o))
        (fun d o f => (m ((c.tc : Thread nD τ).loc main_arg2) : S8x2048x688.Idx → EReal) (ix3 d o f)) (i 0) (i 1) (i 2))
      ∧ r.2.mem ((c.tc : Thread nD τ).loc main_v0_2) = (fun i : S8x4096x688.Idx => Ffn.upProj
        (fun t o => (m ((c.tc : Thread nD τ).loc main_arg0) : S4096x2048.Idx → EReal) (ix2 t o))
        (fun d o f => (m ((c.tc : Thread nD τ).loc main_arg3) : S8x2048x688.Idx → EReal) (ix3 d o f)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    obtain ⟨h0, h1, h2, hr⟩ := h c
    rw [final5, aX_eq, aH_eq, aW1_eq, aW3_eq, aW2_eq] at h0
    rw [final6, aX_eq, aW1_eq] at h1
    rw [final7, aX_eq, aW3_eq] at h2
    exact ⟨h0, h1, h2, hr⟩) (Value.run (F := Ideal) m ρ)

end Cert.Kernel4Ideal.Fwd

namespace Cert.Reference4Ideal.Fwd
open Idealize.ShloMosaic Idealize.ShloMosaic.TcCoe Idealize.ShloMosaic.Tactic

/-- The reference's run: the same three arrays, by their elements. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = (fun i : S4096x2048.Idx => Ffn.ffn
        (fun t o => (m ((c.tc : Thread nD τ).loc main_arg0) : S4096x2048.Idx → EReal) (ix2 t o))
        (fun t o => (m ((c.tc : Thread nD τ).loc main_arg1) : S4096x2048.Idx → EReal) (ix2 t o))
        (fun d o f => (m ((c.tc : Thread nD τ).loc main_arg2) : S8x2048x688.Idx → EReal) (ix3 d o f))
        (fun d o f => (m ((c.tc : Thread nD τ).loc main_arg3) : S8x2048x688.Idx → EReal) (ix3 d o f))
        (fun d f k => (m ((c.tc : Thread nD τ).loc main_arg4) : S8x688x2048.Idx → EReal) (ix3 d f k)) (i 0) (i 1))
      ∧ r.2.mem ((c.tc : Thread nD τ).loc main_v14) = (fun i : S8x4096x688.Idx => Ffn.upProj
        (fun t o => (m ((c.tc : Thread nD τ).loc main_arg0) : S4096x2048.Idx → EReal) (ix2 t o))
        (fun d o f => (m ((c.tc : Thread nD τ).loc main_arg2) : S8x2048x688.Idx → EReal) (ix3 d o f)) (i 0) (i 1) (i 2))
      ∧ r.2.mem ((c.tc : Thread nD τ).loc main_v15) = (fun i : S8x4096x688.Idx => Ffn.upProj
        (fun t o => (m ((c.tc : Thread nD τ).loc main_arg0) : S4096x2048.Idx → EReal) (ix2 t o))
        (fun d o f => (m ((c.tc : Thread nD τ).loc main_arg3) : S8x2048x688.Idx → EReal) (ix3 d o f)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    obtain ⟨h0, h1, h2, hr⟩ := h c
    refine ⟨h0.trans ?_, h1.trans ?_, h2.trans ?_, hr⟩
    · funext i
      obtain ⟨t, k, rfl⟩ : ∃ (t : Fin 4096) (k : Fin 2048), i = (ix2 t k : S4096x2048.Idx) := ⟨_, _, eq_ix2 (n0 := 4096) (n1 := 2048) i⟩
      show _ = Ffn.ffn _ _ _ _ _ t k
      unfold Ffn.ffn Ffn.gated
      simp only [Ffn.upProj_comm]
      pointwise
      rfl
    all_goals
      funext i
      obtain ⟨d, t, f, rfl⟩ : ∃ (d : Fin 8) (t : Fin 4096) (f : Fin 688), i = (ix3 d t f : S8x4096x688.Idx) := ⟨_, _, _, eq_ix3 (n0 := 8) (n1 := 4096) (n2 := 688) i⟩
      refine Eq.trans ?_ (Ffn.upProj_comm _ _ d t f).symm
      pointwise) (Value.run (F := Ideal) m ρ)

end Cert.Reference4Ideal.Fwd
end
end
-- ==== Proof.ProjMath.lean ====
module

public import proofs.«01_k».proof.Proof.FfnMath
public import Idealize.ShloMosaic.Lib.Pointwise

@[expose] public section

noncomputable section

namespace Cert.Proj
open Idealize.ShloMosaic

/-! # The products of the projections -/

/-- The product of two arrays, element by element. -/
def mul {M K N : Nat} (a : Fin M → Fin K → EReal) (b : Fin K → Fin N → EReal) (i : Fin M) (j : Fin N) : EReal := ∑ p : Fin K, a i p * b p j

/-- The product added to an array. -/
def addMul {M K N : Nat} (h : Fin M → Fin N → EReal) (a : Fin M → Fin K → EReal) (b : Fin K → Fin N → EReal) (i : Fin M) (j : Fin N) : EReal :=
  h i j + mul a b i j

/-- The product over the first half of the rows and that over the second make the product. -/
theorem mul_halves {M N : Nat} (a : Fin M → Fin 4096 → EReal) (b : Fin 4096 → Fin N → EReal) (i : Fin M) (j : Fin N) :
    ∑ p : Fin 2048, a i (Fin.castAdd 2048 p) * b (Fin.castAdd 2048 p) j + ∑ p : Fin 2048, a i (Fin.natAdd 2048 p) * b (Fin.natAdd 2048 p) j
      = mul a b i j := (Fin.sum_univ_add (a := 2048) (b := 2048) fun p : Fin 4096 => a i p * b p j).symm

/-- Where a block begins at the origin. -/
theorem z2 : (![0, 0] : Fin 2 → Nat) = fun _ => 0 := funext fun a => by fin_cases a <;> rfl

/-- An index's place in its block of 1024. -/
def lo {n : Nat} (i : Fin n) : Fin 1024 := ⟨i.val % 1024, Nat.mod_lt _ (by decide)⟩

/-- An index of two coordinates is known by their values. -/
theorem at2 {n0 n1 : Nat} {i : (⟨2, ![n0, n1]⟩ : Shape).Idx} {r : Fin n0} {k : Fin n1} (h0 : (i 0).val = r.val) (h1 : (i 1).val = k.val) :
    i = ix2 r k := by
  rw [eq_ix2 i]
  exact congrArg₂ ix2 (Fin.ext h0) (Fin.ext h1)

end Cert.Proj
end
end
-- ==== Proof.ProjIn.lean ====
module

public import proofs.«01_k».proof.Defs
public import proofs.«01_k».proof.Proof.ProjMath
public import proofs.«01_k».proof.Proof.Gen.Kernel5Ideal.Value
public import proofs.«01_k».proof.Proof.Gen.Kernel5Ideal.Skeleton
public import proofs.«01_k».proof.Proof.Gen.Reference5Ideal.Run
public import proofs.«01_k».proof.Proof.Gen.Kernel6Ideal.Value
public import proofs.«01_k».proof.Proof.Gen.Kernel6Ideal.Skeleton
public import proofs.«01_k».proof.Proof.Gen.Reference6Ideal.Run
public import proofs.«01_k».proof.Proof.Gen.Kernel7Ideal.Value
public import proofs.«01_k».proof.Proof.Gen.Kernel7Ideal.Skeleton
public import proofs.«01_k».proof.Proof.Gen.Reference7Ideal.Run

@[expose] public section

set_option maxRecDepth 16384

noncomputable section

namespace Cert.Kernel5Ideal.Proj
open Idealize.ShloMosaic Idealize.ShloMosaic.TcCoe Idealize.ShloMosaic.Tactic
open Cert.Kernel5Ideal.Gen Cert.Proj

/-! # The mixer's input projection -/

/-- What a point leaves in the result's block: the product of its blocks. -/
theorem out_apply (x : Vec Ideal S1024x2048 .bf16) (y : Vec Ideal S2048x1024 .bf16) (r k : Fin 1024) :
    out0_2 x y (ix2 r k) = ∑ p : Fin 2048, x (ix2 r p) * y (ix2 p k) := by
  unfold out0_2
  rw [View.canon_unit_zero z2]
  simp only [View.ld_unit_zero (S := S1024x2048) z2, View.ld_unit_zero (S := S2048x1024) z2]
  unfold k0_pay1
  pointwise

/-- The point that works on element (r, k) of the result, and the blocks it takes. -/
def pt (r : Fin 4096) (k : Fin 3072) : Fin cfg0.N := ⟨3 * (r.val / 1024) + k.val / 1024, lt_of_lt_of_eq (by omega) N_0.symm⟩
theorem index_all : ∀ t : Fin grid0.N, (win0_0.index t 0 = t.val / 3 ∧ win0_0.index t 1 = 0) ∧ (win0_1.index t 0 = 0 ∧ win0_1.index t 1 = t.val % 3)
    ∧ win0_2.index t 0 = t.val / 3 ∧ win0_2.index t 1 = t.val % 3 := by decide +kernel
theorem index_at (r : Fin 4096) (k : Fin 3072) : (win0_0.index (pt r k) 0 = r.val / 1024 ∧ win0_0.index (pt r k) 1 = 0)
    ∧ (win0_1.index (pt r k) 0 = 0 ∧ win0_1.index (pt r k) 1 = k.val / 1024)
    ∧ win0_2.index (pt r k) 0 = r.val / 1024 ∧ win0_2.index (pt r k) 1 = k.val / 1024 := by
  have h := index_all (pt r k)
  have hv : (pt r k).val = 3 * (r.val / 1024) + k.val / 1024 := rfl
  omega

variable (m : (ℓ : Loc nD τ sig) → Buf (Elt Ideal) ℓ) (ρ : Dev nD → PrngReg)

/-- The result array after the run: the product of the arguments. -/
theorem final (c : Dev nD) : (dats m 0 c).arrAt 2 cfg0.N = fun i : S4096x3072.Idx =>
    mul (fun r p => (m ((c.tc : Thread nD τ).loc main_arg0) : S4096x2048.Idx → EReal) (ix2 r p))
      (fun p k => (m ((c.tc : Thread nD τ).loc main_arg1) : S2048x3072.Idx → EReal) (ix2 p k)) (i 0) (i 1) := by
  funext i
  obtain ⟨r, k, rfl⟩ : ∃ (r : Fin 4096) (k : Fin 3072), i = (ix2 r k : S4096x3072.Idx) := ⟨_, _, eq_ix2 (n0 := 4096) (n1 := 3072) i⟩
  have h := congrFun (Value.blocks2 m c (pt r k) (flush0_2 _)) (ix2 (lo r) (lo k))
  rw [Value.flushed2] at h
  have hi := index_at r k
  refine (congrArg ((dats m 0 c).arrAt 2 cfg0.N) (at2 (by show win0_2.index (pt r k) 0 * 1024 + 1 * (r.val % 1024) = r.val; omega)
      (by show win0_2.index (pt r k) 1 * 1024 + 1 * (k.val % 1024) = k.val; omega))).symm.trans
    (h.trans ((out_apply _ _ _ _).trans (Finset.sum_congr rfl fun p _ => congrArg₂ (· * ·) ?_ ?_)))
  · exact (congrArg (V m c main_arg0 : S4096x2048.Idx → EReal) (at2 (by show win0_0.index (pt r k) 0 * 1024 + 1 * (r.val % 1024) = r.val; omega)
      (by show win0_0.index (pt r k) 1 * 2048 + 1 * p.val = p.val; omega))).trans (by rw [V_main_arg0]; rfl)
  · exact (congrArg (V m c main_arg1 : S2048x3072.Idx → EReal) (at2 (by show win0_1.index (pt r k) 0 * 2048 + 1 * p.val = p.val; omega)
      (by show win0_1.index (pt r k) 1 * 1024 + 1 * (k.val % 1024) = k.val; omega))).trans (by rw [V_main_arg1]; rfl)

end Cert.Kernel5Ideal.Proj

namespace Cert.Reference5Ideal.Proj
open Idealize.ShloMosaic Idealize.ShloMosaic.TcCoe Idealize.ShloMosaic.Tactic Cert.Proj

/-- The kernel's result and the reference's are one array, from memories that agree on the arguments. -/
theorem tie : Cert.algebraic_Kernel5Ideal_Reference5Ideal := by
  intro m ρ m' ρ' _ hagree
  refine ⟨_, Cert.Kernel5Ideal.Value.run_blocks (F := Ideal) m ρ, (θ_run Cert.Reference5Ideal.defs _ _).mono (fun _ h c => ⟨(h c).1.trans ?_, (h c).2⟩)
    (Cert.Reference5Ideal.Value.run (F := Ideal) m' ρ')⟩
  rw [(hagree c).1, (hagree c).2, Cert.Kernel5Ideal.Proj.final]
  funext i
  obtain ⟨r, k, rfl⟩ : ∃ (r : Fin 4096) (k : Fin 3072), i = (ix2 r k : S4096x3072.Idx) := ⟨_, _, eq_ix2 (n0 := 4096) (n1 := 3072) i⟩
  unfold mul
  pointwise

end Cert.Reference5Ideal.Proj

namespace Cert.Kernel6Ideal.Proj
open Idealize.ShloMosaic Idealize.ShloMosaic.TcCoe Idealize.ShloMosaic.Tactic
open Cert.Kernel6Ideal.Gen Cert.Proj

/-! # The gradient of its weight -/

/-- What a point leaves in the result's block: the product of its blocks. -/
theorem out_apply (x : Vec Ideal S4096x1024 .bf16) (y : Vec Ideal S4096x1024 .bf16) (r k : Fin 1024) :
    out0_2 x y (ix2 r k) = ∑ p : Fin 4096, x (ix2 p r) * y (ix2 p k) := by
  unfold out0_2
  rw [View.canon_unit_zero z2]
  simp only [View.ld_unit_zero (S := S4096x1024) z2]
  unfold k0_pay1
  pointwise

/-- The point that works on element (r, k) of the result, and the blocks it takes. -/
def pt (r : Fin 3072) (k : Fin 2048) : Fin cfg0.N := ⟨2 * (r.val / 1024) + k.val / 1024, lt_of_lt_of_eq (by omega) N_0.symm⟩
theorem index_all : ∀ t : Fin grid0.N, (win0_0.index t 0 = 0 ∧ win0_0.index t 1 = t.val / 2) ∧ (win0_1.index t 0 = 0 ∧ win0_1.index t 1 = t.val % 2)
    ∧ win0_2.index t 0 = t.val / 2 ∧ win0_2.index t 1 = t.val % 2 := by decide +kernel
theorem index_at (r : Fin 3072) (k : Fin 2048) : (win0_0.index (pt r k) 0 = 0 ∧ win0_0.index (pt r k) 1 = r.val / 1024)
    ∧ (win0_1.index (pt r k) 0 = 0 ∧ win0_1.index (pt r k) 1 = k.val / 1024)
    ∧ win0_2.index (pt r k) 0 = r.val / 1024 ∧ win0_2.index (pt r k) 1 = k.val / 1024 := by
  have h := index_all (pt r k)
  have hv : (pt r k).val = 2 * (r.val / 1024) + k.val / 1024 := rfl
  omega

variable (m : (ℓ : Loc nD τ sig) → Buf (Elt Ideal) ℓ) (ρ : Dev nD → PrngReg)

/-- The result array after the run: the product of the arguments. -/
theorem final (c : Dev nD) : (dats m 0 c).arrAt 2 cfg0.N = fun i : S3072x2048.Idx =>
    mul (fun r p => (m ((c.tc : Thread nD τ).loc main_arg0) : S4096x3072.Idx → EReal) (ix2 p r))
      (fun p k => (m ((c.tc : Thread nD τ).loc main_arg1) : S4096x2048.Idx → EReal) (ix2 p k)) (i 0) (i 1) := by
  funext i
  obtain ⟨r, k, rfl⟩ : ∃ (r : Fin 3072) (k : Fin 2048), i = (ix2 r k : S3072x2048.Idx) := ⟨_, _, eq_ix2 (n0 := 3072) (n1 := 2048) i⟩
  have h := congrFun (Value.blocks2 m c (pt r k) (flush0_2 _)) (ix2 (lo r) (lo k))
  rw [Value.flushed2] at h
  have hi := index_at r k
  refine (congrArg ((dats m 0 c).arrAt 2 cfg0.N) (at2 (by show win0_2.index (pt r k) 0 * 1024 + 1 * (r.val % 1024) = r.val; omega)
      (by show win0_2.index (pt r k) 1 * 1024 + 1 * (k.val % 1024) = k.val; omega))).symm.trans
    (h.trans ((out_apply _ _ _ _).trans (Finset.sum_congr rfl fun p _ => congrArg₂ (· * ·) ?_ ?_)))
  · exact (congrArg (V m c main_arg0 : S4096x3072.Idx → EReal) (at2 (by show win0_0.index (pt r k) 0 * 4096 + 1 * p.val = p.val; omega)
      (by show win0_0.index (pt r k) 1 * 1024 + 1 * (r.val % 1024) = r.val; omega))).trans (by rw [V_main_arg0]; rfl)
  · exact (congrArg (V m c main_arg1 : S4096x2048.Idx → EReal) (at2 (by show win0_1.index (pt r k) 0 * 4096 + 1 * p.val = p.val; omega)
      (by show win0_1.index (pt r k) 1 * 1024 + 1 * (k.val % 1024) = k.val; omega))).trans (by rw [V_main_arg1]; rfl)

end Cert.Kernel6Ideal.Proj

namespace Cert.Reference6Ideal.Proj
open Idealize.ShloMosaic Idealize.ShloMosaic.TcCoe Idealize.ShloMosaic.Tactic Cert.Proj

/-- The kernel's result and the reference's are one array, from memories that agree on the arguments. -/
theorem tie : Cert.algebraic_Kernel6Ideal_Reference6Ideal := by
  intro m ρ m' ρ' _ hagree
  refine ⟨_, Cert.Kernel6Ideal.Value.run_blocks (F := Ideal) m ρ, (θ_run Cert.Reference6Ideal.defs _ _).mono (fun _ h c => ⟨(h c).1.trans ?_, (h c).2⟩)
    (Cert.Reference6Ideal.Value.run (F := Ideal) m' ρ')⟩
  rw [(hagree c).1, (hagree c).2, Cert.Kernel6Ideal.Proj.final]
  funext i
  obtain ⟨r, k, rfl⟩ : ∃ (r : Fin 3072) (k : Fin 2048), i = (ix2 r k : S3072x2048.Idx) := ⟨_, _, eq_ix2 (n0 := 3072) (n1 := 2048) i⟩
  unfold mul
  pointwise

end Cert.Reference6Ideal.Proj

namespace Cert.Kernel7Ideal.Proj
open Idealize.ShloMosaic Idealize.ShloMosaic.TcCoe Idealize.ShloMosaic.Tactic
open Cert.Kernel7Ideal.Gen Cert.Proj

/-! # The gradient of its input -/

/-- What a point leaves in the result's block: the product of its blocks. -/
theorem out_apply (x : Vec Ideal S1024x3072 .bf16) (y : Vec Ideal S1024x3072 .bf16) (r k : Fin 1024) :
    out0_2 x y (ix2 r k) = ∑ p : Fin 3072, x (ix2 r p) * y (ix2 k p) := by
  unfold out0_2
  rw [View.canon_unit_zero z2]
  simp only [View.ld_unit_zero (S := S1024x3072) z2]
  unfold k0_pay1
  pointwise

/-- The point that works on element (r, k) of the result, and the blocks it takes. -/
def pt (r : Fin 4096) (k : Fin 2048) : Fin cfg0.N := ⟨2 * (r.val / 1024) + k.val / 1024, lt_of_lt_of_eq (by omega) N_0.symm⟩
theorem index_all : ∀ t : Fin grid0.N, (win0_0.index t 0 = t.val / 2 ∧ win0_0.index t 1 = 0) ∧ (win0_1.index t 0 = t.val % 2 ∧ win0_1.index t 1 = 0)
    ∧ win0_2.index t 0 = t.val / 2 ∧ win0_2.index t 1 = t.val % 2 := by decide +kernel
theorem index_at (r : Fin 4096) (k : Fin 2048) : (win0_0.index (pt r k) 0 = r.val / 1024 ∧ win0_0.index (pt r k) 1 = 0)
    ∧ (win0_1.index (pt r k) 0 = k.val / 1024 ∧ win0_1.index (pt r k) 1 = 0)
    ∧ win0_2.index (pt r k) 0 = r.val / 1024 ∧ win0_2.index (pt r k) 1 = k.val / 1024 := by
  have h := index_all (pt r k)
  have hv : (pt r k).val = 2 * (r.val / 1024) + k.val / 1024 := rfl
  omega

variable (m : (ℓ : Loc nD τ sig) → Buf (Elt Ideal) ℓ) (ρ : Dev nD → PrngReg)

/-- The result array after the run: the product of the arguments. -/
theorem final (c : Dev nD) : (dats m 0 c).arrAt 2 cfg0.N = fun i : S4096x2048.Idx =>
    mul (fun r p => (m ((c.tc : Thread nD τ).loc main_arg0) : S4096x3072.Idx → EReal) (ix2 r p))
      (fun p k => (m ((c.tc : Thread nD τ).loc main_arg1) : S2048x3072.Idx → EReal) (ix2 k p)) (i 0) (i 1) := by
  funext i
  obtain ⟨r, k, rfl⟩ : ∃ (r : Fin 4096) (k : Fin 2048), i = (ix2 r k : S4096x2048.Idx) := ⟨_, _, eq_ix2 (n0 := 4096) (n1 := 2048) i⟩
  have h := congrFun (Value.blocks2 m c (pt r k) (flush0_2 _)) (ix2 (lo r) (lo k))
  rw [Value.flushed2] at h
  have hi := index_at r k
  refine (congrArg ((dats m 0 c).arrAt 2 cfg0.N) (at2 (by show win0_2.index (pt r k) 0 * 1024 + 1 * (r.val % 1024) = r.val; omega)
      (by show win0_2.index (pt r k) 1 * 1024 + 1 * (k.val % 1024) = k.val; omega))).symm.trans
    (h.trans ((out_apply _ _ _ _).trans (Finset.sum_congr rfl fun p _ => congrArg₂ (· * ·) ?_ ?_)))
  · exact (congrArg (V m c main_arg0 : S4096x3072.Idx → EReal) (at2 (by show win0_0.index (pt r k) 0 * 1024 + 1 * (r.val % 1024) = r.val; omega)
      (by show win0_0.index (pt r k) 1 * 3072 + 1 * p.val = p.val; omega))).trans (by rw [V_main_arg0]; rfl)
  · exact (congrArg (V m c main_arg1 : S2048x3072.Idx → EReal) (at2 (by show win0_1.index (pt r k) 0 * 1024 + 1 * (k.val % 1024) = k.val; omega)
      (by show win0_1.index (pt r k) 1 * 3072 + 1 * p.val = p.val; omega))).trans (by rw [V_main_arg1]; rfl)

end Cert.Kernel7Ideal.Proj

namespace Cert.Reference7Ideal.Proj
open Idealize.ShloMosaic Idealize.ShloMosaic.TcCoe Idealize.ShloMosaic.Tactic Cert.Proj

/-- The kernel's result and the reference's are one array, from memories that agree on the arguments. -/
theorem tie : Cert.algebraic_Kernel7Ideal_Reference7Ideal := by
  intro m ρ m' ρ' _ hagree
  refine ⟨_, Cert.Kernel7Ideal.Value.run_blocks (F := Ideal) m ρ, (θ_run Cert.Reference7Ideal.defs _ _).mono (fun _ h c => ⟨(h c).1.trans ?_, (h c).2⟩)
    (Cert.Reference7Ideal.Value.run (F := Ideal) m' ρ')⟩
  rw [(hagree c).1, (hagree c).2, Cert.Kernel7Ideal.Proj.final]
  funext i
  obtain ⟨r, k, rfl⟩ : ∃ (r : Fin 4096) (k : Fin 2048), i = (ix2 r k : S4096x2048.Idx) := ⟨_, _, eq_ix2 (n0 := 4096) (n1 := 2048) i⟩
  unfold mul
  pointwise

end Cert.Reference7Ideal.Proj
end
end
-- ==== Proof.ProjGate.lean ====
module

public import proofs.«01_k».proof.Defs
public import proofs.«01_k».proof.Proof.ProjMath
public import proofs.«01_k».proof.Proof.Gen.Kernel11Ideal.Value
public import proofs.«01_k».proof.Proof.Gen.Kernel11Ideal.Skeleton
public import proofs.«01_k».proof.Proof.Gen.Reference11Ideal.Run
public import proofs.«01_k».proof.Proof.Gen.Kernel12Ideal.Value
public import proofs.«01_k».proof.Proof.Gen.Kernel12Ideal.Skeleton
public import proofs.«01_k».proof.Proof.Gen.Reference12Ideal.Run
public import proofs.«01_k».proof.Proof.Gen.Kernel13Ideal.Value
public import proofs.«01_k».proof.Proof.Gen.Kernel13Ideal.Skeleton
public import proofs.«01_k».proof.Proof.Gen.Reference13Ideal.Run

@[expose] public section

set_option maxRecDepth 16384

noncomputable section

namespace Cert.Kernel11Ideal.Proj
open Idealize.ShloMosaic Idealize.ShloMosaic.TcCoe Idealize.ShloMosaic.Tactic
open Cert.Kernel11Ideal.Gen Cert.Proj

/-! # The projection of the per-layer embedding's gate -/

/-- What a point leaves in the result's block: the product of its blocks. -/
theorem out_apply (x : Vec Ideal S1024x2048 .bf16) (y : Vec Ideal S2048x1024 .bf16) (r k : Fin 1024) :
    out0_2 x y (ix2 r k) = ∑ p : Fin 2048, x (ix2 r p) * y (ix2 p k) := by
  unfold out0_2
  rw [View.canon_unit_zero z2]
  simp only [View.ld_unit_zero (S := S1024x2048) z2, View.ld_unit_zero (S := S2048x1024) z2]
  unfold k0_pay1
  pointwise

/-- The point that works on element (r, k) of the result, and the blocks it takes. -/
def pt (r : Fin 4096) (k : Fin 2048) : Fin cfg0.N := ⟨2 * (r.val / 1024) + k.val / 1024, lt_of_lt_of_eq (by omega) N_0.symm⟩
theorem index_all : ∀ t : Fin grid0.N, (win0_0.index t 0 = t.val / 2 ∧ win0_0.index t 1 = 0) ∧ (win0_1.index t 0 = 0 ∧ win0_1.index t 1 = t.val % 2)
    ∧ win0_2.index t 0 = t.val / 2 ∧ win0_2.index t 1 = t.val % 2 := by decide +kernel
theorem index_at (r : Fin 4096) (k : Fin 2048) : (win0_0.index (pt r k) 0 = r.val / 1024 ∧ win0_0.index (pt r k) 1 = 0)
    ∧ (win0_1.index (pt r k) 0 = 0 ∧ win0_1.index (pt r k) 1 = k.val / 1024)
    ∧ win0_2.index (pt r k) 0 = r.val / 1024 ∧ win0_2.index (pt r k) 1 = k.val / 1024 := by
  have h := index_all (pt r k)
  have hv : (pt r k).val = 2 * (r.val / 1024) + k.val / 1024 := rfl
  omega

variable (m : (ℓ : Loc nD τ sig) → Buf (Elt Ideal) ℓ) (ρ : Dev nD → PrngReg)

/-- The result array after the run: the product of the arguments. -/
theorem final (c : Dev nD) : (dats m 0 c).arrAt 2 cfg0.N = fun i : S4096x2048.Idx =>
    mul (fun r p => (m ((c.tc : Thread nD τ).loc main_arg0) : S4096x2048.Idx → EReal) (ix2 r p))
      (fun p k => (m ((c.tc : Thread nD τ).loc main_arg1) : S2048x2048.Idx → EReal) (ix2 p k)) (i 0) (i 1) := by
  funext i
  obtain ⟨r, k, rfl⟩ : ∃ (r : Fin 4096) (k : Fin 2048), i = (ix2 r k : S4096x2048.Idx) := ⟨_, _, eq_ix2 (n0 := 4096) (n1 := 2048) i⟩
  have h := congrFun (Value.blocks2 m c (pt r k) (flush0_2 _)) (ix2 (lo r) (lo k))
  rw [Value.flushed2] at h
  have hi := index_at r k
  refine (congrArg ((dats m 0 c).arrAt 2 cfg0.N) (at2 (by show win0_2.index (pt r k) 0 * 1024 + 1 * (r.val % 1024) = r.val; omega)
      (by show win0_2.index (pt r k) 1 * 1024 + 1 * (k.val % 1024) = k.val; omega))).symm.trans
    (h.trans ((out_apply _ _ _ _).trans (Finset.sum_congr rfl fun p _ => congrArg₂ (· * ·) ?_ ?_)))
  · exact (congrArg (V m c main_arg0 : S4096x2048.Idx → EReal) (at2 (by show win0_0.index (pt r k) 0 * 1024 + 1 * (r.val % 1024) = r.val; omega)
      (by show win0_0.index (pt r k) 1 * 2048 + 1 * p.val = p.val; omega))).trans (by rw [V_main_arg0]; rfl)
  · exact (congrArg (V m c main_arg1 : S2048x2048.Idx → EReal) (at2 (by show win0_1.index (pt r k) 0 * 2048 + 1 * p.val = p.val; omega)
      (by show win0_1.index (pt r k) 1 * 1024 + 1 * (k.val % 1024) = k.val; omega))).trans (by rw [V_main_arg1]; rfl)

end Cert.Kernel11Ideal.Proj

namespace Cert.Reference11Ideal.Proj
open Idealize.ShloMosaic Idealize.ShloMosaic.TcCoe Idealize.ShloMosaic.Tactic Cert.Proj

/-- The kernel's result and the reference's are one array, from memories that agree on the arguments. -/
theorem tie : Cert.algebraic_Kernel11Ideal_Reference11Ideal := by
  intro m ρ m' ρ' _ hagree
  refine ⟨_, Cert.Kernel11Ideal.Value.run_blocks (F := Ideal) m ρ, (θ_run Cert.Reference11Ideal.defs _ _).mono (fun _ h c => ⟨(h c).1.trans ?_, (h c).2⟩)
    (Cert.Reference11Ideal.Value.run (F := Ideal) m' ρ')⟩
  rw [(hagree c).1, (hagree c).2, Cert.Kernel11Ideal.Proj.final]
  funext i
  obtain ⟨r, k, rfl⟩ : ∃ (r : Fin 4096) (k : Fin 2048), i = (ix2 r k : S4096x2048.Idx) := ⟨_, _, eq_ix2 (n0 := 4096) (n1 := 2048) i⟩
  unfold mul
  pointwise

end Cert.Reference11Ideal.Proj

namespace Cert.Kernel12Ideal.Proj
open Idealize.ShloMosaic Idealize.ShloMosaic.TcCoe Idealize.ShloMosaic.Tactic
open Cert.Kernel12Ideal.Gen Cert.Proj

/-! # The gradient of its weight -/

/-- What a point leaves in the result's block: the product of its blocks. -/
theorem out_apply (x : Vec Ideal S4096x1024 .bf16) (y : Vec Ideal S4096x1024 .bf16) (r k : Fin 1024) :
    out0_2 x y (ix2 r k) = ∑ p : Fin 4096, x (ix2 p r) * y (ix2 p k) := by
  unfold out0_2
  rw [View.canon_unit_zero z2]
  simp only [View.ld_unit_zero (S := S4096x1024) z2]
  unfold k0_pay1
  pointwise

/-- The point that works on element (r, k) of the result, and the blocks it takes. -/
def pt (r : Fin 2048) (k : Fin 2048) : Fin cfg0.N := ⟨2 * (r.val / 1024) + k.val / 1024, lt_of_lt_of_eq (by omega) N_0.symm⟩
theorem index_all : ∀ t : Fin grid0.N, (win0_0.index t 0 = 0 ∧ win0_0.index t 1 = t.val / 2) ∧ (win0_1.index t 0 = 0 ∧ win0_1.index t 1 = t.val % 2)
    ∧ win0_2.index t 0 = t.val / 2 ∧ win0_2.index t 1 = t.val % 2 := by decide +kernel
theorem index_at (r : Fin 2048) (k : Fin 2048) : (win0_0.index (pt r k) 0 = 0 ∧ win0_0.index (pt r k) 1 = r.val / 1024)
    ∧ (win0_1.index (pt r k) 0 = 0 ∧ win0_1.index (pt r k) 1 = k.val / 1024)
    ∧ win0_2.index (pt r k) 0 = r.val / 1024 ∧ win0_2.index (pt r k) 1 = k.val / 1024 := by
  have h := index_all (pt r k)
  have hv : (pt r k).val = 2 * (r.val / 1024) + k.val / 1024 := rfl
  omega

variable (m : (ℓ : Loc nD τ sig) → Buf (Elt Ideal) ℓ) (ρ : Dev nD → PrngReg)

/-- The result array after the run: the product of the arguments. -/
theorem final (c : Dev nD) : (dats m 0 c).arrAt 2 cfg0.N = fun i : S2048x2048.Idx =>
    mul (fun r p => (m ((c.tc : Thread nD τ).loc main_arg0) : S4096x2048.Idx → EReal) (ix2 p r))
      (fun p k => (m ((c.tc : Thread nD τ).loc main_arg1) : S4096x2048.Idx → EReal) (ix2 p k)) (i 0) (i 1) := by
  funext i
  obtain ⟨r, k, rfl⟩ : ∃ (r : Fin 2048) (k : Fin 2048), i = (ix2 r k : S2048x2048.Idx) := ⟨_, _, eq_ix2 (n0 := 2048) (n1 := 2048) i⟩
  have h := congrFun (Value.blocks2 m c (pt r k) (flush0_2 _)) (ix2 (lo r) (lo k))
  rw [Value.flushed2] at h
  have hi := index_at r k
  refine (congrArg ((dats m 0 c).arrAt 2 cfg0.N) (at2 (by show win0_2.index (pt r k) 0 * 1024 + 1 * (r.val % 1024) = r.val; omega)
      (by show win0_2.index (pt r k) 1 * 1024 + 1 * (k.val % 1024) = k.val; omega))).symm.trans
    (h.trans ((out_apply _ _ _ _).trans (Finset.sum_congr rfl fun p _ => congrArg₂ (· * ·) ?_ ?_)))
  · exact (congrArg (V m c main_arg0 : S4096x2048.Idx → EReal) (at2 (by show win0_0.index (pt r k) 0 * 4096 + 1 * p.val = p.val; omega)
      (by show win0_0.index (pt r k) 1 * 1024 + 1 * (r.val % 1024) = r.val; omega))).trans (by rw [V_main_arg0]; rfl)
  · exact (congrArg (V m c main_arg1 : S4096x2048.Idx → EReal) (at2 (by show win0_1.index (pt r k) 0 * 4096 + 1 * p.val = p.val; omega)
      (by show win0_1.index (pt r k) 1 * 1024 + 1 * (k.val % 1024) = k.val; omega))).trans (by rw [V_main_arg1]; rfl)

end Cert.Kernel12Ideal.Proj

namespace Cert.Reference12Ideal.Proj
open Idealize.ShloMosaic Idealize.ShloMosaic.TcCoe Idealize.ShloMosaic.Tactic Cert.Proj

/-- The kernel's result and the reference's are one array, from memories that agree on the arguments. -/
theorem tie : Cert.algebraic_Kernel12Ideal_Reference12Ideal := by
  intro m ρ m' ρ' _ hagree
  refine ⟨_, Cert.Kernel12Ideal.Value.run_blocks (F := Ideal) m ρ, (θ_run Cert.Reference12Ideal.defs _ _).mono (fun _ h c => ⟨(h c).1.trans ?_, (h c).2⟩)
    (Cert.Reference12Ideal.Value.run (F := Ideal) m' ρ')⟩
  rw [(hagree c).1, (hagree c).2, Cert.Kernel12Ideal.Proj.final]
  funext i
  obtain ⟨r, k, rfl⟩ : ∃ (r : Fin 2048) (k : Fin 2048), i = (ix2 r k : S2048x2048.Idx) := ⟨_, _, eq_ix2 (n0 := 2048) (n1 := 2048) i⟩
  unfold mul
  pointwise
  exact Finset.sum_congr rfl fun _ _ => mul_comm (_ : EReal) _

end Cert.Reference12Ideal.Proj

namespace Cert.Kernel13Ideal.Proj
open Idealize.ShloMosaic Idealize.ShloMosaic.TcCoe Idealize.ShloMosaic.Tactic
open Cert.Kernel13Ideal.Gen Cert.Proj

/-! # The gradient of its input -/

/-- What a point leaves in the result's block: the product of its blocks. -/
theorem out_apply (x : Vec Ideal S1024x2048 .bf16) (y : Vec Ideal S1024x2048 .bf16) (r k : Fin 1024) :
    out0_2 x y (ix2 r k) = ∑ p : Fin 2048, x (ix2 r p) * y (ix2 k p) := by
  unfold out0_2
  rw [View.canon_unit_zero z2]
  simp only [View.ld_unit_zero (S := S1024x2048) z2]
  unfold k0_pay1
  pointwise

/-- The point that works on element (r, k) of the result, and the blocks it takes. -/
def pt (r : Fin 4096) (k : Fin 2048) : Fin cfg0.N := ⟨2 * (r.val / 1024) + k.val / 1024, lt_of_lt_of_eq (by omega) N_0.symm⟩
theorem index_all : ∀ t : Fin grid0.N, (win0_0.index t 0 = t.val / 2 ∧ win0_0.index t 1 = 0) ∧ (win0_1.index t 0 = t.val % 2 ∧ win0_1.index t 1 = 0)
    ∧ win0_2.index t 0 = t.val / 2 ∧ win0_2.index t 1 = t.val % 2 := by decide +kernel
theorem index_at (r : Fin 4096) (k : Fin 2048) : (win0_0.index (pt r k) 0 = r.val / 1024 ∧ win0_0.index (pt r k) 1 = 0)
    ∧ (win0_1.index (pt r k) 0 = k.val / 1024 ∧ win0_1.index (pt r k) 1 = 0)
    ∧ win0_2.index (pt r k) 0 = r.val / 1024 ∧ win0_2.index (pt r k) 1 = k.val / 1024 := by
  have h := index_all (pt r k)
  have hv : (pt r k).val = 2 * (r.val / 1024) + k.val / 1024 := rfl
  omega

variable (m : (ℓ : Loc nD τ sig) → Buf (Elt Ideal) ℓ) (ρ : Dev nD → PrngReg)

/-- The result array after the run: the product of the arguments. -/
theorem final (c : Dev nD) : (dats m 0 c).arrAt 2 cfg0.N = fun i : S4096x2048.Idx =>
    mul (fun r p => (m ((c.tc : Thread nD τ).loc main_arg0) : S4096x2048.Idx → EReal) (ix2 r p))
      (fun p k => (m ((c.tc : Thread nD τ).loc main_arg1) : S2048x2048.Idx → EReal) (ix2 k p)) (i 0) (i 1) := by
  funext i
  obtain ⟨r, k, rfl⟩ : ∃ (r : Fin 4096) (k : Fin 2048), i = (ix2 r k : S4096x2048.Idx) := ⟨_, _, eq_ix2 (n0 := 4096) (n1 := 2048) i⟩
  have h := congrFun (Value.blocks2 m c (pt r k) (flush0_2 _)) (ix2 (lo r) (lo k))
  rw [Value.flushed2] at h
  have hi := index_at r k
  refine (congrArg ((dats m 0 c).arrAt 2 cfg0.N) (at2 (by show win0_2.index (pt r k) 0 * 1024 + 1 * (r.val % 1024) = r.val; omega)
      (by show win0_2.index (pt r k) 1 * 1024 + 1 * (k.val % 1024) = k.val; omega))).symm.trans
    (h.trans ((out_apply _ _ _ _).trans (Finset.sum_congr rfl fun p _ => congrArg₂ (· * ·) ?_ ?_)))
  · exact (congrArg (V m c main_arg0 : S4096x2048.Idx → EReal) (at2 (by show win0_0.index (pt r k) 0 * 1024 + 1 * (r.val % 1024) = r.val; omega)
      (by show win0_0.index (pt r k) 1 * 2048 + 1 * p.val = p.val; omega))).trans (by rw [V_main_arg0]; rfl)
  · exact (congrArg (V m c main_arg1 : S2048x2048.Idx → EReal) (at2 (by show win0_1.index (pt r k) 0 * 1024 + 1 * (k.val % 1024) = k.val; omega)
      (by show win0_1.index (pt r k) 1 * 2048 + 1 * p.val = p.val; omega))).trans (by rw [V_main_arg1]; rfl)

end Cert.Kernel13Ideal.Proj

namespace Cert.Reference13Ideal.Proj
open Idealize.ShloMosaic Idealize.ShloMosaic.TcCoe Idealize.ShloMosaic.Tactic Cert.Proj

/-- The kernel's result and the reference's are one array, from memories that agree on the arguments. -/
theorem tie : Cert.algebraic_Kernel13Ideal_Reference13Ideal := by
  intro m ρ m' ρ' _ hagree
  refine ⟨_, Cert.Kernel13Ideal.Value.run_blocks (F := Ideal) m ρ, (θ_run Cert.Reference13Ideal.defs _ _).mono (fun _ h c => ⟨(h c).1.trans ?_, (h c).2⟩)
    (Cert.Reference13Ideal.Value.run (F := Ideal) m' ρ')⟩
  rw [(hagree c).1, (hagree c).2, Cert.Kernel13Ideal.Proj.final]
  funext i
  obtain ⟨r, k, rfl⟩ : ∃ (r : Fin 4096) (k : Fin 2048), i = (ix2 r k : S4096x2048.Idx) := ⟨_, _, eq_ix2 (n0 := 4096) (n1 := 2048) i⟩
  unfold mul
  pointwise

end Cert.Reference13Ideal.Proj
end
end
-- ==== Proof.ProjOut.lean ====
module

public import proofs.«01_k».proof.Defs
public import proofs.«01_k».proof.Proof.ProjMath
public import proofs.«01_k».proof.Proof.ProjGate
public import proofs.«01_k».proof.Proof.Gen.Kernel8Ideal.Value
public import proofs.«01_k».proof.Proof.Gen.Kernel8Ideal.Skeleton
public import proofs.«01_k».proof.Proof.Gen.Reference8Ideal.Run
public import proofs.«01_k».proof.Proof.Gen.Kernel9Ideal.Value
public import proofs.«01_k».proof.Proof.Gen.Kernel9Ideal.Skeleton
public import proofs.«01_k».proof.Proof.Gen.Reference9Ideal.Run
public import proofs.«01_k».proof.Proof.Gen.Kernel10Ideal.Value
public import proofs.«01_k».proof.Proof.Gen.Kernel10Ideal.Skeleton
public import proofs.«01_k».proof.Proof.Gen.Reference10Ideal.Run

@[expose] public section

set_option maxRecDepth 16384

noncomputable section

namespace Cert.Kernel8Ideal.Proj
open Idealize.ShloMosaic Idealize.ShloMosaic.TcCoe Idealize.ShloMosaic.Tactic
open Cert.Kernel8Ideal.Gen Cert.Proj

/-! # The mixer's output projection -/

/-- What a point leaves in the result's block: the product of its blocks, added to the residual's. -/
theorem out_apply (x : Vec Ideal S1024x2048 .bf16) (y : Vec Ideal S2048x1024 .bf16) (h : Vec Ideal S1024x1024 .f32) (r k : Fin 1024) :
    out0_3 x y h (ix2 r k) = h (ix2 r k) + ∑ p : Fin 2048, x (ix2 r p) * y (ix2 p k) := by
  unfold out0_3
  rw [View.canon_unit_zero z2]
  simp only [View.ld_unit_zero (S := S1024x2048) z2, View.ld_unit_zero (S := S2048x1024) z2, View.ld_unit_zero (S := S1024x1024) z2]
  unfold k0_pay1
  pointwise

/-- The point that works on element (r, k) of the result, and the blocks it takes: as in the projection above. -/
abbrev pt (r : Fin 4096) (k : Fin 2048) : Fin cfg0.N := Cert.Kernel11Ideal.Proj.pt r k
theorem index_at (r : Fin 4096) (k : Fin 2048) : (win0_0.index (pt r k) 0 = r.val / 1024 ∧ win0_0.index (pt r k) 1 = 0)
    ∧ (win0_1.index (pt r k) 0 = 0 ∧ win0_1.index (pt r k) 1 = k.val / 1024)
    ∧ win0_3.index (pt r k) 0 = r.val / 1024 ∧ win0_3.index (pt r k) 1 = k.val / 1024 := Cert.Kernel11Ideal.Proj.index_at r k
theorem index_res (r : Fin 4096) (k : Fin 2048) : win0_2.index (pt r k) 0 = r.val / 1024 ∧ win0_2.index (pt r k) 1 = k.val / 1024 :=
  (index_at r k).2.2

variable (m : (ℓ : Loc nD τ sig) → Buf (Elt Ideal) ℓ) (ρ : Dev nD → PrngReg)

/-- The result array after the run: the residual and the product of the arguments. -/
theorem final (c : Dev nD) : (dats m 0 c).arrAt 3 cfg0.N = fun i : S4096x2048.Idx =>
    addMul (fun r k => (m ((c.tc : Thread nD τ).loc main_arg2) : S4096x2048.Idx → EReal) (ix2 r k))
      (fun r p => (m ((c.tc : Thread nD τ).loc main_arg0) : S4096x2048.Idx → EReal) (ix2 r p))
      (fun p k => (m ((c.tc : Thread nD τ).loc main_arg1) : S2048x2048.Idx → EReal) (ix2 p k)) (i 0) (i 1) := by
  funext i
  obtain ⟨r, k, rfl⟩ : ∃ (r : Fin 4096) (k : Fin 2048), i = (ix2 r k : S4096x2048.Idx) := ⟨_, _, eq_ix2 (n0 := 4096) (n1 := 2048) i⟩
  have h := congrFun (Value.blocks3 m c (pt r k) (flush0_3 _)) (ix2 (lo r) (lo k))
  rw [Value.flushed3] at h
  have hi := index_at r k
  refine (congrArg ((dats m 0 c).arrAt 3 cfg0.N) (at2 (by show win0_3.index (pt r k) 0 * 1024 + 1 * (r.val % 1024) = r.val; omega)
      (by show win0_3.index (pt r k) 1 * 1024 + 1 * (k.val % 1024) = k.val; omega))).symm.trans
    (h.trans ((out_apply _ _ _ _ _).trans (congrArg₂ (· + ·) ?_ (Finset.sum_congr rfl fun p _ => congrArg₂ (· * ·) ?_ ?_))))
  · have hr := index_res r k
    exact (congrArg (V m c main_arg2 : S4096x2048.Idx → EReal) (at2 (by show win0_2.index (pt r k) 0 * 1024 + 1 * (r.val % 1024) = r.val; omega)
      (by show win0_2.index (pt r k) 1 * 1024 + 1 * (k.val % 1024) = k.val; omega))).trans (by rw [V_main_arg2]; rfl)
  · exact (congrArg (V m c main_arg0 : S4096x2048.Idx → EReal) (at2 (by show win0_0.index (pt r k) 0 * 1024 + 1 * (r.val % 1024) = r.val; omega)
      (by show win0_0.index (pt r k) 1 * 2048 + 1 * p.val = p.val; omega))).trans (by rw [V_main_arg0]; rfl)
  · exact (congrArg (V m c main_arg1 : S2048x2048.Idx → EReal) (at2 (by show win0_1.index (pt r k) 0 * 2048 + 1 * p.val = p.val; omega)
      (by show win0_1.index (pt r k) 1 * 1024 + 1 * (k.val % 1024) = k.val; omega))).trans (by rw [V_main_arg1]; rfl)

end Cert.Kernel8Ideal.Proj

namespace Cert.Reference8Ideal.Proj
open Idealize.ShloMosaic Idealize.ShloMosaic.TcCoe Idealize.ShloMosaic.Tactic Cert.Proj

/-- The kernel's result and the reference's are one array, from memories that agree on the arguments. -/
theorem tie : Cert.algebraic_Kernel8Ideal_Reference8Ideal := by
  intro m ρ m' ρ' _ hagree
  refine ⟨_, Cert.Kernel8Ideal.Value.run_blocks (F := Ideal) m ρ, (θ_run Cert.Reference8Ideal.defs _ _).mono (fun _ h c => ⟨(h c).1.trans ?_, (h c).2⟩)
    (Cert.Reference8Ideal.Value.run (F := Ideal) m' ρ')⟩
  rw [(hagree c).1, (hagree c).2.1, (hagree c).2.2, Cert.Kernel8Ideal.Proj.final]
  funext i
  obtain ⟨r, k, rfl⟩ : ∃ (r : Fin 4096) (k : Fin 2048), i = (ix2 r k : S4096x2048.Idx) := ⟨_, _, eq_ix2 (n0 := 4096) (n1 := 2048) i⟩
  unfold addMul mul
  pointwise

end Cert.Reference8Ideal.Proj

namespace Cert.Kernel9Ideal.Proj
open Idealize.ShloMosaic Idealize.ShloMosaic.TcCoe Idealize.ShloMosaic.Tactic
open Cert.Kernel9Ideal.Gen Cert.Proj

/-! # The gradient of its weight, in two steps over the rows -/

section
variable {F : FTy → Type} [FloatOps F]
variable (c : Dev nD) (i : grid0.Coords) (a3 : Memref sig .tc .vmem S2048x1024 .bf16) (h3 : a3.IsWhole)
  (a4 : Memref sig .tc .vmem S2048x1024 .f32) (h4 : a4.IsWhole) (a5 : Memref sig .tc .vmem S1024x1024 .bf16) (h5 : a5.IsWhole)
  (a6 : Memref sig .tc .vmem S1024x1024 .f32) (h6 : a6.IsWhole)

/-- The first step of a block leaves the product of its rows in the accumulator. -/
theorem acc_first (hc0 : cond0_0 i) (hc1 : ¬cond0_1 i) (hc2 : ¬cond0_2 i) (x : Vec F S2048x1024 .bf16) (y : Vec F S2048x1024 .f32) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero z2]
  unfold k0_pay2
  simp only [View.readAt_eq_ld, h3.read_unread, h4.read_unread, View.ld_unit_zero (S := S2048x1024) z2, shapeCast_self]

/-- The second adds the product of its rows and leaves the sum in the result's block. -/
theorem out_last (hc0 : ¬cond0_0 i) (hc1 : cond0_1 i) (hc2 : cond0_2 i) (x : Vec F S2048x1024 .bf16) (y : Vec F S2048x1024 .f32)
    (s : Vec F S1024x1024 .f32) :
    out0_B_2 c i a3 h3 a4 h4 a5 h5 a6 h6 hc0 hc1 hc2 x y s = k0_pay4 (addf s (k0_pay1 x y)) := by
  unfold out0_B_2
  rw [View.read_writes_eq_canon _ _ _ (cover0_B_2 c i a3 h3 a4 h4 a5 h5 a6 h6 hc0 hc1 hc2 x y s)]
  unfold kernelRun0_B
  dsimp only
  sl_unfold_words
  rw [View.canon_unit_zero z2, View.readCov_unit_zero (S := S1024x1024) _ z2]
  unfold k0_pay3
  simp only [View.readAt_eq_ld, h3.read_unread, h4.read_unread, h6.read_unread, View.ld_unit_zero (S := S2048x1024) z2,
    View.ld_unit_zero (S := S1024x1024) z2, shapeCast_self]
end

theorem pay1_apply (x : Vec Ideal S2048x1024 .bf16) (y : Vec Ideal S2048x1024 .f32) (r k : Fin 1024) :
    k0_pay1 x y (ix2 r k) = ∑ p : Fin 2048, x (ix2 p r) * y (ix2 p k) := by
  unfold k0_pay1
  pointwise

/-- The two points that work on element (r, k) of the result, and the blocks they take. -/
def pt (b : Fin 2) (r k : Fin 2048) : Fin cfg0.N := ⟨4 * (r.val / 1024) + 2 * (k.val / 1024) + b.val, lt_of_lt_of_eq (by omega) N_0.symm⟩
theorem index_all : ∀ t : Fin grid0.N, (win0_0.index t 0 = t.val % 2 ∧ win0_0.index t 1 = t.val / 4)
    ∧ win0_1.index t 0 = t.val % 2 ∧ win0_1.index t 1 = t.val / 2 % 2 := by decide +kernel
theorem index_at (b : Fin 2) (r k : Fin 2048) : (win0_0.index (pt b r k) 0 = b.val ∧ win0_0.index (pt b r k) 1 = r.val / 1024)
    ∧ win0_1.index (pt b r k) 0 = b.val ∧ win0_1.index (pt b r k) 1 = k.val / 1024 := by
  have h := index_all (pt b r k)
  have hv : (pt b r k).val = 4 * (r.val / 1024) + 2 * (k.val / 1024) + b.val := rfl
  omega

variable (m : (ℓ : Loc nD τ sig) → Buf (Elt Ideal) ℓ) (ρ : Dev nD → PrngReg)

/-- The arrays the kernel multiplies, and the rows of a half. -/
def aA (c : Dev nD) (r : Fin 2048) (p : Fin 4096) : EReal := (m ((c.tc : Thread nD τ).loc main_arg0) : S4096x2048.Idx → EReal) (ix2 p r)
def aB (c : Dev nD) (p : Fin 4096) (k : Fin 2048) : EReal := (m ((c.tc : Thread nD τ).loc main_arg1) : S4096x2048.Idx → EReal) (ix2 p k)
def row (b : Fin 2) (p : Fin 2048) : Fin 4096 := ⟨2048 * b.val + p.val, by omega⟩

/-- The product of a point's blocks: the sum over the rows of its half. -/
theorem part (c : Dev nD) (b : Fin 2) (r k : Fin 2048) :
    k0_pay1 (iblk m c 0 (pt b r k)) (iblk m c 1 (pt b r k)) (ix2 (lo r) (lo k)) = ∑ p : Fin 2048, aA m c r (row b p) * aB m c (row b p) k := by
  have hi := index_at b r k
  refine (pay1_apply _ _ _ _).trans (Finset.sum_congr rfl fun p _ => congrArg₂ (· * ·) ?_ ?_)
  · exact (congrArg (V m c main_arg0 : S4096x2048.Idx → EReal)
      (at2 (k := r) (r := row b p) (by show win0_0.index (pt b r k) 0 * 2048 + 1 * p.val = 2048 * b.val + p.val; omega)
        (by show win0_0.index (pt b r k) 1 * 1024 + 1 * (r.val % 1024) = r.val; omega))).trans (by rw [V_main_arg0]; rfl)
  · exact (congrArg (V m c main_arg1 : S4096x2048.Idx → EReal)
      (at2 (k := k) (r := row b p) (by show win0_1.index (pt b r k) 0 * 2048 + 1 * p.val = 2048 * b.val + p.val; omega)
        (by show win0_1.index (pt b r k) 1 * 1024 + 1 * (k.val % 1024) = k.val; omega))).trans (by rw [V_main_arg1]; rfl)

/-- What the second point leaves in the result's block. -/
theorem out_apply (c : Dev nD) (r k : Fin 2048) :
    (outsAt0 m c (pt 1 r k).val (pt 1 r k).isLt).1 (ix2 (lo r) (lo k)) = mul (aA m c) (aB m c) r k := by
  have hv : ∀ b : Fin 2, (pt b r k).val = 4 * (r.val / 1024) + 2 * (k.val / 1024) + b.val := fun _ => rfl
  have h0 := hv 0
  have h1 := hv 1
  rw [Fin.val_zero] at h0
  rw [Fin.val_one] at h1
  rw [outsAt0_B m c (pt 1 r k) (by omega) (by omega) (by omega)]
  dsimp only
  rw [out_last]
  have hA : (outsAt0 m c ((pt 1 r k).val - 1) (Nat.lt_of_le_of_lt (Nat.sub_le _ _) (pt 1 r k).isLt)).2
      = k0_pay1 (iblk m c 0 (pt 0 r k)) (iblk m c 1 (pt 0 r k)) :=
    (congrArg Prod.snd (outsAt0_A m c (pt 0 r k) (by omega) (by omega) (by omega))).trans (by dsimp only; rw [acc_first])
  rw [hA]
  show k0_pay1 (iblk m c 0 (pt 0 r k)) (iblk m c 1 (pt 0 r k)) (ix2 (lo r) (lo k))
    + k0_pay1 (iblk m c 0 (pt 1 r k)) (iblk m c 1 (pt 1 r k)) (ix2 (lo r) (lo k)) = _
  rw [part, part, ← mul_halves]
  have e0 : ∀ p : Fin 2048, row 0 p = Fin.castAdd 2048 p := fun p => Fin.ext (by show 2048 * 0 + p.val = p.val; omega)
  have e1 : ∀ p : Fin 2048, row 1 p = Fin.natAdd 2048 p := fun p => Fin.ext (by show 2048 * 1 + p.val = 2048 + p.val; omega)
  simp only [e0, e1]

/-- The result array after the run: the product of the arguments. -/
theorem final (c : Dev nD) : Value.G2 m c = fun i : S2048x2048.Idx => mul (aA m c) (aB m c) (i 0) (i 1) := by
  funext i
  obtain ⟨r, k, rfl⟩ : ∃ r k : Fin 2048, i = (ix2 r k : S2048x2048.Idx) := ⟨_, _, eq_ix2 (n0 := 2048) (n1 := 2048) i⟩
  have hp : Value.pt2Of (ix2 r k : S2048x2048.Idx) = (pt 1 r k).val := by
    show 2 * (2 * (r.val / 1024 - 0) + 1 * (k.val / 1024 - 0)) + 1 = 4 * (r.val / 1024) + 2 * (k.val / 1024) + 1
    omega
  have hl : Value.loc2Of (ix2 r k : S2048x2048.Idx) = ix2 (lo r) (lo k) := at2 rfl rfl
  unfold Value.G2
  rw [dif_pos (by rw [hp]; exact (pt 1 r k).isLt), Value.fold0_congr m c _ _ (pt 1 r k).val (by rw [Nat.zero_add]; exact (pt 1 r k).isLt) hp,
    ← Value.outsAt0_sweep, hl]
  exact out_apply m c r k

end Cert.Kernel9Ideal.Proj

namespace Cert.Reference9Ideal.Proj
open Idealize.ShloMosaic Idealize.ShloMosaic.TcCoe Idealize.ShloMosaic.Tactic Cert.Proj

/-- The kernel's result and the reference's are one array, from memories that agree on the arguments. -/
theorem tie : Cert.algebraic_Kernel9Ideal_Reference9Ideal := by
  intro m ρ m' ρ' _ hagree
  refine ⟨_, Cert.Kernel9Ideal.Value.run (F := Ideal) m ρ, (θ_run Cert.Reference9Ideal.defs _ _).mono (fun _ h c => ⟨(h c).1.trans ?_, (h c).2⟩)
    (Cert.Reference9Ideal.Value.run (F := Ideal) m' ρ')⟩
  rw [(hagree c).1, (hagree c).2, Cert.Kernel9Ideal.Proj.final]
  funext i
  obtain ⟨r, k, rfl⟩ : ∃ r k : Fin 2048, i = (ix2 r k : S2048x2048.Idx) := ⟨_, _, eq_ix2 (n0 := 2048) (n1 := 2048) i⟩
  unfold mul Cert.Kernel9Ideal.Proj.aA Cert.Kernel9Ideal.Proj.aB
  pointwise
  exact Finset.sum_congr rfl fun _ _ => mul_comm (_ : EReal) _

end Cert.Reference9Ideal.Proj

namespace Cert.Kernel10Ideal.Proj
open Idealize.ShloMosaic Idealize.ShloMosaic.TcCoe Idealize.ShloMosaic.Tactic
open Cert.Kernel10Ideal.Gen Cert.Proj

/-! # The gradient of its input -/

/-- What a point leaves in the result's block: the product of its blocks. -/
theorem out_apply (x : Vec Ideal S1024x2048 .f32) (y : Vec Ideal S1024x2048 .bf16) (r k : Fin 1024) :
    out0_2 x y (ix2 r k) = ∑ p : Fin 2048, x (ix2 r p) * y (ix2 k p) := by
  unfold out0_2
  rw [View.canon_unit_zero z2]
  simp only [View.ld_unit_zero (S := S1024x2048) z2]
  unfold k0_pay1
  pointwise

/-- The point that works on element (r, k) of the result, and the blocks it takes: as in the projection above. -/
abbrev pt (r : Fin 4096) (k : Fin 2048) : Fin cfg0.N := Cert.Kernel13Ideal.Proj.pt r k
theorem index_at (r : Fin 4096) (k : Fin 2048) : (win0_0.index (pt r k) 0 = r.val / 1024 ∧ win0_0.index (pt r k) 1 = 0)
    ∧ (win0_1.index (pt r k) 0 = k.val / 1024 ∧ win0_1.index (pt r k) 1 = 0)
    ∧ win0_2.index (pt r k) 0 = r.val / 1024 ∧ win0_2.index (pt r k) 1 = k.val / 1024 := Cert.Kernel13Ideal.Proj.index_at r k

variable (m : (ℓ : Loc nD τ sig) → Buf (Elt Ideal) ℓ) (ρ : Dev nD → PrngReg)

/-- The result array after the run: the product of the arguments. -/
theorem final (c : Dev nD) : (dats m 0 c).arrAt 2 cfg0.N = fun i : S4096x2048.Idx =>
    mul (fun r p => (m ((c.tc : Thread nD τ).loc main_arg0) : S4096x2048.Idx → EReal) (ix2 r p))
      (fun p k => (m ((c.tc : Thread nD τ).loc main_arg1) : S2048x2048.Idx → EReal) (ix2 k p)) (i 0) (i 1) := by
  funext i
  obtain ⟨r, k, rfl⟩ : ∃ (r : Fin 4096) (k : Fin 2048), i = (ix2 r k : S4096x2048.Idx) := ⟨_, _, eq_ix2 (n0 := 4096) (n1 := 2048) i⟩
  have h := congrFun (Value.blocks2 m c (pt r k) (flush0_2 _)) (ix2 (lo r) (lo k))
  rw [Value.flushed2] at h
  have hi := index_at r k
  refine (congrArg ((dats m 0 c).arrAt 2 cfg0.N) (at2 (by show win0_2.index (pt r k) 0 * 1024 + 1 * (r.val % 1024) = r.val; omega)
      (by show win0_2.index (pt r k) 1 * 1024 + 1 * (k.val % 1024) = k.val; omega))).symm.trans
    (h.trans ((out_apply _ _ _ _).trans (Finset.sum_congr rfl fun p _ => congrArg₂ (· * ·) ?_ ?_)))
  · exact (congrArg (V m c main_arg0 : S4096x2048.Idx → EReal) (at2 (by show win0_0.index (pt r k) 0 * 1024 + 1 * (r.val % 1024) = r.val; omega)
      (by show win0_0.index (pt r k) 1 * 2048 + 1 * p.val = p.val; omega))).trans (by rw [V_main_arg0]; rfl)
  · exact (congrArg (V m c main_arg1 : S2048x2048.Idx → EReal) (at2 (by show win0_1.index (pt r k) 0 * 1024 + 1 * (k.val % 1024) = k.val; omega)
      (by show win0_1.index (pt r k) 1 * 2048 + 1 * p.val = p.val; omega))).trans (by rw [V_main_arg1]; rfl)

end Cert.Kernel10Ideal.Proj

namespace Cert.Reference10Ideal.Proj
open Idealize.ShloMosaic Idealize.ShloMosaic.TcCoe Idealize.ShloMosaic.Tactic Cert.Proj

/-- The kernel's result and the reference's are one array, from memories that agree on the arguments. -/
theorem tie : Cert.algebraic_Kernel10Ideal_Reference10Ideal := by
  intro m ρ m' ρ' _ hagree
  refine ⟨_, Cert.Kernel10Ideal.Value.run_blocks (F := Ideal) m ρ, (θ_run Cert.Reference10Ideal.defs _ _).mono (fun _ h c => ⟨(h c).1.trans ?_, (h c).2⟩)
    (Cert.Reference10Ideal.Value.run (F := Ideal) m' ρ')⟩
  rw [(hagree c).1, (hagree c).2, Cert.Kernel10Ideal.Proj.final]
  funext i
  obtain ⟨r, k, rfl⟩ : ∃ (r : Fin 4096) (k : Fin 2048), i = (ix2 r k : S4096x2048.Idx) := ⟨_, _, eq_ix2 (n0 := 4096) (n1 := 2048) i⟩
  unfold mul
  pointwise

end Cert.Reference10Ideal.Proj
end
end
-- ==== Proof.AdamMath.lean ====
module

public import Idealize.ShloMosaic.Lib.Pointwise
public import Idealize.ShloMosaic.Lib.Pointwise.IndexVar

@[expose] public section

noncomputable section

namespace Cert.Adam
open Idealize.ShloMosaic Idealize.ShloMosaic.Tactic

/-! # The optimiser's step of one element -/

/-- Of two layers' values, that of layer `l`: the second's if `l` is one. -/
def pick (l : Nat) (a b : EReal) : EReal := Scalar.select (Scalar.cmpi .eq (BitVec.ofNat 32 l) 1#32) b a

theorem pick_zero (a b : EReal) : pick 0 a b = a := rfl
theorem pick_one (a b : EReal) : pick 1 a b = b := rfl

/-- The gradient: the sum of the devices' parts, of the layer's array. -/
def grad {R C : Nat} (a b : Fin 8 → Fin R → Fin C → EReal) (l : Fin 2) (r : Fin R) (k : Fin C) : EReal :=
  ∑ s : Fin 8, pick l.val (a s r k) (b s r k)

/-- The new first moment, from the gradient and the old one. -/
def newM (g m : EReal) : EReal := Ideal.ofBits .f32 0x3F666666#32 * m + Ideal.ofBits .f32 0x3DCCCCCD#32 * g

/-- The new second moment. -/
def newV (g v : EReal) : EReal := Ideal.ofBits .f32 0x3F7FBE77#32 * v + Ideal.ofBits .f32 0x3A83126F#32 * (g * g)

/-- The weight's change, from the weight, the gradient and the old moments. -/
def delta (w g m v : EReal) : EReal := Ideal.ofBits .f32 0xBA83126F#32 *
  (Ideal.div (Ideal.div (newM g m) (Ideal.ofBits .f32 0x3F26BD02#32))
    (Ideal.sqrt (Ideal.div (newV g v) (Ideal.ofBits .f32 0x3C231ACC#32)) + Ideal.ofBits .f32 0x322BCC77#32)
    + Ideal.ofBits .f32 0x3C23D70A#32 * w)

/-- Where a block begins at the origin. -/
theorem z3 : (![0, 0, 0] : Fin 3 → Nat) = fun _ => 0 := funext fun a => by fin_cases a <;> rfl

/-- An index's place in its block of `n`. -/
def lo (n : Nat) [NeZero n] {N : Nat} (i : Fin N) : Fin n := ⟨i.val % n, Nat.mod_lt _ (Nat.pos_of_ne_zero (NeZero.ne n))⟩

/-- A block of `R` rows and `C` columns, by its three numbers: it is block `a` of the first axis and holds row r and column k. -/
def Holds (R C : Nat) {n1 n2 : Nat} (f : Fin 3 → Nat) (a : Nat) (r : Fin n1) (k : Fin n2) : Prop := f 0 = a ∧ f 1 = r.val / R ∧ f 2 = k.val / C

/-- The element's place in that block leads back to it, where the block has one entry of the first axis and where it has all. -/
theorem Holds.place {R C n1 n2 a : Nat} {f : Fin 3 → Nat} {r : Fin n1} {k : Fin n2} (h : Holds R C f a r k) :
    f 0 * 1 + 1 * 0 = a ∧ f 1 * R + 1 * (r.val % R) = r.val ∧ f 2 * C + 1 * (k.val % C) = k.val := by
  obtain ⟨h0, h1, h2⟩ := h
  rw [h0, h1, h2]
  exact ⟨by omega, by rw [Nat.one_mul, Nat.div_add_mod'], by rw [Nat.one_mul, Nat.div_add_mod']⟩
theorem Holds.place_all {R C n1 n2 N : Nat} {f : Fin 3 → Nat} {r : Fin n1} {k : Fin n2} (h : Holds R C f 0 r k) (s : Nat) :
    f 0 * N + 1 * s = s ∧ f 1 * R + 1 * (r.val % R) = r.val ∧ f 2 * C + 1 * (k.val % C) = k.val :=
  ⟨by rw [h.1, Nat.zero_mul, Nat.zero_add, Nat.one_mul], h.place.2⟩

/-- A block's three numbers at point `t` of a grid whose last two axes have `nr` and `nc` values, the first number given. -/
abbrev At (nr nc a : Nat) (f : Fin 3 → Nat) (t : Nat) : Prop := f 0 = a ∧ f 1 = t / nc % nr ∧ f 2 = t % nc

/-- The number of the point that works on element (l, r, k), in blocks of `R` rows and `C` columns. -/
abbrev num (nr nc R C l r k : Nat) : Nat := nc * (nr * l + r / R) + k / C

/-- That point's layer, and its block holds the element. -/
theorem num_layer {nr nc R C l r k : Nat} (hr : r / R < nr) (hk : k / C < nc) : num nr nc R C l r k / nc / nr = l := by
  rw [num, Nat.mul_add_div (Nat.zero_lt_of_lt hk), Nat.div_eq_of_lt hk, Nat.add_zero, Nat.mul_add_div (Nat.zero_lt_of_lt hr), Nat.div_eq_of_lt hr, Nat.add_zero]
theorem At.holds {nr nc R C n1 n2 a l : Nat} {f : Fin 3 → Nat} {r : Fin n1} {k : Fin n2} (h : At nr nc a f (num nr nc R C l r.val k.val))
    (hr : r.val / R < nr) (hk : k.val / C < nc) : Holds R C f a r k := by
  obtain ⟨h0, h1, h2⟩ := h
  rw [num, Nat.mul_add_div (Nat.zero_lt_of_lt hk), Nat.div_eq_of_lt hk, Nat.add_zero, Nat.mul_add_mod, Nat.mod_eq_of_lt hr] at h1
  rw [num, Nat.mul_add_mod, Nat.mod_eq_of_lt hk] at h2
  exact ⟨h0, h1, h2⟩

/-- An index of three coordinates is known by their values. -/
theorem at3 {n0 n1 n2 : Nat} {i : (⟨3, ![n0, n1, n2]⟩ : Shape).Idx} {l : Fin n0} {r : Fin n1} {k : Fin n2}
    (h : (i 0).val = l.val ∧ (i 1).val = r.val ∧ (i 2).val = k.val) : i = ix3 l r k := by
  rw [eq_ix3 i, Fin.ext h.1, Fin.ext h.2.1, Fin.ext h.2.2]

/-! # The step on whole arrays -/

/-- The four results of a step on whole arrays: the gradient `G`, which is `g`, the weight's change `D` and the new moments `M` and `V`
from that gradient, the weight and the old moments. -/
structure Step {n R C : Nat} (g : Fin n → Fin R → Fin C → EReal) (w u v G D M V : (⟨3, ![n, R, C]⟩ : Shape).Idx → EReal) : Prop where
  grad : ∀ l r k, G (ix3 l r k) = g l r k
  change : ∀ l r k, D (ix3 l r k) = delta (w (ix3 l r k)) (g l r k) (u (ix3 l r k)) (v (ix3 l r k))
  first : ∀ l r k, M (ix3 l r k) = newM (g l r k) (u (ix3 l r k))
  second : ∀ l r k, V (ix3 l r k) = newV (g l r k) (v (ix3 l r k))

/-- Two arrays of three axes that agree at all coordinates are equal. -/
theorem ext3 {n0 n1 n2 : Nat} {a b : (⟨3, ![n0, n1, n2]⟩ : Shape).Idx → EReal} (h : ∀ l r k, a (ix3 l r k) = b (ix3 l r k)) : a = b :=
  funext fun i => by rw [eq_ix3 i]; exact h _ _ _

/-- A step's results are determined by what it is given. -/
theorem Step.unique {n R C : Nat} {g : Fin n → Fin R → Fin C → EReal} {w u v G D M V G' D' M' V' : (⟨3, ![n, R, C]⟩ : Shape).Idx → EReal}
    (s : Step g w u v G D M V) (t : Step g w u v G' D' M' V') : G = G' ∧ D = D' ∧ M = M' ∧ V = V' :=
  ⟨ext3 fun l r k => (s.grad l r k).trans (t.grad l r k).symm, ext3 fun l r k => (s.change l r k).trans (t.change l r k).symm,
    ext3 fun l r k => (s.first l r k).trans (t.first l r k).symm, ext3 fun l r k => (s.second l r k).trans (t.second l r k).symm⟩

/-- The shape of a number. -/
abbrev S0 : Shape := ⟨0, ![]⟩

section
variable {S : Shape} (h : S0.BroadcastsInDim S ![]) (w g m v : FVec Ideal S .f32) (j : S.Idx)
/-- The new moments and the change as the reference writes them on whole arrays, at an element. -/
theorem ref_m : addf (mulf (broadcastInDim S ![] h (constant S0 .f32 0x3F666666#32)) m)
    (mulf (broadcastInDim S ![] h (constant S0 .f32 0x3DCCCCCD#32)) g) j = newM (g j) (m j) := by
  unfold newM
  pointwise
theorem ref_v : addf (mulf (broadcastInDim S ![] h (constant S0 .f32 0x3F7FBE77#32)) v)
    (mulf (broadcastInDim S ![] h (constant S0 .f32 0x3A83126F#32)) (mulf g g)) j = newV (g j) (v j) := by
  unfold newV
  pointwise
theorem ref_d : mulf (broadcastInDim S ![] h (constant S0 .f32 0xBA83126F#32))
    (addf (Host.divf (Host.divf (addf (mulf (broadcastInDim S ![] h (constant S0 .f32 0x3F666666#32)) m)
          (mulf (broadcastInDim S ![] h (constant S0 .f32 0x3DCCCCCD#32)) g)) (broadcastInDim S ![] h (constant S0 .f32 0x3F26BD02#32)))
        (addf (Host.sqrt (Host.divf (addf (mulf (broadcastInDim S ![] h (constant S0 .f32 0x3F7FBE77#32)) v)
            (mulf (broadcastInDim S ![] h (constant S0 .f32 0x3A83126F#32)) (mulf g g))) (broadcastInDim S ![] h (constant S0 .f32 0x3C231ACC#32))))
          (broadcastInDim S ![] h (constant S0 .f32 0x322BCC77#32))))
      (mulf (broadcastInDim S ![] h (constant S0 .f32 0x3C23D70A#32)) w)) j = delta (w j) (g j) (m j) (v j) := by
  unfold delta newM newV
  pointwise
end

/-- The reference's four results, from a gradient `G` that is `g`, are those of a step. -/
theorem ref_step {n R C : Nat} (h : S0.BroadcastsInDim ⟨3, ![n, R, C]⟩ ![]) (w u v : FVec Ideal ⟨3, ![n, R, C]⟩ .f32)
    {G G' : FVec Ideal ⟨3, ![n, R, C]⟩ .f32} {g : Fin n → Fin R → Fin C → EReal} (hG : G = G') (hg : ∀ l r k, G' (ix3 l r k) = g l r k) : Step g w u v G
      (mulf (broadcastInDim ⟨3, ![n, R, C]⟩ ![] h (constant S0 .f32 0xBA83126F#32))
        (addf (Host.divf (Host.divf (addf (mulf (broadcastInDim ⟨3, ![n, R, C]⟩ ![] h (constant S0 .f32 0x3F666666#32)) u)
              (mulf (broadcastInDim ⟨3, ![n, R, C]⟩ ![] h (constant S0 .f32 0x3DCCCCCD#32)) G)) (broadcastInDim ⟨3, ![n, R, C]⟩ ![] h (constant S0 .f32 0x3F26BD02#32)))
            (addf (Host.sqrt (Host.divf (addf (mulf (broadcastInDim ⟨3, ![n, R, C]⟩ ![] h (constant S0 .f32 0x3F7FBE77#32)) v)
                (mulf (broadcastInDim ⟨3, ![n, R, C]⟩ ![] h (constant S0 .f32 0x3A83126F#32)) (mulf G G))) (broadcastInDim ⟨3, ![n, R, C]⟩ ![] h (constant S0 .f32 0x3C231ACC#32))))
              (broadcastInDim ⟨3, ![n, R, C]⟩ ![] h (constant S0 .f32 0x322BCC77#32))))
          (mulf (broadcastInDim ⟨3, ![n, R, C]⟩ ![] h (constant S0 .f32 0x3C23D70A#32)) w)))
      (addf (mulf (broadcastInDim ⟨3, ![n, R, C]⟩ ![] h (constant S0 .f32 0x3F666666#32)) u)
        (mulf (broadcastInDim ⟨3, ![n, R, C]⟩ ![] h (constant S0 .f32 0x3DCCCCCD#32)) G))
      (addf (mulf (broadcastInDim ⟨3, ![n, R, C]⟩ ![] h (constant S0 .f32 0x3F7FBE77#32)) v)
        (mulf (broadcastInDim ⟨3, ![n, R, C]⟩ ![] h (constant S0 .f32 0x3A83126F#32)) (mulf G G))) :=
  hG ▸ ⟨hg, fun l r k => hg l r k ▸ ref_d h w G' u v _, fun l r k => hg l r k ▸ ref_m h G' u _, fun l r k => hg l r k ▸ ref_v h G' v _⟩

section
variable {R C : Nat} (hR : R ≠ 1) (hC : C ≠ 1)
  (hc : Shape.Concatenates [(⟨3, ![1, R, C]⟩ : Shape), ⟨3, ![1, R, C]⟩] ⟨3, ![2, R, C]⟩ 0)
  (hr : (⟨3, ![8, R, C]⟩ : Shape).ReducesTo [0] ⟨2, ![R, C]⟩)
  (hb : (⟨2, ![R, C]⟩ : Shape).BroadcastsInDim ⟨3, ![1, R, C]⟩ ![1, 2])
  (h0 : 0 < S0.numel) (hl : FTy.bf16.bits < FTy.f32.bits)
  (x y : FVec Ideal ⟨3, ![8, R, C]⟩ .bf16)
include hR hC
/-- The gradient as the reference writes it, at an element. -/
theorem ref_g (l : Fin 2) (r : Fin R) (k : Fin C) :
    concatenate ⟨3, ![2, R, C]⟩ 0
      [⟨⟨3, ![1, R, C]⟩, broadcastInDim ⟨3, ![1, R, C]⟩ ![1, 2] hb (Host.reduceAdd (extf .f32 x hl) (constant S0 .f32 0x00000000#32) hr h0)⟩,
       ⟨⟨3, ![1, R, C]⟩, broadcastInDim ⟨3, ![1, R, C]⟩ ![1, 2] hb (Host.reduceAdd (extf .f32 y hl) (constant S0 .f32 0x00000000#32) hr h0)⟩] hc (ix3 l r k)
      = grad (fun s r k => x (ix3 s r k)) (fun s r k => y (ix3 s r k)) l r k := by
  unfold grad
  pointwise
  rcases (show l = 0 ∨ l = 1 by omega) with rfl | rfl
  · simp [pick_zero, Shape.Idx.norm, hR, hC]
  · simp [pick_one, Shape.Idx.norm, hR, hC]
end

end Cert.Adam
end
end
-- ==== Proof.Adam14.lean ====
module

public import proofs.«01_k».proof.Defs
public import proofs.«01_k».proof.Proof.AdamMath
public import proofs.«01_k».proof.Proof.Gen.Kernel14Ideal.Value
public import proofs.«01_k».proof.Proof.Gen.Kernel14Ideal.Skeleton
public import proofs.«01_k».proof.Proof.Gen.Reference14Ideal.Run

@[expose] public section

set_option maxRecDepth 16384

noncomputable section

namespace Cert.Kernel14Ideal.Adam
open Idealize.ShloMosaic Idealize.ShloMosaic.TcCoe Idealize.ShloMosaic.Tactic
open Cert.Kernel14Ideal.Gen Cert.Adam

/-! # The optimiser's step of the feed-forward weights -/

section
variable (i : grid0.Coords) (x y : Vec Ideal S8x688x256 .bf16) (w u v : Vec Ideal S1x688x256 .f32) (r : Fin 688) (k : Fin 256)

/-- What a point leaves in the blocks of its four results, at an element: the parts' sum, the weight's change and the moments. -/
theorem out_g : out0_5 i x y w u v (ix3 0 r k) = ∑ s : Fin 8, pick (i 0).val (x (ix3 s r k)) (y (ix3 s r k)) := by
  unfold out0_5
  rw [View.canon_unit_zero z3, Fin.sum_univ_eight]
  unfold k0_pay9 k0_pay6 k0_pay13 k0_pay14 k0_pay4 k0_pay2 k0_pay3 k0_pay5 pick
  pointwise
theorem out_m : out0_7 i x y w u v (ix3 0 r k) = newM (out0_5 i x y w u v (ix3 0 r k)) (u (ix3 0 r k)) := by
  unfold out0_7 out0_5
  rw [View.canon_unit_zero z3, View.canon_unit_zero z3]
  simp only [View.ld_unit_zero (S := S1x688x256) z3]
  unfold k0_pay10 k0_pay7 k0_pay9 newM
  pointwise
theorem out_v : out0_8 i x y w u v (ix3 0 r k) = newV (out0_5 i x y w u v (ix3 0 r k)) (v (ix3 0 r k)) := by
  unfold out0_8 out0_5
  rw [View.canon_unit_zero z3, View.canon_unit_zero z3]
  simp only [View.ld_unit_zero (S := S1x688x256) z3]
  unfold k0_pay11 k0_pay8 k0_pay9 newV
  pointwise
theorem out_d : out0_6 i x y w u v (ix3 0 r k) = delta (w (ix3 0 r k)) (out0_5 i x y w u v (ix3 0 r k)) (u (ix3 0 r k)) (v (ix3 0 r k)) := by
  unfold out0_6 out0_5
  rw [View.canon_unit_zero z3, View.canon_unit_zero z3]
  simp only [View.ld_unit_zero (S := S1x688x256) z3]
  unfold k0_pay1 k0_pay12 k0_pay8 k0_pay7 k0_pay9 delta newM newV
  pointwise
end

/-- The blocks a point takes and leaves: of the parts those of its layer's array, of the other arrays its layer's. -/
theorem part_at : ∀ t : Fin grid0.N, (grid0.coords t 0).val = t.val / 8 / 1
    ∧ (t.val / 8 / 1 = 0 → At 1 8 0 (win0_0.index t) t.val) ∧ (t.val / 8 / 1 = 1 → At 1 8 0 (win0_1.index t) t.val) := by decide +kernel
theorem block_at : ∀ t : Fin grid0.N, win0_2.index t = win0_8.index t ∧ win0_3.index t = win0_8.index t ∧ win0_4.index t = win0_8.index t
    ∧ win0_5.index t = win0_8.index t ∧ win0_6.index t = win0_8.index t ∧ win0_7.index t = win0_8.index t
    ∧ At 1 8 (t.val / 8 / 1) (win0_8.index t) t.val := by decide +kernel

section
variable (m : (ℓ : Loc nD τ sig) → Buf (Elt Ideal) ℓ) (ρ : Dev nD → PrngReg) (c : Dev nD) (l : Fin 2) (r : Fin 688) (k : Fin 2048)

/-- The point that works on element (l, r, k) of the results. -/
def pt : Fin cfg0.N := ⟨num 1 8 688 256 l.val r.val k.val, lt_of_lt_of_eq (by unfold num; omega) N_0.symm⟩
theorem layer : (pt l r k).val / 8 / 1 = l.val := num_layer (by omega) (by omega)
theorem block : Holds 688 256 (win0_8.index (pt l r k)) l.val r k := by
  have h := (block_at (pt l r k)).2.2.2.2.2.2
  rw [layer] at h
  exact h.holds (by omega) (by omega)

/-- The arguments: the devices' parts of the two layers, the weight and the moments. -/
abbrev x : S8x688x2048.Idx → EReal := m ((c.tc : Thread nD τ).loc main_arg0)
abbrev y : S8x688x2048.Idx → EReal := m ((c.tc : Thread nD τ).loc main_arg1)
abbrev w : S2x688x2048.Idx → EReal := m ((c.tc : Thread nD τ).loc main_arg2)
abbrev u : S2x688x2048.Idx → EReal := m ((c.tc : Thread nD τ).loc main_arg3)
abbrev v : S2x688x2048.Idx → EReal := m ((c.tc : Thread nD τ).loc main_arg4)

/-- The element in the point's blocks of the weight and of the moments. -/
theorem in_w : iblk m c 2 (pt l r k) (ix3 0 (lo 688 r) (lo 256 k)) = w m c (ix3 l r k) :=
  (congrArg (V m c main_arg2 : S2x688x2048.Idx → EReal) (at3 (l := l) (r := r) (k := k) ((block_at _).1 ▸ block l r k).place)).trans (by rw [V_main_arg2])
theorem in_u : iblk m c 3 (pt l r k) (ix3 0 (lo 688 r) (lo 256 k)) = u m c (ix3 l r k) :=
  (congrArg (V m c main_arg3 : S2x688x2048.Idx → EReal) (at3 (l := l) (r := r) (k := k) ((block_at _).2.1 ▸ block l r k).place)).trans (by rw [V_main_arg3])
theorem in_v : iblk m c 4 (pt l r k) (ix3 0 (lo 688 r) (lo 256 k)) = v m c (ix3 l r k) :=
  (congrArg (V m c main_arg4 : S2x688x2048.Idx → EReal) (at3 (l := l) (r := r) (k := k) ((block_at _).2.2.1 ▸ block l r k).place)).trans (by rw [V_main_arg4])

/-- The point's first result is the gradient there. -/
theorem grad_at : out0_5 (grid0.coords (pt l r k)) (iblk m c 0 (pt l r k)) (iblk m c 1 (pt l r k)) (iblk m c 2 (pt l r k)) (iblk m c 3 (pt l r k))
      (iblk m c 4 (pt l r k)) (ix3 0 (lo 688 r) (lo 256 k)) = grad (fun s r k => x m c (ix3 s r k)) (fun s r k => y m c (ix3 s r k)) l r k := by
  unfold grad
  refine (out_g _ _ _ _ _ _ _ _).trans (Finset.sum_congr rfl fun s _ => ?_)
  have hp := part_at (pt l r k)
  rw [hp.1, layer]
  rw [layer] at hp
  rcases (show l = 0 ∨ l = 1 by omega) with rfl | rfl
  · exact (congrArg (V m c main_arg0 : S8x688x2048.Idx → EReal) (at3 (l := s) (r := r) (k := k) (((hp.2.1 rfl).holds (by omega) (by omega)).place_all s.val))).trans
      (by rw [V_main_arg0]; rfl)
  · exact (congrArg (V m c main_arg1 : S8x688x2048.Idx → EReal) (at3 (l := s) (r := r) (k := k) (((hp.2.2 rfl).holds (by omega) (by omega)).place_all s.val))).trans
      (by rw [V_main_arg1]; rfl)
end

/-- The four results after the run are those of a step. -/
theorem final (m : (ℓ : Loc nD τ sig) → Buf (Elt Ideal) ℓ) (c : Dev nD) :
    Step (grad (fun s r k => x m c (ix3 s r k)) (fun s r k => y m c (ix3 s r k))) (w m c) (u m c) (v m c)
      ((dats m 0 c).arrAt 5 cfg0.N) ((dats m 0 c).arrAt 6 cfg0.N) ((dats m 0 c).arrAt 7 cfg0.N) ((dats m 0 c).arrAt 8 cfg0.N) := by
  refine ⟨fun l r k => ?_, fun l r k => ?_, fun l r k => ?_, fun l r k => ?_⟩
  · have h := congrFun (Value.blocks5 m c (pt l r k) (flush0_5 _)) (ix3 0 (lo 688 r) (lo 256 k))
    rw [Value.flushed5] at h
    exact (congrArg ((dats m 0 c).arrAt 5 cfg0.N) (at3 ((block_at _).2.2.2.1 ▸ block l r k).place)).symm.trans (h.trans (grad_at m c l r k))
  · have h := congrFun (Value.blocks6 m c (pt l r k) (flush0_6 _)) (ix3 0 (lo 688 r) (lo 256 k))
    rw [Value.flushed6] at h
    exact (congrArg ((dats m 0 c).arrAt 6 cfg0.N) (at3 ((block_at _).2.2.2.2.1 ▸ block l r k).place)).symm.trans
      (h.trans ((out_d _ _ _ _ _ _ _ _).trans (by rw [grad_at, in_w, in_u, in_v])))
  · have h := congrFun (Value.blocks7 m c (pt l r k) (flush0_7 _)) (ix3 0 (lo 688 r) (lo 256 k))
    rw [Value.flushed7] at h
    exact (congrArg ((dats m 0 c).arrAt 7 cfg0.N) (at3 ((block_at _).2.2.2.2.2.1 ▸ block l r k).place)).symm.trans
      (h.trans ((out_m _ _ _ _ _ _ _ _).trans (by rw [grad_at, in_u])))
  · have h := congrFun (Value.blocks8 m c (pt l r k) (flush0_8 _)) (ix3 0 (lo 688 r) (lo 256 k))
    rw [Value.flushed8] at h
    exact (congrArg ((dats m 0 c).arrAt 8 cfg0.N) (at3 (block l r k).place)).symm.trans
      (h.trans ((out_v _ _ _ _ _ _ _ _).trans (by rw [grad_at, in_v])))

end Cert.Kernel14Ideal.Adam

namespace Cert.Reference14Ideal.Adam
open Idealize.ShloMosaic Idealize.ShloMosaic.TcCoe Idealize.ShloMosaic.Tactic
open Cert.Adam

/-- The kernel's four results and the reference's are the same arrays, from memories that agree on the arguments. -/
theorem tie : Cert.algebraic_Kernel14Ideal_Reference14Ideal := by
  intro m ρ m' ρ' _ hagree
  refine ⟨_, _, _, _, Cert.Kernel14Ideal.Value.run_blocks (F := Ideal) m ρ, (θ_run Cert.Reference14Ideal.defs _ _).mono (fun _ h c => ?_)
    (Cert.Reference14Ideal.Value.run (F := Ideal) m' ρ')⟩
  obtain ⟨h0, h1, h2, h3, hargs⟩ := h c
  obtain ⟨e0, e1, e2, e3, e4⟩ := hagree c
  rw [← h0] at h1 h2 h3
  rw [e0, e1] at h0
  rw [e2, e3, e4] at h1
  rw [e3] at h2
  rw [e4] at h3
  have s := (Cert.Kernel14Ideal.Adam.final m c).unique (ref_step Facts₀.bcast_S_S2x688x2048 _ _ _ h0
    fun l r k => ref_g (by decide) (by decide) _ _ _ _ _ _ _ l r k)
  exact ⟨s.1.symm, h1.trans s.2.1.symm, h2.trans s.2.2.1.symm, h3.trans s.2.2.2.symm, hargs⟩

end Cert.Reference14Ideal.Adam

end
end
-- ==== Proof.Adam15.lean ====
module

public import proofs.«01_k».proof.Defs
public import proofs.«01_k».proof.Proof.AdamMath
public import proofs.«01_k».proof.Proof.Gen.Kernel15Ideal.Value
public import proofs.«01_k».proof.Proof.Gen.Kernel15Ideal.Skeleton
public import proofs.«01_k».proof.Proof.Gen.Reference15Ideal.Run

@[expose] public section

set_option maxRecDepth 16384

noncomputable section

namespace Cert.Kernel15Ideal.Adam
open Idealize.ShloMosaic Idealize.ShloMosaic.TcCoe Idealize.ShloMosaic.Tactic
open Cert.Kernel15Ideal.Gen Cert.Adam

/-! # The optimiser's step of the output and per-layer gate weights -/

section
variable (i : grid0.Coords) (x y : Vec Ideal S8x128x2048 .bf16) (w u v : Vec Ideal S1x128x2048 .f32) (r : Fin 128) (k : Fin 2048)

/-- What a point leaves in the blocks of its four results, at an element: the parts' sum, the weight's change and the moments. -/
theorem out_g : out0_5 i x y w u v (ix3 0 r k) = ∑ s : Fin 8, pick (i 0).val (x (ix3 s r k)) (y (ix3 s r k)) := by
  unfold out0_5
  rw [View.canon_unit_zero z3, Fin.sum_univ_eight]
  unfold k0_pay9 k0_pay6 k0_pay13 k0_pay14 k0_pay4 k0_pay2 k0_pay3 k0_pay5 pick
  pointwise
theorem out_m : out0_7 i x y w u v (ix3 0 r k) = newM (out0_5 i x y w u v (ix3 0 r k)) (u (ix3 0 r k)) := by
  unfold out0_7 out0_5
  rw [View.canon_unit_zero z3, View.canon_unit_zero z3]
  simp only [View.ld_unit_zero (S := S1x128x2048) z3]
  unfold k0_pay10 k0_pay7 k0_pay9 newM
  pointwise
theorem out_v : out0_8 i x y w u v (ix3 0 r k) = newV (out0_5 i x y w u v (ix3 0 r k)) (v (ix3 0 r k)) := by
  unfold out0_8 out0_5
  rw [View.canon_unit_zero z3, View.canon_unit_zero z3]
  simp only [View.ld_unit_zero (S := S1x128x2048) z3]
  unfold k0_pay11 k0_pay8 k0_pay9 newV
  pointwise
theorem out_d : out0_6 i x y w u v (ix3 0 r k) = delta (w (ix3 0 r k)) (out0_5 i x y w u v (ix3 0 r k)) (u (ix3 0 r k)) (v (ix3 0 r k)) := by
  unfold out0_6 out0_5
  rw [View.canon_unit_zero z3, View.canon_unit_zero z3]
  simp only [View.ld_unit_zero (S := S1x128x2048) z3]
  unfold k0_pay1 k0_pay12 k0_pay8 k0_pay7 k0_pay9 delta newM newV
  pointwise
end

/-- The blocks a point takes and leaves: of the parts those of its layer's array, of the other arrays its layer's. -/
theorem part_at : ∀ t : Fin grid0.N, (grid0.coords t 0).val = t.val / 1 / 2
    ∧ (t.val / 1 / 2 = 0 → At 2 1 0 (win0_0.index t) t.val) ∧ (t.val / 1 / 2 = 1 → At 2 1 0 (win0_1.index t) t.val) := by decide +kernel
theorem block_at : ∀ t : Fin grid0.N, win0_2.index t = win0_8.index t ∧ win0_3.index t = win0_8.index t ∧ win0_4.index t = win0_8.index t
    ∧ win0_5.index t = win0_8.index t ∧ win0_6.index t = win0_8.index t ∧ win0_7.index t = win0_8.index t
    ∧ At 2 1 (t.val / 1 / 2) (win0_8.index t) t.val := by decide +kernel

section
variable (m : (ℓ : Loc nD τ sig) → Buf (Elt Ideal) ℓ) (ρ : Dev nD → PrngReg) (c : Dev nD) (l : Fin 2) (r : Fin 256) (k : Fin 2048)

/-- The point that works on element (l, r, k) of the results. -/
def pt : Fin cfg0.N := ⟨num 2 1 128 2048 l.val r.val k.val, lt_of_lt_of_eq (by unfold num; omega) N_0.symm⟩
theorem layer : (pt l r k).val / 1 / 2 = l.val := num_layer (by omega) (by omega)
theorem block : Holds 128 2048 (win0_8.index (pt l r k)) l.val r k := by
  have h := (block_at (pt l r k)).2.2.2.2.2.2
  rw [layer] at h
  exact h.holds (by omega) (by omega)

/-- The arguments: the devices' parts of the two layers, the weight and the moments. -/
abbrev x : S8x256x2048.Idx → EReal := m ((c.tc : Thread nD τ).loc main_arg0)
abbrev y : S8x256x2048.Idx → EReal := m ((c.tc : Thread nD τ).loc main_arg1)
abbrev w : S2x256x2048.Idx → EReal := m ((c.tc : Thread nD τ).loc main_arg2)
abbrev u : S2x256x2048.Idx → EReal := m ((c.tc : Thread nD τ).loc main_arg3)
abbrev v : S2x256x2048.Idx → EReal := m ((c.tc : Thread nD τ).loc main_arg4)

/-- The element in the point's blocks of the weight and of the moments. -/
theorem in_w : iblk m c 2 (pt l r k) (ix3 0 (lo 128 r) (lo 2048 k)) = w m c (ix3 l r k) :=
  (congrArg (V m c main_arg2 : S2x256x2048.Idx → EReal) (at3 (l := l) (r := r) (k := k) ((block_at _).1 ▸ block l r k).place)).trans (by rw [V_main_arg2])
theorem in_u : iblk m c 3 (pt l r k) (ix3 0 (lo 128 r) (lo 2048 k)) = u m c (ix3 l r k) :=
  (congrArg (V m c main_arg3 : S2x256x2048.Idx → EReal) (at3 (l := l) (r := r) (k := k) ((block_at _).2.1 ▸ block l r k).place)).trans (by rw [V_main_arg3])
theorem in_v : iblk m c 4 (pt l r k) (ix3 0 (lo 128 r) (lo 2048 k)) = v m c (ix3 l r k) :=
  (congrArg (V m c main_arg4 : S2x256x2048.Idx → EReal) (at3 (l := l) (r := r) (k := k) ((block_at _).2.2.1 ▸ block l r k).place)).trans (by rw [V_main_arg4])

/-- The point's first result is the gradient there. -/
theorem grad_at : out0_5 (grid0.coords (pt l r k)) (iblk m c 0 (pt l r k)) (iblk m c 1 (pt l r k)) (iblk m c 2 (pt l r k)) (iblk m c 3 (pt l r k))
      (iblk m c 4 (pt l r k)) (ix3 0 (lo 128 r) (lo 2048 k)) = grad (fun s r k => x m c (ix3 s r k)) (fun s r k => y m c (ix3 s r k)) l r k := by
  unfold grad
  refine (out_g _ _ _ _ _ _ _ _).trans (Finset.sum_congr rfl fun s _ => ?_)
  have hp := part_at (pt l r k)
  rw [hp.1, layer]
  rw [layer] at hp
  rcases (show l = 0 ∨ l = 1 by omega) with rfl | rfl
  · exact (congrArg (V m c main_arg0 : S8x256x2048.Idx → EReal) (at3 (l := s) (r := r) (k := k) (((hp.2.1 rfl).holds (by omega) (by omega)).place_all s.val))).trans
      (by rw [V_main_arg0]; rfl)
  · exact (congrArg (V m c main_arg1 : S8x256x2048.Idx → EReal) (at3 (l := s) (r := r) (k := k) (((hp.2.2 rfl).holds (by omega) (by omega)).place_all s.val))).trans
      (by rw [V_main_arg1]; rfl)
end

/-- The four results after the run are those of a step. -/
theorem final (m : (ℓ : Loc nD τ sig) → Buf (Elt Ideal) ℓ) (c : Dev nD) :
    Step (grad (fun s r k => x m c (ix3 s r k)) (fun s r k => y m c (ix3 s r k))) (w m c) (u m c) (v m c)
      ((dats m 0 c).arrAt 5 cfg0.N) ((dats m 0 c).arrAt 6 cfg0.N) ((dats m 0 c).arrAt 7 cfg0.N) ((dats m 0 c).arrAt 8 cfg0.N) := by
  refine ⟨fun l r k => ?_, fun l r k => ?_, fun l r k => ?_, fun l r k => ?_⟩
  · have h := congrFun (Value.blocks5 m c (pt l r k) (flush0_5 _)) (ix3 0 (lo 128 r) (lo 2048 k))
    rw [Value.flushed5] at h
    exact (congrArg ((dats m 0 c).arrAt 5 cfg0.N) (at3 ((block_at _).2.2.2.1 ▸ block l r k).place)).symm.trans (h.trans (grad_at m c l r k))
  · have h := congrFun (Value.blocks6 m c (pt l r k) (flush0_6 _)) (ix3 0 (lo 128 r) (lo 2048 k))
    rw [Value.flushed6] at h
    exact (congrArg ((dats m 0 c).arrAt 6 cfg0.N) (at3 ((block_at _).2.2.2.2.1 ▸ block l r k).place)).symm.trans
      (h.trans ((out_d _ _ _ _ _ _ _ _).trans (by rw [grad_at, in_w, in_u, in_v])))
  · have h := congrFun (Value.blocks7 m c (pt l r k) (flush0_7 _)) (ix3 0 (lo 128 r) (lo 2048 k))
    rw [Value.flushed7] at h
    exact (congrArg ((dats m 0 c).arrAt 7 cfg0.N) (at3 ((block_at _).2.2.2.2.2.1 ▸ block l r k).place)).symm.trans
      (h.trans ((out_m _ _ _ _ _ _ _ _).trans (by rw [grad_at, in_u])))
  · have h := congrFun (Value.blocks8 m c (pt l r k) (flush0_8 _)) (ix3 0 (lo 128 r) (lo 2048 k))
    rw [Value.flushed8] at h
    exact (congrArg ((dats m 0 c).arrAt 8 cfg0.N) (at3 (block l r k).place)).symm.trans
      (h.trans ((out_v _ _ _ _ _ _ _ _).trans (by rw [grad_at, in_v])))

end Cert.Kernel15Ideal.Adam

namespace Cert.Reference15Ideal.Adam
open Idealize.ShloMosaic Idealize.ShloMosaic.TcCoe Idealize.ShloMosaic.Tactic
open Cert.Adam

/-- The kernel's four results and the reference's are the same arrays, from memories that agree on the arguments. -/
theorem tie : Cert.algebraic_Kernel15Ideal_Reference15Ideal := by
  intro m ρ m' ρ' _ hagree
  refine ⟨_, _, _, _, Cert.Kernel15Ideal.Value.run_blocks (F := Ideal) m ρ, (θ_run Cert.Reference15Ideal.defs _ _).mono (fun _ h c => ?_)
    (Cert.Reference15Ideal.Value.run (F := Ideal) m' ρ')⟩
  obtain ⟨h0, h1, h2, h3, hargs⟩ := h c
  obtain ⟨e0, e1, e2, e3, e4⟩ := hagree c
  rw [← h0] at h1 h2 h3
  rw [e0, e1] at h0
  rw [e2, e3, e4] at h1
  rw [e3] at h2
  rw [e4] at h3
  have s := (Cert.Kernel15Ideal.Adam.final m c).unique (ref_step Facts₀.bcast_S_S2x256x2048 _ _ _ h0
    fun l r k => ref_g (by decide) (by decide) _ _ _ _ _ _ _ l r k)
  exact ⟨s.1.symm, h1.trans s.2.1.symm, h2.trans s.2.2.1.symm, h3.trans s.2.2.2.symm, hargs⟩

end Cert.Reference15Ideal.Adam

end
end
-- ==== Proof.Adam16.lean ====
module

public import proofs.«01_k».proof.Defs
public import proofs.«01_k».proof.Proof.AdamMath
public import proofs.«01_k».proof.Proof.Gen.Kernel16Ideal.Value
public import proofs.«01_k».proof.Proof.Gen.Kernel16Ideal.Skeleton
public import proofs.«01_k».proof.Proof.Gen.Reference16Ideal.Run

@[expose] public section

set_option maxRecDepth 16384

noncomputable section

namespace Cert.Kernel16Ideal.Adam
open Idealize.ShloMosaic Idealize.ShloMosaic.TcCoe Idealize.ShloMosaic.Tactic
open Cert.Kernel16Ideal.Gen Cert.Adam

/-! # The optimiser's step of the input weight -/

section
variable (i : grid0.Coords) (x y : Vec Ideal S8x360x512 .bf16) (w u v : Vec Ideal S1x360x512 .f32) (r : Fin 360) (k : Fin 512)

/-- What a point leaves in the blocks of its four results, at an element: the parts' sum, the weight's change and the moments. -/
theorem out_g : out0_5 i x y w u v (ix3 0 r k) = ∑ s : Fin 8, pick (i 0).val (x (ix3 s r k)) (y (ix3 s r k)) := by
  unfold out0_5
  rw [View.canon_unit_zero z3, Fin.sum_univ_eight]
  unfold k0_pay9 k0_pay6 k0_pay13 k0_pay14 k0_pay4 k0_pay2 k0_pay3 k0_pay5 pick
  pointwise
theorem out_m : out0_7 i x y w u v (ix3 0 r k) = newM (out0_5 i x y w u v (ix3 0 r k)) (u (ix3 0 r k)) := by
  unfold out0_7 out0_5
  rw [View.canon_unit_zero z3, View.canon_unit_zero z3]
  simp only [View.ld_unit_zero (S := S1x360x512) z3]
  unfold k0_pay10 k0_pay7 k0_pay9 newM
  pointwise
theorem out_v : out0_8 i x y w u v (ix3 0 r k) = newV (out0_5 i x y w u v (ix3 0 r k)) (v (ix3 0 r k)) := by
  unfold out0_8 out0_5
  rw [View.canon_unit_zero z3, View.canon_unit_zero z3]
  simp only [View.ld_unit_zero (S := S1x360x512) z3]
  unfold k0_pay11 k0_pay8 k0_pay9 newV
  pointwise
theorem out_d : out0_6 i x y w u v (ix3 0 r k) = delta (w (ix3 0 r k)) (out0_5 i x y w u v (ix3 0 r k)) (u (ix3 0 r k)) (v (ix3 0 r k)) := by
  unfold out0_6 out0_5
  rw [View.canon_unit_zero z3, View.canon_unit_zero z3]
  simp only [View.ld_unit_zero (S := S1x360x512) z3]
  unfold k0_pay1 k0_pay12 k0_pay8 k0_pay7 k0_pay9 delta newM newV
  pointwise
end

/-- The blocks a point takes and leaves: of the parts those of its layer's array, of the other arrays its layer's. -/
theorem part_at : ∀ t : Fin grid0.N, (grid0.coords t 0).val = t.val / 4 / 1
    ∧ (t.val / 4 / 1 = 0 → At 1 4 0 (win0_0.index t) t.val) ∧ (t.val / 4 / 1 = 1 → At 1 4 0 (win0_1.index t) t.val) := by decide +kernel
theorem block_at : ∀ t : Fin grid0.N, win0_2.index t = win0_8.index t ∧ win0_3.index t = win0_8.index t ∧ win0_4.index t = win0_8.index t
    ∧ win0_5.index t = win0_8.index t ∧ win0_6.index t = win0_8.index t ∧ win0_7.index t = win0_8.index t
    ∧ At 1 4 (t.val / 4 / 1) (win0_8.index t) t.val := by decide +kernel

section
variable (m : (ℓ : Loc nD τ sig) → Buf (Elt Ideal) ℓ) (ρ : Dev nD → PrngReg) (c : Dev nD) (l : Fin 2) (r : Fin 360) (k : Fin 2048)

/-- The point that works on element (l, r, k) of the results. -/
def pt : Fin cfg0.N := ⟨num 1 4 360 512 l.val r.val k.val, lt_of_lt_of_eq (by unfold num; omega) N_0.symm⟩
theorem layer : (pt l r k).val / 4 / 1 = l.val := num_layer (by omega) (by omega)
theorem block : Holds 360 512 (win0_8.index (pt l r k)) l.val r k := by
  have h := (block_at (pt l r k)).2.2.2.2.2.2
  rw [layer] at h
  exact h.holds (by omega) (by omega)

/-- The arguments: the devices' parts of the two layers, the weight and the moments. -/
abbrev x : S8x360x2048.Idx → EReal := m ((c.tc : Thread nD τ).loc main_arg0)
abbrev y : S8x360x2048.Idx → EReal := m ((c.tc : Thread nD τ).loc main_arg1)
abbrev w : S2x360x2048.Idx → EReal := m ((c.tc : Thread nD τ).loc main_arg2)
abbrev u : S2x360x2048.Idx → EReal := m ((c.tc : Thread nD τ).loc main_arg3)
abbrev v : S2x360x2048.Idx → EReal := m ((c.tc : Thread nD τ).loc main_arg4)

/-- The element in the point's blocks of the weight and of the moments. -/
theorem in_w : iblk m c 2 (pt l r k) (ix3 0 (lo 360 r) (lo 512 k)) = w m c (ix3 l r k) :=
  (congrArg (V m c main_arg2 : S2x360x2048.Idx → EReal) (at3 (l := l) (r := r) (k := k) ((block_at _).1 ▸ block l r k).place)).trans (by rw [V_main_arg2])
theorem in_u : iblk m c 3 (pt l r k) (ix3 0 (lo 360 r) (lo 512 k)) = u m c (ix3 l r k) :=
  (congrArg (V m c main_arg3 : S2x360x2048.Idx → EReal) (at3 (l := l) (r := r) (k := k) ((block_at _).2.1 ▸ block l r k).place)).trans (by rw [V_main_arg3])
theorem in_v : iblk m c 4 (pt l r k) (ix3 0 (lo 360 r) (lo 512 k)) = v m c (ix3 l r k) :=
  (congrArg (V m c main_arg4 : S2x360x2048.Idx → EReal) (at3 (l := l) (r := r) (k := k) ((block_at _).2.2.1 ▸ block l r k).place)).trans (by rw [V_main_arg4])

/-- The point's first result is the gradient there. -/
theorem grad_at : out0_5 (grid0.coords (pt l r k)) (iblk m c 0 (pt l r k)) (iblk m c 1 (pt l r k)) (iblk m c 2 (pt l r k)) (iblk m c 3 (pt l r k))
      (iblk m c 4 (pt l r k)) (ix3 0 (lo 360 r) (lo 512 k)) = grad (fun s r k => x m c (ix3 s r k)) (fun s r k => y m c (ix3 s r k)) l r k := by
  unfold grad
  refine (out_g _ _ _ _ _ _ _ _).trans (Finset.sum_congr rfl fun s _ => ?_)
  have hp := part_at (pt l r k)
  rw [hp.1, layer]
  rw [layer] at hp
  rcases (show l = 0 ∨ l = 1 by omega) with rfl | rfl
  · exact (congrArg (V m c main_arg0 : S8x360x2048.Idx → EReal) (at3 (l := s) (r := r) (k := k) (((hp.2.1 rfl).holds (by omega) (by omega)).place_all s.val))).trans
      (by rw [V_main_arg0]; rfl)
  · exact (congrArg (V m c main_arg1 : S8x360x2048.Idx → EReal) (at3 (l := s) (r := r) (k := k) (((hp.2.2 rfl).holds (by omega) (by omega)).place_all s.val))).trans
      (by rw [V_main_arg1]; rfl)
end

/-- The four results after the run are those of a step. -/
theorem final (m : (ℓ : Loc nD τ sig) → Buf (Elt Ideal) ℓ) (c : Dev nD) :
    Step (grad (fun s r k => x m c (ix3 s r k)) (fun s r k => y m c (ix3 s r k))) (w m c) (u m c) (v m c)
      ((dats m 0 c).arrAt 5 cfg0.N) ((dats m 0 c).arrAt 6 cfg0.N) ((dats m 0 c).arrAt 7 cfg0.N) ((dats m 0 c).arrAt 8 cfg0.N) := by
  refine ⟨fun l r k => ?_, fun l r k => ?_, fun l r k => ?_, fun l r k => ?_⟩
  · have h := congrFun (Value.blocks5 m c (pt l r k) (flush0_5 _)) (ix3 0 (lo 360 r) (lo 512 k))
    rw [Value.flushed5] at h
    exact (congrArg ((dats m 0 c).arrAt 5 cfg0.N) (at3 ((block_at _).2.2.2.1 ▸ block l r k).place)).symm.trans (h.trans (grad_at m c l r k))
  · have h := congrFun (Value.blocks6 m c (pt l r k) (flush0_6 _)) (ix3 0 (lo 360 r) (lo 512 k))
    rw [Value.flushed6] at h
    exact (congrArg ((dats m 0 c).arrAt 6 cfg0.N) (at3 ((block_at _).2.2.2.2.1 ▸ block l r k).place)).symm.trans
      (h.trans ((out_d _ _ _ _ _ _ _ _).trans (by rw [grad_at, in_w, in_u, in_v])))
  · have h := congrFun (Value.blocks7 m c (pt l r k) (flush0_7 _)) (ix3 0 (lo 360 r) (lo 512 k))
    rw [Value.flushed7] at h
    exact (congrArg ((dats m 0 c).arrAt 7 cfg0.N) (at3 ((block_at _).2.2.2.2.2.1 ▸ block l r k).place)).symm.trans
      (h.trans ((out_m _ _ _ _ _ _ _ _).trans (by rw [grad_at, in_u])))
  · have h := congrFun (Value.blocks8 m c (pt l r k) (flush0_8 _)) (ix3 0 (lo 360 r) (lo 512 k))
    rw [Value.flushed8] at h
    exact (congrArg ((dats m 0 c).arrAt 8 cfg0.N) (at3 (block l r k).place)).symm.trans
      (h.trans ((out_v _ _ _ _ _ _ _ _).trans (by rw [grad_at, in_v])))

end Cert.Kernel16Ideal.Adam

namespace Cert.Reference16Ideal.Adam
open Idealize.ShloMosaic Idealize.ShloMosaic.TcCoe Idealize.ShloMosaic.Tactic
open Cert.Adam

/-- The kernel's four results and the reference's are the same arrays, from memories that agree on the arguments. -/
theorem tie : Cert.algebraic_Kernel16Ideal_Reference16Ideal := by
  intro m ρ m' ρ' _ hagree
  refine ⟨_, _, _, _, Cert.Kernel16Ideal.Value.run_blocks (F := Ideal) m ρ, (θ_run Cert.Reference16Ideal.defs _ _).mono (fun _ h c => ?_)
    (Cert.Reference16Ideal.Value.run (F := Ideal) m' ρ')⟩
  obtain ⟨h0, h1, h2, h3, hargs⟩ := h c
  obtain ⟨e0, e1, e2, e3, e4⟩ := hagree c
  rw [← h0] at h1 h2 h3
  rw [e0, e1] at h0
  rw [e2, e3, e4] at h1
  rw [e3] at h2
  rw [e4] at h3
  have s := (Cert.Kernel16Ideal.Adam.final m c).unique (ref_step Facts₀.bcast_S_S2x360x2048 _ _ _ h0
    fun l r k => ref_g (by decide) (by decide) _ _ _ _ _ _ _ l r k)
  exact ⟨s.1.symm, h1.trans s.2.1.symm, h2.trans s.2.2.1.symm, h3.trans s.2.2.2.symm, hargs⟩

end Cert.Reference16Ideal.Adam

end
end
-- ==== Proof.Adam17.lean ====
module

public import proofs.«01_k».proof.Defs
public import proofs.«01_k».proof.Proof.AdamMath
public import proofs.«01_k».proof.Proof.Gen.Kernel17Ideal.Value
public import proofs.«01_k».proof.Proof.Gen.Kernel17Ideal.Skeleton
public import proofs.«01_k».proof.Proof.Gen.Reference17Ideal.Run

@[expose] public section

set_option maxRecDepth 16384

noncomputable section

namespace Cert.Kernel17Ideal.Adam
open Idealize.ShloMosaic Idealize.ShloMosaic.TcCoe Idealize.ShloMosaic.Tactic
open Cert.Kernel17Ideal.Gen Cert.Adam

/-! # The optimiser's step of the queries' expansion -/

section
variable (i : grid0.Coords) (x y : Vec Ideal S8x192x512 .bf16) (w u v : Vec Ideal S1x192x512 .f32) (r : Fin 192) (k : Fin 512)

/-- What a point leaves in the blocks of its four results, at an element: the parts' sum, the weight's change and the moments. -/
theorem out_g : out0_5 i x y w u v (ix3 0 r k) = ∑ s : Fin 8, pick (i 0).val (x (ix3 s r k)) (y (ix3 s r k)) := by
  unfold out0_5
  rw [View.canon_unit_zero z3, Fin.sum_univ_eight]
  unfold k0_pay9 k0_pay6 k0_pay13 k0_pay14 k0_pay4 k0_pay2 k0_pay3 k0_pay5 pick
  pointwise
theorem out_m : out0_7 i x y w u v (ix3 0 r k) = newM (out0_5 i x y w u v (ix3 0 r k)) (u (ix3 0 r k)) := by
  unfold out0_7 out0_5
  rw [View.canon_unit_zero z3, View.canon_unit_zero z3]
  simp only [View.ld_unit_zero (S := S1x192x512) z3]
  unfold k0_pay10 k0_pay7 k0_pay9 newM
  pointwise
theorem out_v : out0_8 i x y w u v (ix3 0 r k) = newV (out0_5 i x y w u v (ix3 0 r k)) (v (ix3 0 r k)) := by
  unfold out0_8 out0_5
  rw [View.canon_unit_zero z3, View.canon_unit_zero z3]
  simp only [View.ld_unit_zero (S := S1x192x512) z3]
  unfold k0_pay11 k0_pay8 k0_pay9 newV
  pointwise
theorem out_d : out0_6 i x y w u v (ix3 0 r k) = delta (w (ix3 0 r k)) (out0_5 i x y w u v (ix3 0 r k)) (u (ix3 0 r k)) (v (ix3 0 r k)) := by
  unfold out0_6 out0_5
  rw [View.canon_unit_zero z3, View.canon_unit_zero z3]
  simp only [View.ld_unit_zero (S := S1x192x512) z3]
  unfold k0_pay1 k0_pay12 k0_pay8 k0_pay7 k0_pay9 delta newM newV
  pointwise
end

/-- The blocks a point takes and leaves: of the parts those of its layer's array, of the other arrays its layer's. -/
theorem part_at : ∀ t : Fin grid0.N, (grid0.coords t 0).val = t.val / 1 / 1
    ∧ (t.val / 1 / 1 = 0 → At 1 1 0 (win0_0.index t) t.val) ∧ (t.val / 1 / 1 = 1 → At 1 1 0 (win0_1.index t) t.val) := by decide +kernel
theorem block_at : ∀ t : Fin grid0.N, win0_2.index t = win0_8.index t ∧ win0_3.index t = win0_8.index t ∧ win0_4.index t = win0_8.index t
    ∧ win0_5.index t = win0_8.index t ∧ win0_6.index t = win0_8.index t ∧ win0_7.index t = win0_8.index t
    ∧ At 1 1 (t.val / 1 / 1) (win0_8.index t) t.val := by decide +kernel

section
variable (m : (ℓ : Loc nD τ sig) → Buf (Elt Ideal) ℓ) (ρ : Dev nD → PrngReg) (c : Dev nD) (l : Fin 2) (r : Fin 192) (k : Fin 512)

/-- The point that works on element (l, r, k) of the results. -/
def pt : Fin cfg0.N := ⟨num 1 1 192 512 l.val r.val k.val, lt_of_lt_of_eq (by unfold num; omega) N_0.symm⟩
theorem layer : (pt l r k).val / 1 / 1 = l.val := num_layer (by omega) (by omega)
theorem block : Holds 192 512 (win0_8.index (pt l r k)) l.val r k := by
  have h := (block_at (pt l r k)).2.2.2.2.2.2
  rw [layer] at h
  exact h.holds (by omega) (by omega)

/-- The arguments: the devices' parts of the two layers, the weight and the moments. -/
abbrev x : S8x192x512.Idx → EReal := m ((c.tc : Thread nD τ).loc main_arg0)
abbrev y : S8x192x512.Idx → EReal := m ((c.tc : Thread nD τ).loc main_arg1)
abbrev w : S2x192x512.Idx → EReal := m ((c.tc : Thread nD τ).loc main_arg2)
abbrev u : S2x192x512.Idx → EReal := m ((c.tc : Thread nD τ).loc main_arg3)
abbrev v : S2x192x512.Idx → EReal := m ((c.tc : Thread nD τ).loc main_arg4)

/-- The element in the point's blocks of the weight and of the moments. -/
theorem in_w : iblk m c 2 (pt l r k) (ix3 0 (lo 192 r) (lo 512 k)) = w m c (ix3 l r k) :=
  (congrArg (V m c main_arg2 : S2x192x512.Idx → EReal) (at3 (l := l) (r := r) (k := k) ((block_at _).1 ▸ block l r k).place)).trans (by rw [V_main_arg2])
theorem in_u : iblk m c 3 (pt l r k) (ix3 0 (lo 192 r) (lo 512 k)) = u m c (ix3 l r k) :=
  (congrArg (V m c main_arg3 : S2x192x512.Idx → EReal) (at3 (l := l) (r := r) (k := k) ((block_at _).2.1 ▸ block l r k).place)).trans (by rw [V_main_arg3])
theorem in_v : iblk m c 4 (pt l r k) (ix3 0 (lo 192 r) (lo 512 k)) = v m c (ix3 l r k) :=
  (congrArg (V m c main_arg4 : S2x192x512.Idx → EReal) (at3 (l := l) (r := r) (k := k) ((block_at _).2.2.1 ▸ block l r k).place)).trans (by rw [V_main_arg4])

/-- The point's first result is the gradient there. -/
theorem grad_at : out0_5 (grid0.coords (pt l r k)) (iblk m c 0 (pt l r k)) (iblk m c 1 (pt l r k)) (iblk m c 2 (pt l r k)) (iblk m c 3 (pt l r k))
      (iblk m c 4 (pt l r k)) (ix3 0 (lo 192 r) (lo 512 k)) = grad (fun s r k => x m c (ix3 s r k)) (fun s r k => y m c (ix3 s r k)) l r k := by
  unfold grad
  refine (out_g _ _ _ _ _ _ _ _).trans (Finset.sum_congr rfl fun s _ => ?_)
  have hp := part_at (pt l r k)
  rw [hp.1, layer]
  rw [layer] at hp
  rcases (show l = 0 ∨ l = 1 by omega) with rfl | rfl
  · exact (congrArg (V m c main_arg0 : S8x192x512.Idx → EReal) (at3 (l := s) (r := r) (k := k) (((hp.2.1 rfl).holds (by omega) (by omega)).place_all s.val))).trans
      (by rw [V_main_arg0]; rfl)
  · exact (congrArg (V m c main_arg1 : S8x192x512.Idx → EReal) (at3 (l := s) (r := r) (k := k) (((hp.2.2 rfl).holds (by omega) (by omega)).place_all s.val))).trans
      (by rw [V_main_arg1]; rfl)
end

/-- The four results after the run are those of a step. -/
theorem final (m : (ℓ : Loc nD τ sig) → Buf (Elt Ideal) ℓ) (c : Dev nD) :
    Step (grad (fun s r k => x m c (ix3 s r k)) (fun s r k => y m c (ix3 s r k))) (w m c) (u m c) (v m c)
      ((dats m 0 c).arrAt 5 cfg0.N) ((dats m 0 c).arrAt 6 cfg0.N) ((dats m 0 c).arrAt 7 cfg0.N) ((dats m 0 c).arrAt 8 cfg0.N) := by
  refine ⟨fun l r k => ?_, fun l r k => ?_, fun l r k => ?_, fun l r k => ?_⟩
  · have h := congrFun (Value.blocks5 m c (pt l r k) (flush0_5 _)) (ix3 0 (lo 192 r) (lo 512 k))
    rw [Value.flushed5] at h
    exact (congrArg ((dats m 0 c).arrAt 5 cfg0.N) (at3 ((block_at _).2.2.2.1 ▸ block l r k).place)).symm.trans (h.trans (grad_at m c l r k))
  · have h := congrFun (Value.blocks6 m c (pt l r k) (flush0_6 _)) (ix3 0 (lo 192 r) (lo 512 k))
    rw [Value.flushed6] at h
    exact (congrArg ((dats m 0 c).arrAt 6 cfg0.N) (at3 ((block_at _).2.2.2.2.1 ▸ block l r k).place)).symm.trans
      (h.trans ((out_d _ _ _ _ _ _ _ _).trans (by rw [grad_at, in_w, in_u, in_v])))
  · have h := congrFun (Value.blocks7 m c (pt l r k) (flush0_7 _)) (ix3 0 (lo 192 r) (lo 512 k))
    rw [Value.flushed7] at h
    exact (congrArg ((dats m 0 c).arrAt 7 cfg0.N) (at3 ((block_at _).2.2.2.2.2.1 ▸ block l r k).place)).symm.trans
      (h.trans ((out_m _ _ _ _ _ _ _ _).trans (by rw [grad_at, in_u])))
  · have h := congrFun (Value.blocks8 m c (pt l r k) (flush0_8 _)) (ix3 0 (lo 192 r) (lo 512 k))
    rw [Value.flushed8] at h
    exact (congrArg ((dats m 0 c).arrAt 8 cfg0.N) (at3 (block l r k).place)).symm.trans
      (h.trans ((out_v _ _ _ _ _ _ _ _).trans (by rw [grad_at, in_v])))

end Cert.Kernel17Ideal.Adam

namespace Cert.Reference17Ideal.Adam
open Idealize.ShloMosaic Idealize.ShloMosaic.TcCoe Idealize.ShloMosaic.Tactic
open Cert.Adam

/-- The kernel's four results and the reference's are the same arrays, from memories that agree on the arguments. -/
theorem tie : Cert.algebraic_Kernel17Ideal_Reference17Ideal := by
  intro m ρ m' ρ' _ hagree
  refine ⟨_, _, _, _, Cert.Kernel17Ideal.Value.run_blocks (F := Ideal) m ρ, (θ_run Cert.Reference17Ideal.defs _ _).mono (fun _ h c => ?_)
    (Cert.Reference17Ideal.Value.run (F := Ideal) m' ρ')⟩
  obtain ⟨h0, h1, h2, h3, hargs⟩ := h c
  obtain ⟨e0, e1, e2, e3, e4⟩ := hagree c
  rw [← h0] at h1 h2 h3
  rw [e0, e1] at h0
  rw [e2, e3, e4] at h1
  rw [e3] at h2
  rw [e4] at h3
  have s := (Cert.Kernel17Ideal.Adam.final m c).unique (ref_step Facts₀.bcast_S_S2x192x512 _ _ _ h0
    fun l r k => ref_g (by decide) (by decide) _ _ _ _ _ _ _ l r k)
  exact ⟨s.1.symm, h1.trans s.2.1.symm, h2.trans s.2.2.1.symm, h3.trans s.2.2.2.symm, hargs⟩

end Cert.Reference17Ideal.Adam

end
end
-- ==== Proof.Adam18.lean ====
module

public import proofs.«01_k».proof.Defs
public import proofs.«01_k».proof.Proof.AdamMath
public import proofs.«01_k».proof.Proof.Gen.Kernel18Ideal.Value
public import proofs.«01_k».proof.Proof.Gen.Kernel18Ideal.Skeleton
public import proofs.«01_k».proof.Proof.Gen.Reference18Ideal.Run

@[expose] public section

set_option maxRecDepth 16384

noncomputable section

namespace Cert.Kernel18Ideal.Adam
open Idealize.ShloMosaic Idealize.ShloMosaic.TcCoe Idealize.ShloMosaic.Tactic
open Cert.Kernel18Ideal.Gen Cert.Adam

/-! # The optimiser's step of the keys' and values' expansion and the per-layer weight -/

section
variable (i : grid0.Coords) (x y : Vec Ideal S8x256x256 .bf16) (w u v : Vec Ideal S1x256x256 .f32) (r : Fin 256) (k : Fin 256)

/-- What a point leaves in the blocks of its four results, at an element: the parts' sum, the weight's change and the moments. -/
theorem out_g : out0_5 i x y w u v (ix3 0 r k) = ∑ s : Fin 8, pick (i 0).val (x (ix3 s r k)) (y (ix3 s r k)) := by
  unfold out0_5
  rw [View.canon_unit_zero z3, Fin.sum_univ_eight]
  unfold k0_pay9 k0_pay6 k0_pay13 k0_pay14 k0_pay4 k0_pay2 k0_pay3 k0_pay5 pick
  pointwise
theorem out_m : out0_7 i x y w u v (ix3 0 r k) = newM (out0_5 i x y w u v (ix3 0 r k)) (u (ix3 0 r k)) := by
  unfold out0_7 out0_5
  rw [View.canon_unit_zero z3, View.canon_unit_zero z3]
  simp only [View.ld_unit_zero (S := S1x256x256) z3]
  unfold k0_pay10 k0_pay7 k0_pay9 newM
  pointwise
theorem out_v : out0_8 i x y w u v (ix3 0 r k) = newV (out0_5 i x y w u v (ix3 0 r k)) (v (ix3 0 r k)) := by
  unfold out0_8 out0_5
  rw [View.canon_unit_zero z3, View.canon_unit_zero z3]
  simp only [View.ld_unit_zero (S := S1x256x256) z3]
  unfold k0_pay11 k0_pay8 k0_pay9 newV
  pointwise
theorem out_d : out0_6 i x y w u v (ix3 0 r k) = delta (w (ix3 0 r k)) (out0_5 i x y w u v (ix3 0 r k)) (u (ix3 0 r k)) (v (ix3 0 r k)) := by
  unfold out0_6 out0_5
  rw [View.canon_unit_zero z3, View.canon_unit_zero z3]
  simp only [View.ld_unit_zero (S := S1x256x256) z3]
  unfold k0_pay1 k0_pay12 k0_pay8 k0_pay7 k0_pay9 delta newM newV
  pointwise
end

/-- The blocks a point takes and leaves: of the parts those of its layer's array, of the other arrays its layer's. -/
theorem part_at : ∀ t : Fin grid0.N, (grid0.coords t 0).val = t.val / 1 / 1
    ∧ (t.val / 1 / 1 = 0 → At 1 1 0 (win0_0.index t) t.val) ∧ (t.val / 1 / 1 = 1 → At 1 1 0 (win0_1.index t) t.val) := by decide +kernel
theorem block_at : ∀ t : Fin grid0.N, win0_2.index t = win0_8.index t ∧ win0_3.index t = win0_8.index t ∧ win0_4.index t = win0_8.index t
    ∧ win0_5.index t = win0_8.index t ∧ win0_6.index t = win0_8.index t ∧ win0_7.index t = win0_8.index t
    ∧ At 1 1 (t.val / 1 / 1) (win0_8.index t) t.val := by decide +kernel

section
variable (m : (ℓ : Loc nD τ sig) → Buf (Elt Ideal) ℓ) (ρ : Dev nD → PrngReg) (c : Dev nD) (l : Fin 2) (r : Fin 256) (k : Fin 256)

/-- The point that works on element (l, r, k) of the results. -/
def pt : Fin cfg0.N := ⟨num 1 1 256 256 l.val r.val k.val, lt_of_lt_of_eq (by unfold num; omega) N_0.symm⟩
theorem layer : (pt l r k).val / 1 / 1 = l.val := num_layer (by omega) (by omega)
theorem block : Holds 256 256 (win0_8.index (pt l r k)) l.val r k := by
  have h := (block_at (pt l r k)).2.2.2.2.2.2
  rw [layer] at h
  exact h.holds (by omega) (by omega)

/-- The arguments: the devices' parts of the two layers, the weight and the moments. -/
abbrev x : S8x256x256.Idx → EReal := m ((c.tc : Thread nD τ).loc main_arg0)
abbrev y : S8x256x256.Idx → EReal := m ((c.tc : Thread nD τ).loc main_arg1)
abbrev w : S2x256x256.Idx → EReal := m ((c.tc : Thread nD τ).loc main_arg2)
abbrev u : S2x256x256.Idx → EReal := m ((c.tc : Thread nD τ).loc main_arg3)
abbrev v : S2x256x256.Idx → EReal := m ((c.tc : Thread nD τ).loc main_arg4)

/-- The element in the point's blocks of the weight and of the moments. -/
theorem in_w : iblk m c 2 (pt l r k) (ix3 0 (lo 256 r) (lo 256 k)) = w m c (ix3 l r k) :=
  (congrArg (V m c main_arg2 : S2x256x256.Idx → EReal) (at3 (l := l) (r := r) (k := k) ((block_at _).1 ▸ block l r k).place)).trans (by rw [V_main_arg2])
theorem in_u : iblk m c 3 (pt l r k) (ix3 0 (lo 256 r) (lo 256 k)) = u m c (ix3 l r k) :=
  (congrArg (V m c main_arg3 : S2x256x256.Idx → EReal) (at3 (l := l) (r := r) (k := k) ((block_at _).2.1 ▸ block l r k).place)).trans (by rw [V_main_arg3])
theorem in_v : iblk m c 4 (pt l r k) (ix3 0 (lo 256 r) (lo 256 k)) = v m c (ix3 l r k) :=
  (congrArg (V m c main_arg4 : S2x256x256.Idx → EReal) (at3 (l := l) (r := r) (k := k) ((block_at _).2.2.1 ▸ block l r k).place)).trans (by rw [V_main_arg4])

/-- The point's first result is the gradient there. -/
theorem grad_at : out0_5 (grid0.coords (pt l r k)) (iblk m c 0 (pt l r k)) (iblk m c 1 (pt l r k)) (iblk m c 2 (pt l r k)) (iblk m c 3 (pt l r k))
      (iblk m c 4 (pt l r k)) (ix3 0 (lo 256 r) (lo 256 k)) = grad (fun s r k => x m c (ix3 s r k)) (fun s r k => y m c (ix3 s r k)) l r k := by
  unfold grad
  refine (out_g _ _ _ _ _ _ _ _).trans (Finset.sum_congr rfl fun s _ => ?_)
  have hp := part_at (pt l r k)
  rw [hp.1, layer]
  rw [layer] at hp
  rcases (show l = 0 ∨ l = 1 by omega) with rfl | rfl
  · exact (congrArg (V m c main_arg0 : S8x256x256.Idx → EReal) (at3 (l := s) (r := r) (k := k) (((hp.2.1 rfl).holds (by omega) (by omega)).place_all s.val))).trans
      (by rw [V_main_arg0]; rfl)
  · exact (congrArg (V m c main_arg1 : S8x256x256.Idx → EReal) (at3 (l := s) (r := r) (k := k) (((hp.2.2 rfl).holds (by omega) (by omega)).place_all s.val))).trans
      (by rw [V_main_arg1]; rfl)
end

/-- The four results after the run are those of a step. -/
theorem final (m : (ℓ : Loc nD τ sig) → Buf (Elt Ideal) ℓ) (c : Dev nD) :
    Step (grad (fun s r k => x m c (ix3 s r k)) (fun s r k => y m c (ix3 s r k))) (w m c) (u m c) (v m c)
      ((dats m 0 c).arrAt 5 cfg0.N) ((dats m 0 c).arrAt 6 cfg0.N) ((dats m 0 c).arrAt 7 cfg0.N) ((dats m 0 c).arrAt 8 cfg0.N) := by
  refine ⟨fun l r k => ?_, fun l r k => ?_, fun l r k => ?_, fun l r k => ?_⟩
  · have h := congrFun (Value.blocks5 m c (pt l r k) (flush0_5 _)) (ix3 0 (lo 256 r) (lo 256 k))
    rw [Value.flushed5] at h
    exact (congrArg ((dats m 0 c).arrAt 5 cfg0.N) (at3 ((block_at _).2.2.2.1 ▸ block l r k).place)).symm.trans (h.trans (grad_at m c l r k))
  · have h := congrFun (Value.blocks6 m c (pt l r k) (flush0_6 _)) (ix3 0 (lo 256 r) (lo 256 k))
    rw [Value.flushed6] at h
    exact (congrArg ((dats m 0 c).arrAt 6 cfg0.N) (at3 ((block_at _).2.2.2.2.1 ▸ block l r k).place)).symm.trans
      (h.trans ((out_d _ _ _ _ _ _ _ _).trans (by rw [grad_at, in_w, in_u, in_v])))
  · have h := congrFun (Value.blocks7 m c (pt l r k) (flush0_7 _)) (ix3 0 (lo 256 r) (lo 256 k))
    rw [Value.flushed7] at h
    exact (congrArg ((dats m 0 c).arrAt 7 cfg0.N) (at3 ((block_at _).2.2.2.2.2.1 ▸ block l r k).place)).symm.trans
      (h.trans ((out_m _ _ _ _ _ _ _ _).trans (by rw [grad_at, in_u])))
  · have h := congrFun (Value.blocks8 m c (pt l r k) (flush0_8 _)) (ix3 0 (lo 256 r) (lo 256 k))
    rw [Value.flushed8] at h
    exact (congrArg ((dats m 0 c).arrAt 8 cfg0.N) (at3 (block l r k).place)).symm.trans
      (h.trans ((out_v _ _ _ _ _ _ _ _).trans (by rw [grad_at, in_v])))

end Cert.Kernel18Ideal.Adam

namespace Cert.Reference18Ideal.Adam
open Idealize.ShloMosaic Idealize.ShloMosaic.TcCoe Idealize.ShloMosaic.Tactic
open Cert.Adam

/-- The kernel's four results and the reference's are the same arrays, from memories that agree on the arguments. -/
theorem tie : Cert.algebraic_Kernel18Ideal_Reference18Ideal := by
  intro m ρ m' ρ' _ hagree
  refine ⟨_, _, _, _, Cert.Kernel18Ideal.Value.run_blocks (F := Ideal) m ρ, (θ_run Cert.Reference18Ideal.defs _ _).mono (fun _ h c => ?_)
    (Cert.Reference18Ideal.Value.run (F := Ideal) m' ρ')⟩
  obtain ⟨h0, h1, h2, h3, hargs⟩ := h c
  obtain ⟨e0, e1, e2, e3, e4⟩ := hagree c
  rw [← h0] at h1 h2 h3
  rw [e0, e1] at h0
  rw [e2, e3, e4] at h1
  rw [e3] at h2
  rw [e4] at h3
  have s := (Cert.Kernel18Ideal.Adam.final m c).unique (ref_step Facts₀.bcast_S_S2x256x256 _ _ _ h0
    fun l r k => ref_g (by decide) (by decide) _ _ _ _ _ _ _ l r k)
  exact ⟨s.1.symm, h1.trans s.2.1.symm, h2.trans s.2.2.1.symm, h3.trans s.2.2.2.symm, hargs⟩

end Cert.Reference18Ideal.Adam

end
end
-- ==== Proof.Adam19.lean ====
module

public import proofs.«01_k».proof.Defs
public import proofs.«01_k».proof.Proof.AdamMath
public import proofs.«01_k».proof.Proof.Gen.Kernel19Ideal.Value
public import proofs.«01_k».proof.Proof.Gen.Kernel19Ideal.Skeleton
public import proofs.«01_k».proof.Proof.Gen.Reference19Ideal.Run

@[expose] public section

set_option maxRecDepth 16384

noncomputable section

namespace Cert.Kernel19Ideal.Adam
open Idealize.ShloMosaic Idealize.ShloMosaic.TcCoe Idealize.ShloMosaic.Tactic
open Cert.Kernel19Ideal.Gen Cert.Adam

/-! # The optimiser's step of the small weights, packed into one array -/

section
variable (x : Vec Ideal S8x512x128 .f32) (w u v : Vec Ideal S1x512x128 .f32) (r : Fin 512) (k : Fin 128)

/-- What a point leaves in the blocks of its four results, at an element: the parts' sum, the weight's change and the moments. -/
theorem out_g : out0_4 x w u v (ix3 0 r k) = ∑ s : Fin 8, x (ix3 s r k) := by
  unfold out0_4
  rw [View.canon_unit_zero z3, Fin.sum_univ_eight]
  unfold k0_pay7 k0_pay11 k0_pay2
  pointwise
theorem out_m : out0_6 x w u v (ix3 0 r k) = newM (out0_4 x w u v (ix3 0 r k)) (u (ix3 0 r k)) := by
  unfold out0_6 out0_4 k0_pay12 k0_pay13
  rw [View.canon_unit_zero z3, View.canon_unit_zero z3]
  simp only [View.ld_unit_zero (S := S1x512x128) z3]
  unfold k0_pay8 k0_pay5 k0_pay3 k0_pay4 k0_pay7 newM
  pointwise
theorem out_v : out0_7 x w u v (ix3 0 r k) = newV (out0_4 x w u v (ix3 0 r k)) (v (ix3 0 r k)) := by
  unfold out0_7 out0_4
  rw [View.canon_unit_zero z3, View.canon_unit_zero z3]
  simp only [View.ld_unit_zero (S := S1x512x128) z3]
  unfold k0_pay9 k0_pay6 k0_pay7 newV
  pointwise
theorem out_d : out0_5 x w u v (ix3 0 r k) = delta (w (ix3 0 r k)) (out0_4 x w u v (ix3 0 r k)) (u (ix3 0 r k)) (v (ix3 0 r k)) := by
  unfold out0_5 out0_4 k0_pay12 k0_pay13
  rw [View.canon_unit_zero z3, View.canon_unit_zero z3]
  simp only [View.ld_unit_zero (S := S1x512x128) z3]
  unfold k0_pay1 k0_pay10 k0_pay5 k0_pay6 k0_pay3 k0_pay4 k0_pay7 delta newM newV
  pointwise
end

/-- The blocks a point takes and leaves: those of its number, along the rows. -/
theorem block_at : ∀ t : Fin grid0.N, win0_0.index t = win0_7.index t ∧ win0_1.index t = win0_7.index t ∧ win0_2.index t = win0_7.index t
    ∧ win0_3.index t = win0_7.index t ∧ win0_4.index t = win0_7.index t ∧ win0_5.index t = win0_7.index t ∧ win0_6.index t = win0_7.index t
    ∧ At 5 1 0 (win0_7.index t) t.val := by decide +kernel

section
variable (m : (ℓ : Loc nD τ sig) → Buf (Elt Ideal) ℓ) (c : Dev nD) (r : Fin 2560) (k : Fin 128)

/-- The point that works on element (r, k) of the results. -/
def pt : Fin cfg0.N := ⟨num 5 1 512 128 0 r.val k.val, lt_of_lt_of_eq (by unfold num; omega) N_0.symm⟩
theorem block : Holds 512 128 (win0_7.index (pt r k)) 0 r k := (block_at (pt r k)).2.2.2.2.2.2.2.holds (by omega) (by omega)

/-- The arguments: the devices' parts, the weight and the moments. -/
abbrev x : S8x2560x128.Idx → EReal := m ((c.tc : Thread nD τ).loc main_arg0)
abbrev w : S1x2560x128.Idx → EReal := m ((c.tc : Thread nD τ).loc main_arg1)
abbrev u : S1x2560x128.Idx → EReal := m ((c.tc : Thread nD τ).loc main_arg2)
abbrev v : S1x2560x128.Idx → EReal := m ((c.tc : Thread nD τ).loc main_arg3)

/-- The element in the point's blocks of the weight and of the moments. -/
theorem in_w : iblk m c 1 (pt r k) (ix3 0 (lo 512 r) (lo 128 k)) = w m c (ix3 0 r k) :=
  (congrArg (V m c main_arg1 : S1x2560x128.Idx → EReal) (at3 (l := 0) (r := r) (k := k) ((block_at _).2.1 ▸ block r k).place)).trans (by rw [V_main_arg1])
theorem in_u : iblk m c 2 (pt r k) (ix3 0 (lo 512 r) (lo 128 k)) = u m c (ix3 0 r k) :=
  (congrArg (V m c main_arg2 : S1x2560x128.Idx → EReal) (at3 (l := 0) (r := r) (k := k) ((block_at _).2.2.1 ▸ block r k).place)).trans (by rw [V_main_arg2])
theorem in_v : iblk m c 3 (pt r k) (ix3 0 (lo 512 r) (lo 128 k)) = v m c (ix3 0 r k) :=
  (congrArg (V m c main_arg3 : S1x2560x128.Idx → EReal) (at3 (l := 0) (r := r) (k := k) ((block_at _).2.2.2.1 ▸ block r k).place)).trans (by rw [V_main_arg3])

/-- The point's first result is the gradient there: the sum of the parts. -/
theorem grad_at : out0_4 (iblk m c 0 (pt r k)) (iblk m c 1 (pt r k)) (iblk m c 2 (pt r k)) (iblk m c 3 (pt r k)) (ix3 0 (lo 512 r) (lo 128 k))
    = ∑ s : Fin 8, x m c (ix3 s r k) :=
  (out_g _ _ _ _ _ _).trans (Finset.sum_congr rfl fun s _ =>
    (congrArg (V m c main_arg0 : S8x2560x128.Idx → EReal) (at3 (l := s) (r := r) (k := k) (((block_at _).1 ▸ block r k).place_all s.val))).trans
      (by rw [V_main_arg0]))
end

/-- The four results after the run are those of a step. -/
theorem final (m : (ℓ : Loc nD τ sig) → Buf (Elt Ideal) ℓ) (c : Dev nD) :
    Step (fun _ r k => ∑ s : Fin 8, x m c (ix3 s r k)) (w m c) (u m c) (v m c)
      ((dats m 0 c).arrAt 4 cfg0.N) ((dats m 0 c).arrAt 5 cfg0.N) ((dats m 0 c).arrAt 6 cfg0.N) ((dats m 0 c).arrAt 7 cfg0.N) := by
  refine ⟨fun l r k => ?_, fun l r k => ?_, fun l r k => ?_, fun l r k => ?_⟩
  all_goals obtain rfl := Subsingleton.elim l 0
  · have h := congrFun (Value.blocks4 m c (pt r k) (flush0_4 _)) (ix3 0 (lo 512 r) (lo 128 k))
    rw [Value.flushed4] at h
    exact (congrArg ((dats m 0 c).arrAt 4 cfg0.N) (at3 ((block_at _).2.2.2.2.1 ▸ block r k).place)).symm.trans (h.trans (grad_at m c r k))
  · have h := congrFun (Value.blocks5 m c (pt r k) (flush0_5 _)) (ix3 0 (lo 512 r) (lo 128 k))
    rw [Value.flushed5] at h
    exact (congrArg ((dats m 0 c).arrAt 5 cfg0.N) (at3 ((block_at _).2.2.2.2.2.1 ▸ block r k).place)).symm.trans
      (h.trans ((out_d _ _ _ _ _ _).trans (by rw [grad_at, in_w, in_u, in_v])))
  · have h := congrFun (Value.blocks6 m c (pt r k) (flush0_6 _)) (ix3 0 (lo 512 r) (lo 128 k))
    rw [Value.flushed6] at h
    exact (congrArg ((dats m 0 c).arrAt 6 cfg0.N) (at3 ((block_at _).2.2.2.2.2.2.1 ▸ block r k).place)).symm.trans
      (h.trans ((out_m _ _ _ _ _ _).trans (by rw [grad_at, in_u])))
  · have h := congrFun (Value.blocks7 m c (pt r k) (flush0_7 _)) (ix3 0 (lo 512 r) (lo 128 k))
    rw [Value.flushed7] at h
    exact (congrArg ((dats m 0 c).arrAt 7 cfg0.N) (at3 (block r k).place)).symm.trans
      (h.trans ((out_v _ _ _ _ _ _).trans (by rw [grad_at, in_v])))

end Cert.Kernel19Ideal.Adam

namespace Cert.Reference19Ideal.Adam
open Idealize.ShloMosaic Idealize.ShloMosaic.TcCoe Idealize.ShloMosaic.Tactic
open Cert.Adam

/-- The kernel's four results and the reference's are the same arrays, from memories that agree on the arguments. -/
theorem tie : Cert.algebraic_Kernel19Ideal_Reference19Ideal := by
  intro m ρ m' ρ' _ hagree
  refine ⟨_, _, _, _, Cert.Kernel19Ideal.Value.run_blocks (F := Ideal) m ρ, (θ_run Cert.Reference19Ideal.defs _ _).mono (fun _ h c => ?_)
    (Cert.Reference19Ideal.Value.run (F := Ideal) m' ρ')⟩
  obtain ⟨h0, h1, h2, h3, hargs⟩ := h c
  obtain ⟨e0, e1, e2, e3⟩ := hagree c
  rw [← h0] at h1 h2 h3
  rw [e0] at h0
  rw [e1, e2, e3] at h1
  rw [e2] at h2
  rw [e3] at h3
  have s := (Cert.Kernel19Ideal.Adam.final m c).unique (ref_step Facts₀.bcast_S_S1x2560x128 _ _ _ h0 fun l r k => by
    obtain rfl := Subsingleton.elim l 0
    pointwise)
  exact ⟨s.1.symm, h1.trans s.2.1.symm, h2.trans s.2.2.1.symm, h3.trans s.2.2.2.symm, hargs⟩

end Cert.Reference19Ideal.Adam

end
end
-- ==== Proof.RowMath.lean ====
module

public import proofs.«01_k».proof.Proof.ProjMath

@[expose] public section

noncomputable section

namespace Cert.Row
open Idealize.ShloMosaic

/-! # The calls that work row by row: a row's norm and its gradient, and sums over the rows -/

/-- A row's mean square, and the small constant. -/
def ssq (x : Fin 2048 → EReal) : EReal := Ideal.div (∑ k, x k * x k) (Ideal.ofBits .f32 0x45000000#32) + Ideal.ofBits .f32 0x358637BD#32

/-- The row over its root mean square, by the weight. -/
def rms (x g : Fin 2048 → EReal) (k : Fin 2048) : EReal := x k * Ideal.rsqrt (ssq x) * g k

/-- What the derivative of the norm has along the row itself. -/
def along (x d : Fin 2048 → EReal) : EReal :=
  Ideal.div ((∑ k, x k * d k) * (Ideal.ofBits .f32 0xBF000000#32 * Ideal.div (Ideal.rsqrt (ssq x)) (ssq x))) (Ideal.ofBits .f32 0x45000000#32)

/-- The gradient of the row, from the gradient `d` of its norm before the weight. -/
def back (x d : Fin 2048 → EReal) (k : Fin 2048) : EReal := d k * Ideal.rsqrt (ssq x) + x k * along x d + along x d * x k

/-- An index's place in its block of 512, and of 256. -/
def lo {n : Nat} (i : Fin n) : Fin 512 := ⟨i.val % 512, Nat.mod_lt _ (by decide)⟩
def lo' {n : Nat} (i : Fin n) : Fin 256 := ⟨i.val % 256, Nat.mod_lt _ (by decide)⟩

/-- The row that is row `r` of block `t`. -/
def row {B P N : Nat} (h : B * P = N) (t : Fin P) (r : Fin B) : Fin N :=
  ⟨B * t.val + r.val, h ▸ lt_of_lt_of_le (Nat.add_lt_add_left r.isLt _) (le_of_eq_of_le (Nat.mul_succ B t.val).symm (Nat.mul_le_mul_left B t.isLt))⟩

/-- A sum over all rows that is taken block by block: after the last block it is the sum. -/
theorem sum_acc {B P N : Nat} (hN : B * P = N) (f : Fin N → EReal) (A : (n : ℕ) → n < P → EReal)
    (h0 : ∀ h, A 0 h = ∑ r : Fin B, f (row hN ⟨0, h⟩ r))
    (hs : ∀ n h, A (n + 1) h = A n (Nat.lt_of_succ_lt h) + ∑ r : Fin B, f (row hN ⟨n + 1, h⟩ r))
    (n : ℕ) (h : n < P) (hn : n + 1 = P) : A n h = ∑ i : Fin N, f i := by
  have key : ∀ n h, A n h = ∑ i ∈ Finset.range (B * (n + 1)), if hi : i < N then f ⟨i, hi⟩ else 0 := by
    intro n
    induction n with
    | zero =>
      intro h
      rw [h0, Nat.zero_add, Nat.mul_one, Finset.sum_range]
      refine Finset.sum_congr rfl fun r _ => ?_
      have e : B * 0 + r.val = r.val := by omega
      rw [dif_pos (e ▸ (row hN ⟨0, h⟩ r).isLt)]
      exact congrArg f (Fin.ext e)
    | succ n ih =>
      intro h
      rw [hs, ih, show B * (n + 1 + 1) = B * (n + 1) + B from Nat.mul_succ B (n + 1), Finset.sum_range_add]
      refine congrArg _ ?_
      rw [Finset.sum_range]
      exact Finset.sum_congr rfl fun r _ => by
        rw [dif_pos (show B * (n + 1) + r.val < N from (row hN ⟨n + 1, h⟩ r).isLt)]
        rfl
  rw [key, hn, hN, Finset.sum_range]
  exact Finset.sum_congr rfl fun i _ => by rw [dif_pos i.isLt]

end Cert.Row
end
end
-- ==== Proof.Row20.lean ====
module

public import proofs.«01_k».proof.Defs
public import proofs.«01_k».proof.Proof.RowMath
public import proofs.«01_k».proof.Proof.Gen.Kernel20.Frame
public import proofs.«01_k».proof.Proof.Gen.Kernel20Ideal.Value
public import proofs.«01_k».proof.Proof.Gen.Kernel20Ideal.Skeleton
public import proofs.«01_k».proof.Proof.Gen.Reference20Ideal.Run

@[expose] public section

set_option maxRecDepth 16384

noncomputable section

namespace Cert.Kernel20Ideal.Row
open Idealize.ShloMosaic Idealize.ShloMosaic.TcCoe Idealize.ShloMosaic.Tactic
open Cert.Kernel20Ideal.Gen Cert.Row
open Cert.Proj (z2 at2)

/-! # The norm before a layer's products -/

/-- What a point leaves in the result's block: the norm of its rows. -/
theorem out_apply (x : Vec Ideal S512x2048 .f32) (g : Vec Ideal S1x2048 .f32) (r : Fin 512) (k : Fin 2048) :
    out0_2 x g (ix2 r k) = rms (fun k => x (ix2 r k)) (fun k => g (ix2 0 k)) k := by
  unfold out0_2
  rw [View.canon_unit_zero z2]
  simp only [View.ld_unit_zero (S := S512x2048) z2, View.ld_unit_zero (S := S1x2048) z2]
  unfold k0_pay1 rms ssq
  pointwise

/-- The point that works on row `r` of the result, and the blocks it takes. -/
def pt (r : Fin 4096) : Fin cfg0.N := ⟨r.val / 512, lt_of_lt_of_eq (by omega) N_0.symm⟩
theorem index_all : ∀ t : Fin grid0.N, (win0_0.index t 0 = t.val ∧ win0_0.index t 1 = 0) ∧ (win0_1.index t 0 = 0 ∧ win0_1.index t 1 = 0)
    ∧ win0_2.index t 0 = t.val ∧ win0_2.index t 1 = 0 := by decide +kernel

variable (m : (ℓ : Loc nD τ sig) → Buf (Elt Ideal) ℓ) (ρ : Dev nD → PrngReg)

/-- The result array after the run: the norm of the rows. -/
theorem final (c : Dev nD) : (dats m 0 c).arrAt 2 cfg0.N = fun i : S4096x2048.Idx =>
    rms (fun k => (m ((c.tc : Thread nD τ).loc main_arg0) : S4096x2048.Idx → EReal) (ix2 (i 0) k))
      (fun k => (m ((c.tc : Thread nD τ).loc main_arg1) : S1x2048.Idx → EReal) (ix2 0 k)) (i 1) := by
  funext i
  obtain ⟨r, k, rfl⟩ : ∃ (r : Fin 4096) (k : Fin 2048), i = (ix2 r k : S4096x2048.Idx) := ⟨_, _, eq_ix2 (n0 := 4096) (n1 := 2048) i⟩
  have h := congrFun (Value.blocks2 m c (pt r) (flush0_2 _)) (ix2 (lo r) k)
  rw [Value.flushed2] at h
  have hi := index_all (pt r)
  have hv : (pt r).val = r.val / 512 := rfl
  have e0 : ∀ k, iblk m c 0 (pt r) (ix2 (lo r) k) = (m ((c.tc : Thread nD τ).loc main_arg0) : S4096x2048.Idx → EReal) (ix2 r k) := fun k =>
    congrArg (m ((c.tc : Thread nD τ).loc main_arg0) : S4096x2048.Idx → EReal)
      (at2 (by show win0_0.index (pt r) 0 * 512 + 1 * (r.val % 512) = r.val; omega)
        (by show win0_0.index (pt r) 1 * 2048 + 1 * k.val = k.val; omega))
  have e1 : ∀ k, iblk m c 1 (pt r) (ix2 0 k) = (m ((c.tc : Thread nD τ).loc main_arg1) : S1x2048.Idx → EReal) (ix2 0 k) := fun k =>
    congrArg (m ((c.tc : Thread nD τ).loc main_arg1) : S1x2048.Idx → EReal)
      (at2 (by show win0_1.index (pt r) 0 * 1 + 1 * 0 = 0; omega)
        (by show win0_1.index (pt r) 1 * 2048 + 1 * k.val = k.val; omega))
  refine (congrArg ((dats m 0 c).arrAt 2 cfg0.N) (at2 (by show win0_2.index (pt r) 0 * 512 + 1 * (r.val % 512) = r.val; omega)
      (by show win0_2.index (pt r) 1 * 2048 + 1 * k.val = k.val; omega))).symm.trans (h.trans ((out_apply _ _ _ _).trans ?_))
  simp only [e0, e1]
  rfl

end Cert.Kernel20Ideal.Row

namespace Cert.Reference20Ideal.Row
open Idealize.ShloMosaic Idealize.ShloMosaic.TcCoe Idealize.ShloMosaic.Tactic Cert.Row

/-- The kernel's result and the reference's are one array, from memories that agree on the arguments. -/
theorem tie : Cert.algebraic_Kernel20Ideal_Reference20Ideal := by
  intro m ρ m' ρ' _ hagree
  refine ⟨_, Cert.Kernel20Ideal.Value.run_blocks (F := Ideal) m ρ, (θ_run Cert.Reference20Ideal.defs _ _).mono (fun _ h c => ⟨(h c).1.trans ?_, (h c).2⟩)
    (Cert.Reference20Ideal.Value.run (F := Ideal) m' ρ')⟩
  rw [(hagree c).1, (hagree c).2, Cert.Kernel20Ideal.Row.final]
  funext i
  obtain ⟨r, k, rfl⟩ : ∃ (r : Fin 4096) (k : Fin 2048), i = (ix2 r k : S4096x2048.Idx) := ⟨_, _, eq_ix2 (n0 := 4096) (n1 := 2048) i⟩
  unfold rms ssq
  pointwise

end Cert.Reference20Ideal.Row
end
end
-- ==== Proof.Row21.lean ====
module

public import proofs.«01_k».proof.Defs
public import proofs.«01_k».proof.Proof.RowMath
public import proofs.«01_k».proof.Proof.Gen.Kernel21.Frame
public import proofs.«01_k».proof.Proof.Gen.Kernel21Ideal.Value
public import proofs.«01_k».proof.Proof.Gen.Kernel21Ideal.Skeleton
public import proofs.«01_k».proof.Proof.Gen.Reference21Ideal.Run

@[expose] public section

set_option maxRecDepth 16384

noncomputable section

namespace Cert.Kernel21Ideal.Row
open Idealize.ShloMosaic Idealize.ShloMosaic.TcCoe Idealize.ShloMosaic.Tactic
open Cert.Kernel21Ideal.Gen Cert.Row
open Cert.Proj (z2 at2)

/-! # The gradient of the norm, added to the residual stream's -/

section
variable {F : FTy → Type} [FloatOps F]
variable (c : Dev nD) (i : grid0.Coords) (a1 : Memref sig .tc .vmem S512x2048 .f32) (h1 : a1.IsWhole)
  (a2 : Memref sig .tc .vmem S1x2048 .f32) (h2 : a2.IsWhole) (a3 : Memref sig .tc .vmem S512x2048 .f32) (h3 : a3.IsWhole)
  (a4 : Memref sig .tc .vmem S512x2048 .f32) (h4 : a4.IsWhole) (a5 : Memref sig .tc .vmem S512x2048 .f32) (h5 : a5.IsWhole)
  (a6 : Memref sig .tc .vmem S1x2048 .f32) (h6 : a6.IsWhole)
  (x : Vec F S512x2048 .f32) (g : Vec F S1x2048 .f32) (d y : Vec F S512x2048 .f32) (s : Vec F S1x2048 .f32)

/-- What a point leaves in the first result's block: the first point and the others the same. -/
theorem first_A (hc : cond0_0 i) : out0_A_4 c i a1 h1 a2 h2 a3 h3 a4 h4 a5 h5 a6 h6 hc x g d y = k0_pay6 x g d y := by
  unfold out0_A_4
  rw [View.read_writes_eq_canon _ _ _ (cover0_A_4 c i a1 h1 a2 h2 a3 h3 a4 h4 a5 h5 a6 h6 hc x g d y)]
  unfold kernelRun0_A
  dsimp only
  sl_unfold_words
  rw [View.canon_unit_zero z2]
  simp only [View.readAt_eq_ld, h1.read_unread, h2.read_unread, h3.read_unread, h4.read_unread,
    View.ld_unit_zero (S := S512x2048) z2, View.ld_unit_zero (S := S1x2048) z2, shapeCast_self]
theorem first_B (hc : ¬cond0_0 i) : out0_B_4 c i a1 h1 a2 h2 a3 h3 a4 h4 a5 h5 a6 h6 hc x g d y s = k0_pay6 x g d y := by
  unfold out0_B_4
  rw [View.read_writes_eq_canon _ _ _ (cover0_B_4 c i a1 h1 a2 h2 a3 h3 a4 h4 a5 h5 a6 h6 hc x g d y s)]
  unfold kernelRun0_B
  dsimp only
  sl_unfold_words
  rw [View.canon_unit_zero z2]
  simp only [View.readAt_eq_ld, h1.read_unread, h2.read_unread, h3.read_unread, h4.read_unread,
    View.ld_unit_zero (S := S512x2048) z2, View.ld_unit_zero (S := S1x2048) z2, shapeCast_self]

/-- What a point leaves in the second: its rows' part, over zero at the first point and over what was there at the others. -/
theorem second_A (hc : cond0_0 i) : out0_A_5 c i a1 h1 a2 h2 a3 h3 a4 h4 a5 h5 a6 h6 hc x g d y = k0_pay2 (k0_pay5 x d) k0_pay1 := by
  unfold out0_A_5
  rw [View.read_writes_eq_canon _ _ _ (cover0_A_5 c i a1 h1 a2 h2 a3 h3 a4 h4 a5 h5 a6 h6 hc x g d y)]
  unfold kernelRun0_A
  dsimp only
  sl_unfold_words
  rw [View.canon_cons_unit_zero z2, View.readCov_unit_zero (S := S1x2048) _ z2]
  simp only [View.readAt_eq_ld, h1.read_unread, h3.read_unread, View.ld_unit_zero (S := S512x2048) z2]
theorem second_B (hc : ¬cond0_0 i) : out0_B_5 c i a1 h1 a2 h2 a3 h3 a4 h4 a5 h5 a6 h6 hc x g d y s = k0_pay2 (k0_pay5 x d) s := by
  unfold out0_B_5
  rw [View.read_writes_eq_canon _ _ _ (cover0_B_5 c i a1 h1 a2 h2 a3 h3 a4 h4 a5 h5 a6 h6 hc x g d y s)]
  unfold kernelRun0_B
  dsimp only
  sl_unfold_words
  rw [View.canon_unit_zero z2]
  simp only [View.readAt_eq_ld, h1.read_unread, h3.read_unread, h6.read_unread, View.ld_unit_zero (S := S512x2048) z2,
    View.ld_unit_zero (S := S1x2048) z2, shapeCast_self]
end

theorem pay6_apply (x : Vec Ideal S512x2048 .f32) (g : Vec Ideal S1x2048 .f32) (d y : Vec Ideal S512x2048 .f32) (r : Fin 512) (k : Fin 2048) :
    k0_pay6 x g d y (ix2 r k) = y (ix2 r k) + back (fun k => x (ix2 r k)) (fun k => d (ix2 r k) * g (ix2 0 k)) k := by
  unfold k0_pay6 k0_pay4 k0_pay3 back along ssq
  pointwise
  simp only [Finset.univ_unique, Finset.sum_singleton]
theorem pay5_apply (x d : Vec Ideal S512x2048 .f32) (s : Vec Ideal S1x2048 .f32) (k : Fin 2048) :
    k0_pay2 (k0_pay5 x d) s (ix2 0 k) = s (ix2 0 k) + ∑ r : Fin 512, x (ix2 r k) * Ideal.rsqrt (ssq fun k => x (ix2 r k)) * d (ix2 r k) := by
  unfold k0_pay2 k0_pay5 k0_pay4 k0_pay3 ssq
  pointwise
theorem pay1_apply (k : Fin 2048) : (k0_pay1 : FVec Ideal S1x2048 .f32) (ix2 0 k) = 0 := by
  unfold k0_pay1
  pointwise

variable (m : (ℓ : Loc nD τ sig) → Buf (Elt Ideal) ℓ) (ρ : Dev nD → PrngReg)

/-- The arguments, and the rows and blocks the points take. -/
def aH (c : Dev nD) (r : Fin 4096) (k : Fin 2048) : EReal := (m ((c.tc : Thread nD τ).loc main_arg0) : S4096x2048.Idx → EReal) (ix2 r k)
def aG (c : Dev nD) (k : Fin 2048) : EReal := (m ((c.tc : Thread nD τ).loc main_arg1) : S1x2048.Idx → EReal) (ix2 0 k)
def aD (c : Dev nD) (r : Fin 4096) (k : Fin 2048) : EReal := (m ((c.tc : Thread nD τ).loc main_arg2) : S4096x2048.Idx → EReal) (ix2 r k)
def aY (c : Dev nD) (r : Fin 4096) (k : Fin 2048) : EReal := (m ((c.tc : Thread nD τ).loc main_arg3) : S4096x2048.Idx → EReal) (ix2 r k)
theorem rows : 512 * cfg0.N = 4096 := by rw [show cfg0.N = 8 from N_0]
theorem index_all : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ win0_5.index t 0 = 0 ∧ win0_5.index t 1 = 0 := by decide +kernel
theorem iblk0 (c : Dev nD) (t : Fin cfg0.N) (r : Fin 512) (k : Fin 2048) : iblk m c 0 t (ix2 r k) = aH m c (row rows t r) k :=
  congrArg (m ((c.tc : Thread nD τ).loc main_arg0) : S4096x2048.Idx → EReal)
    (at2 (by have := index_all t; show win0_0.index t 0 * 512 + 1 * r.val = 512 * t.val + r.val; omega)
      (by have := index_all t; show win0_0.index t 1 * 2048 + 1 * k.val = k.val; omega))
theorem iblk1 (c : Dev nD) (t : Fin cfg0.N) (k : Fin 2048) : iblk m c 1 t (ix2 0 k) = aG m c k :=
  congrArg (m ((c.tc : Thread nD τ).loc main_arg1) : S1x2048.Idx → EReal)
    (at2 (by have := index_all t; show win0_1.index t 0 * 1 + 1 * 0 = 0; omega)
      (by have := index_all t; show win0_1.index t 1 * 2048 + 1 * k.val = k.val; omega))
theorem iblk2 (c : Dev nD) (t : Fin cfg0.N) (r : Fin 512) (k : Fin 2048) : iblk m c 2 t (ix2 r k) = aD m c (row rows t r) k :=
  congrArg (m ((c.tc : Thread nD τ).loc main_arg2) : S4096x2048.Idx → EReal)
    (at2 (by have := index_all t; show win0_2.index t 0 * 512 + 1 * r.val = 512 * t.val + r.val; omega)
      (by have := index_all t; show win0_2.index t 1 * 2048 + 1 * k.val = k.val; omega))
theorem iblk3 (c : Dev nD) (t : Fin cfg0.N) (r : Fin 512) (k : Fin 2048) : iblk m c 3 t (ix2 r k) = aY m c (row rows t r) k :=
  congrArg (m ((c.tc : Thread nD τ).loc main_arg3) : S4096x2048.Idx → EReal)
    (at2 (by have := index_all t; show win0_3.index t 0 * 512 + 1 * r.val = 512 * t.val + r.val; omega)
      (by have := index_all t; show win0_3.index t 1 * 2048 + 1 * k.val = k.val; omega))

theorem Nlt (t : Fin cfg0.N) : t.val < 8 := lt_of_lt_of_eq t.isLt N_0
/-- The point that works on row `r`, and the last point. -/
def pt (r : Fin 4096) : Fin cfg0.N := ⟨r.val / 512, lt_of_lt_of_eq (by omega) N_0.symm⟩
def last : Fin cfg0.N := ⟨7, lt_of_lt_of_eq (by omega) N_0.symm⟩
theorem row_pt (r : Fin 4096) : row rows (pt r) (lo r) = r := Fin.ext (by show 512 * (r.val / 512) + r.val % 512 = r.val; omega)

/-- What the points leave in the results' blocks. -/
theorem outs1 (c : Dev nD) (t : Fin cfg0.N) :
    (outsAt0 m c t.val t.isLt).1 = k0_pay6 (iblk m c 0 t) (iblk m c 1 t) (iblk m c 2 t) (iblk m c 3 t) := by
  by_cases h0 : t.val % 8 = 0
  · rw [outsAt0_A m c t h0]
    dsimp only
    rw [first_A]
  · rw [outsAt0_B m c t h0]
    dsimp only
    rw [first_B]
theorem outs2_zero (c : Dev nD) (t : Fin cfg0.N) (h0 : t.val % 8 = 0) :
    (outsAt0 m c t.val t.isLt).2 = k0_pay2 (k0_pay5 (iblk m c 0 t) (iblk m c 2 t)) (k0_pay1 (F := Ideal)) := by
  rw [outsAt0_A m c t h0]
  dsimp only
  rw [second_A]
theorem outs2_succ (c : Dev nD) (t : Fin cfg0.N) (h0 : ¬t.val % 8 = 0) :
    (outsAt0 m c t.val t.isLt).2 = k0_pay2 (k0_pay5 (iblk m c 0 t) (iblk m c 2 t))
      (outsAt0 m c (t.val - 1) (Nat.lt_of_le_of_lt (Nat.sub_le _ _) t.isLt)).2 := by
  rw [outsAt0_B m c t h0]
  dsimp only
  rw [second_B]

/-- The first result after the run. -/
theorem final4 (c : Dev nD) : (dats m 0 c).arrAt 4 cfg0.N = fun i : S4096x2048.Idx =>
    aY m c (i 0) (i 1) + back (aH m c (i 0)) (fun k => aD m c (i 0) k * aG m c k) (i 1) := by
  funext i
  obtain ⟨r, k, rfl⟩ : ∃ (r : Fin 4096) (k : Fin 2048), i = (ix2 r k : S4096x2048.Idx) := ⟨_, _, eq_ix2 (n0 := 4096) (n1 := 2048) i⟩
  have h := congrFun (Value.blocks4 m c (pt r) (flush0_4 _)) (ix2 (lo r) k)
  rw [Value.flushed4] at h
  have hi := index_all (pt r)
  have hv : (pt r).val = r.val / 512 := rfl
  rw [outs1] at h
  refine (congrArg ((dats m 0 c).arrAt 4 cfg0.N) (at2 (by show win0_4.index (pt r) 0 * 512 + 1 * (r.val % 512) = r.val; omega)
      (by show win0_4.index (pt r) 1 * 2048 + 1 * k.val = k.val; omega))).symm.trans (h.trans ((pay6_apply _ _ _ _ _ _).trans ?_))
  simp only [iblk0, iblk1, iblk2, iblk3, row_pt]
  rfl

/-- The second: the rows' parts are added up block by block. -/
theorem final5 (c : Dev nD) : (dats m 0 c).arrAt 5 cfg0.N = fun i : S1x2048.Idx =>
    ∑ r : Fin 4096, aH m c r (i 1) * Ideal.rsqrt (ssq (aH m c r)) * aD m c r (i 1) := by
  funext i
  obtain ⟨z, k, rfl⟩ : ∃ (z : Fin 1) (k : Fin 2048), i = (ix2 z k : S1x2048.Idx) := ⟨_, _, eq_ix2 (n0 := 1) (n1 := 2048) i⟩
  obtain rfl : z = 0 := Subsingleton.elim _ _
  have h := congrFun ((dats m 0 c).read_blk_arrAt_eq_flushed 5 (fun t t' h h' hne => absurd (Fin.ext (by
    have := (flush0_5 t).mp h; have := (flush0_5 t').mp h'; have := Nlt t; have := Nlt t'; omega)) hne) cfg0.N last last.isLt
    ((flush0_5 last).mpr rfl)) (ix2 0 k)
  rw [Value.flushed5] at h
  have hi := index_all last
  refine (congrArg ((dats m 0 c).arrAt 5 cfg0.N) (at2 (by show win0_5.index last 0 * 1 + 1 * 0 = 0; omega)
      (by show win0_5.index last 1 * 2048 + 1 * k.val = k.val; omega))).symm.trans (h.trans ?_)
  refine sum_acc rows (fun r => aH m c r k * Ideal.rsqrt (ssq (aH m c r)) * aD m c r k)
    (fun n hn => (outsAt0 m c n hn).2 (ix2 0 k)) (fun hn => ?_) (fun n hn => ?_) 7 last.isLt (by rw [show cfg0.N = 8 from N_0])
  · refine (congrFun (outs2_zero m c ⟨0, hn⟩ rfl) (ix2 0 k)).trans ((pay5_apply _ _ _ _).trans ?_)
    rw [pay1_apply, zero_add]
    simp only [iblk0, iblk2]
  · have hlt : n + 1 < 8 := Nlt ⟨n + 1, hn⟩
    refine (congrFun (outs2_succ m c ⟨n + 1, hn⟩ (by show ¬(n + 1) % 8 = 0; omega)) (ix2 0 k)).trans
      ((pay5_apply _ _ _ _).trans ?_)
    simp only [iblk0, iblk2]
    rfl

end Cert.Kernel21Ideal.Row

namespace Cert.Reference21Ideal.Row
open Idealize.ShloMosaic Idealize.ShloMosaic.TcCoe Idealize.ShloMosaic.Tactic Cert.Row

/-- The kernel's results and the reference's are the same arrays, from memories that agree on the arguments. -/
theorem tie : Cert.algebraic_Kernel21Ideal_Reference21Ideal := by
  intro m ρ m' ρ' _ hagree
  refine ⟨_, _, Cert.Kernel21Ideal.Value.run_blocks (F := Ideal) m ρ, (θ_run Cert.Reference21Ideal.defs _ _).mono (fun _ h c =>
    ⟨(h c).1.trans ?_, (h c).2.1.trans ?_, (h c).2.2⟩) (Cert.Reference21Ideal.Value.run (F := Ideal) m' ρ')⟩
  · rw [(hagree c).1, (hagree c).2.1, (hagree c).2.2.1, (hagree c).2.2.2, Cert.Kernel21Ideal.Row.final4]
    funext i
    obtain ⟨r, k, rfl⟩ : ∃ (r : Fin 4096) (k : Fin 2048), i = (ix2 r k : S4096x2048.Idx) := ⟨_, _, eq_ix2 (n0 := 4096) (n1 := 2048) i⟩
    unfold Cert.Kernel21Ideal.Row.aY Cert.Kernel21Ideal.Row.aH Cert.Kernel21Ideal.Row.aD Cert.Kernel21Ideal.Row.aG back along ssq
    pointwise
    simp only [Finset.univ_unique, Finset.sum_singleton]
  · rw [(hagree c).1, (hagree c).2.2.1, Cert.Kernel21Ideal.Row.final5]
    funext i
    obtain ⟨z, k, rfl⟩ : ∃ (z : Fin 1) (k : Fin 2048), i = (ix2 z k : S1x2048.Idx) := ⟨_, _, eq_ix2 (n0 := 1) (n1 := 2048) i⟩
    unfold Cert.Kernel21Ideal.Row.aH Cert.Kernel21Ideal.Row.aD ssq
    pointwise

end Cert.Reference21Ideal.Row
end
end
-- ==== Proof.Row22.lean ====
module

public import proofs.«01_k».proof.Defs
public import proofs.«01_k».proof.Proof.ProjMath
public import proofs.«01_k».proof.Proof.Gen.Kernel22.Frame
public import proofs.«01_k».proof.Proof.Gen.Kernel22Ideal.Value
public import proofs.«01_k».proof.Proof.Gen.Kernel22Ideal.Skeleton
public import proofs.«01_k».proof.Proof.Gen.Reference22Ideal.Run

@[expose] public section

set_option maxRecDepth 16384

noncomputable section

namespace Cert.Kernel22Ideal.Row
open Idealize.ShloMosaic Idealize.ShloMosaic.TcCoe Idealize.ShloMosaic.Tactic
open Cert.Kernel22Ideal.Gen Cert.Proj

/-! # The product of the per-layer embeddings -/

/-- What a point leaves in the result's block: the product of its blocks. -/
theorem out_apply (x : Vec Ideal S1024x256 .f32) (y : Vec Ideal S256x1024 .bf16) (r k : Fin 1024) :
    out0_2 x y (ix2 r k) = ∑ p : Fin 256, x (ix2 r p) * y (ix2 p k) := by
  unfold out0_2
  rw [View.canon_unit_zero z2]
  simp only [View.ld_unit_zero (S := S1024x256) z2, View.ld_unit_zero (S := S256x1024) z2]
  unfold k0_pay1
  pointwise

/-- The point that works on element (r, k) of the result, and the blocks it takes. -/
def pt (r : Fin 4096) (k : Fin 2048) : Fin cfg0.N := ⟨2 * (r.val / 1024) + k.val / 1024, lt_of_lt_of_eq (by omega) N_0.symm⟩
theorem index_all : ∀ t : Fin grid0.N, (win0_0.index t 0 = t.val / 2 ∧ win0_0.index t 1 = 0) ∧ (win0_1.index t 0 = 0 ∧ win0_1.index t 1 = t.val % 2)
    ∧ win0_2.index t 0 = t.val / 2 ∧ win0_2.index t 1 = t.val % 2 := by decide +kernel
theorem index_at (r : Fin 4096) (k : Fin 2048) : (win0_0.index (pt r k) 0 = r.val / 1024 ∧ win0_0.index (pt r k) 1 = 0)
    ∧ (win0_1.index (pt r k) 0 = 0 ∧ win0_1.index (pt r k) 1 = k.val / 1024)
    ∧ win0_2.index (pt r k) 0 = r.val / 1024 ∧ win0_2.index (pt r k) 1 = k.val / 1024 := by
  have h := index_all (pt r k)
  have hv : (pt r k).val = 2 * (r.val / 1024) + k.val / 1024 := rfl
  omega

variable (m : (ℓ : Loc nD τ sig) → Buf (Elt Ideal) ℓ) (ρ : Dev nD → PrngReg)

/-- The result array after the run: the product of the arguments. -/
theorem final (c : Dev nD) : (dats m 0 c).arrAt 2 cfg0.N = fun i : S4096x2048.Idx =>
    mul (fun r p => (m ((c.tc : Thread nD τ).loc main_arg0) : S4096x256.Idx → EReal) (ix2 r p))
      (fun p k => (m ((c.tc : Thread nD τ).loc main_arg1) : S256x2048.Idx → EReal) (ix2 p k)) (i 0) (i 1) := by
  funext i
  obtain ⟨r, k, rfl⟩ : ∃ (r : Fin 4096) (k : Fin 2048), i = (ix2 r k : S4096x2048.Idx) := ⟨_, _, eq_ix2 (n0 := 4096) (n1 := 2048) i⟩
  have h := congrFun (Value.blocks2 m c (pt r k) (flush0_2 _)) (ix2 (lo r) (lo k))
  rw [Value.flushed2] at h
  have hi := index_at r k
  refine (congrArg ((dats m 0 c).arrAt 2 cfg0.N) (at2 (by show win0_2.index (pt r k) 0 * 1024 + 1 * (r.val % 1024) = r.val; omega)
      (by show win0_2.index (pt r k) 1 * 1024 + 1 * (k.val % 1024) = k.val; omega))).symm.trans
    (h.trans ((out_apply _ _ _ _).trans (Finset.sum_congr rfl fun p _ => congrArg₂ (· * ·) ?_ ?_)))
  · exact (congrArg (V m c main_arg0 : S4096x256.Idx → EReal) (at2 (by show win0_0.index (pt r k) 0 * 1024 + 1 * (r.val % 1024) = r.val; omega)
      (by show win0_0.index (pt r k) 1 * 256 + 1 * p.val = p.val; omega))).trans (by rw [V_main_arg0]; rfl)
  · exact (congrArg (V m c main_arg1 : S256x2048.Idx → EReal) (at2 (by show win0_1.index (pt r k) 0 * 256 + 1 * p.val = p.val; omega)
      (by show win0_1.index (pt r k) 1 * 1024 + 1 * (k.val % 1024) = k.val; omega))).trans (by rw [V_main_arg1]; rfl)

end Cert.Kernel22Ideal.Row

namespace Cert.Reference22Ideal.Row
open Idealize.ShloMosaic Idealize.ShloMosaic.TcCoe Idealize.ShloMosaic.Tactic Cert.Proj

/-- The kernel's result and the reference's are one array, from memories that agree on the arguments. -/
theorem tie : Cert.algebraic_Kernel22Ideal_Reference22Ideal := by
  intro m ρ m' ρ' _ hagree
  refine ⟨_, Cert.Kernel22Ideal.Value.run_blocks (F := Ideal) m ρ, (θ_run Cert.Reference22Ideal.defs _ _).mono (fun _ h c => ⟨(h c).1.trans ?_, (h c).2⟩)
    (Cert.Reference22Ideal.Value.run (F := Ideal) m' ρ')⟩
  rw [(hagree c).1, (hagree c).2, Cert.Kernel22Ideal.Row.final]
  funext i
  obtain ⟨r, k, rfl⟩ : ∃ (r : Fin 4096) (k : Fin 2048), i = (ix2 r k : S4096x2048.Idx) := ⟨_, _, eq_ix2 (n0 := 4096) (n1 := 2048) i⟩
  unfold mul
  pointwise

end Cert.Reference22Ideal.Row
end
end
-- ==== Proof.Row23.lean ====
module

public import proofs.«01_k».proof.Defs
public import proofs.«01_k».proof.Proof.ProjMath
public import proofs.«01_k».proof.Proof.Gen.Kernel23.Frame
public import proofs.«01_k».proof.Proof.Gen.Kernel23Ideal.Value
public import proofs.«01_k».proof.Proof.Gen.Kernel23Ideal.Skeleton
public import proofs.«01_k».proof.Proof.Gen.Reference23Ideal.Run

@[expose] public section

set_option maxRecDepth 16384

noncomputable section

namespace Cert.Kernel23Ideal.Row
open Idealize.ShloMosaic Idealize.ShloMosaic.TcCoe Idealize.ShloMosaic.Tactic
open Cert.Kernel23Ideal.Gen Cert.Proj

/-! # The gradient of the weight of the per-layer embeddings' product -/

/-- What a point leaves in the result's block: the product of its blocks. -/
theorem out_apply (x : Vec Ideal S4096x256 .f32) (y : Vec Ideal S4096x1024 .bf16) (r : Fin 256) (k : Fin 1024) :
    out0_2 x y (ix2 r k) = ∑ p : Fin 4096, x (ix2 p r) * y (ix2 p k) := by
  unfold out0_2
  rw [View.canon_unit_zero z2]
  simp only [View.ld_unit_zero (S := S4096x256) z2, View.ld_unit_zero (S := S4096x1024) z2]
  unfold k0_pay1
  pointwise

/-- The point that works on element (r, k) of the result, and the blocks it takes. -/
def pt (_ : Fin 256) (k : Fin 2048) : Fin cfg0.N := ⟨k.val / 1024, lt_of_lt_of_eq (by omega) N_0.symm⟩
theorem index_all : ∀ t : Fin grid0.N, (win0_0.index t 0 = 0 ∧ win0_0.index t 1 = 0) ∧ (win0_1.index t 0 = 0 ∧ win0_1.index t 1 = t.val)
    ∧ win0_2.index t 0 = 0 ∧ win0_2.index t 1 = t.val := by decide +kernel
theorem index_at (r : Fin 256) (k : Fin 2048) : (win0_0.index (pt r k) 0 = 0 ∧ win0_0.index (pt r k) 1 = 0)
    ∧ (win0_1.index (pt r k) 0 = 0 ∧ win0_1.index (pt r k) 1 = k.val / 1024)
    ∧ win0_2.index (pt r k) 0 = 0 ∧ win0_2.index (pt r k) 1 = k.val / 1024 := by
  have h := index_all (pt r k)
  have hv : (pt r k).val = k.val / 1024 := rfl
  omega

variable (m : (ℓ : Loc nD τ sig) → Buf (Elt Ideal) ℓ) (ρ : Dev nD → PrngReg)

/-- The result array after the run: the product of the arguments. -/
theorem final (c : Dev nD) : (dats m 0 c).arrAt 2 cfg0.N = fun i : S256x2048.Idx =>
    mul (fun r p => (m ((c.tc : Thread nD τ).loc main_arg0) : S4096x256.Idx → EReal) (ix2 p r))
      (fun p k => (m ((c.tc : Thread nD τ).loc main_arg1) : S4096x2048.Idx → EReal) (ix2 p k)) (i 0) (i 1) := by
  funext i
  obtain ⟨r, k, rfl⟩ : ∃ (r : Fin 256) (k : Fin 2048), i = (ix2 r k : S256x2048.Idx) := ⟨_, _, eq_ix2 (n0 := 256) (n1 := 2048) i⟩
  have h := congrFun (Value.blocks2 m c (pt r k) (flush0_2 _)) (ix2 r (lo k))
  rw [Value.flushed2] at h
  have hi := index_at r k
  refine (congrArg ((dats m 0 c).arrAt 2 cfg0.N) (at2 (by show win0_2.index (pt r k) 0 * 256 + 1 * r.val = r.val; omega)
      (by show win0_2.index (pt r k) 1 * 1024 + 1 * (k.val % 1024) = k.val; omega))).symm.trans
    (h.trans ((out_apply _ _ _ _).trans (Finset.sum_congr rfl fun p _ => congrArg₂ (· * ·) ?_ ?_)))
  · exact (congrArg (V m c main_arg0 : S4096x256.Idx → EReal) (at2 (by show win0_0.index (pt r k) 0 * 4096 + 1 * p.val = p.val; omega)
      (by show win0_0.index (pt r k) 1 * 256 + 1 * r.val = r.val; omega))).trans (by rw [V_main_arg0]; rfl)
  · exact (congrArg (V m c main_arg1 : S4096x2048.Idx → EReal) (at2 (by show win0_1.index (pt r k) 0 * 4096 + 1 * p.val = p.val; omega)
      (by show win0_1.index (pt r k) 1 * 1024 + 1 * (k.val % 1024) = k.val; omega))).trans (by rw [V_main_arg1]; rfl)

end Cert.Kernel23Ideal.Row

namespace Cert.Reference23Ideal.Row
open Idealize.ShloMosaic Idealize.ShloMosaic.TcCoe Idealize.ShloMosaic.Tactic Cert.Proj

/-- The kernel's result and the reference's are one array, from memories that agree on the arguments. -/
theorem tie : Cert.algebraic_Kernel23Ideal_Reference23Ideal := by
  intro m ρ m' ρ' _ hagree
  refine ⟨_, Cert.Kernel23Ideal.Value.run_blocks (F := Ideal) m ρ, (θ_run Cert.Reference23Ideal.defs _ _).mono (fun _ h c => ⟨(h c).1.trans ?_, (h c).2⟩)
    (Cert.Reference23Ideal.Value.run (F := Ideal) m' ρ')⟩
  rw [(hagree c).1, (hagree c).2, Cert.Kernel23Ideal.Row.final]
  funext i
  obtain ⟨r, k, rfl⟩ : ∃ (r : Fin 256) (k : Fin 2048), i = (ix2 r k : S256x2048.Idx) := ⟨_, _, eq_ix2 (n0 := 256) (n1 := 2048) i⟩
  unfold mul
  pointwise
  exact Finset.sum_congr rfl fun _ _ => mul_comm _ _

end Cert.Reference23Ideal.Row
end
end
-- ==== Proof.Row24.lean ====
module

public import proofs.«01_k».proof.Defs
public import proofs.«01_k».proof.Proof.RowMath
public import proofs.«01_k».proof.Proof.Gen.Kernel24.Frame
public import proofs.«01_k».proof.Proof.Gen.Kernel24Ideal.Value
public import proofs.«01_k».proof.Proof.Gen.Kernel24Ideal.Skeleton
public import proofs.«01_k».proof.Proof.Gen.Reference24Ideal.Run

@[expose] public section

set_option maxRecDepth 16384

noncomputable section

namespace Cert.Kernel24Ideal.Row
open Idealize.ShloMosaic Idealize.ShloMosaic.TcCoe Idealize.ShloMosaic.Tactic
open Cert.Kernel24Ideal.Gen Cert.Row
open Cert.Proj (z2 at2)

/-! # The per-layer embeddings added to the residual stream -/

/-- What a point leaves in the result's block. -/
theorem out_apply (x a p : Vec Ideal S512x2048 .f32) (g : Vec Ideal S1x2048 .f32) (r : Fin 512) (k : Fin 2048) :
    out0_4 x a p g (ix2 r k) = x (ix2 r k) + Ideal.logistic (a (ix2 r k)) * rms (fun k => p (ix2 r k)) (fun k => g (ix2 0 k)) k := by
  unfold out0_4
  rw [View.canon_unit_zero z2]
  simp only [View.ld_unit_zero (S := S512x2048) z2, View.ld_unit_zero (S := S1x2048) z2]
  unfold k0_pay1 rms ssq
  pointwise

/-- The point that works on row `r` of the result, and the blocks it takes. -/
def pt (r : Fin 4096) : Fin cfg0.N := ⟨r.val / 512, lt_of_lt_of_eq (by omega) N_0.symm⟩
theorem index_all : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ win0_4.index t 0 = t.val ∧ win0_4.index t 1 = 0 := by decide +kernel

variable (m : (ℓ : Loc nD τ sig) → Buf (Elt Ideal) ℓ) (ρ : Dev nD → PrngReg)

/-- The result array after the run. -/
theorem final (c : Dev nD) : (dats m 0 c).arrAt 4 cfg0.N = fun i : S4096x2048.Idx =>
    (show EReal from (m ((c.tc : Thread nD τ).loc main_arg0) : S4096x2048.Idx → EReal) (ix2 (i 0) (i 1)))
      + Ideal.logistic ((m ((c.tc : Thread nD τ).loc main_arg1) : S4096x2048.Idx → EReal) (ix2 (i 0) (i 1)))
        * rms (fun k => (m ((c.tc : Thread nD τ).loc main_arg2) : S4096x2048.Idx → EReal) (ix2 (i 0) k))
          (fun k => (m ((c.tc : Thread nD τ).loc main_arg3) : S1x2048.Idx → EReal) (ix2 0 k)) (i 1) := by
  funext i
  obtain ⟨r, k, rfl⟩ : ∃ (r : Fin 4096) (k : Fin 2048), i = (ix2 r k : S4096x2048.Idx) := ⟨_, _, eq_ix2 (n0 := 4096) (n1 := 2048) i⟩
  have h := congrFun (Value.blocks4 m c (pt r) (flush0_4 _)) (ix2 (lo r) k)
  rw [Value.flushed4] at h
  have hi := index_all (pt r)
  have hv : (pt r).val = r.val / 512 := rfl
  have e0 : ∀ k, iblk m c 0 (pt r) (ix2 (lo r) k) = (m ((c.tc : Thread nD τ).loc main_arg0) : S4096x2048.Idx → EReal) (ix2 r k) := fun k =>
    congrArg (m ((c.tc : Thread nD τ).loc main_arg0) : S4096x2048.Idx → EReal)
      (at2 (by show win0_0.index (pt r) 0 * 512 + 1 * (r.val % 512) = r.val; omega)
        (by show win0_0.index (pt r) 1 * 2048 + 1 * k.val = k.val; omega))
  have e1 : ∀ k, iblk m c 1 (pt r) (ix2 (lo r) k) = (m ((c.tc : Thread nD τ).loc main_arg1) : S4096x2048.Idx → EReal) (ix2 r k) := fun k =>
    congrArg (m ((c.tc : Thread nD τ).loc main_arg1) : S4096x2048.Idx → EReal)
      (at2 (by show win0_1.index (pt r) 0 * 512 + 1 * (r.val % 512) = r.val; omega)
        (by show win0_1.index (pt r) 1 * 2048 + 1 * k.val = k.val; omega))
  have e2 : ∀ k, iblk m c 2 (pt r) (ix2 (lo r) k) = (m ((c.tc : Thread nD τ).loc main_arg2) : S4096x2048.Idx → EReal) (ix2 r k) := fun k =>
    congrArg (m ((c.tc : Thread nD τ).loc main_arg2) : S4096x2048.Idx → EReal)
      (at2 (by show win0_2.index (pt r) 0 * 512 + 1 * (r.val % 512) = r.val; omega)
        (by show win0_2.index (pt r) 1 * 2048 + 1 * k.val = k.val; omega))
  have e3 : ∀ k, iblk m c 3 (pt r) (ix2 0 k) = (m ((c.tc : Thread nD τ).loc main_arg3) : S1x2048.Idx → EReal) (ix2 0 k) := fun k =>
    congrArg (m ((c.tc : Thread nD τ).loc main_arg3) : S1x2048.Idx → EReal)
      (at2 (by show win0_3.index (pt r) 0 * 1 + 1 * 0 = 0; omega)
        (by show win0_3.index (pt r) 1 * 2048 + 1 * k.val = k.val; omega))
  refine (congrArg ((dats m 0 c).arrAt 4 cfg0.N) (at2 (by show win0_4.index (pt r) 0 * 512 + 1 * (r.val % 512) = r.val; omega)
      (by show win0_4.index (pt r) 1 * 2048 + 1 * k.val = k.val; omega))).symm.trans (h.trans ((out_apply _ _ _ _ _ _).trans ?_))
  simp only [e0, e1, e2, e3]
  rfl

end Cert.Kernel24Ideal.Row

namespace Cert.Reference24Ideal.Row
open Idealize.ShloMosaic Idealize.ShloMosaic.TcCoe Idealize.ShloMosaic.Tactic Cert.Row

/-- The kernel's result and the reference's are one array, from memories that agree on the arguments. -/
theorem tie : Cert.algebraic_Kernel24Ideal_Reference24Ideal := by
  intro m ρ m' ρ' _ hagree
  refine ⟨_, Cert.Kernel24Ideal.Value.run_blocks (F := Ideal) m ρ, (θ_run Cert.Reference24Ideal.defs _ _).mono (fun _ h c => ⟨(h c).1.trans ?_, (h c).2⟩)
    (Cert.Reference24Ideal.Value.run (F := Ideal) m' ρ')⟩
  rw [(hagree c).1, (hagree c).2.1, (hagree c).2.2.1, (hagree c).2.2.2, Cert.Kernel24Ideal.Row.final]
  funext i
  obtain ⟨r, k, rfl⟩ : ∃ (r : Fin 4096) (k : Fin 2048), i = (ix2 r k : S4096x2048.Idx) := ⟨_, _, eq_ix2 (n0 := 4096) (n1 := 2048) i⟩
  unfold rms ssq Ideal.logistic
  pointwise

end Cert.Reference24Ideal.Row
end
end
-- ==== Proof.Row25.lean ====
module

public import proofs.«01_k».proof.Defs
public import proofs.«01_k».proof.Proof.RowMath
public import proofs.«01_k».proof.Proof.Gen.Kernel25.Frame
public import proofs.«01_k».proof.Proof.Gen.Kernel25Ideal.Value
public import proofs.«01_k».proof.Proof.Gen.Kernel25Ideal.Skeleton
public import proofs.«01_k».proof.Proof.Gen.Reference25Ideal.Run

@[expose] public section

set_option maxRecDepth 16384

noncomputable section

namespace Cert.Kernel25Ideal.Row
open Idealize.ShloMosaic Idealize.ShloMosaic.TcCoe Idealize.ShloMosaic.Tactic
open Cert.Kernel25Ideal.Gen Cert.Row
open Cert.Proj (z2 at2)

/-! # The gradients of the per-layer embeddings, their gate and their norm's weight -/

section
variable {F : FTy → Type} [FloatOps F]
variable (c : Dev nD) (i : grid0.Coords) (a1 : Memref sig .tc .vmem S256x2048 .f32) (h1 : a1.IsWhole)
  (a2 : Memref sig .tc .vmem S256x2048 .f32) (h2 : a2.IsWhole) (a3 : Memref sig .tc .vmem S1x2048 .f32) (h3 : a3.IsWhole)
  (a4 : Memref sig .tc .vmem S256x2048 .f32) (h4 : a4.IsWhole) (a5 : Memref sig .tc .vmem S256x2048 .bf16) (h5 : a5.IsWhole)
  (a6 : Memref sig .tc .vmem S256x2048 .bf16) (h6 : a6.IsWhole) (a7 : Memref sig .tc .vmem S1x2048 .f32) (h7 : a7.IsWhole)
  (a p : Vec F S256x2048 .f32) (g : Vec F S1x2048 .f32) (d : Vec F S256x2048 .f32) (s : Vec F S1x2048 .f32)

/-- What a point leaves in the first two results' blocks: the first point and the others the same. -/
theorem first_A (hc : cond0_0 i) : out0_A_4 c i a1 h1 a2 h2 a3 h3 a4 h4 a5 h5 a6 h6 a7 h7 hc a p g d = k0_pay1 (k0_pay6 a) (k0_pay11 p g d) := by
  unfold out0_A_4
  rw [View.read_writes_eq_canon _ _ _ (cover0_A_4 c i a1 h1 a2 h2 a3 h3 a4 h4 a5 h5 a6 h6 a7 h7 hc a p g d)]
  unfold kernelRun0_A
  dsimp only
  sl_unfold_words
  rw [View.canon_unit_zero z2]
  simp only [View.readAt_eq_ld, h1.read_unread, h2.read_unread, h3.read_unread, h4.read_unread, h7.read_unread,
    View.ld_unit_zero (S := S256x2048) z2, View.ld_unit_zero (S := S1x2048) z2, shapeCast_self]
theorem first_B (hc : ¬cond0_0 i) : out0_B_4 c i a1 h1 a2 h2 a3 h3 a4 h4 a5 h5 a6 h6 a7 h7 hc a p g d s = k0_pay1 (k0_pay6 a) (k0_pay11 p g d) := by
  unfold out0_B_4
  rw [View.read_writes_eq_canon _ _ _ (cover0_B_4 c i a1 h1 a2 h2 a3 h3 a4 h4 a5 h5 a6 h6 a7 h7 hc a p g d s)]
  unfold kernelRun0_B
  dsimp only
  sl_unfold_words
  rw [View.canon_unit_zero z2]
  simp only [View.readAt_eq_ld, h1.read_unread, h2.read_unread, h3.read_unread, h4.read_unread, h7.read_unread,
    View.ld_unit_zero (S := S256x2048) z2, View.ld_unit_zero (S := S1x2048) z2, shapeCast_self]
theorem second_A (hc : cond0_0 i) : out0_A_5 c i a1 h1 a2 h2 a3 h3 a4 h4 a5 h5 a6 h6 a7 h7 hc a p g d = k0_pay2 p (k0_pay14 a p g d) (k0_pay15 a p g d) (k0_pay16 a p g d) := by
  unfold out0_A_5
  rw [View.read_writes_eq_canon _ _ _ (cover0_A_5 c i a1 h1 a2 h2 a3 h3 a4 h4 a5 h5 a6 h6 a7 h7 hc a p g d)]
  unfold kernelRun0_A
  dsimp only
  sl_unfold_words
  rw [View.canon_unit_zero z2]
  simp only [View.readAt_eq_ld, h1.read_unread, h2.read_unread, h3.read_unread, h4.read_unread, h7.read_unread,
    View.ld_unit_zero (S := S256x2048) z2, View.ld_unit_zero (S := S1x2048) z2, shapeCast_self]
theorem second_B (hc : ¬cond0_0 i) : out0_B_5 c i a1 h1 a2 h2 a3 h3 a4 h4 a5 h5 a6 h6 a7 h7 hc a p g d s = k0_pay2 p (k0_pay14 a p g d) (k0_pay15 a p g d) (k0_pay16 a p g d) := by
  unfold out0_B_5
  rw [View.read_writes_eq_canon _ _ _ (cover0_B_5 c i a1 h1 a2 h2 a3 h3 a4 h4 a5 h5 a6 h6 a7 h7 hc a p g d s)]
  unfold kernelRun0_B
  dsimp only
  sl_unfold_words
  rw [View.canon_unit_zero z2]
  simp only [View.readAt_eq_ld, h1.read_unread, h2.read_unread, h3.read_unread, h4.read_unread, h7.read_unread,
    View.ld_unit_zero (S := S256x2048) z2, View.ld_unit_zero (S := S1x2048) z2, shapeCast_self]

/-- What a point leaves in the third: its rows' part, over zero at the first point and over what was there at the others. -/
theorem third_A (hc : cond0_0 i) : out0_A_6 c i a1 h1 a2 h2 a3 h3 a4 h4 a5 h5 a6 h6 a7 h7 hc a p g d = k0_pay4 (k0_pay12 a p d) k0_pay3 := by
  unfold out0_A_6
  rw [View.read_writes_eq_canon _ _ _ (cover0_A_6 c i a1 h1 a2 h2 a3 h3 a4 h4 a5 h5 a6 h6 a7 h7 hc a p g d)]
  unfold kernelRun0_A
  dsimp only
  sl_unfold_words
  rw [View.canon_cons_unit_zero z2, View.readCov_unit_zero (S := S1x2048) _ z2]
  simp only [View.readAt_eq_ld, h1.read_unread, h2.read_unread, h3.read_unread, h4.read_unread, h7.read_unread,
    View.ld_unit_zero (S := S256x2048) z2, View.ld_unit_zero (S := S1x2048) z2, shapeCast_self]
theorem third_B (hc : ¬cond0_0 i) : out0_B_6 c i a1 h1 a2 h2 a3 h3 a4 h4 a5 h5 a6 h6 a7 h7 hc a p g d s = k0_pay4 (k0_pay12 a p d) s := by
  unfold out0_B_6
  rw [View.read_writes_eq_canon _ _ _ (cover0_B_6 c i a1 h1 a2 h2 a3 h3 a4 h4 a5 h5 a6 h6 a7 h7 hc a p g d s)]
  unfold kernelRun0_B
  dsimp only
  sl_unfold_words
  rw [View.canon_unit_zero z2]
  simp only [View.readAt_eq_ld, h1.read_unread, h2.read_unread, h3.read_unread, h4.read_unread, h7.read_unread,
    View.ld_unit_zero (S := S256x2048) z2, View.ld_unit_zero (S := S1x2048) z2, shapeCast_self]
end

/-- The gradient of the gate, and of the norm, at an element. -/
def gate (a d n : EReal) : EReal := d * n * (Ideal.logistic a * (1 - Ideal.logistic a))
def grad (a d g : EReal) : EReal := Ideal.logistic a * d * g

theorem pay1_apply (a p : Vec Ideal S256x2048 .f32) (g : Vec Ideal S1x2048 .f32) (d : Vec Ideal S256x2048 .f32) (r : Fin 256) (k : Fin 2048) :
    k0_pay1 (k0_pay6 a) (k0_pay11 p g d) (ix2 r k)
      = gate (a (ix2 r k)) (d (ix2 r k)) (rms (fun k => p (ix2 r k)) (fun k => g (ix2 0 k)) k) := by
  unfold k0_pay1 k0_pay6 k0_pay5 k0_pay11 k0_pay9 k0_pay8 k0_pay7 gate rms ssq
  pointwise
theorem pay2_apply (a p : Vec Ideal S256x2048 .f32) (g : Vec Ideal S1x2048 .f32) (d : Vec Ideal S256x2048 .f32) (r : Fin 256) (k : Fin 2048) :
    k0_pay2 p (k0_pay14 a p g d) (k0_pay15 a p g d) (k0_pay16 a p g d) (ix2 r k)
      = back (fun k => p (ix2 r k)) (fun k => grad (a (ix2 r k)) (d (ix2 r k)) (g (ix2 0 k))) k := by
  unfold k0_pay2 k0_pay16 k0_pay15 k0_pay14 k0_pay13 k0_pay10 k0_pay5 k0_pay8 k0_pay7 back along grad ssq
  pointwise
  simp only [Finset.univ_unique, Finset.sum_singleton]
theorem pay4_apply (a p d : Vec Ideal S256x2048 .f32) (s : Vec Ideal S1x2048 .f32) (k : Fin 2048) :
    k0_pay4 (k0_pay12 a p d) s (ix2 0 k) = s (ix2 0 k)
      + ∑ r : Fin 256, p (ix2 r k) * Ideal.rsqrt (ssq fun k => p (ix2 r k)) * (Ideal.logistic (a (ix2 r k)) * d (ix2 r k)) := by
  unfold k0_pay4 k0_pay12 k0_pay10 k0_pay5 k0_pay9 k0_pay8 k0_pay7 ssq
  pointwise
theorem pay3_apply (k : Fin 2048) : (k0_pay3 : FVec Ideal S1x2048 .f32) (ix2 0 k) = 0 := by
  unfold k0_pay3
  pointwise

variable (m : (ℓ : Loc nD τ sig) → Buf (Elt Ideal) ℓ) (ρ : Dev nD → PrngReg)

/-- The arguments, and the rows and blocks the points take. -/
def aA (c : Dev nD) (r : Fin 4096) (k : Fin 2048) : EReal := (m ((c.tc : Thread nD τ).loc main_arg0) : S4096x2048.Idx → EReal) (ix2 r k)
def aP (c : Dev nD) (r : Fin 4096) (k : Fin 2048) : EReal := (m ((c.tc : Thread nD τ).loc main_arg1) : S4096x2048.Idx → EReal) (ix2 r k)
def aG (c : Dev nD) (k : Fin 2048) : EReal := (m ((c.tc : Thread nD τ).loc main_arg2) : S1x2048.Idx → EReal) (ix2 0 k)
def aD (c : Dev nD) (r : Fin 4096) (k : Fin 2048) : EReal := (m ((c.tc : Thread nD τ).loc main_arg3) : S4096x2048.Idx → EReal) (ix2 r k)
theorem rows : 256 * cfg0.N = 4096 := by rw [show cfg0.N = 16 from N_0]
theorem index_all : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ win0_6.index t 0 = 0 ∧ win0_6.index t 1 = 0 := by decide +kernel
theorem iblk0 (c : Dev nD) (t : Fin cfg0.N) (r : Fin 256) (k : Fin 2048) : iblk m c 0 t (ix2 r k) = aA m c (row rows t r) k :=
  congrArg (m ((c.tc : Thread nD τ).loc main_arg0) : S4096x2048.Idx → EReal)
    (at2 (by have := index_all t; show win0_0.index t 0 * 256 + 1 * r.val = 256 * t.val + r.val; omega)
      (by have := index_all t; show win0_0.index t 1 * 2048 + 1 * k.val = k.val; omega))
theorem iblk1 (c : Dev nD) (t : Fin cfg0.N) (r : Fin 256) (k : Fin 2048) : iblk m c 1 t (ix2 r k) = aP m c (row rows t r) k :=
  congrArg (m ((c.tc : Thread nD τ).loc main_arg1) : S4096x2048.Idx → EReal)
    (at2 (by have := index_all t; show win0_1.index t 0 * 256 + 1 * r.val = 256 * t.val + r.val; omega)
      (by have := index_all t; show win0_1.index t 1 * 2048 + 1 * k.val = k.val; omega))
theorem iblk2 (c : Dev nD) (t : Fin cfg0.N) (k : Fin 2048) : iblk m c 2 t (ix2 0 k) = aG m c k :=
  congrArg (m ((c.tc : Thread nD τ).loc main_arg2) : S1x2048.Idx → EReal)
    (at2 (by have := index_all t; show win0_2.index t 0 * 1 + 1 * 0 = 0; omega)
      (by have := index_all t; show win0_2.index t 1 * 2048 + 1 * k.val = k.val; omega))
theorem iblk3 (c : Dev nD) (t : Fin cfg0.N) (r : Fin 256) (k : Fin 2048) : iblk m c 3 t (ix2 r k) = aD m c (row rows t r) k :=
  congrArg (m ((c.tc : Thread nD τ).loc main_arg3) : S4096x2048.Idx → EReal)
    (at2 (by have := index_all t; show win0_3.index t 0 * 256 + 1 * r.val = 256 * t.val + r.val; omega)
      (by have := index_all t; show win0_3.index t 1 * 2048 + 1 * k.val = k.val; omega))

theorem Nlt (t : Fin cfg0.N) : t.val < 16 := lt_of_lt_of_eq t.isLt N_0
/-- The point that works on row `r`, and the last point. -/
def pt (r : Fin 4096) : Fin cfg0.N := ⟨r.val / 256, lt_of_lt_of_eq (by omega) N_0.symm⟩
def last : Fin cfg0.N := ⟨15, lt_of_lt_of_eq (by omega) N_0.symm⟩
theorem row_pt (r : Fin 4096) : row rows (pt r) (lo' r) = r := Fin.ext (by show 256 * (r.val / 256) + r.val % 256 = r.val; omega)

/-- What the points leave in the results' blocks. -/
theorem outs1 (c : Dev nD) (t : Fin cfg0.N) :
    (outsAt0 m c t.val t.isLt).1 = k0_pay1 (k0_pay6 (iblk m c 0 t)) (k0_pay11 (iblk m c 1 t) (iblk m c 2 t) (iblk m c 3 t)) := by
  by_cases h0 : t.val % 16 = 0
  · rw [outsAt0_A m c t h0]
    dsimp only
    rw [first_A]
  · rw [outsAt0_B m c t h0]
    dsimp only
    rw [first_B]
theorem outs2 (c : Dev nD) (t : Fin cfg0.N) :
    (outsAt0 m c t.val t.isLt).2.1 = k0_pay2 (iblk m c 1 t) (k0_pay14 (iblk m c 0 t) (iblk m c 1 t) (iblk m c 2 t) (iblk m c 3 t)) (k0_pay15 (iblk m c 0 t) (iblk m c 1 t) (iblk m c 2 t) (iblk m c 3 t))
      (k0_pay16 (iblk m c 0 t) (iblk m c 1 t) (iblk m c 2 t) (iblk m c 3 t)) := by
  by_cases h0 : t.val % 16 = 0
  · rw [outsAt0_A m c t h0]
    dsimp only
    rw [second_A]
  · rw [outsAt0_B m c t h0]
    dsimp only
    rw [second_B]
theorem outs3_zero (c : Dev nD) (t : Fin cfg0.N) (h0 : t.val % 16 = 0) :
    (outsAt0 m c t.val t.isLt).2.2 = k0_pay4 (k0_pay12 (iblk m c 0 t) (iblk m c 1 t) (iblk m c 3 t)) (k0_pay3 (F := Ideal)) := by
  rw [outsAt0_A m c t h0]
  dsimp only
  rw [third_A]
theorem outs3_succ (c : Dev nD) (t : Fin cfg0.N) (h0 : ¬t.val % 16 = 0) :
    (outsAt0 m c t.val t.isLt).2.2 = k0_pay4 (k0_pay12 (iblk m c 0 t) (iblk m c 1 t) (iblk m c 3 t))
      (outsAt0 m c (t.val - 1) (Nat.lt_of_le_of_lt (Nat.sub_le _ _) t.isLt)).2.2 := by
  rw [outsAt0_B m c t h0]
  dsimp only
  rw [third_B]

/-- The gradient of the gate after the run. -/
theorem final4 (c : Dev nD) : (dats m 0 c).arrAt 4 cfg0.N = fun i : S4096x2048.Idx =>
    gate (aA m c (i 0) (i 1)) (aD m c (i 0) (i 1)) (rms (aP m c (i 0)) (aG m c) (i 1)) := by
  funext i
  obtain ⟨r, k, rfl⟩ : ∃ (r : Fin 4096) (k : Fin 2048), i = (ix2 r k : S4096x2048.Idx) := ⟨_, _, eq_ix2 (n0 := 4096) (n1 := 2048) i⟩
  have h := congrFun (Value.blocks4 m c (pt r) (flush0_4 _)) (ix2 (lo' r) k)
  rw [Value.flushed4, outs1] at h
  have hi := index_all (pt r)
  have hv : (pt r).val = r.val / 256 := rfl
  refine (congrArg ((dats m 0 c).arrAt 4 cfg0.N) (at2 (by show win0_4.index (pt r) 0 * 256 + 1 * (r.val % 256) = r.val; omega)
      (by show win0_4.index (pt r) 1 * 2048 + 1 * k.val = k.val; omega))).symm.trans (h.trans ((pay1_apply _ _ _ _ _ _ ).trans ?_))
  simp only [iblk0, iblk1, iblk2, iblk3, row_pt]
  rfl

/-- The gradient of the embeddings after the run. -/
theorem final5 (c : Dev nD) : (dats m 0 c).arrAt 5 cfg0.N = fun i : S4096x2048.Idx =>
    back (aP m c (i 0)) (fun k => grad (aA m c (i 0) k) (aD m c (i 0) k) (aG m c k)) (i 1) := by
  funext i
  obtain ⟨r, k, rfl⟩ : ∃ (r : Fin 4096) (k : Fin 2048), i = (ix2 r k : S4096x2048.Idx) := ⟨_, _, eq_ix2 (n0 := 4096) (n1 := 2048) i⟩
  have h := congrFun (Value.blocks5 m c (pt r) (flush0_5 _)) (ix2 (lo' r) k)
  rw [Value.flushed5, outs2] at h
  have hi := index_all (pt r)
  have hv : (pt r).val = r.val / 256 := rfl
  refine (congrArg ((dats m 0 c).arrAt 5 cfg0.N) (at2 (by show win0_5.index (pt r) 0 * 256 + 1 * (r.val % 256) = r.val; omega)
      (by show win0_5.index (pt r) 1 * 2048 + 1 * k.val = k.val; omega))).symm.trans (h.trans ((pay2_apply _ _ _ _ _ _ ).trans ?_))
  simp only [iblk0, iblk1, iblk2, iblk3, row_pt]
  rfl

/-- The gradient of the weight: the rows' parts are added up block by block. -/
theorem final6 (c : Dev nD) : (dats m 0 c).arrAt 6 cfg0.N = fun i : S1x2048.Idx =>
    ∑ r : Fin 4096, aP m c r (i 1) * Ideal.rsqrt (ssq (aP m c r)) * (Ideal.logistic (aA m c r (i 1)) * aD m c r (i 1)) := by
  funext i
  obtain ⟨z, k, rfl⟩ : ∃ (z : Fin 1) (k : Fin 2048), i = (ix2 z k : S1x2048.Idx) := ⟨_, _, eq_ix2 (n0 := 1) (n1 := 2048) i⟩
  obtain rfl : z = 0 := Subsingleton.elim _ _
  have h := congrFun ((dats m 0 c).read_blk_arrAt_eq_flushed 6 (fun t t' h h' hne => absurd (Fin.ext (by
    have := (flush0_6 t).mp h; have := (flush0_6 t').mp h'; have := Nlt t; have := Nlt t'; omega)) hne) cfg0.N last last.isLt
    ((flush0_6 last).mpr rfl)) (ix2 0 k)
  rw [Value.flushed6] at h
  have hi := index_all last
  refine (congrArg ((dats m 0 c).arrAt 6 cfg0.N) (at2 (by show win0_6.index last 0 * 1 + 1 * 0 = 0; omega)
      (by show win0_6.index last 1 * 2048 + 1 * k.val = k.val; omega))).symm.trans (h.trans ?_)
  refine sum_acc rows (fun r => aP m c r k * Ideal.rsqrt (ssq (aP m c r)) * (Ideal.logistic (aA m c r k) * aD m c r k))
    (fun n hn => (outsAt0 m c n hn).2.2 (ix2 0 k)) (fun hn => ?_) (fun n hn => ?_) 15 last.isLt (by rw [show cfg0.N = 16 from N_0])
  · refine (congrFun (outs3_zero m c ⟨0, hn⟩ rfl) (ix2 0 k)).trans ((pay4_apply _ _ _ _ _).trans ?_)
    rw [pay3_apply, zero_add]
    simp only [iblk0, iblk1, iblk3]
  · have hlt : n + 1 < 16 := Nlt ⟨n + 1, hn⟩
    refine (congrFun (outs3_succ m c ⟨n + 1, hn⟩ (by show ¬(n + 1) % 16 = 0; omega)) (ix2 0 k)).trans
      ((pay4_apply _ _ _ _ _).trans ?_)
    simp only [iblk0, iblk1, iblk3]
    rfl

end Cert.Kernel25Ideal.Row

namespace Cert.Reference25Ideal.Row
open Idealize.ShloMosaic Idealize.ShloMosaic.TcCoe Idealize.ShloMosaic.Tactic Cert.Row

/-- The kernel's results and the reference's are the same arrays, from memories that agree on the arguments. -/
theorem tie : Cert.algebraic_Kernel25Ideal_Reference25Ideal := by
  intro m ρ m' ρ' _ hagree
  refine ⟨_, _, _, Cert.Kernel25Ideal.Value.run_blocks (F := Ideal) m ρ, (θ_run Cert.Reference25Ideal.defs _ _).mono (fun _ h c =>
    ⟨(h c).1.trans ?_, (h c).2.1.trans ?_, (h c).2.2.1.trans ?_, (h c).2.2.2⟩) (Cert.Reference25Ideal.Value.run (F := Ideal) m' ρ')⟩
  · rw [(hagree c).1, (hagree c).2.1, (hagree c).2.2.1, (hagree c).2.2.2, Cert.Kernel25Ideal.Row.final4]
    funext i
    obtain ⟨r, k, rfl⟩ : ∃ (r : Fin 4096) (k : Fin 2048), i = (ix2 r k : S4096x2048.Idx) := ⟨_, _, eq_ix2 (n0 := 4096) (n1 := 2048) i⟩
    unfold Cert.Kernel25Ideal.Row.aA Cert.Kernel25Ideal.Row.aP Cert.Kernel25Ideal.Row.aD Cert.Kernel25Ideal.Row.aG Cert.Kernel25Ideal.Row.gate rms ssq Ideal.logistic
    pointwise
  · unfold Cert.Reference25Ideal.Value.res_main_v48
    rw [(hagree c).1, (hagree c).2.1, (hagree c).2.2.1, (hagree c).2.2.2, Cert.Kernel25Ideal.Row.final5]
    funext i
    obtain ⟨r, k, rfl⟩ : ∃ (r : Fin 4096) (k : Fin 2048), i = (ix2 r k : S4096x2048.Idx) := ⟨_, _, eq_ix2 (n0 := 4096) (n1 := 2048) i⟩
    unfold Cert.Kernel25Ideal.Row.aA Cert.Kernel25Ideal.Row.aP Cert.Kernel25Ideal.Row.aD Cert.Kernel25Ideal.Row.aG Cert.Kernel25Ideal.Row.grad back along ssq Ideal.logistic
    pointwise
    simp only [Finset.univ_unique, Finset.sum_singleton]
  · rw [(hagree c).1, (hagree c).2.1, (hagree c).2.2.2, Cert.Kernel25Ideal.Row.final6]
    funext i
    obtain ⟨z, k, rfl⟩ : ∃ (z : Fin 1) (k : Fin 2048), i = (ix2 z k : S1x2048.Idx) := ⟨_, _, eq_ix2 (n0 := 1) (n1 := 2048) i⟩
    unfold Cert.Kernel25Ideal.Row.aA Cert.Kernel25Ideal.Row.aP Cert.Kernel25Ideal.Row.aD ssq Ideal.logistic
    pointwise

end Cert.Reference25Ideal.Row
end
end
-- ==== Proof.Row26.lean ====
module

public import proofs.«01_k».proof.Defs
public import proofs.«01_k».proof.Proof.RowMath
public import proofs.«01_k».proof.Proof.Gen.Kernel26.Frame
public import proofs.«01_k».proof.Proof.Gen.Kernel26Ideal.Value
public import proofs.«01_k».proof.Proof.Gen.Kernel26Ideal.Skeleton
public import proofs.«01_k».proof.Proof.Gen.Reference26Ideal.Run

@[expose] public section

set_option maxRecDepth 16384

noncomputable section

namespace Cert.Kernel26Ideal.Row
open Idealize.ShloMosaic Idealize.ShloMosaic.TcCoe Idealize.ShloMosaic.Tactic
open Cert.Kernel26Ideal.Gen Cert.Row
open Cert.Proj (z2 at2)

/-! # The loss of the device's rows, and its gradient -/

section
variable {F : FTy → Type} [FloatOps F]
variable (c : Dev nD) (i : grid0.Coords) (a1 : Memref sig .tc .vmem S512x2048 .f32) (h1 : a1.IsWhole)
  (a2 : Memref sig .tc .vmem S512x2048 .f32) (h2 : a2.IsWhole) (a3 : Memref sig .tc .vmem S512x2048 .f32) (h3 : a3.IsWhole)
  (a4 : Memref sig .tc .vmem S8x128 .f32) (h4 : a4.IsWhole) (y g : Vec F S512x2048 .f32) (s : Vec F S8x128 .f32)

/-- What a point leaves in the gradient's block: the first point and the others the same. -/
theorem first_A (hc : cond0_0 i) : out0_A_2 c i a1 h1 a2 h2 a3 h3 a4 h4 hc y g = k0_pay2 y g := by
  unfold out0_A_2
  rw [View.read_writes_eq_canon _ _ _ (cover0_A_2 c i a1 h1 a2 h2 a3 h3 a4 h4 hc y g)]
  unfold kernelRun0_A
  dsimp only
  sl_unfold_words
  rw [View.canon_unit_zero z2]
  simp only [View.readAt_eq_ld, h1.read_unread, h2.read_unread, View.ld_unit_zero (S := S512x2048) z2]
theorem first_B (hc : ¬cond0_0 i) : out0_B_2 c i a1 h1 a2 h2 a3 h3 a4 h4 hc y g s = k0_pay2 y g := by
  unfold out0_B_2
  rw [View.read_writes_eq_canon _ _ _ (cover0_B_2 c i a1 h1 a2 h2 a3 h3 a4 h4 hc y g s)]
  unfold kernelRun0_B
  dsimp only
  sl_unfold_words
  rw [View.canon_unit_zero z2]
  simp only [View.readAt_eq_ld, h1.read_unread, h2.read_unread, View.ld_unit_zero (S := S512x2048) z2]

/-- What a point leaves in the loss: its rows' part, over zero at the first point and over what was there at the others. -/
theorem second_A (hc : cond0_0 i) : out0_A_3 c i a1 h1 a2 h2 a3 h3 a4 h4 hc y g = k0_pay4 y g k0_pay3 := by
  unfold out0_A_3
  rw [View.read_writes_eq_canon _ _ _ (cover0_A_3 c i a1 h1 a2 h2 a3 h3 a4 h4 hc y g)]
  unfold kernelRun0_A
  dsimp only
  sl_unfold_words
  rw [View.canon_cons_unit_zero z2, View.readCov_unit_zero (S := S8x128) _ z2]
  simp only [View.readAt_eq_ld, h1.read_unread, h2.read_unread, View.ld_unit_zero (S := S512x2048) z2]
theorem second_B (hc : ¬cond0_0 i) : out0_B_3 c i a1 h1 a2 h2 a3 h3 a4 h4 hc y g s = k0_pay4 y g s := by
  unfold out0_B_3
  rw [View.read_writes_eq_canon _ _ _ (cover0_B_3 c i a1 h1 a2 h2 a3 h3 a4 h4 hc y g s)]
  unfold kernelRun0_B
  dsimp only
  sl_unfold_words
  rw [View.canon_unit_zero z2]
  simp only [View.readAt_eq_ld, h1.read_unread, h2.read_unread, h4.read_unread, View.ld_unit_zero (S := S512x2048) z2,
    View.ld_unit_zero (S := S8x128) z2]
end

/-- The mean square of a row's error. -/
def part (e : Fin 2048 → EReal) : EReal := Ideal.div (∑ k, e k * e k) (Ideal.ofBits .f32 0x45000000#32)

theorem pay2_apply (y g : Vec Ideal S512x2048 .f32) (r : Fin 512) (k : Fin 2048) :
    k0_pay2 y g (ix2 r k) = (y (ix2 r k) - g (ix2 r k)) * Ideal.ofBits .f32 0x3A000000#32 := by
  unfold k0_pay2 k0_pay1
  pointwise
theorem pay4_apply (y g : Vec Ideal S512x2048 .f32) (s : Vec Ideal S8x128 .f32) (a : Fin 8) (b : Fin 128) :
    k0_pay4 y g s (ix2 a b) = s (ix2 a b) + Ideal.ofBits .f32 0x3F000000#32 * ∑ r : Fin 512, part (fun k => y (ix2 r k) - g (ix2 r k)) := by
  unfold k0_pay4 k0_pay1 part
  pointwise
theorem pay3_apply (a : Fin 8) (b : Fin 128) : (k0_pay3 : FVec Ideal S8x128 .f32) (ix2 a b) = 0 := by
  unfold k0_pay3
  pointwise

variable (m : (ℓ : Loc nD τ sig) → Buf (Elt Ideal) ℓ) (ρ : Dev nD → PrngReg)

/-- The arguments, and the rows and blocks the points take. -/
def aY (c : Dev nD) (r : Fin 4096) (k : Fin 2048) : EReal := (m ((c.tc : Thread nD τ).loc main_arg0) : S4096x2048.Idx → EReal) (ix2 r k)
def aT (c : Dev nD) (r : Fin 4096) (k : Fin 2048) : EReal := (m ((c.tc : Thread nD τ).loc main_arg1) : S4096x2048.Idx → EReal) (ix2 r k)
theorem rows : 512 * cfg0.N = 4096 := by rw [show cfg0.N = 8 from N_0]
theorem index_all : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ win0_3.index t 0 = 0 ∧ win0_3.index t 1 = 0 := by decide +kernel
theorem iblk0 (c : Dev nD) (t : Fin cfg0.N) (r : Fin 512) (k : Fin 2048) : iblk m c 0 t (ix2 r k) = aY m c (row rows t r) k :=
  congrArg (m ((c.tc : Thread nD τ).loc main_arg0) : S4096x2048.Idx → EReal)
    (at2 (by have := index_all t; show win0_0.index t 0 * 512 + 1 * r.val = 512 * t.val + r.val; omega)
      (by have := index_all t; show win0_0.index t 1 * 2048 + 1 * k.val = k.val; omega))
theorem iblk1 (c : Dev nD) (t : Fin cfg0.N) (r : Fin 512) (k : Fin 2048) : iblk m c 1 t (ix2 r k) = aT m c (row rows t r) k :=
  congrArg (m ((c.tc : Thread nD τ).loc main_arg1) : S4096x2048.Idx → EReal)
    (at2 (by have := index_all t; show win0_1.index t 0 * 512 + 1 * r.val = 512 * t.val + r.val; omega)
      (by have := index_all t; show win0_1.index t 1 * 2048 + 1 * k.val = k.val; omega))

theorem Nlt (t : Fin cfg0.N) : t.val < 8 := lt_of_lt_of_eq t.isLt N_0
/-- The point that works on row `r`, and the last point. -/
def pt (r : Fin 4096) : Fin cfg0.N := ⟨r.val / 512, lt_of_lt_of_eq (by omega) N_0.symm⟩
def last : Fin cfg0.N := ⟨7, lt_of_lt_of_eq (by omega) N_0.symm⟩
theorem row_pt (r : Fin 4096) : row rows (pt r) (lo r) = r := Fin.ext (by show 512 * (r.val / 512) + r.val % 512 = r.val; omega)

/-- What the points leave in the results' blocks. -/
theorem outs1 (c : Dev nD) (t : Fin cfg0.N) : (outsAt0 m c t.val t.isLt).1 = k0_pay2 (iblk m c 0 t) (iblk m c 1 t) := by
  by_cases h0 : t.val % 8 = 0
  · rw [outsAt0_A m c t h0]
    dsimp only
    rw [first_A]
  · rw [outsAt0_B m c t h0]
    dsimp only
    rw [first_B]
theorem outs2_zero (c : Dev nD) (t : Fin cfg0.N) (h0 : t.val % 8 = 0) :
    (outsAt0 m c t.val t.isLt).2 = k0_pay4 (iblk m c 0 t) (iblk m c 1 t) (k0_pay3 (F := Ideal)) := by
  rw [outsAt0_A m c t h0]
  dsimp only
  rw [second_A]
theorem outs2_succ (c : Dev nD) (t : Fin cfg0.N) (h0 : ¬t.val % 8 = 0) :
    (outsAt0 m c t.val t.isLt).2 = k0_pay4 (iblk m c 0 t) (iblk m c 1 t)
      (outsAt0 m c (t.val - 1) (Nat.lt_of_le_of_lt (Nat.sub_le _ _) t.isLt)).2 := by
  rw [outsAt0_B m c t h0]
  dsimp only
  rw [second_B]

/-- The gradient after the run. -/
theorem final2 (c : Dev nD) : (dats m 0 c).arrAt 2 cfg0.N = fun i : S4096x2048.Idx =>
    (aY m c (i 0) (i 1) - aT m c (i 0) (i 1)) * Ideal.ofBits .f32 0x3A000000#32 := by
  funext i
  obtain ⟨r, k, rfl⟩ : ∃ (r : Fin 4096) (k : Fin 2048), i = (ix2 r k : S4096x2048.Idx) := ⟨_, _, eq_ix2 (n0 := 4096) (n1 := 2048) i⟩
  have h := congrFun (Value.blocks2 m c (pt r) (flush0_2 _)) (ix2 (lo r) k)
  rw [Value.flushed2] at h
  have hi := index_all (pt r)
  have hv : (pt r).val = r.val / 512 := rfl
  rw [outs1] at h
  refine (congrArg ((dats m 0 c).arrAt 2 cfg0.N) (at2 (by show win0_2.index (pt r) 0 * 512 + 1 * (r.val % 512) = r.val; omega)
      (by show win0_2.index (pt r) 1 * 2048 + 1 * k.val = k.val; omega))).symm.trans (h.trans ((pay2_apply _ _ _ _).trans ?_))
  simp only [iblk0, iblk1, row_pt]
  rfl

/-- The loss: the rows' parts are added up block by block, each block's halved. -/
theorem final3 (c : Dev nD) : (dats m 0 c).arrAt 3 cfg0.N = fun _ : S8x128.Idx =>
    Ideal.ofBits .f32 0x3F000000#32 * ∑ r : Fin 4096, part (fun k => aY m c r k - aT m c r k) := by
  funext i
  obtain ⟨a, b, rfl⟩ : ∃ (a : Fin 8) (b : Fin 128), i = (ix2 a b : S8x128.Idx) := ⟨_, _, eq_ix2 (n0 := 8) (n1 := 128) i⟩
  have h := congrFun ((dats m 0 c).read_blk_arrAt_eq_flushed 3 (fun t t' h h' hne => absurd (Fin.ext (by
    have := (flush0_3 t).mp h; have := (flush0_3 t').mp h'; have := Nlt t; have := Nlt t'; omega)) hne) cfg0.N last last.isLt
    ((flush0_3 last).mpr rfl)) (ix2 a b)
  rw [Value.flushed3] at h
  have hi := index_all last
  refine (congrArg ((dats m 0 c).arrAt 3 cfg0.N) (at2 (by show win0_3.index last 0 * 8 + 1 * a.val = a.val; omega)
      (by show win0_3.index last 1 * 128 + 1 * b.val = b.val; omega))).symm.trans (h.trans ?_)
  simp only [Ffn.half_eq]
  rw [Ffn.coe_mul_sum _ (by norm_num)]
  refine sum_acc rows (fun r => (((1 : ℝ) / 2 : ℝ) : EReal) * part (fun k => aY m c r k - aT m c r k))
    (fun n hn => (outsAt0 m c n hn).2 (ix2 a b)) (fun hn => ?_) (fun n hn => ?_) 7 last.isLt (by rw [show cfg0.N = 8 from N_0])
  · refine (congrFun (outs2_zero m c ⟨0, hn⟩ rfl) (ix2 a b)).trans ((pay4_apply _ _ _ _ _).trans ?_)
    rw [pay3_apply, zero_add, Ffn.half_eq, Ffn.coe_mul_sum _ (by norm_num)]
    simp only [iblk0, iblk1]
  · have hlt : n + 1 < 8 := Nlt ⟨n + 1, hn⟩
    refine (congrFun (outs2_succ m c ⟨n + 1, hn⟩ (by show ¬(n + 1) % 8 = 0; omega)) (ix2 a b)).trans
      ((pay4_apply _ _ _ _ _).trans ?_)
    rw [Ffn.half_eq, Ffn.coe_mul_sum _ (by norm_num)]
    simp only [iblk0, iblk1]
    rfl

end Cert.Kernel26Ideal.Row

namespace Cert.Reference26Ideal.Row
open Idealize.ShloMosaic Idealize.ShloMosaic.TcCoe Idealize.ShloMosaic.Tactic Cert.Row

/-- The factor of the gradient: half over the width, times the two of the square. -/
theorem factor (e : EReal) : Ideal.div (Ideal.ofBits .f32 0x3F000000#32) (Ideal.ofBits .f32 0x45000000#32) * (Ideal.ofBits .f32 0x40000000#32 * e)
    = e * Ideal.ofBits .f32 0x3A000000#32 := by
  have h2 : Ideal.ofBits .f32 0x40000000#32 = ((2 : ℝ) : EReal) := by
    simp [Ideal.ofBits, Ideal.ieee, -EReal.coe_mul]; norm_num
  have hw : Ideal.ofBits .f32 0x45000000#32 = ((2048 : ℝ) : EReal) := by
    simp [Ideal.ofBits, Ideal.ieee, -EReal.coe_mul]; norm_num
  have hq : Ideal.ofBits .f32 0x3A000000#32 = (((1 : ℝ) / 2048 : ℝ) : EReal) := by
    simp [Ideal.ofBits, Ideal.ieee, -EReal.coe_mul]; norm_num
  rw [h2, hw, hq, Ffn.half_eq]
  unfold Ideal.div
  rw [if_neg (by rw [← EReal.coe_zero]; exact fun h => by have := EReal.coe_eq_coe_iff.mp h; norm_num at this), ← mul_assoc,
    ← EReal.coe_inv, ← EReal.coe_mul, ← EReal.coe_mul, mul_comm e]
  norm_num

/-- The kernel's results and the reference's are the same arrays, from memories that agree on the arguments. -/
theorem tie : Cert.algebraic_Kernel26Ideal_Reference26Ideal := by
  intro m ρ m' ρ' _ hagree
  refine ⟨_, _, Cert.Kernel26Ideal.Value.run_blocks (F := Ideal) m ρ, (θ_run Cert.Reference26Ideal.defs _ _).mono (fun _ h c =>
    ⟨(h c).1.trans ?_, (h c).2.1.trans ?_, (h c).2.2⟩) (Cert.Reference26Ideal.Value.run (F := Ideal) m' ρ')⟩
  · rw [(hagree c).1, (hagree c).2, Cert.Kernel26Ideal.Row.final2]
    funext i
    obtain ⟨r, k, rfl⟩ : ∃ (r : Fin 4096) (k : Fin 2048), i = (ix2 r k : S4096x2048.Idx) := ⟨_, _, eq_ix2 (n0 := 4096) (n1 := 2048) i⟩
    rw [← factor]
    unfold Cert.Kernel26Ideal.Row.aY Cert.Kernel26Ideal.Row.aT
    pointwise
  · rw [(hagree c).1, (hagree c).2, Cert.Kernel26Ideal.Row.final3]
    funext i
    obtain ⟨a, b, rfl⟩ : ∃ (a : Fin 8) (b : Fin 128), i = (ix2 a b : S8x128.Idx) := ⟨_, _, eq_ix2 (n0 := 8) (n1 := 128) i⟩
    unfold Cert.Kernel26Ideal.Row.aY Cert.Kernel26Ideal.Row.aT Cert.Kernel26Ideal.Row.part
    pointwise

end Cert.Reference26Ideal.Row
end
end
-- ==== Proof.LossSum.lean ====
module

public import proofs.«01_k».proof.Defs
public import proofs.«01_k».proof.Proof.RowMath
public import proofs.«01_k».proof.Proof.Gen.Kernel27
public import proofs.«01_k».proof.Proof.Gen.Kernel27Ideal.Launch
public import proofs.«01_k».proof.Proof.Gen.Reference27Ideal.Run
public import Idealize.ShloMosaic.Lib.StableHlo.AllReduceFold
public import Idealize.ShloMosaic.Lib.Layout
public import Idealize.ShloMosaic.Lib.Tactic

@[expose] public section

set_option maxRecDepth 16384

noncomputable section

namespace Cert.Kernel27Ideal.Loss
open Cert.Kernel27Ideal Cert.Kernel27Ideal.Gen
open Cert.Kernel27Ideal.Gen.Sites (L lv)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! # The loss: the devices' parts summed over the mesh

Each device takes one number of its block and an all-reduce adds the numbers of all eight. -/

variable {F : FTy → Type} [FloatOps F]

abbrev UU : Type := UR sig nD τ × Sites.UC
local notation "𝕄" => MT nD τ sig ℕ (Elt F) ℕ UU ℕ
abbrev EP : Emb (UR sig nD τ) (MT nD τ sig ℕ (Elt F) ℕ UU ℕ) := embL
abbrev EC : Emb Sites.UC (MT nD τ sig ℕ (Elt F) ℕ UU ℕ) := embR

variable (m : (ℓ : Loc nD τ sig) → Buf (Elt F) ℓ) (ρ : Dev nD → PrngReg)

/-- The program has no kernel region, so no region's data. -/
abbrev adm : (p : Fin 0) → (pcfgs (F := F) p).Adm := fun p => p.elim0
abbrev pdats : (p : Fin 0) → (c : Dev nD) → Pipeline.Dat τ (Elt F) ℕ ℕ UU ℕ (Pipeline.pin (pcfgs (F := F)) adm p) c := fun p => p.elim0
abbrev 𝒱₀ : Variants := .none

/-- A device's buffers at launch, and with its number taken out of its block. -/
abbrev V₀ (c : Dev nD) : Valuation τ sig (Elt F) := fun b => m (c, b)
abbrev V₁ (c : Dev nD) : Valuation τ sig (Elt F) := StableHlo.after hostOps0 (V₀ m c)
/-- And after the all-reduce. -/
abbrev V₂ (c : Dev nD) : Valuation τ sig (Elt F) := (ar0 (F := F)).after₀ (V₁ m) c

/-- The invariants of the all-reduce's semaphores, which every device keeps to the end. -/
abbrev invs : sProp 𝕄 := iprop(∃ κ, (AllReduce.Dat.once (ar0 (F := F)) (V₁ m)).cellInvs (Sites.E0 EC) κ)

/-- The two segments of the program: taking the number, and the all-reduce. -/
def take : Pipeline.HostSeg (Ix := ℕ) (Name := ℕ) (U := UU) (Lvl := ℕ) (pcfgs (F := F)) defs₀ 𝒱₀ L lv :=
  .ofOps (pcfgs (F := F)) defs₀ 𝒱₀ L lv (Pipeline.ucRefs τ sig) hostOps0
    (fun op h => Pipeline.sub_ucRefs op (List.forall_iff_forall_mem.mp hostOps0_sub op h))
    (fun op h => by fin_cases h <;> rfl) (V₀ m) (Sites.Es EC (V₁ m) 0)
def add : Pipeline.HostSeg (Ix := ℕ) (Name := ℕ) (U := UU) (Lvl := ℕ) (pcfgs (F := F)) defs₀ 𝒱₀ L lv :=
  Sites.seg0 EC 𝒱₀ (V₁ m) (Sites.Rest0 (V₁ m) fun _ => invs m)

/-- The number taken, what rides to the all-reduce holds its semaphores' invariants, which are kept beside it. -/
theorem take_add (c : Dev nD) : (take m).post c ⊢ (add m).pre c := by
  refine .trans ?_ (Sites.pre0 EC 𝒱₀ (V₁ m) (fun _ => invs m) c)
  dsimp only [take, Pipeline.HostSeg.ofOps]
  rw [Sites.Es_0]
  iintro ⟨Hh, HO, Hp, Hr⟩
  ihave #Hi := (show Sites.rides0 EC (V₁ m) c ⊢ invs m from by
    unfold Sites.rides0 AllReduce.Dat.rides
    iintro ⟨⟨%κ, #Hi⟩, -⟩; iexists κ; iexact Hi) $$ Hr
  isplitl [Hh]; · iexact Hh
  isplitl [HO Hp Hr]
  · isplitl [HO]; · iexact HO
    isplitl [Hp] <;> iassumption
  iexact Hi

/-- What a device has at the end. -/
def last (c : Dev nD) : sProp 𝕄 :=
  iprop(StableHlo.held (c : Thread nD τ) (Pipeline.ucRefs τ sig) (V₂ m c) ∗ Sites.Ghost0 EC c ∗ invs m)

theorem add_last (c : Dev nD) : (add m).post c ⊢ iprop(last m c ∗ ∃ W, owes (c : Thread nD τ) (0 : CellTallies nD τ sig ℕ) W) := by
  refine (Sites.post0 EC 𝒱₀ (V₁ m) (fun _ => invs m) c).trans ?_
  unfold last
  iintro ⟨Hh, HE, Hg, Hi⟩
  ihave HO := (Sites.hE_last EC (V₁ m) c) $$ HE
  isplitr [HO]
  · isplitl [Hh]; · iexact Hh
    isplitl [Hg] <;> iassumption
  iexact HO

/-- The launch: every device's buffers are kept, and all the rest becomes what rides to the all-reduce. -/
theorem start :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G EC (V₁ m) c)) ∗ levAts L lv)
      ⊢ (|={Set.univ}=> bigSep Finset.univ (take m).pre : sProp 𝕄) := by
  have hb (c : Dev nD) : (unscopedBufs c (fun b => m ((c : Thread nD τ).loc b)) : sProp 𝕄)
      = StableHlo.held (c : Thread nD τ) (Pipeline.ucRefs τ sig) (V₀ m c) := Pipeline.unscopedBufs_held c (V₀ m c)
  simp only [hb]
  rw [bigSep_sep']
  iintro ⟨⟨Hh, Hs⟩, Hl⟩
  imod (Sites.hE0 EC (V₁ m) ρ) $$ [Hs Hl] with HE
  · isplitl [Hs] <;> iassumption
  imodintro
  iapply (show iprop((bigSep Finset.univ fun c : Dev nD => StableHlo.held (c : Thread nD τ) (Pipeline.ucRefs τ sig) (V₀ m c))
      ∗ bigSep Finset.univ (Sites.Es EC (V₁ m) 0)) ⊢ bigSep Finset.univ (take m).pre from Entails.of_eq (bigSep_sep' ..).symm)
  isplitl [Hh] <;> iassumption

/-- The elements the run starts from. -/
def u₀ : UU := (initOf (Pipeline.cells (Pipeline.pin (pcfgs (F := F)) adm) cellOf_inj)
  (Pipeline.launchToks (Pipeline.pin (pcfgs (F := F)) adm) cellOf_inj), Sites.uC (U := UU) (V₁ m))

/-- The two buffers a claim names, out of all that a device holds. -/
theorem held_two (c : Dev nD) (V : Valuation τ sig (Elt F)) :
    StableHlo.held (c : Thread nD τ) (Pipeline.ucRefs τ sig) V
      ⊢ (iprop(((c : Thread nD τ).loc main_v3 ↦{fullShare} V main_v3) ∗ ((c : Thread nD τ).loc main_arg0 ↦{fullShare} V main_arg0)) : sProp 𝕄) := by
  rw [StableHlo.held_sub_split (c : Thread nD τ) (T := {(main_v3 : DevRef τ sig), (main_arg0 : DevRef τ sig)}) (by decide) V]
  unfold StableHlo.held
  rw [bigSep_insert (by decide), BI.bigSep_singleton]
  iintro ⟨H, -⟩
  iexact H

/-- Neither taking the number nor the all-reduce writes the argument. -/
theorem arg_kept (c : Dev nD) : V₂ m c main_arg0 = m ((c : Thread nD τ).loc main_arg0) := by
  refine ((ar0 (F := F)).after₀_of_notMem (V₁ m) c fun h => ?_).trans ?_
  · rcases Finset.mem_insert.mp h with h | h
    · exact absurd (Proc.devRef_injective _ h) (show (main_arg0 : Ref sig .tc) ≠ main_v3 by decide)
    · obtain ⟨j, hj⟩ := (ar0 (F := F)).mem_stageRefs.mp h
      exact absurd (Proc.devRef_injective _ hj) ((show ∀ j : Fin 8, (main_arg0 : Ref sig .tc) ≠ ar0_stage j by decide) j)
  show StableHlo.after hostOps0 (V₀ m c) main_arg0 = _
  after_results <;> rfl

set_option backward.isDefEq.respectTransparency.types false in
/-- The run, at any float values: it ends with the result at the sum the all-reduce makes, the argument unchanged and every
    semaphore at zero. -/
theorem run_main : θ_run defs (onTc (τ := τ) (main (F := F))) ⟨m, fun _ => 0, ρ⟩ (fun r =>
    (∀ c : Dev nD, r.2.mem ((c : Thread nD τ).loc main_v3) = V₂ m c main_v3
      ∧ r.2.mem ((c : Thread nD τ).loc main_arg0) = m ((c : Thread nD τ).loc main_arg0)) ∧ r.2.sem = fun _ => 0) :=
  Pipeline.θ_run_regions_kit_sems (pcfgs (F := F)) adm (pdats (F := F)) 0 cellOf_inj EP defs₀ 𝒱₀ L lv m ρ main
    [.host (take m), .host (add m)]
    (fun c Q => by rw [main_segs adm (pdats (F := F)) 0 𝒱₀ L lv (take m) (add m) rfl rfl c])
    (by simp only [Pipeline.Seg.pipes_host, Pipeline.Seg.pipes_nil]; exact List.nodup_nil)
    (O₀ := Sites.O0 (F := F)) (hL := Sites.hL) (G := Sites.G EC (V₁ m)) (u₀ := u₀ m)
    (hu₀ := by
      unfold u₀
      iintro Hu
      ihave H := (ownU_pair _ _) $$ Hu
      icases H with ⟨HP, HX⟩
      imodintro
      isplitl [HP]; · iexact HP
      rw [Sites.bigSep_G]; iexact HX)
    (T₀ := (take m).pre) (Tₙ := last m)
    (hch := ⟨fun c => .rfl, take_add m, add_last m⟩)
    (hinit := start m ρ)
    (QY := fun c s => (s.mem ((c : Thread nD τ).loc main_v3) = V₂ m c main_v3 ∧ s.mem ((c : Thread nD τ).loc main_arg0) = V₂ m c main_arg0)
      ∧ s.sem ((ar0 (F := F)).barrierCell c) = 0 ∧ s.sem ((ar0 (F := F)).recvCell c) = 0 ∧ s.sem ((ar0 (F := F)).sendCell c) = 0)
    (hfin := fun c s' => by
      unfold last
      iintro ⟨⟨Hh, Hg, Hi⟩, HSI⟩
      ihave H := (held_two c (V₂ m c)) $$ Hh
      icases H with ⟨Hv, Ha⟩
      icombine HSI Hv gives %hv
      icombine HSI Ha gives %ha
      imod ((AllReduce.Dat.once (ar0 (F := F)) (V₁ m)).ghostAfter_read (Sites.E0 EC) c (k := 0) le_rfl s') $$ [Hg Hi HSI] with ⟨%hz, HSI⟩
      · isplitl [Hg Hi]
        · isplitl [Hi] <;> iassumption
        iexact HSI
      imodintro
      isplitr; · ipureintro; exact ⟨⟨Buf.eq_of_forall_mem_univ hv, Buf.eq_of_forall_mem_univ ha⟩, hz⟩
      iexact HSI)
    (hQ := fun s h hs => ⟨fun c => ⟨(h c).1.1, (h c).1.2.trans (arg_kept m c)⟩, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

theorem frame_kernel : Cert.quiescent_Kernel27 := fun m ρ _ =>
  (θ_run Cert.Kernel27Ideal.defs _ _).mono (fun _ h => ⟨fun c => (h.1 c).2, h.2⟩) (run_main (F := Bits) m ρ)
theorem frame_ideal : Cert.quiescent_Kernel27Ideal := fun m ρ _ =>
  (θ_run Cert.Kernel27Ideal.defs _ _).mono (fun _ h => ⟨fun c => (h.1 c).2, h.2⟩) (run_main (F := Ideal) m ρ)

/-! ## The sum over the extended reals -/

/-- The number a device takes. -/
def num (m : (ℓ : Loc nD τ sig) → Buf (Elt Ideal) ℓ) (d : Dev nD) : EReal :=
  (m ((d : Thread nD τ).loc main_arg0) : S8x128.Idx → EReal) (ix2 0 0)

theorem part_eq (m : (ℓ : Loc nD τ sig) → Buf (Elt Ideal) ℓ) (d : Dev nD) (i : S_.Idx) :
    (V₁ m d main_v2 : S_.Idx → EReal) i = num m d := by
  have h : (V₁ m d main_v2 : S_.Idx → EReal) = shapeCast S_ (extractStridedSlice S1x1 ![0, 0] (m ((d : Thread nD τ).loc main_arg0)) slices_S8x128_S1x1_0_0) shapeCasts_S1x1_S_ := by
    show StableHlo.after hostOps0 (V₀ m d) main_v2 = _
    after_results <;> rfl
  rw [h]
  unfold num
  pointwise

/-- Every device's group is all eight, in the order of the mesh. -/
theorem peer_eq : ∀ (c : Dev nD) (j : Fin 8), ar0_mem ((ar0_pos c).1, j) = j := by decide

theorem fold_eq (m : (ℓ : Loc nD τ sig) → Buf (Elt Ideal) ℓ) (c : Dev nD) (i : S_.Idx) :
    (ar0 (F := Ideal)).foldGroup (fun j => V₁ m ((ar0 (F := Ideal)).peer c j) main_v2) i = ∑ d : Fin 8, num m d :=
  (ar0 (F := Ideal)).foldGroup_graded (M := EReal) (.ofHom (fun a => a) fun _ _ => rfl) _ i 0 (fun j : Fin 8 => num m j) fun j =>
    (congrArg (fun d => (V₁ m d main_v2 : S_.Idx → EReal) i) (peer_eq c j)).trans (part_eq m j i)

/-- The result is the all-reduce's fold, which for the extended reals is the sum of all eight numbers. -/
theorem result_eq (m : (ℓ : Loc nD τ sig) → Buf (Elt F) ℓ) (c : Dev nD) :
    V₂ m c main_v3 = (ar0 (F := F)).foldGroup fun j => V₁ m ((ar0 (F := F)).peer c j) main_v2 :=
  (ar0 (F := F)).after₀_result (V₁ m) c

theorem total (m : (ℓ : Loc nD τ sig) → Buf (Elt Ideal) ℓ) (c : Dev nD) (i : S_.Idx) :
    (V₂ m c main_v3 : S_.Idx → EReal) i = ∑ d : Fin 8, num m d :=
  (congrFun (result_eq m c) i).trans (fold_eq m c i)

end Cert.Kernel27Ideal.Loss

namespace Cert.Reference27Ideal.Loss
open Idealize.ShloMosaic Idealize.ShloMosaic.TcCoe Idealize.ShloMosaic.Tactic Idealize.SL.Sem
open Cert.Reference27Ideal Cert.Reference27Ideal.Gen

/-- A device's number, in the whole array. -/
def whole (m' : (ℓ : Loc nD τ sig) → Buf (Elt Ideal) ℓ) (d : Fin 8) : EReal :=
  (m' (((0 : Dev nD).tc : Thread nD τ).loc main_arg0) : S64x128.Idx → EReal) (ix2 ⟨d.val * 8, by omega⟩ 0)

/-- The reference's result. -/
def plain (m' : (ℓ : Loc nD τ sig) → Buf (Elt Ideal) ℓ) : S_.Idx → EReal :=
  Host.reduceAdd (shapeCast _ (extractStridedSlice S8x1x1 ![0, 0, 0] (shapeCast _ (m' (((0 : Dev nD).tc : Thread nD τ).loc main_arg0))
    shapeCasts_S64x128_S8x8x128) slices_S8x8x128_S8x1x1_0_0_0) shapeCasts_S8x1x1_S8) (constant (F := Ideal) S_ .f32 0x00000000#32) reducesTo_S8_S_d0 h_S_

theorem plain_eq (m' : (ℓ : Loc nD τ sig) → Buf (Elt Ideal) ℓ) (i : S_.Idx) : plain m' i = ∑ d : Fin 8, whole m' d := by
  unfold plain whole
  pointwise

/-- What every device ends with is the plain sum over the whole array, of which each holds its block. -/
theorem tie : Cert.algebraic_Kernel27Ideal_Reference27Ideal := by
  intro m ρ m' ρ' _ hagree
  have hw (d : Fin 8) : Cert.Kernel27Ideal.Loss.num m d = whole m' d := by
    unfold Cert.Kernel27Ideal.Loss.num whole
    rw [hagree d, Layout.block_apply]
    refine congrArg (m' (((0 : Dev nD).tc : Thread nD τ).loc main_arg0) : S64x128.Idx → EReal) (funext fun b => Fin.ext ?_)
    rw [Layout.Tiles.idx_val]
    fin_cases b <;> rfl
  have hs (c : Dev Cert.Kernel27Ideal.nD) (i : S_.Idx) :
      (Cert.Kernel27Ideal.Loss.V₂ m c Cert.Kernel27Ideal.main_v3 : S_.Idx → EReal) i = plain m' i :=
    (Cert.Kernel27Ideal.Loss.total m c i).trans ((Finset.sum_congr rfl fun d _ => hw d).trans (plain_eq m' i).symm)
  exact ⟨plain m', (θ_run Cert.Kernel27Ideal.defs _ _).mono (fun _ h c => ⟨(h.1 c).1.trans (funext (hs c)), (h.1 c).2⟩)
      (Cert.Kernel27Ideal.Loss.run_main (F := Ideal) m ρ),
    (θ_run Cert.Reference27Ideal.defs _ _).mono (fun _ h => h 0) (Cert.Reference27Ideal.Value.run (F := Ideal) m' ρ')⟩

end Cert.Reference27Ideal.Loss
end
end
-- ==== Proof.lean ====
module

public import proofs.«01_k».proof.Defs
public import proofs.«01_k».proof.Proof.BwdBits
public import proofs.«01_k».proof.Proof.BwdTie
public import proofs.«01_k».proof.Proof.Dw2
public import proofs.«01_k».proof.Proof.Dw3
public import proofs.«01_k».proof.Proof.Fwd
public import proofs.«01_k».proof.Proof.ProjIn
public import proofs.«01_k».proof.Proof.ProjGate
public import proofs.«01_k».proof.Proof.ProjOut
public import proofs.«01_k».proof.Proof.Adam14
public import proofs.«01_k».proof.Proof.Adam15
public import proofs.«01_k».proof.Proof.Adam16
public import proofs.«01_k».proof.Proof.Adam17
public import proofs.«01_k».proof.Proof.Adam18
public import proofs.«01_k».proof.Proof.Adam19
public import proofs.«01_k».proof.Proof.Row20
public import proofs.«01_k».proof.Proof.Row21
public import proofs.«01_k».proof.Proof.Row22
public import proofs.«01_k».proof.Proof.Row23
public import proofs.«01_k».proof.Proof.Row24
public import proofs.«01_k».proof.Proof.Row25
public import proofs.«01_k».proof.Proof.Row26
public import proofs.«01_k».proof.Proof.LossSum
public import proofs.«01_k».proof.Proof.Gen.Kernel27
public import proofs.«01_k».proof.Proof.Gen.Kernel27Ideal.Launch
public import proofs.«01_k».proof.Proof.Gen.Reference27Ideal.Run
public import proofs.«01_k».proof.Proof.Gen.Kernel.Frame
public import proofs.«01_k».proof.Proof.Gen.KernelIdeal.Frame
public import proofs.«01_k».proof.Proof.Gen.KernelIdeal.Skeleton
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The kernel as given runs to its end from any memory, its arguments unchanged and its counters at zero: the run at the
    machine's floats. -/
theorem frame_kernel : Cert.quiescent_Kernel := by
  intro m ρ _
  have h := Cert.KernelIdeal.Bwd.frame (F := Bits) m ρ
  rw [← defs_eq] at h
  exact h

/-- The same over the extended reals. -/
theorem frame_kernelIdeal : Cert.quiescent_KernelIdeal := fun m ρ _ => Cert.KernelIdeal.Bwd.frame (F := Ideal) m ρ

/-- The facts the precondition's text states. -/
theorem pre_facts : Cert.Pre_finite.Facts := by constructor <;> decide

/-- The reference runs to its end from any memory, its arguments unchanged and its counters at zero. -/
theorem frame_referenceIdeal : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The kernel and the reference end with the same five arrays, from memories that agree on the arguments and whose `x`, `dy`,
    `w3` and `w2` are finite. -/
theorem algebraic [Cert.Pre_finite.Facts] : Cert.algebraic_KernelIdeal_ReferenceIdeal_pre_finite := by
  intro m ρ m' ρ' hpre hagree
  have hk := Cert.KernelIdeal.Bwd.run_spec m ρ
  have hr := Cert.ReferenceIdeal.Val.run_spec m' ρ'
  refine ⟨_, _, _, _, _, (θ_run Cert.KernelIdeal.defs _ _).mono (fun _ h c => h c) hk,
    (θ_run Cert.ReferenceIdeal.defs _ _).mono (fun _ h c => ?_) hr⟩
  obtain ⟨h0, h1, h2, h3, h4, hargs⟩ := h c
  obtain ⟨e0, e1, e2, e3, e4⟩ := hagree c
  obtain ⟨rx, rdy, rw3, rw2⟩ := Cert.KernelIdeal.Bwd.real_of_pre _ _ _ _ _ (hpre c)
  have eX : Cert.ReferenceIdeal.Val.X m' c = Cert.KernelIdeal.Bwd.aX m c := by
    funext t k; exact congrFun e0 _
  have eDy : Cert.ReferenceIdeal.Val.Dy m' c = Cert.KernelIdeal.Bwd.aDy m c := by
    funext t k; unfold Cert.KernelIdeal.Bwd.aDy; rw [Cert.KernelIdeal.Bwd.V_arg1]; exact congrFun e1 _
  have eW1 : Cert.ReferenceIdeal.Val.W1 m' c = Cert.KernelIdeal.Bwd.aW1 m c := by
    funext d o f; unfold Cert.KernelIdeal.Bwd.aW1; rw [Cert.KernelIdeal.Bwd.V_arg2]; exact congrFun e2 _
  have eW3 : Cert.ReferenceIdeal.Val.W3 m' c = Cert.KernelIdeal.Bwd.aW3 m c := by
    funext d o f; unfold Cert.KernelIdeal.Bwd.aW3; rw [Cert.KernelIdeal.Bwd.V_arg3]; exact congrFun e3 _
  have eW2 : Cert.ReferenceIdeal.Val.W2 m' c = Cert.KernelIdeal.Bwd.aW2 m c := by
    funext d f k; unfold Cert.KernelIdeal.Bwd.aW2; rw [Cert.KernelIdeal.Bwd.V_arg4]; exact congrFun e4 _
  have hx : ∀ t k, Cert.Ffn.IsReal (Cert.KernelIdeal.Bwd.aX m c t k) := fun t k => rx _
  have hdy : ∀ t k, Cert.Ffn.IsReal (Cert.KernelIdeal.Bwd.aDy m c t k) := fun t k => by
    unfold Cert.KernelIdeal.Bwd.aDy; rw [Cert.KernelIdeal.Bwd.V_arg1]; exact rdy _
  have hw3 : ∀ d o f, Cert.Ffn.IsReal (Cert.KernelIdeal.Bwd.aW3 m c d o f) := fun d o f => by
    unfold Cert.KernelIdeal.Bwd.aW3; rw [Cert.KernelIdeal.Bwd.V_arg3]; exact rw3 _
  have hw2 : ∀ d f k, Cert.Ffn.IsReal (Cert.KernelIdeal.Bwd.aW2 m c d f k) := fun d f k => by
    unfold Cert.KernelIdeal.Bwd.aW2; rw [Cert.KernelIdeal.Bwd.V_arg4]; exact rw2 _
  rw [eX, eDy, eW1, eW3, eW2] at h0
  rw [eDy] at h1
  rw [eX, eDy, eW1, eW3, eW2] at h2
  rw [eX, eDy, eW1, eW2] at h3
  rw [eX, eW1, eW3] at h4
  refine ⟨h0.trans ?_, h1, h2.trans ?_, h3.trans ?_, h4.trans ?_, hargs⟩
  · funext i
    exact (Cert.KernelIdeal.Bwd.gDx_eq m c hx hdy hw3 hw2 _ _).symm
  · funext i
    exact (Cert.KernelIdeal.Bwd.gDa_eq m c hx hdy hw3 hw2 _ _ _).symm
  · funext i
    exact (Cert.KernelIdeal.Bwd.gDb_eq m c _ _ _).symm
  · funext i
    unfold Cert.KernelIdeal.Bwd.gHid Cert.KernelIdeal.Bwd.hidEl
    rw [Cert.KernelIdeal.Bwd.aA_eq, Cert.KernelIdeal.Bwd.aB_eq]

/-- The gradient of the second weight: the references run, and both programs end with the same array from the same arguments. -/
theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)
theorem algebraic2 : Cert.algebraic_Kernel2Ideal_Reference2Ideal := by
  intro m ρ m' ρ' _ hagree
  refine ⟨_, Cert.Kernel2Ideal.Dw.run_spec m ρ, (θ_run Cert.Reference2Ideal.defs _ _).mono (fun _ h c => ⟨?_, (h c).2⟩)
    (Cert.Reference2Ideal.Dw.run_spec m' ρ')⟩
  rw [(h c).1, (hagree c).1, (hagree c).2]

/-- The gradient of a first weight: the same. -/
theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
theorem algebraic3 : Cert.algebraic_Kernel3Ideal_Reference3Ideal := by
  intro m ρ m' ρ' _ hagree
  refine ⟨_, Cert.Kernel3Ideal.Dw.run_spec m ρ, (θ_run Cert.Reference3Ideal.defs _ _).mono (fun _ h c => ⟨?_, (h c).2⟩)
    (Cert.Reference3Ideal.Dw.run_spec m' ρ')⟩
  rw [(h c).1, (hagree c).1, (hagree c).2]

/-- The feed-forward: the same, of its three arrays. -/
theorem frame_reference4Ideal : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)
theorem algebraic4 : Cert.algebraic_Kernel4Ideal_Reference4Ideal := by
  intro m ρ m' ρ' _ hagree
  refine ⟨_, _, _, Cert.Kernel4Ideal.Fwd.run_spec m ρ, (θ_run Cert.Reference4Ideal.defs _ _).mono (fun _ h c => ?_)
    (Cert.Reference4Ideal.Fwd.run_spec m' ρ')⟩
  obtain ⟨h0, h1, h2, hargs⟩ := h c
  obtain ⟨e0, e1, e2, e3, e4⟩ := hagree c
  refine ⟨h0.trans ?_, h1.trans ?_, h2.trans ?_, hargs⟩
  · rw [e0, e1, e2, e3, e4]
  · rw [e0, e2]
  · rw [e0, e3]

/-- The other calls' references run to their end from any memory, with their arguments unchanged and their counters at zero. -/
theorem frame_reference5Ideal : Cert.quiescent_Reference5Ideal := fun m ρ _ => (θ_run Cert.Reference5Ideal.defs _ _).mono
  (fun r h => ⟨fun c => (h c).2, sem_eq_zero_of_no_sems (by decide) r.2⟩) (Cert.Reference5Ideal.Value.run (F := Ideal) m ρ)
theorem frame_reference6Ideal : Cert.quiescent_Reference6Ideal := fun m ρ _ => (θ_run Cert.Reference6Ideal.defs _ _).mono
  (fun r h => ⟨fun c => (h c).2, sem_eq_zero_of_no_sems (by decide) r.2⟩) (Cert.Reference6Ideal.Value.run (F := Ideal) m ρ)
theorem frame_reference7Ideal : Cert.quiescent_Reference7Ideal := fun m ρ _ => (θ_run Cert.Reference7Ideal.defs _ _).mono
  (fun r h => ⟨fun c => (h c).2, sem_eq_zero_of_no_sems (by decide) r.2⟩) (Cert.Reference7Ideal.Value.run (F := Ideal) m ρ)
theorem frame_reference8Ideal : Cert.quiescent_Reference8Ideal := fun m ρ _ => (θ_run Cert.Reference8Ideal.defs _ _).mono
  (fun r h => ⟨fun c => (h c).2, sem_eq_zero_of_no_sems (by decide) r.2⟩) (Cert.Reference8Ideal.Value.run (F := Ideal) m ρ)
theorem frame_reference9Ideal : Cert.quiescent_Reference9Ideal := fun m ρ _ => (θ_run Cert.Reference9Ideal.defs _ _).mono
  (fun r h => ⟨fun c => (h c).2, sem_eq_zero_of_no_sems (by decide) r.2⟩) (Cert.Reference9Ideal.Value.run (F := Ideal) m ρ)
theorem frame_reference10Ideal : Cert.quiescent_Reference10Ideal := fun m ρ _ => (θ_run Cert.Reference10Ideal.defs _ _).mono
  (fun r h => ⟨fun c => (h c).2, sem_eq_zero_of_no_sems (by decide) r.2⟩) (Cert.Reference10Ideal.Value.run (F := Ideal) m ρ)
theorem frame_reference11Ideal : Cert.quiescent_Reference11Ideal := fun m ρ _ => (θ_run Cert.Reference11Ideal.defs _ _).mono
  (fun r h => ⟨fun c => (h c).2, sem_eq_zero_of_no_sems (by decide) r.2⟩) (Cert.Reference11Ideal.Value.run (F := Ideal) m ρ)
theorem frame_reference12Ideal : Cert.quiescent_Reference12Ideal := fun m ρ _ => (θ_run Cert.Reference12Ideal.defs _ _).mono
  (fun r h => ⟨fun c => (h c).2, sem_eq_zero_of_no_sems (by decide) r.2⟩) (Cert.Reference12Ideal.Value.run (F := Ideal) m ρ)
theorem frame_reference13Ideal : Cert.quiescent_Reference13Ideal := fun m ρ _ => (θ_run Cert.Reference13Ideal.defs _ _).mono
  (fun r h => ⟨fun c => (h c).2, sem_eq_zero_of_no_sems (by decide) r.2⟩) (Cert.Reference13Ideal.Value.run (F := Ideal) m ρ)
theorem frame_reference14Ideal : Cert.quiescent_Reference14Ideal := fun m ρ _ => (θ_run Cert.Reference14Ideal.defs _ _).mono
  (fun r h => ⟨fun c => (h c).2.2.2.2, sem_eq_zero_of_no_sems (by decide) r.2⟩) (Cert.Reference14Ideal.Value.run (F := Ideal) m ρ)
theorem frame_reference15Ideal : Cert.quiescent_Reference15Ideal := fun m ρ _ => (θ_run Cert.Reference15Ideal.defs _ _).mono
  (fun r h => ⟨fun c => (h c).2.2.2.2, sem_eq_zero_of_no_sems (by decide) r.2⟩) (Cert.Reference15Ideal.Value.run (F := Ideal) m ρ)
theorem frame_reference16Ideal : Cert.quiescent_Reference16Ideal := fun m ρ _ => (θ_run Cert.Reference16Ideal.defs _ _).mono
  (fun r h => ⟨fun c => (h c).2.2.2.2, sem_eq_zero_of_no_sems (by decide) r.2⟩) (Cert.Reference16Ideal.Value.run (F := Ideal) m ρ)
theorem frame_reference17Ideal : Cert.quiescent_Reference17Ideal := fun m ρ _ => (θ_run Cert.Reference17Ideal.defs _ _).mono
  (fun r h => ⟨fun c => (h c).2.2.2.2, sem_eq_zero_of_no_sems (by decide) r.2⟩) (Cert.Reference17Ideal.Value.run (F := Ideal) m ρ)
theorem frame_reference18Ideal : Cert.quiescent_Reference18Ideal := fun m ρ _ => (θ_run Cert.Reference18Ideal.defs _ _).mono
  (fun r h => ⟨fun c => (h c).2.2.2.2, sem_eq_zero_of_no_sems (by decide) r.2⟩) (Cert.Reference18Ideal.Value.run (F := Ideal) m ρ)
theorem frame_reference19Ideal : Cert.quiescent_Reference19Ideal := fun m ρ _ => (θ_run Cert.Reference19Ideal.defs _ _).mono
  (fun r h => ⟨fun c => (h c).2.2.2.2, sem_eq_zero_of_no_sems (by decide) r.2⟩) (Cert.Reference19Ideal.Value.run (F := Ideal) m ρ)
theorem frame_reference20Ideal : Cert.quiescent_Reference20Ideal := fun m ρ _ => (θ_run Cert.Reference20Ideal.defs _ _).mono
  (fun r h => ⟨fun c => (h c).2, sem_eq_zero_of_no_sems (by decide) r.2⟩) (Cert.Reference20Ideal.Value.run (F := Ideal) m ρ)
theorem frame_reference21Ideal : Cert.quiescent_Reference21Ideal := fun m ρ _ => (θ_run Cert.Reference21Ideal.defs _ _).mono
  (fun r h => ⟨fun c => (h c).2.2, sem_eq_zero_of_no_sems (by decide) r.2⟩) (Cert.Reference21Ideal.Value.run (F := Ideal) m ρ)
theorem frame_reference22Ideal : Cert.quiescent_Reference22Ideal := fun m ρ _ => (θ_run Cert.Reference22Ideal.defs _ _).mono
  (fun r h => ⟨fun c => (h c).2, sem_eq_zero_of_no_sems (by decide) r.2⟩) (Cert.Reference22Ideal.Value.run (F := Ideal) m ρ)
theorem frame_reference23Ideal : Cert.quiescent_Reference23Ideal := fun m ρ _ => (θ_run Cert.Reference23Ideal.defs _ _).mono
  (fun r h => ⟨fun c => (h c).2, sem_eq_zero_of_no_sems (by decide) r.2⟩) (Cert.Reference23Ideal.Value.run (F := Ideal) m ρ)
theorem frame_reference24Ideal : Cert.quiescent_Reference24Ideal := fun m ρ _ => (θ_run Cert.Reference24Ideal.defs _ _).mono
  (fun r h => ⟨fun c => (h c).2, sem_eq_zero_of_no_sems (by decide) r.2⟩) (Cert.Reference24Ideal.Value.run (F := Ideal) m ρ)
theorem frame_reference25Ideal : Cert.quiescent_Reference25Ideal := fun m ρ _ => (θ_run Cert.Reference25Ideal.defs _ _).mono
  (fun r h => ⟨fun c => (h c).2.2.2, sem_eq_zero_of_no_sems (by decide) r.2⟩) (Cert.Reference25Ideal.Value.run (F := Ideal) m ρ)
theorem frame_reference26Ideal : Cert.quiescent_Reference26Ideal := fun m ρ _ => (θ_run Cert.Reference26Ideal.defs _ _).mono
  (fun r h => ⟨fun c => (h c).2.2, sem_eq_zero_of_no_sems (by decide) r.2⟩) (Cert.Reference26Ideal.Value.run (F := Ideal) m ρ)
theorem frame_reference27Ideal : Cert.quiescent_Reference27Ideal := fun m ρ _ => (θ_run Cert.Reference27Ideal.defs _ _).mono
  (fun r h => ⟨fun c => (h c).2, sem_eq_zero_of_no_sems (by decide) r.2⟩) (Cert.Reference27Ideal.Value.run (F := Ideal) m ρ)

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts, pre_facts,
  frame_kernel, frame_kernelIdeal, fun m ρ _ => Cert.KernelIdeal.Bwd.frame (F := Ideal) m ρ,
  frame_referenceIdeal, fun m ρ _ => frame_referenceIdeal m ρ trivial,
  fun m ρ _ => Cert.Kernel2.Gen.frame m ρ, fun m ρ _ => Cert.Kernel2Ideal.Gen.frame m ρ, frame_reference2Ideal,
  fun m ρ _ => Cert.Kernel3.Gen.frame m ρ, fun m ρ _ => Cert.Kernel3Ideal.Gen.frame m ρ, frame_reference3Ideal,
  fun m ρ _ => Cert.Kernel4.Gen.frame m ρ, fun m ρ _ => Cert.Kernel4Ideal.Gen.frame m ρ, frame_reference4Ideal,
  fun m ρ _ => Cert.Kernel5.Gen.frame m ρ, fun m ρ _ => Cert.Kernel5Ideal.Gen.frame m ρ, frame_reference5Ideal,
  fun m ρ _ => Cert.Kernel6.Gen.frame m ρ, fun m ρ _ => Cert.Kernel6Ideal.Gen.frame m ρ, frame_reference6Ideal,
  fun m ρ _ => Cert.Kernel7.Gen.frame m ρ, fun m ρ _ => Cert.Kernel7Ideal.Gen.frame m ρ, frame_reference7Ideal,
  fun m ρ _ => Cert.Kernel8.Gen.frame m ρ, fun m ρ _ => Cert.Kernel8Ideal.Gen.frame m ρ, frame_reference8Ideal,
  fun m ρ _ => Cert.Kernel9.Gen.frame m ρ, fun m ρ _ => Cert.Kernel9Ideal.Gen.frame m ρ, frame_reference9Ideal,
  fun m ρ _ => Cert.Kernel10.Gen.frame m ρ, fun m ρ _ => Cert.Kernel10Ideal.Gen.frame m ρ, frame_reference10Ideal,
  fun m ρ _ => Cert.Kernel11.Gen.frame m ρ, fun m ρ _ => Cert.Kernel11Ideal.Gen.frame m ρ, frame_reference11Ideal,
  fun m ρ _ => Cert.Kernel12.Gen.frame m ρ, fun m ρ _ => Cert.Kernel12Ideal.Gen.frame m ρ, frame_reference12Ideal,
  fun m ρ _ => Cert.Kernel13.Gen.frame m ρ, fun m ρ _ => Cert.Kernel13Ideal.Gen.frame m ρ, frame_reference13Ideal,
  fun m ρ _ => Cert.Kernel14.Gen.frame m ρ, fun m ρ _ => Cert.Kernel14Ideal.Gen.frame m ρ, frame_reference14Ideal,
  fun m ρ _ => Cert.Kernel15.Gen.frame m ρ, fun m ρ _ => Cert.Kernel15Ideal.Gen.frame m ρ, frame_reference15Ideal,
  fun m ρ _ => Cert.Kernel16.Gen.frame m ρ, fun m ρ _ => Cert.Kernel16Ideal.Gen.frame m ρ, frame_reference16Ideal,
  fun m ρ _ => Cert.Kernel17.Gen.frame m ρ, fun m ρ _ => Cert.Kernel17Ideal.Gen.frame m ρ, frame_reference17Ideal,
  fun m ρ _ => Cert.Kernel18.Gen.frame m ρ, fun m ρ _ => Cert.Kernel18Ideal.Gen.frame m ρ, frame_reference18Ideal,
  fun m ρ _ => Cert.Kernel19.Gen.frame m ρ, fun m ρ _ => Cert.Kernel19Ideal.Gen.frame m ρ, frame_reference19Ideal,
  fun m ρ _ => Cert.Kernel20.Gen.frame m ρ, fun m ρ _ => Cert.Kernel20Ideal.Gen.frame m ρ, frame_reference20Ideal,
  fun m ρ _ => Cert.Kernel21.Gen.frame m ρ, fun m ρ _ => Cert.Kernel21Ideal.Gen.frame m ρ, frame_reference21Ideal,
  fun m ρ _ => Cert.Kernel22.Gen.frame m ρ, fun m ρ _ => Cert.Kernel22Ideal.Gen.frame m ρ, frame_reference22Ideal,
  fun m ρ _ => Cert.Kernel23.Gen.frame m ρ, fun m ρ _ => Cert.Kernel23Ideal.Gen.frame m ρ, frame_reference23Ideal,
  fun m ρ _ => Cert.Kernel24.Gen.frame m ρ, fun m ρ _ => Cert.Kernel24Ideal.Gen.frame m ρ, frame_reference24Ideal,
  fun m ρ _ => Cert.Kernel25.Gen.frame m ρ, fun m ρ _ => Cert.Kernel25Ideal.Gen.frame m ρ, frame_reference25Ideal,
  fun m ρ _ => Cert.Kernel26.Gen.frame m ρ, fun m ρ _ => Cert.Kernel26Ideal.Gen.frame m ρ, frame_reference26Ideal,
  Cert.Kernel27Ideal.Loss.frame_kernel, Cert.Kernel27Ideal.Loss.frame_ideal, frame_reference27Ideal,
  trivial, @algebraic pre_facts, trivial, algebraic2, trivial, algebraic3, trivial, algebraic4,
  trivial, Cert.Reference5Ideal.Proj.tie,
  trivial, Cert.Reference6Ideal.Proj.tie,
  trivial, Cert.Reference7Ideal.Proj.tie,
  trivial, Cert.Reference8Ideal.Proj.tie,
  trivial, Cert.Reference9Ideal.Proj.tie,
  trivial, Cert.Reference10Ideal.Proj.tie,
  trivial, Cert.Reference11Ideal.Proj.tie,
  trivial, Cert.Reference12Ideal.Proj.tie,
  trivial, Cert.Reference13Ideal.Proj.tie,
  trivial, Cert.Reference14Ideal.Adam.tie,
  trivial, Cert.Reference15Ideal.Adam.tie,
  trivial, Cert.Reference16Ideal.Adam.tie,
  trivial, Cert.Reference17Ideal.Adam.tie,
  trivial, Cert.Reference18Ideal.Adam.tie,
  trivial, Cert.Reference19Ideal.Adam.tie,
  trivial, Cert.Reference20Ideal.Row.tie,
  trivial, Cert.Reference21Ideal.Row.tie,
  trivial, Cert.Reference22Ideal.Row.tie,
  trivial, Cert.Reference23Ideal.Row.tie,
  trivial, Cert.Reference24Ideal.Row.tie,
  trivial, Cert.Reference25Ideal.Row.tie,
  trivial, Cert.Reference26Ideal.Row.tie,
  trivial, Cert.Reference27Ideal.Loss.tie⟩

end Cert.Proof

end
